-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelFour (m : (ℓ : Loc Cert.KernelFour.nD Cert.KernelFour.τ Cert.KernelFour.sig) → Buf (Elt Bits) ℓ) : Prop :=
  True

def Pre_KernelFourIdeal (m : (ℓ : Loc Cert.KernelFourIdeal.nD Cert.KernelFourIdeal.τ Cert.KernelFourIdeal.sig) → Buf (Elt Ideal) ℓ) : Prop :=
  True

def Pre_ReferenceFourIdeal (m : (ℓ : Loc Cert.ReferenceFourIdeal.nD Cert.ReferenceFourIdeal.τ Cert.ReferenceFourIdeal.sig) → Buf (Elt Ideal) ℓ) : Prop :=
  True

def Pre_KernelSixteen (m : (ℓ : Loc Cert.KernelSixteen.nD Cert.KernelSixteen.τ Cert.KernelSixteen.sig) → Buf (Elt Bits) ℓ) : Prop :=
  True

def Pre_KernelSixteenIdeal (m : (ℓ : Loc Cert.KernelSixteenIdeal.nD Cert.KernelSixteenIdeal.τ Cert.KernelSixteenIdeal.sig) → Buf (Elt Ideal) ℓ) : Prop :=
  True

def Pre_ReferenceSixteenIdeal (m : (ℓ : Loc Cert.ReferenceSixteenIdeal.nD Cert.ReferenceSixteenIdeal.τ Cert.ReferenceSixteenIdeal.sig) → Buf (Elt Ideal) ℓ) : Prop :=
  True

def Pre_KernelInNatural (m : (ℓ : Loc Cert.KernelInNatural.nD Cert.KernelInNatural.τ Cert.KernelInNatural.sig) → Buf (Elt Bits) ℓ) : Prop :=
  True

def Pre_KernelInNaturalIdeal (m : (ℓ : Loc Cert.KernelInNaturalIdeal.nD Cert.KernelInNaturalIdeal.τ Cert.KernelInNaturalIdeal.sig) → Buf (Elt Ideal) ℓ) : Prop :=
  True

def Pre_ReferenceInNaturalIdeal (m : (ℓ : Loc Cert.ReferenceInNaturalIdeal.nD Cert.ReferenceInNaturalIdeal.τ Cert.ReferenceInNaturalIdeal.sig) → Buf (Elt Ideal) ℓ) : Prop :=
  True

def Pre_KernelInGates (m : (ℓ : Loc Cert.KernelInGates.nD Cert.KernelInGates.τ Cert.KernelInGates.sig) → Buf (Elt Bits) ℓ) : Prop :=
  True

def Pre_KernelInGatesIdeal (m : (ℓ : Loc Cert.KernelInGatesIdeal.nD Cert.KernelInGatesIdeal.τ Cert.KernelInGatesIdeal.sig) → Buf (Elt Ideal) ℓ) : Prop :=
  True

def Pre_ReferenceInGatesIdeal (m : (ℓ : Loc Cert.ReferenceInGatesIdeal.nD Cert.ReferenceInGatesIdeal.τ Cert.ReferenceInGatesIdeal.sig) → Buf (Elt Ideal) ℓ) : Prop :=
  True

def Pre_KernelInFour (m : (ℓ : Loc Cert.KernelInFour.nD Cert.KernelInFour.τ Cert.KernelInFour.sig) → Buf (Elt Bits) ℓ) : Prop :=
  True

def Pre_KernelInFourIdeal (m : (ℓ : Loc Cert.KernelInFourIdeal.nD Cert.KernelInFourIdeal.τ Cert.KernelInFourIdeal.sig) → Buf (Elt Ideal) ℓ) : Prop :=
  True

def Pre_ReferenceInFourIdeal (m : (ℓ : Loc Cert.ReferenceInFourIdeal.nD Cert.ReferenceInFourIdeal.τ Cert.ReferenceInFourIdeal.sig) → Buf (Elt Ideal) ℓ) : Prop :=
  True

def Pre_KernelInSixteen (m : (ℓ : Loc Cert.KernelInSixteen.nD Cert.KernelInSixteen.τ Cert.KernelInSixteen.sig) → Buf (Elt Bits) ℓ) : Prop :=
  True

def Pre_KernelInSixteenIdeal (m : (ℓ : Loc Cert.KernelInSixteenIdeal.nD Cert.KernelInSixteenIdeal.τ Cert.KernelInSixteenIdeal.sig) → Buf (Elt Ideal) ℓ) : Prop :=
  True

def Pre_ReferenceInSixteenIdeal (m : (ℓ : Loc Cert.ReferenceInSixteenIdeal.nD Cert.ReferenceInSixteenIdeal.τ Cert.ReferenceInSixteenIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelModulate (m : (ℓ : Loc Cert.KernelModulate.nD Cert.KernelModulate.τ Cert.KernelModulate.sig) → Buf (Elt Bits) ℓ) : Prop :=
  True

def Pre_KernelModulateIdeal (m : (ℓ : Loc Cert.KernelModulateIdeal.nD Cert.KernelModulateIdeal.τ Cert.KernelModulateIdeal.sig) → Buf (Elt Ideal) ℓ) : Prop :=
  True

def Pre_ReferenceModulateIdeal (m : (ℓ : Loc Cert.ReferenceModulateIdeal.nD Cert.ReferenceModulateIdeal.τ Cert.ReferenceModulateIdeal.sig) → Buf (Elt Ideal) ℓ) : Prop :=
  True

def Pre_KernelShort (m : (ℓ : Loc Cert.KernelShort.nD Cert.KernelShort.τ Cert.KernelShort.sig) → Buf (Elt Bits) ℓ) : Prop :=
  True

def Pre_KernelShortIdeal (m : (ℓ : Loc Cert.KernelShortIdeal.nD Cert.KernelShortIdeal.τ Cert.KernelShortIdeal.sig) → Buf (Elt Ideal) ℓ) : Prop :=
  True

def Pre_ReferenceShortIdeal (m : (ℓ : Loc Cert.ReferenceShortIdeal.nD Cert.ReferenceShortIdeal.τ Cert.ReferenceShortIdeal.sig) → Buf (Elt Ideal) ℓ) : Prop :=
  True

def Pre_KernelFilters (m : (ℓ : Loc Cert.KernelFilters.nD Cert.KernelFilters.τ Cert.KernelFilters.sig) → Buf (Elt Bits) ℓ) : Prop :=
  True

def Pre_KernelFiltersIdeal (m : (ℓ : Loc Cert.KernelFiltersIdeal.nD Cert.KernelFiltersIdeal.τ Cert.KernelFiltersIdeal.sig) → Buf (Elt Ideal) ℓ) : Prop :=
  True

def Pre_ReferenceFiltersIdeal (m : (ℓ : Loc Cert.ReferenceFiltersIdeal.nD Cert.ReferenceFiltersIdeal.τ Cert.ReferenceFiltersIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_KernelFour [hKernelFour : Cert.KernelFour.Facts] : Prop :=
  ∀ (m : (ℓ : Loc Cert.KernelFour.nD Cert.KernelFour.τ Cert.KernelFour.sig) → Buf (Elt Bits) ℓ) (g : Dev Cert.KernelFour.nD → PrngReg), Pre_KernelFour m →
    θ_run (Cert.KernelFour.defs (F := Bits)) (onTc (τ := Cert.KernelFour.τ) (Cert.KernelFour.main (F := Bits))) ⟨m, fun _ => 0, g⟩ (fun r => (∀ c : Dev Cert.KernelFour.nD,
      r.2.mem ((c.tc : Thread Cert.KernelFour.nD Cert.KernelFour.τ).loc Cert.KernelFour.main_arg0) = m ((c.tc : Thread Cert.KernelFour.nD Cert.KernelFour.τ).loc Cert.KernelFour.main_arg0))
      ∧ r.2.sem = fun _ => 0)

def quiescent_KernelFourIdeal [hKernelFourIdeal : Cert.KernelFourIdeal.Facts] : Prop :=
  ∀ (m : (ℓ : Loc Cert.KernelFourIdeal.nD Cert.KernelFourIdeal.τ Cert.KernelFourIdeal.sig) → Buf (Elt Ideal) ℓ) (g : Dev Cert.KernelFourIdeal.nD → PrngReg), Pre_KernelFourIdeal m →
    θ_run (Cert.KernelFourIdeal.defs (F := Ideal)) (onTc (τ := Cert.KernelFourIdeal.τ) (Cert.KernelFourIdeal.main (F := Ideal))) ⟨m, fun _ => 0, g⟩ (fun r => (∀ c : Dev Cert.KernelFourIdeal.nD,
      r.2.mem ((c.tc : Thread Cert.KernelFourIdeal.nD Cert.KernelFourIdeal.τ).loc Cert.KernelFourIdeal.main_arg0) = m ((c.tc : Thread Cert.KernelFourIdeal.nD Cert.KernelFourIdeal.τ).loc Cert.KernelFourIdeal.main_arg0))
      ∧ r.2.sem = fun _ => 0)

def quiescent_ReferenceFourIdeal [hReferenceFourIdeal : Cert.ReferenceFourIdeal.Facts] : Prop :=
  ∀ (m : (ℓ : Loc Cert.ReferenceFourIdeal.nD Cert.ReferenceFourIdeal.τ Cert.ReferenceFourIdeal.sig) → Buf (Elt Ideal) ℓ) (g : Dev Cert.ReferenceFourIdeal.nD → PrngReg), Pre_ReferenceFourIdeal m →
    θ_run (Cert.ReferenceFourIdeal.defs (F := Ideal)) (onTc (τ := Cert.ReferenceFourIdeal.τ) (Cert.ReferenceFourIdeal.main (F := Ideal))) ⟨m, fun _ => 0, g⟩ (fun r => (∀ c : Dev Cert.ReferenceFourIdeal.nD,
      r.2.mem ((c.tc : Thread Cert.ReferenceFourIdeal.nD Cert.ReferenceFourIdeal.τ).loc Cert.ReferenceFourIdeal.main_arg0) = m ((c.tc : Thread Cert.ReferenceFourIdeal.nD Cert.ReferenceFourIdeal.τ).loc Cert.ReferenceFourIdeal.main_arg0))
      ∧ r.2.sem = fun _ => 0)

def quiescent_KernelSixteen [hKernelSixteen : Cert.KernelSixteen.Facts] : Prop :=
  ∀ (m : (ℓ : Loc Cert.KernelSixteen.nD Cert.KernelSixteen.τ Cert.KernelSixteen.sig) → Buf (Elt Bits) ℓ) (g : Dev Cert.KernelSixteen.nD → PrngReg), Pre_KernelSixteen m →
    θ_run (Cert.KernelSixteen.defs (F := Bits)) (onTc (τ := Cert.KernelSixteen.τ) (Cert.KernelSixteen.main (F := Bits))) ⟨m, fun _ => 0, g⟩ (fun r => (∀ c : Dev Cert.KernelSixteen.nD,
      r.2.mem ((c.tc : Thread Cert.KernelSixteen.nD Cert.KernelSixteen.τ).loc Cert.KernelSixteen.main_arg0) = m ((c.tc : Thread Cert.KernelSixteen.nD Cert.KernelSixteen.τ).loc Cert.KernelSixteen.main_arg0))
      ∧ r.2.sem = fun _ => 0)

def quiescent_KernelSixteenIdeal [hKernelSixteenIdeal : Cert.KernelSixteenIdeal.Facts] : Prop :=
  ∀ (m : (ℓ : Loc Cert.KernelSixteenIdeal.nD Cert.KernelSixteenIdeal.τ Cert.KernelSixteenIdeal.sig) → Buf (Elt Ideal) ℓ) (g : Dev Cert.KernelSixteenIdeal.nD → PrngReg), Pre_KernelSixteenIdeal m →
    θ_run (Cert.KernelSixteenIdeal.defs (F := Ideal)) (onTc (τ := Cert.KernelSixteenIdeal.τ) (Cert.KernelSixteenIdeal.main (F := Ideal))) ⟨m, fun _ => 0, g⟩ (fun r => (∀ c : Dev Cert.KernelSixteenIdeal.nD,
      r.2.mem ((c.tc : Thread Cert.KernelSixteenIdeal.nD Cert.KernelSixteenIdeal.τ).loc Cert.KernelSixteenIdeal.main_arg0) = m ((c.tc : Thread Cert.KernelSixteenIdeal.nD Cert.KernelSixteenIdeal.τ).loc Cert.KernelSixteenIdeal.main_arg0))
      ∧ r.2.sem = fun _ => 0)

def quiescent_ReferenceSixteenIdeal [hReferenceSixteenIdeal : Cert.ReferenceSixteenIdeal.Facts] : Prop :=
  ∀ (m : (ℓ : Loc Cert.ReferenceSixteenIdeal.nD Cert.ReferenceSixteenIdeal.τ Cert.ReferenceSixteenIdeal.sig) → Buf (Elt Ideal) ℓ) (g : Dev Cert.ReferenceSixteenIdeal.nD → PrngReg), Pre_ReferenceSixteenIdeal m →
    θ_run (Cert.ReferenceSixteenIdeal.defs (F := Ideal)) (onTc (τ := Cert.ReferenceSixteenIdeal.τ) (Cert.ReferenceSixteenIdeal.main (F := Ideal))) ⟨m, fun _ => 0, g⟩ (fun r => (∀ c : Dev Cert.ReferenceSixteenIdeal.nD,
      r.2.mem ((c.tc : Thread Cert.ReferenceSixteenIdeal.nD Cert.ReferenceSixteenIdeal.τ).loc Cert.ReferenceSixteenIdeal.main_arg0) = m ((c.tc : Thread Cert.ReferenceSixteenIdeal.nD Cert.ReferenceSixteenIdeal.τ).loc Cert.ReferenceSixteenIdeal.main_arg0))
      ∧ r.2.sem = fun _ => 0)

def quiescent_KernelInNatural [hKernelInNatural : Cert.KernelInNatural.Facts] : Prop :=
  ∀ (m : (ℓ : Loc Cert.KernelInNatural.nD Cert.KernelInNatural.τ Cert.KernelInNatural.sig) → Buf (Elt Bits) ℓ) (g : Dev Cert.KernelInNatural.nD → PrngReg), Pre_KernelInNatural m →
    θ_run (Cert.KernelInNatural.defs (F := Bits)) (onTc (τ := Cert.KernelInNatural.τ) (Cert.KernelInNatural.main (F := Bits))) ⟨m, fun _ => 0, g⟩ (fun r => (∀ c : Dev Cert.KernelInNatural.nD,
      r.2.mem ((c.tc : Thread Cert.KernelInNatural.nD Cert.KernelInNatural.τ).loc Cert.KernelInNatural.main_arg0) = m ((c.tc : Thread Cert.KernelInNatural.nD Cert.KernelInNatural.τ).loc Cert.KernelInNatural.main_arg0)
      ∧ r.2.mem ((c.tc : Thread Cert.KernelInNatural.nD Cert.KernelInNatural.τ).loc Cert.KernelInNatural.main_arg1) = m ((c.tc : Thread Cert.KernelInNatural.nD Cert.KernelInNatural.τ).loc Cert.KernelInNatural.main_arg1))
      ∧ r.2.sem = fun _ => 0)

def quiescent_KernelInNaturalIdeal [hKernelInNaturalIdeal : Cert.KernelInNaturalIdeal.Facts] : Prop :=
  ∀ (m : (ℓ : Loc Cert.KernelInNaturalIdeal.nD Cert.KernelInNaturalIdeal.τ Cert.KernelInNaturalIdeal.sig) → Buf (Elt Ideal) ℓ) (g : Dev Cert.KernelInNaturalIdeal.nD → PrngReg), Pre_KernelInNaturalIdeal m →
    θ_run (Cert.KernelInNaturalIdeal.defs (F := Ideal)) (onTc (τ := Cert.KernelInNaturalIdeal.τ) (Cert.KernelInNaturalIdeal.main (F := Ideal))) ⟨m, fun _ => 0, g⟩ (fun r => (∀ c : Dev Cert.KernelInNaturalIdeal.nD,
      r.2.mem ((c.tc : Thread Cert.KernelInNaturalIdeal.nD Cert.KernelInNaturalIdeal.τ).loc Cert.KernelInNaturalIdeal.main_arg0) = m ((c.tc : Thread Cert.KernelInNaturalIdeal.nD Cert.KernelInNaturalIdeal.τ).loc Cert.KernelInNaturalIdeal.main_arg0)
      ∧ r.2.mem ((c.tc : Thread Cert.KernelInNaturalIdeal.nD Cert.KernelInNaturalIdeal.τ).loc Cert.KernelInNaturalIdeal.main_arg1) = m ((c.tc : Thread Cert.KernelInNaturalIdeal.nD Cert.KernelInNaturalIdeal.τ).loc Cert.KernelInNaturalIdeal.main_arg1))
      ∧ r.2.sem = fun _ => 0)

def quiescent_ReferenceInNaturalIdeal [hReferenceInNaturalIdeal : Cert.ReferenceInNaturalIdeal.Facts] : Prop :=
  ∀ (m : (ℓ : Loc Cert.ReferenceInNaturalIdeal.nD Cert.ReferenceInNaturalIdeal.τ Cert.ReferenceInNaturalIdeal.sig) → Buf (Elt Ideal) ℓ) (g : Dev Cert.ReferenceInNaturalIdeal.nD → PrngReg), Pre_ReferenceInNaturalIdeal m →
    θ_run (Cert.ReferenceInNaturalIdeal.defs (F := Ideal)) (onTc (τ := Cert.ReferenceInNaturalIdeal.τ) (Cert.ReferenceInNaturalIdeal.main (F := Ideal))) ⟨m, fun _ => 0, g⟩ (fun r => (∀ c : Dev Cert.ReferenceInNaturalIdeal.nD,
      r.2.mem ((c.tc : Thread Cert.ReferenceInNaturalIdeal.nD Cert.ReferenceInNaturalIdeal.τ).loc Cert.ReferenceInNaturalIdeal.main_arg0) = m ((c.tc : Thread Cert.ReferenceInNaturalIdeal.nD Cert.ReferenceInNaturalIdeal.τ).loc Cert.ReferenceInNaturalIdeal.main_arg0)
      ∧ r.2.mem ((c.tc : Thread Cert.ReferenceInNaturalIdeal.nD Cert.ReferenceInNaturalIdeal.τ).loc Cert.ReferenceInNaturalIdeal.main_arg1) = m ((c.tc : Thread Cert.ReferenceInNaturalIdeal.nD Cert.ReferenceInNaturalIdeal.τ).loc Cert.ReferenceInNaturalIdeal.main_arg1))
      ∧ r.2.sem = fun _ => 0)

def quiescent_KernelInGates [hKernelInGates : Cert.KernelInGates.Facts] : Prop :=
  ∀ (m : (ℓ : Loc Cert.KernelInGates.nD Cert.KernelInGates.τ Cert.KernelInGates.sig) → Buf (Elt Bits) ℓ) (g : Dev Cert.KernelInGates.nD → PrngReg), Pre_KernelInGates m →
    θ_run (Cert.KernelInGates.defs (F := Bits)) (onTc (τ := Cert.KernelInGates.τ) (Cert.KernelInGates.main (F := Bits))) ⟨m, fun _ => 0, g⟩ (fun r => (∀ c : Dev Cert.KernelInGates.nD,
      r.2.mem ((c.tc : Thread Cert.KernelInGates.nD Cert.KernelInGates.τ).loc Cert.KernelInGates.main_arg0) = m ((c.tc : Thread Cert.KernelInGates.nD Cert.KernelInGates.τ).loc Cert.KernelInGates.main_arg0)
      ∧ r.2.mem ((c.tc : Thread Cert.KernelInGates.nD Cert.KernelInGates.τ).loc Cert.KernelInGates.main_arg1) = m ((c.tc : Thread Cert.KernelInGates.nD Cert.KernelInGates.τ).loc Cert.KernelInGates.main_arg1))
      ∧ r.2.sem = fun _ => 0)

def quiescent_KernelInGatesIdeal [hKernelInGatesIdeal : Cert.KernelInGatesIdeal.Facts] : Prop :=
  ∀ (m : (ℓ : Loc Cert.KernelInGatesIdeal.nD Cert.KernelInGatesIdeal.τ Cert.KernelInGatesIdeal.sig) → Buf (Elt Ideal) ℓ) (g : Dev Cert.KernelInGatesIdeal.nD → PrngReg), Pre_KernelInGatesIdeal m →
    θ_run (Cert.KernelInGatesIdeal.defs (F := Ideal)) (onTc (τ := Cert.KernelInGatesIdeal.τ) (Cert.KernelInGatesIdeal.main (F := Ideal))) ⟨m, fun _ => 0, g⟩ (fun r => (∀ c : Dev Cert.KernelInGatesIdeal.nD,
      r.2.mem ((c.tc : Thread Cert.KernelInGatesIdeal.nD Cert.KernelInGatesIdeal.τ).loc Cert.KernelInGatesIdeal.main_arg0) = m ((c.tc : Thread Cert.KernelInGatesIdeal.nD Cert.KernelInGatesIdeal.τ).loc Cert.KernelInGatesIdeal.main_arg0)
      ∧ r.2.mem ((c.tc : Thread Cert.KernelInGatesIdeal.nD Cert.KernelInGatesIdeal.τ).loc Cert.KernelInGatesIdeal.main_arg1) = m ((c.tc : Thread Cert.KernelInGatesIdeal.nD Cert.KernelInGatesIdeal.τ).loc Cert.KernelInGatesIdeal.main_arg1))
      ∧ r.2.sem = fun _ => 0)

def quiescent_ReferenceInGatesIdeal [hReferenceInGatesIdeal : Cert.ReferenceInGatesIdeal.Facts] : Prop :=
  ∀ (m : (ℓ : Loc Cert.ReferenceInGatesIdeal.nD Cert.ReferenceInGatesIdeal.τ Cert.ReferenceInGatesIdeal.sig) → Buf (Elt Ideal) ℓ) (g : Dev Cert.ReferenceInGatesIdeal.nD → PrngReg), Pre_ReferenceInGatesIdeal m →
    θ_run (Cert.ReferenceInGatesIdeal.defs (F := Ideal)) (onTc (τ := Cert.ReferenceInGatesIdeal.τ) (Cert.ReferenceInGatesIdeal.main (F := Ideal))) ⟨m, fun _ => 0, g⟩ (fun r => (∀ c : Dev Cert.ReferenceInGatesIdeal.nD,
      r.2.mem ((c.tc : Thread Cert.ReferenceInGatesIdeal.nD Cert.ReferenceInGatesIdeal.τ).loc Cert.ReferenceInGatesIdeal.main_arg0) = m ((c.tc : Thread Cert.ReferenceInGatesIdeal.nD Cert.ReferenceInGatesIdeal.τ).loc Cert.ReferenceInGatesIdeal.main_arg0)
      ∧ r.2.mem ((c.tc : Thread Cert.ReferenceInGatesIdeal.nD Cert.ReferenceInGatesIdeal.τ).loc Cert.ReferenceInGatesIdeal.main_arg1) = m ((c.tc : Thread Cert.ReferenceInGatesIdeal.nD Cert.ReferenceInGatesIdeal.τ).loc Cert.ReferenceInGatesIdeal.main_arg1))
      ∧ r.2.sem = fun _ => 0)

def quiescent_KernelInFour [hKernelInFour : Cert.KernelInFour.Facts] : Prop :=
  ∀ (m : (ℓ : Loc Cert.KernelInFour.nD Cert.KernelInFour.τ Cert.KernelInFour.sig) → Buf (Elt Bits) ℓ) (g : Dev Cert.KernelInFour.nD → PrngReg), Pre_KernelInFour m →
    θ_run (Cert.KernelInFour.defs (F := Bits)) (onTc (τ := Cert.KernelInFour.τ) (Cert.KernelInFour.main (F := Bits))) ⟨m, fun _ => 0, g⟩ (fun r => (∀ c : Dev Cert.KernelInFour.nD,
      r.2.mem ((c.tc : Thread Cert.KernelInFour.nD Cert.KernelInFour.τ).loc Cert.KernelInFour.main_arg0) = m ((c.tc : Thread Cert.KernelInFour.nD Cert.KernelInFour.τ).loc Cert.KernelInFour.main_arg0)
      ∧ r.2.mem ((c.tc : Thread Cert.KernelInFour.nD Cert.KernelInFour.τ).loc Cert.KernelInFour.main_arg1) = m ((c.tc : Thread Cert.KernelInFour.nD Cert.KernelInFour.τ).loc Cert.KernelInFour.main_arg1))
      ∧ r.2.sem = fun _ => 0)

def quiescent_KernelInFourIdeal [hKernelInFourIdeal : Cert.KernelInFourIdeal.Facts] : Prop :=
  ∀ (m : (ℓ : Loc Cert.KernelInFourIdeal.nD Cert.KernelInFourIdeal.τ Cert.KernelInFourIdeal.sig) → Buf (Elt Ideal) ℓ) (g : Dev Cert.KernelInFourIdeal.nD → PrngReg), Pre_KernelInFourIdeal m →
    θ_run (Cert.KernelInFourIdeal.defs (F := Ideal)) (onTc (τ := Cert.KernelInFourIdeal.τ) (Cert.KernelInFourIdeal.main (F := Ideal))) ⟨m, fun _ => 0, g⟩ (fun r => (∀ c : Dev Cert.KernelInFourIdeal.nD,
      r.2.mem ((c.tc : Thread Cert.KernelInFourIdeal.nD Cert.KernelInFourIdeal.τ).loc Cert.KernelInFourIdeal.main_arg0) = m ((c.tc : Thread Cert.KernelInFourIdeal.nD Cert.KernelInFourIdeal.τ).loc Cert.KernelInFourIdeal.main_arg0)
      ∧ r.2.mem ((c.tc : Thread Cert.KernelInFourIdeal.nD Cert.KernelInFourIdeal.τ).loc Cert.KernelInFourIdeal.main_arg1) = m ((c.tc : Thread Cert.KernelInFourIdeal.nD Cert.KernelInFourIdeal.τ).loc Cert.KernelInFourIdeal.main_arg1))
      ∧ r.2.sem = fun _ => 0)

def quiescent_ReferenceInFourIdeal [hReferenceInFourIdeal : Cert.ReferenceInFourIdeal.Facts] : Prop :=
  ∀ (m : (ℓ : Loc Cert.ReferenceInFourIdeal.nD Cert.ReferenceInFourIdeal.τ Cert.ReferenceInFourIdeal.sig) → Buf (Elt Ideal) ℓ) (g : Dev Cert.ReferenceInFourIdeal.nD → PrngReg), Pre_ReferenceInFourIdeal m →
    θ_run (Cert.ReferenceInFourIdeal.defs (F := Ideal)) (onTc (τ := Cert.ReferenceInFourIdeal.τ) (Cert.ReferenceInFourIdeal.main (F := Ideal))) ⟨m, fun _ => 0, g⟩ (fun r => (∀ c : Dev Cert.ReferenceInFourIdeal.nD,
      r.2.mem ((c.tc : Thread Cert.ReferenceInFourIdeal.nD Cert.ReferenceInFourIdeal.τ).loc Cert.ReferenceInFourIdeal.main_arg0) = m ((c.tc : Thread Cert.ReferenceInFourIdeal.nD Cert.ReferenceInFourIdeal.τ).loc Cert.ReferenceInFourIdeal.main_arg0)
      ∧ r.2.mem ((c.tc : Thread Cert.ReferenceInFourIdeal.nD Cert.ReferenceInFourIdeal.τ).loc Cert.ReferenceInFourIdeal.main_arg1) = m ((c.tc : Thread Cert.ReferenceInFourIdeal.nD Cert.ReferenceInFourIdeal.τ).loc Cert.ReferenceInFourIdeal.main_arg1))
      ∧ r.2.sem = fun _ => 0)

def quiescent_KernelInSixteen [hKernelInSixteen : Cert.KernelInSixteen.Facts] : Prop :=
  ∀ (m : (ℓ : Loc Cert.KernelInSixteen.nD Cert.KernelInSixteen.τ Cert.KernelInSixteen.sig) → Buf (Elt Bits) ℓ) (g : Dev Cert.KernelInSixteen.nD → PrngReg), Pre_KernelInSixteen m →
    θ_run (Cert.KernelInSixteen.defs (F := Bits)) (onTc (τ := Cert.KernelInSixteen.τ) (Cert.KernelInSixteen.main (F := Bits))) ⟨m, fun _ => 0, g⟩ (fun r => (∀ c : Dev Cert.KernelInSixteen.nD,
      r.2.mem ((c.tc : Thread Cert.KernelInSixteen.nD Cert.KernelInSixteen.τ).loc Cert.KernelInSixteen.main_arg0) = m ((c.tc : Thread Cert.KernelInSixteen.nD Cert.KernelInSixteen.τ).loc Cert.KernelInSixteen.main_arg0)
      ∧ r.2.mem ((c.tc : Thread Cert.KernelInSixteen.nD Cert.KernelInSixteen.τ).loc Cert.KernelInSixteen.main_arg1) = m ((c.tc : Thread Cert.KernelInSixteen.nD Cert.KernelInSixteen.τ).loc Cert.KernelInSixteen.main_arg1))
      ∧ r.2.sem = fun _ => 0)

def quiescent_KernelInSixteenIdeal [hKernelInSixteenIdeal : Cert.KernelInSixteenIdeal.Facts] : Prop :=
  ∀ (m : (ℓ : Loc Cert.KernelInSixteenIdeal.nD Cert.KernelInSixteenIdeal.τ Cert.KernelInSixteenIdeal.sig) → Buf (Elt Ideal) ℓ) (g : Dev Cert.KernelInSixteenIdeal.nD → PrngReg), Pre_KernelInSixteenIdeal m →
    θ_run (Cert.KernelInSixteenIdeal.defs (F := Ideal)) (onTc (τ := Cert.KernelInSixteenIdeal.τ) (Cert.KernelInSixteenIdeal.main (F := Ideal))) ⟨m, fun _ => 0, g⟩ (fun r => (∀ c : Dev Cert.KernelInSixteenIdeal.nD,
      r.2.mem ((c.tc : Thread Cert.KernelInSixteenIdeal.nD Cert.KernelInSixteenIdeal.τ).loc Cert.KernelInSixteenIdeal.main_arg0) = m ((c.tc : Thread Cert.KernelInSixteenIdeal.nD Cert.KernelInSixteenIdeal.τ).loc Cert.KernelInSixteenIdeal.main_arg0)
      ∧ r.2.mem ((c.tc : Thread Cert.KernelInSixteenIdeal.nD Cert.KernelInSixteenIdeal.τ).loc Cert.KernelInSixteenIdeal.main_arg1) = m ((c.tc : Thread Cert.KernelInSixteenIdeal.nD Cert.KernelInSixteenIdeal.τ).loc Cert.KernelInSixteenIdeal.main_arg1))
      ∧ r.2.sem = fun _ => 0)

def quiescent_ReferenceInSixteenIdeal [hReferenceInSixteenIdeal : Cert.ReferenceInSixteenIdeal.Facts] : Prop :=
  ∀ (m : (ℓ : Loc Cert.ReferenceInSixteenIdeal.nD Cert.ReferenceInSixteenIdeal.τ Cert.ReferenceInSixteenIdeal.sig) → Buf (Elt Ideal) ℓ) (g : Dev Cert.ReferenceInSixteenIdeal.nD → PrngReg), Pre_ReferenceInSixteenIdeal m →
    θ_run (Cert.ReferenceInSixteenIdeal.defs (F := Ideal)) (onTc (τ := Cert.ReferenceInSixteenIdeal.τ) (Cert.ReferenceInSixteenIdeal.main (F := Ideal))) ⟨m, fun _ => 0, g⟩ (fun r => (∀ c : Dev Cert.ReferenceInSixteenIdeal.nD,
      r.2.mem ((c.tc : Thread Cert.ReferenceInSixteenIdeal.nD Cert.ReferenceInSixteenIdeal.τ).loc Cert.ReferenceInSixteenIdeal.main_arg0) = m ((c.tc : Thread Cert.ReferenceInSixteenIdeal.nD Cert.ReferenceInSixteenIdeal.τ).loc Cert.ReferenceInSixteenIdeal.main_arg0)
      ∧ r.2.mem ((c.tc : Thread Cert.ReferenceInSixteenIdeal.nD Cert.ReferenceInSixteenIdeal.τ).loc Cert.ReferenceInSixteenIdeal.main_arg1) = m ((c.tc : Thread Cert.ReferenceInSixteenIdeal.nD Cert.ReferenceInSixteenIdeal.τ).loc Cert.ReferenceInSixteenIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6)
      ∧ r.2.mem ((c.tc : Thread Cert.KernelMerge.nD Cert.KernelMerge.τ).loc Cert.KernelMerge.main_arg7) = m ((c.tc : Thread Cert.KernelMerge.nD Cert.KernelMerge.τ).loc Cert.KernelMerge.main_arg7)
      ∧ r.2.mem ((c.tc : Thread Cert.KernelMerge.nD Cert.KernelMerge.τ).loc Cert.KernelMerge.main_arg8) = m ((c.tc : Thread Cert.KernelMerge.nD Cert.KernelMerge.τ).loc Cert.KernelMerge.main_arg8)
      ∧ r.2.mem ((c.tc : Thread Cert.KernelMerge.nD Cert.KernelMerge.τ).loc Cert.KernelMerge.main_arg9) = m ((c.tc : Thread Cert.KernelMerge.nD Cert.KernelMerge.τ).loc Cert.KernelMerge.main_arg9)
      ∧ r.2.mem ((c.tc : Thread Cert.KernelMerge.nD Cert.KernelMerge.τ).loc Cert.KernelMerge.main_arg10) = m ((c.tc : Thread Cert.KernelMerge.nD Cert.KernelMerge.τ).loc Cert.KernelMerge.main_arg10)
      ∧ r.2.mem ((c.tc : Thread Cert.KernelMerge.nD Cert.KernelMerge.τ).loc Cert.KernelMerge.main_arg11) = m ((c.tc : Thread Cert.KernelMerge.nD Cert.KernelMerge.τ).loc Cert.KernelMerge.main_arg11)
      ∧ r.2.mem ((c.tc : Thread Cert.KernelMerge.nD Cert.KernelMerge.τ).loc Cert.KernelMerge.main_arg12) = m ((c.tc : Thread Cert.KernelMerge.nD Cert.KernelMerge.τ).loc Cert.KernelMerge.main_arg12))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
      ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
      ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8)
      ∧ r.2.mem ((c.tc : Thread Cert.KernelMergeIdeal.nD Cert.KernelMergeIdeal.τ).loc Cert.KernelMergeIdeal.main_arg9) = m ((c.tc : Thread Cert.KernelMergeIdeal.nD Cert.KernelMergeIdeal.τ).loc Cert.KernelMergeIdeal.main_arg9)
      ∧ r.2.mem ((c.tc : Thread Cert.KernelMergeIdeal.nD Cert.KernelMergeIdeal.τ).loc Cert.KernelMergeIdeal.main_arg10) = m ((c.tc : Thread Cert.KernelMergeIdeal.nD Cert.KernelMergeIdeal.τ).loc Cert.KernelMergeIdeal.main_arg10)
      ∧ r.2.mem ((c.tc : Thread Cert.KernelMergeIdeal.nD Cert.KernelMergeIdeal.τ).loc Cert.KernelMergeIdeal.main_arg11) = m ((c.tc : Thread Cert.KernelMergeIdeal.nD Cert.KernelMergeIdeal.τ).loc Cert.KernelMergeIdeal.main_arg11)
      ∧ r.2.mem ((c.tc : Thread Cert.KernelMergeIdeal.nD Cert.KernelMergeIdeal.τ).loc Cert.KernelMergeIdeal.main_arg12) = m ((c.tc : Thread Cert.KernelMergeIdeal.nD Cert.KernelMergeIdeal.τ).loc Cert.KernelMergeIdeal.main_arg12))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6)
      ∧ r.2.mem ((c.tc : Thread Cert.ReferenceMergeIdeal.nD Cert.ReferenceMergeIdeal.τ).loc Cert.ReferenceMergeIdeal.main_arg7) = m ((c.tc : Thread Cert.ReferenceMergeIdeal.nD Cert.ReferenceMergeIdeal.τ).loc Cert.ReferenceMergeIdeal.main_arg7)
      ∧ r.2.mem ((c.tc : Thread Cert.ReferenceMergeIdeal.nD Cert.ReferenceMergeIdeal.τ).loc Cert.ReferenceMergeIdeal.main_arg8) = m ((c.tc : Thread Cert.ReferenceMergeIdeal.nD Cert.ReferenceMergeIdeal.τ).loc Cert.ReferenceMergeIdeal.main_arg8)
      ∧ r.2.mem ((c.tc : Thread Cert.ReferenceMergeIdeal.nD Cert.ReferenceMergeIdeal.τ).loc Cert.ReferenceMergeIdeal.main_arg9) = m ((c.tc : Thread Cert.ReferenceMergeIdeal.nD Cert.ReferenceMergeIdeal.τ).loc Cert.ReferenceMergeIdeal.main_arg9)
      ∧ r.2.mem ((c.tc : Thread Cert.ReferenceMergeIdeal.nD Cert.ReferenceMergeIdeal.τ).loc Cert.ReferenceMergeIdeal.main_arg10) = m ((c.tc : Thread Cert.ReferenceMergeIdeal.nD Cert.ReferenceMergeIdeal.τ).loc Cert.ReferenceMergeIdeal.main_arg10)
      ∧ r.2.mem ((c.tc : Thread Cert.ReferenceMergeIdeal.nD Cert.ReferenceMergeIdeal.τ).loc Cert.ReferenceMergeIdeal.main_arg11) = m ((c.tc : Thread Cert.ReferenceMergeIdeal.nD Cert.ReferenceMergeIdeal.τ).loc Cert.ReferenceMergeIdeal.main_arg11)
      ∧ r.2.mem ((c.tc : Thread Cert.ReferenceMergeIdeal.nD Cert.ReferenceMergeIdeal.τ).loc Cert.ReferenceMergeIdeal.main_arg12) = m ((c.tc : Thread Cert.ReferenceMergeIdeal.nD Cert.ReferenceMergeIdeal.τ).loc Cert.ReferenceMergeIdeal.main_arg12))
      ∧ r.2.sem = fun _ => 0)

def quiescent_KernelModulate [hKernelModulate : Cert.KernelModulate.Facts] : Prop :=
  ∀ (m : (ℓ : Loc Cert.KernelModulate.nD Cert.KernelModulate.τ Cert.KernelModulate.sig) → Buf (Elt Bits) ℓ) (g : Dev Cert.KernelModulate.nD → PrngReg), Pre_KernelModulate m →
    θ_run (Cert.KernelModulate.defs (F := Bits)) (onTc (τ := Cert.KernelModulate.τ) (Cert.KernelModulate.main (F := Bits))) ⟨m, fun _ => 0, g⟩ (fun r => (∀ c : Dev Cert.KernelModulate.nD,
      r.2.mem ((c.tc : Thread Cert.KernelModulate.nD Cert.KernelModulate.τ).loc Cert.KernelModulate.main_arg0) = m ((c.tc : Thread Cert.KernelModulate.nD Cert.KernelModulate.τ).loc Cert.KernelModulate.main_arg0)
      ∧ r.2.mem ((c.tc : Thread Cert.KernelModulate.nD Cert.KernelModulate.τ).loc Cert.KernelModulate.main_arg1) = m ((c.tc : Thread Cert.KernelModulate.nD Cert.KernelModulate.τ).loc Cert.KernelModulate.main_arg1)
      ∧ r.2.mem ((c.tc : Thread Cert.KernelModulate.nD Cert.KernelModulate.τ).loc Cert.KernelModulate.main_arg2) = m ((c.tc : Thread Cert.KernelModulate.nD Cert.KernelModulate.τ).loc Cert.KernelModulate.main_arg2))
      ∧ r.2.sem = fun _ => 0)

def quiescent_KernelModulateIdeal [hKernelModulateIdeal : Cert.KernelModulateIdeal.Facts] : Prop :=
  ∀ (m : (ℓ : Loc Cert.KernelModulateIdeal.nD Cert.KernelModulateIdeal.τ Cert.KernelModulateIdeal.sig) → Buf (Elt Ideal) ℓ) (g : Dev Cert.KernelModulateIdeal.nD → PrngReg), Pre_KernelModulateIdeal m →
    θ_run (Cert.KernelModulateIdeal.defs (F := Ideal)) (onTc (τ := Cert.KernelModulateIdeal.τ) (Cert.KernelModulateIdeal.main (F := Ideal))) ⟨m, fun _ => 0, g⟩ (fun r => (∀ c : Dev Cert.KernelModulateIdeal.nD,
      r.2.mem ((c.tc : Thread Cert.KernelModulateIdeal.nD Cert.KernelModulateIdeal.τ).loc Cert.KernelModulateIdeal.main_arg0) = m ((c.tc : Thread Cert.KernelModulateIdeal.nD Cert.KernelModulateIdeal.τ).loc Cert.KernelModulateIdeal.main_arg0)
      ∧ r.2.mem ((c.tc : Thread Cert.KernelModulateIdeal.nD Cert.KernelModulateIdeal.τ).loc Cert.KernelModulateIdeal.main_arg1) = m ((c.tc : Thread Cert.KernelModulateIdeal.nD Cert.KernelModulateIdeal.τ).loc Cert.KernelModulateIdeal.main_arg1)
      ∧ r.2.mem ((c.tc : Thread Cert.KernelModulateIdeal.nD Cert.KernelModulateIdeal.τ).loc Cert.KernelModulateIdeal.main_arg2) = m ((c.tc : Thread Cert.KernelModulateIdeal.nD Cert.KernelModulateIdeal.τ).loc Cert.KernelModulateIdeal.main_arg2))
      ∧ r.2.sem = fun _ => 0)

def quiescent_ReferenceModulateIdeal [hReferenceModulateIdeal : Cert.ReferenceModulateIdeal.Facts] : Prop :=
  ∀ (m : (ℓ : Loc Cert.ReferenceModulateIdeal.nD Cert.ReferenceModulateIdeal.τ Cert.ReferenceModulateIdeal.sig) → Buf (Elt Ideal) ℓ) (g : Dev Cert.ReferenceModulateIdeal.nD → PrngReg), Pre_ReferenceModulateIdeal m →
    θ_run (Cert.ReferenceModulateIdeal.defs (F := Ideal)) (onTc (τ := Cert.ReferenceModulateIdeal.τ) (Cert.ReferenceModulateIdeal.main (F := Ideal))) ⟨m, fun _ => 0, g⟩ (fun r => (∀ c : Dev Cert.ReferenceModulateIdeal.nD,
      r.2.mem ((c.tc : Thread Cert.ReferenceModulateIdeal.nD Cert.ReferenceModulateIdeal.τ).loc Cert.ReferenceModulateIdeal.main_arg0) = m ((c.tc : Thread Cert.ReferenceModulateIdeal.nD Cert.ReferenceModulateIdeal.τ).loc Cert.ReferenceModulateIdeal.main_arg0)
      ∧ r.2.mem ((c.tc : Thread Cert.ReferenceModulateIdeal.nD Cert.ReferenceModulateIdeal.τ).loc Cert.ReferenceModulateIdeal.main_arg1) = m ((c.tc : Thread Cert.ReferenceModulateIdeal.nD Cert.ReferenceModulateIdeal.τ).loc Cert.ReferenceModulateIdeal.main_arg1)
      ∧ r.2.mem ((c.tc : Thread Cert.ReferenceModulateIdeal.nD Cert.ReferenceModulateIdeal.τ).loc Cert.ReferenceModulateIdeal.main_arg2) = m ((c.tc : Thread Cert.ReferenceModulateIdeal.nD Cert.ReferenceModulateIdeal.τ).loc Cert.ReferenceModulateIdeal.main_arg2))
      ∧ r.2.sem = fun _ => 0)

def quiescent_KernelShort [hKernelShort : Cert.KernelShort.Facts] : Prop :=
  ∀ (m : (ℓ : Loc Cert.KernelShort.nD Cert.KernelShort.τ Cert.KernelShort.sig) → Buf (Elt Bits) ℓ) (g : Dev Cert.KernelShort.nD → PrngReg), Pre_KernelShort m →
    θ_run (Cert.KernelShort.defs (F := Bits)) (onTc (τ := Cert.KernelShort.τ) (Cert.KernelShort.main (F := Bits))) ⟨m, fun _ => 0, g⟩ (fun r => (∀ c : Dev Cert.KernelShort.nD,
      r.2.mem ((c.tc : Thread Cert.KernelShort.nD Cert.KernelShort.τ).loc Cert.KernelShort.main_arg0) = m ((c.tc : Thread Cert.KernelShort.nD Cert.KernelShort.τ).loc Cert.KernelShort.main_arg0)
      ∧ r.2.mem ((c.tc : Thread Cert.KernelShort.nD Cert.KernelShort.τ).loc Cert.KernelShort.main_arg1) = m ((c.tc : Thread Cert.KernelShort.nD Cert.KernelShort.τ).loc Cert.KernelShort.main_arg1)
      ∧ r.2.mem ((c.tc : Thread Cert.KernelShort.nD Cert.KernelShort.τ).loc Cert.KernelShort.main_arg2) = m ((c.tc : Thread Cert.KernelShort.nD Cert.KernelShort.τ).loc Cert.KernelShort.main_arg2))
      ∧ r.2.sem = fun _ => 0)

def quiescent_KernelShortIdeal [hKernelShortIdeal : Cert.KernelShortIdeal.Facts] : Prop :=
  ∀ (m : (ℓ : Loc Cert.KernelShortIdeal.nD Cert.KernelShortIdeal.τ Cert.KernelShortIdeal.sig) → Buf (Elt Ideal) ℓ) (g : Dev Cert.KernelShortIdeal.nD → PrngReg), Pre_KernelShortIdeal m →
    θ_run (Cert.KernelShortIdeal.defs (F := Ideal)) (onTc (τ := Cert.KernelShortIdeal.τ) (Cert.KernelShortIdeal.main (F := Ideal))) ⟨m, fun _ => 0, g⟩ (fun r => (∀ c : Dev Cert.KernelShortIdeal.nD,
      r.2.mem ((c.tc : Thread Cert.KernelShortIdeal.nD Cert.KernelShortIdeal.τ).loc Cert.KernelShortIdeal.main_arg0) = m ((c.tc : Thread Cert.KernelShortIdeal.nD Cert.KernelShortIdeal.τ).loc Cert.KernelShortIdeal.main_arg0)
      ∧ r.2.mem ((c.tc : Thread Cert.KernelShortIdeal.nD Cert.KernelShortIdeal.τ).loc Cert.KernelShortIdeal.main_arg1) = m ((c.tc : Thread Cert.KernelShortIdeal.nD Cert.KernelShortIdeal.τ).loc Cert.KernelShortIdeal.main_arg1)
      ∧ r.2.mem ((c.tc : Thread Cert.KernelShortIdeal.nD Cert.KernelShortIdeal.τ).loc Cert.KernelShortIdeal.main_arg2) = m ((c.tc : Thread Cert.KernelShortIdeal.nD Cert.KernelShortIdeal.τ).loc Cert.KernelShortIdeal.main_arg2))
      ∧ r.2.sem = fun _ => 0)

def quiescent_ReferenceShortIdeal [hReferenceShortIdeal : Cert.ReferenceShortIdeal.Facts] : Prop :=
  ∀ (m : (ℓ : Loc Cert.ReferenceShortIdeal.nD Cert.ReferenceShortIdeal.τ Cert.ReferenceShortIdeal.sig) → Buf (Elt Ideal) ℓ) (g : Dev Cert.ReferenceShortIdeal.nD → PrngReg), Pre_ReferenceShortIdeal m →
    θ_run (Cert.ReferenceShortIdeal.defs (F := Ideal)) (onTc (τ := Cert.ReferenceShortIdeal.τ) (Cert.ReferenceShortIdeal.main (F := Ideal))) ⟨m, fun _ => 0, g⟩ (fun r => (∀ c : Dev Cert.ReferenceShortIdeal.nD,
      r.2.mem ((c.tc : Thread Cert.ReferenceShortIdeal.nD Cert.ReferenceShortIdeal.τ).loc Cert.ReferenceShortIdeal.main_arg0) = m ((c.tc : Thread Cert.ReferenceShortIdeal.nD Cert.ReferenceShortIdeal.τ).loc Cert.ReferenceShortIdeal.main_arg0)
      ∧ r.2.mem ((c.tc : Thread Cert.ReferenceShortIdeal.nD Cert.ReferenceShortIdeal.τ).loc Cert.ReferenceShortIdeal.main_arg1) = m ((c.tc : Thread Cert.ReferenceShortIdeal.nD Cert.ReferenceShortIdeal.τ).loc Cert.ReferenceShortIdeal.main_arg1)
      ∧ r.2.mem ((c.tc : Thread Cert.ReferenceShortIdeal.nD Cert.ReferenceShortIdeal.τ).loc Cert.ReferenceShortIdeal.main_arg2) = m ((c.tc : Thread Cert.ReferenceShortIdeal.nD Cert.ReferenceShortIdeal.τ).loc Cert.ReferenceShortIdeal.main_arg2))
      ∧ r.2.sem = fun _ => 0)

def quiescent_KernelFilters [hKernelFilters : Cert.KernelFilters.Facts] : Prop :=
  ∀ (m : (ℓ : Loc Cert.KernelFilters.nD Cert.KernelFilters.τ Cert.KernelFilters.sig) → Buf (Elt Bits) ℓ) (g : Dev Cert.KernelFilters.nD → PrngReg), Pre_KernelFilters m →
    θ_run (Cert.KernelFilters.defs (F := Bits)) (onTc (τ := Cert.KernelFilters.τ) (Cert.KernelFilters.main (F := Bits))) ⟨m, fun _ => 0, g⟩ (fun r => (∀ c : Dev Cert.KernelFilters.nD,
      r.2.mem ((c.tc : Thread Cert.KernelFilters.nD Cert.KernelFilters.τ).loc Cert.KernelFilters.main_arg0) = m ((c.tc : Thread Cert.KernelFilters.nD Cert.KernelFilters.τ).loc Cert.KernelFilters.main_arg0)
      ∧ r.2.mem ((c.tc : Thread Cert.KernelFilters.nD Cert.KernelFilters.τ).loc Cert.KernelFilters.main_arg1) = m ((c.tc : Thread Cert.KernelFilters.nD Cert.KernelFilters.τ).loc Cert.KernelFilters.main_arg1)
      ∧ r.2.mem ((c.tc : Thread Cert.KernelFilters.nD Cert.KernelFilters.τ).loc Cert.KernelFilters.main_arg2) = m ((c.tc : Thread Cert.KernelFilters.nD Cert.KernelFilters.τ).loc Cert.KernelFilters.main_arg2)
      ∧ r.2.mem ((c.tc : Thread Cert.KernelFilters.nD Cert.KernelFilters.τ).loc Cert.KernelFilters.main_arg3) = m ((c.tc : Thread Cert.KernelFilters.nD Cert.KernelFilters.τ).loc Cert.KernelFilters.main_arg3)
      ∧ r.2.mem ((c.tc : Thread Cert.KernelFilters.nD Cert.KernelFilters.τ).loc Cert.KernelFilters.main_arg4) = m ((c.tc : Thread Cert.KernelFilters.nD Cert.KernelFilters.τ).loc Cert.KernelFilters.main_arg4)
      ∧ r.2.mem ((c.tc : Thread Cert.KernelFilters.nD Cert.KernelFilters.τ).loc Cert.KernelFilters.main_arg5) = m ((c.tc : Thread Cert.KernelFilters.nD Cert.KernelFilters.τ).loc Cert.KernelFilters.main_arg5)
      ∧ r.2.mem ((c.tc : Thread Cert.KernelFilters.nD Cert.KernelFilters.τ).loc Cert.KernelFilters.main_arg6) = m ((c.tc : Thread Cert.KernelFilters.nD Cert.KernelFilters.τ).loc Cert.KernelFilters.main_arg6)
      ∧ r.2.mem ((c.tc : Thread Cert.KernelFilters.nD Cert.KernelFilters.τ).loc Cert.KernelFilters.main_arg7) = m ((c.tc : Thread Cert.KernelFilters.nD Cert.KernelFilters.τ).loc Cert.KernelFilters.main_arg7)
      ∧ r.2.mem ((c.tc : Thread Cert.KernelFilters.nD Cert.KernelFilters.τ).loc Cert.KernelFilters.main_arg8) = m ((c.tc : Thread Cert.KernelFilters.nD Cert.KernelFilters.τ).loc Cert.KernelFilters.main_arg8)
      ∧ r.2.mem ((c.tc : Thread Cert.KernelFilters.nD Cert.KernelFilters.τ).loc Cert.KernelFilters.main_arg9) = m ((c.tc : Thread Cert.KernelFilters.nD Cert.KernelFilters.τ).loc Cert.KernelFilters.main_arg9))
      ∧ r.2.sem = fun _ => 0)

def quiescent_KernelFiltersIdeal [hKernelFiltersIdeal : Cert.KernelFiltersIdeal.Facts] : Prop :=
  ∀ (m : (ℓ : Loc Cert.KernelFiltersIdeal.nD Cert.KernelFiltersIdeal.τ Cert.KernelFiltersIdeal.sig) → Buf (Elt Ideal) ℓ) (g : Dev Cert.KernelFiltersIdeal.nD → PrngReg), Pre_KernelFiltersIdeal m →
    θ_run (Cert.KernelFiltersIdeal.defs (F := Ideal)) (onTc (τ := Cert.KernelFiltersIdeal.τ) (Cert.KernelFiltersIdeal.main (F := Ideal))) ⟨m, fun _ => 0, g⟩ (fun r => (∀ c : Dev Cert.KernelFiltersIdeal.nD,
      r.2.mem ((c.tc : Thread Cert.KernelFiltersIdeal.nD Cert.KernelFiltersIdeal.τ).loc Cert.KernelFiltersIdeal.main_arg0) = m ((c.tc : Thread Cert.KernelFiltersIdeal.nD Cert.KernelFiltersIdeal.τ).loc Cert.KernelFiltersIdeal.main_arg0)
      ∧ r.2.mem ((c.tc : Thread Cert.KernelFiltersIdeal.nD Cert.KernelFiltersIdeal.τ).loc Cert.KernelFiltersIdeal.main_arg1) = m ((c.tc : Thread Cert.KernelFiltersIdeal.nD Cert.KernelFiltersIdeal.τ).loc Cert.KernelFiltersIdeal.main_arg1)
      ∧ r.2.mem ((c.tc : Thread Cert.KernelFiltersIdeal.nD Cert.KernelFiltersIdeal.τ).loc Cert.KernelFiltersIdeal.main_arg2) = m ((c.tc : Thread Cert.KernelFiltersIdeal.nD Cert.KernelFiltersIdeal.τ).loc Cert.KernelFiltersIdeal.main_arg2)
      ∧ r.2.mem ((c.tc : Thread Cert.KernelFiltersIdeal.nD Cert.KernelFiltersIdeal.τ).loc Cert.KernelFiltersIdeal.main_arg3) = m ((c.tc : Thread Cert.KernelFiltersIdeal.nD Cert.KernelFiltersIdeal.τ).loc Cert.KernelFiltersIdeal.main_arg3)
      ∧ r.2.mem ((c.tc : Thread Cert.KernelFiltersIdeal.nD Cert.KernelFiltersIdeal.τ).loc Cert.KernelFiltersIdeal.main_arg4) = m ((c.tc : Thread Cert.KernelFiltersIdeal.nD Cert.KernelFiltersIdeal.τ).loc Cert.KernelFiltersIdeal.main_arg4)
      ∧ r.2.mem ((c.tc : Thread Cert.KernelFiltersIdeal.nD Cert.KernelFiltersIdeal.τ).loc Cert.KernelFiltersIdeal.main_arg5) = m ((c.tc : Thread Cert.KernelFiltersIdeal.nD Cert.KernelFiltersIdeal.τ).loc Cert.KernelFiltersIdeal.main_arg5)
      ∧ r.2.mem ((c.tc : Thread Cert.KernelFiltersIdeal.nD Cert.KernelFiltersIdeal.τ).loc Cert.KernelFiltersIdeal.main_arg6) = m ((c.tc : Thread Cert.KernelFiltersIdeal.nD Cert.KernelFiltersIdeal.τ).loc Cert.KernelFiltersIdeal.main_arg6)
      ∧ r.2.mem ((c.tc : Thread Cert.KernelFiltersIdeal.nD Cert.KernelFiltersIdeal.τ).loc Cert.KernelFiltersIdeal.main_arg7) = m ((c.tc : Thread Cert.KernelFiltersIdeal.nD Cert.KernelFiltersIdeal.τ).loc Cert.KernelFiltersIdeal.main_arg7)
      ∧ r.2.mem ((c.tc : Thread Cert.KernelFiltersIdeal.nD Cert.KernelFiltersIdeal.τ).loc Cert.KernelFiltersIdeal.main_arg8) = m ((c.tc : Thread Cert.KernelFiltersIdeal.nD Cert.KernelFiltersIdeal.τ).loc Cert.KernelFiltersIdeal.main_arg8)
      ∧ r.2.mem ((c.tc : Thread Cert.KernelFiltersIdeal.nD Cert.KernelFiltersIdeal.τ).loc Cert.KernelFiltersIdeal.main_arg9) = m ((c.tc : Thread Cert.KernelFiltersIdeal.nD Cert.KernelFiltersIdeal.τ).loc Cert.KernelFiltersIdeal.main_arg9))
      ∧ r.2.sem = fun _ => 0)

def quiescent_ReferenceFiltersIdeal [hReferenceFiltersIdeal : Cert.ReferenceFiltersIdeal.Facts] : Prop :=
  ∀ (m : (ℓ : Loc Cert.ReferenceFiltersIdeal.nD Cert.ReferenceFiltersIdeal.τ Cert.ReferenceFiltersIdeal.sig) → Buf (Elt Ideal) ℓ) (g : Dev Cert.ReferenceFiltersIdeal.nD → PrngReg), Pre_ReferenceFiltersIdeal m →
    θ_run (Cert.ReferenceFiltersIdeal.defs (F := Ideal)) (onTc (τ := Cert.ReferenceFiltersIdeal.τ) (Cert.ReferenceFiltersIdeal.main (F := Ideal))) ⟨m, fun _ => 0, g⟩ (fun r => (∀ c : Dev Cert.ReferenceFiltersIdeal.nD,
      r.2.mem ((c.tc : Thread Cert.ReferenceFiltersIdeal.nD Cert.ReferenceFiltersIdeal.τ).loc Cert.ReferenceFiltersIdeal.main_arg0) = m ((c.tc : Thread Cert.ReferenceFiltersIdeal.nD Cert.ReferenceFiltersIdeal.τ).loc Cert.ReferenceFiltersIdeal.main_arg0)
      ∧ r.2.mem ((c.tc : Thread Cert.ReferenceFiltersIdeal.nD Cert.ReferenceFiltersIdeal.τ).loc Cert.ReferenceFiltersIdeal.main_arg1) = m ((c.tc : Thread Cert.ReferenceFiltersIdeal.nD Cert.ReferenceFiltersIdeal.τ).loc Cert.ReferenceFiltersIdeal.main_arg1)
      ∧ r.2.mem ((c.tc : Thread Cert.ReferenceFiltersIdeal.nD Cert.ReferenceFiltersIdeal.τ).loc Cert.ReferenceFiltersIdeal.main_arg2) = m ((c.tc : Thread Cert.ReferenceFiltersIdeal.nD Cert.ReferenceFiltersIdeal.τ).loc Cert.ReferenceFiltersIdeal.main_arg2)
      ∧ r.2.mem ((c.tc : Thread Cert.ReferenceFiltersIdeal.nD Cert.ReferenceFiltersIdeal.τ).loc Cert.ReferenceFiltersIdeal.main_arg3) = m ((c.tc : Thread Cert.ReferenceFiltersIdeal.nD Cert.ReferenceFiltersIdeal.τ).loc Cert.ReferenceFiltersIdeal.main_arg3)
      ∧ r.2.mem ((c.tc : Thread Cert.ReferenceFiltersIdeal.nD Cert.ReferenceFiltersIdeal.τ).loc Cert.ReferenceFiltersIdeal.main_arg4) = m ((c.tc : Thread Cert.ReferenceFiltersIdeal.nD Cert.ReferenceFiltersIdeal.τ).loc Cert.ReferenceFiltersIdeal.main_arg4)
      ∧ r.2.mem ((c.tc : Thread Cert.ReferenceFiltersIdeal.nD Cert.ReferenceFiltersIdeal.τ).loc Cert.ReferenceFiltersIdeal.main_arg5) = m ((c.tc : Thread Cert.ReferenceFiltersIdeal.nD Cert.ReferenceFiltersIdeal.τ).loc Cert.ReferenceFiltersIdeal.main_arg5)
      ∧ r.2.mem ((c.tc : Thread Cert.ReferenceFiltersIdeal.nD Cert.ReferenceFiltersIdeal.τ).loc Cert.ReferenceFiltersIdeal.main_arg6) = m ((c.tc : Thread Cert.ReferenceFiltersIdeal.nD Cert.ReferenceFiltersIdeal.τ).loc Cert.ReferenceFiltersIdeal.main_arg6)
      ∧ r.2.mem ((c.tc : Thread Cert.ReferenceFiltersIdeal.nD Cert.ReferenceFiltersIdeal.τ).loc Cert.ReferenceFiltersIdeal.main_arg7) = m ((c.tc : Thread Cert.ReferenceFiltersIdeal.nD Cert.ReferenceFiltersIdeal.τ).loc Cert.ReferenceFiltersIdeal.main_arg7)
      ∧ r.2.mem ((c.tc : Thread Cert.ReferenceFiltersIdeal.nD Cert.ReferenceFiltersIdeal.τ).loc Cert.ReferenceFiltersIdeal.main_arg8) = m ((c.tc : Thread Cert.ReferenceFiltersIdeal.nD Cert.ReferenceFiltersIdeal.τ).loc Cert.ReferenceFiltersIdeal.main_arg8)
      ∧ r.2.mem ((c.tc : Thread Cert.ReferenceFiltersIdeal.nD Cert.ReferenceFiltersIdeal.τ).loc Cert.ReferenceFiltersIdeal.main_arg9) = m ((c.tc : Thread Cert.ReferenceFiltersIdeal.nD Cert.ReferenceFiltersIdeal.τ).loc Cert.ReferenceFiltersIdeal.main_arg9))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1)
      ∧ r.2.mem ((c.tc : Thread Cert.KernelNorm.nD Cert.KernelNorm.τ).loc Cert.KernelNorm.main_arg2) = m ((c.tc : Thread Cert.KernelNorm.nD Cert.KernelNorm.τ).loc Cert.KernelNorm.main_arg2)
      ∧ r.2.mem ((c.tc : Thread Cert.KernelNorm.nD Cert.KernelNorm.τ).loc Cert.KernelNorm.main_arg3) = m ((c.tc : Thread Cert.KernelNorm.nD Cert.KernelNorm.τ).loc Cert.KernelNorm.main_arg3))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
      ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2)
      ∧ r.2.mem ((c.tc : Thread Cert.ReferenceNormIdeal.nD Cert.ReferenceNormIdeal.τ).loc Cert.ReferenceNormIdeal.main_arg3) = m ((c.tc : Thread Cert.ReferenceNormIdeal.nD Cert.ReferenceNormIdeal.τ).loc Cert.ReferenceNormIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_KernelFour_KernelFourIdeal : Prop :=
  IdealRules.named_const.Statement Cert.KernelFourIdeal.κ "mask" .f32 0xF149F2CA#32 ⊥

def algebraic_KernelFourIdeal_ReferenceFourIdeal [hKernelFourIdeal : Cert.KernelFourIdeal.Facts] [hReferenceFourIdeal : Cert.ReferenceFourIdeal.Facts] : Prop :=
  ∀ (m : (ℓ : Loc Cert.KernelFourIdeal.nD Cert.KernelFourIdeal.τ Cert.KernelFourIdeal.sig) → Buf (Elt Ideal) ℓ) (g : Dev Cert.KernelFourIdeal.nD → PrngReg)
    (m' : (ℓ : Loc Cert.ReferenceFourIdeal.nD Cert.ReferenceFourIdeal.τ Cert.ReferenceFourIdeal.sig) → Buf (Elt Ideal) ℓ) (g' : Dev Cert.ReferenceFourIdeal.nD → PrngReg), Pre_KernelFourIdeal m →
    (∀ c : Dev Cert.KernelFourIdeal.nD,
      m' ((c.tc : Thread Cert.ReferenceFourIdeal.nD Cert.ReferenceFourIdeal.τ).loc Cert.ReferenceFourIdeal.main_arg0) = m ((c.tc : Thread Cert.KernelFourIdeal.nD Cert.KernelFourIdeal.τ).loc Cert.KernelFourIdeal.main_arg0)) →
    ∃ (v0 : (c : Dev Cert.KernelFourIdeal.nD) → Buf (Elt Ideal) ((c.tc : Thread Cert.KernelFourIdeal.nD Cert.KernelFourIdeal.τ).loc Cert.KernelFourIdeal.main_v0_0)) (v1 : (c : Dev Cert.KernelFourIdeal.nD) → Buf (Elt Ideal) ((c.tc : Thread Cert.KernelFourIdeal.nD Cert.KernelFourIdeal.τ).loc Cert.KernelFourIdeal.main_v0_1)),
      θ_run (Cert.KernelFourIdeal.defs (F := Ideal)) (onTc (τ := Cert.KernelFourIdeal.τ) (Cert.KernelFourIdeal.main (F := Ideal))) ⟨m, fun _ => 0, g⟩ (fun r => ∀ c : Dev Cert.KernelFourIdeal.nD,
          r.2.mem ((c.tc : Thread Cert.KernelFourIdeal.nD Cert.KernelFourIdeal.τ).loc Cert.KernelFourIdeal.main_v0_0) = v0 c
          ∧ r.2.mem ((c.tc : Thread Cert.KernelFourIdeal.nD Cert.KernelFourIdeal.τ).loc Cert.KernelFourIdeal.main_v0_1) = v1 c
          ∧ r.2.mem ((c.tc : Thread Cert.KernelFourIdeal.nD Cert.KernelFourIdeal.τ).loc Cert.KernelFourIdeal.main_arg0) = m ((c.tc : Thread Cert.KernelFourIdeal.nD Cert.KernelFourIdeal.τ).loc Cert.KernelFourIdeal.main_arg0))
      ∧ θ_run (Cert.ReferenceFourIdeal.defs (F := Ideal)) (onTc (τ := Cert.ReferenceFourIdeal.τ) (Cert.ReferenceFourIdeal.main (F := Ideal))) ⟨m', fun _ => 0, g'⟩ (fun r => ∀ c : Dev Cert.ReferenceFourIdeal.nD,
          r.2.mem ((c.tc : Thread Cert.ReferenceFourIdeal.nD Cert.ReferenceFourIdeal.τ).loc Cert.ReferenceFourIdeal.main_v58) = v0 c
          ∧ r.2.mem ((c.tc : Thread Cert.ReferenceFourIdeal.nD Cert.ReferenceFourIdeal.τ).loc Cert.ReferenceFourIdeal.main_v60) = v1 c
          ∧ r.2.mem ((c.tc : Thread Cert.ReferenceFourIdeal.nD Cert.ReferenceFourIdeal.τ).loc Cert.ReferenceFourIdeal.main_arg0) = m' ((c.tc : Thread Cert.ReferenceFourIdeal.nD Cert.ReferenceFourIdeal.τ).loc Cert.ReferenceFourIdeal.main_arg0))

def preserves_KernelSixteen_KernelSixteenIdeal : Prop :=
  IdealRules.named_const.Statement Cert.KernelSixteenIdeal.κ "mask" .f32 0xF149F2CA#32 ⊥

def algebraic_KernelSixteenIdeal_ReferenceSixteenIdeal [hKernelSixteenIdeal : Cert.KernelSixteenIdeal.Facts] [hReferenceSixteenIdeal : Cert.ReferenceSixteenIdeal.Facts] : Prop :=
  ∀ (m : (ℓ : Loc Cert.KernelSixteenIdeal.nD Cert.KernelSixteenIdeal.τ Cert.KernelSixteenIdeal.sig) → Buf (Elt Ideal) ℓ) (g : Dev Cert.KernelSixteenIdeal.nD → PrngReg)
    (m' : (ℓ : Loc Cert.ReferenceSixteenIdeal.nD Cert.ReferenceSixteenIdeal.τ Cert.ReferenceSixteenIdeal.sig) → Buf (Elt Ideal) ℓ) (g' : Dev Cert.ReferenceSixteenIdeal.nD → PrngReg), Pre_KernelSixteenIdeal m →
    (∀ c : Dev Cert.KernelSixteenIdeal.nD,
      m' ((c.tc : Thread Cert.ReferenceSixteenIdeal.nD Cert.ReferenceSixteenIdeal.τ).loc Cert.ReferenceSixteenIdeal.main_arg0) = m ((c.tc : Thread Cert.KernelSixteenIdeal.nD Cert.KernelSixteenIdeal.τ).loc Cert.KernelSixteenIdeal.main_arg0)) →
    ∃ (v0 : (c : Dev Cert.KernelSixteenIdeal.nD) → Buf (Elt Ideal) ((c.tc : Thread Cert.KernelSixteenIdeal.nD Cert.KernelSixteenIdeal.τ).loc Cert.KernelSixteenIdeal.main_v0_0)) (v1 : (c : Dev Cert.KernelSixteenIdeal.nD) → Buf (Elt Ideal) ((c.tc : Thread Cert.KernelSixteenIdeal.nD Cert.KernelSixteenIdeal.τ).loc Cert.KernelSixteenIdeal.main_v0_1)),
      θ_run (Cert.KernelSixteenIdeal.defs (F := Ideal)) (onTc (τ := Cert.KernelSixteenIdeal.τ) (Cert.KernelSixteenIdeal.main (F := Ideal))) ⟨m, fun _ => 0, g⟩ (fun r => ∀ c : Dev Cert.KernelSixteenIdeal.nD,
          r.2.mem ((c.tc : Thread Cert.KernelSixteenIdeal.nD Cert.KernelSixteenIdeal.τ).loc Cert.KernelSixteenIdeal.main_v0_0) = v0 c
          ∧ r.2.mem ((c.tc : Thread Cert.KernelSixteenIdeal.nD Cert.KernelSixteenIdeal.τ).loc Cert.KernelSixteenIdeal.main_v0_1) = v1 c
          ∧ r.2.mem ((c.tc : Thread Cert.KernelSixteenIdeal.nD Cert.KernelSixteenIdeal.τ).loc Cert.KernelSixteenIdeal.main_arg0) = m ((c.tc : Thread Cert.KernelSixteenIdeal.nD Cert.KernelSixteenIdeal.τ).loc Cert.KernelSixteenIdeal.main_arg0))
      ∧ θ_run (Cert.ReferenceSixteenIdeal.defs (F := Ideal)) (onTc (τ := Cert.ReferenceSixteenIdeal.τ) (Cert.ReferenceSixteenIdeal.main (F := Ideal))) ⟨m', fun _ => 0, g'⟩ (fun r => ∀ c : Dev Cert.ReferenceSixteenIdeal.nD,
          r.2.mem ((c.tc : Thread Cert.ReferenceSixteenIdeal.nD Cert.ReferenceSixteenIdeal.τ).loc Cert.ReferenceSixteenIdeal.main_v58) = v0 c
          ∧ r.2.mem ((c.tc : Thread Cert.ReferenceSixteenIdeal.nD Cert.ReferenceSixteenIdeal.τ).loc Cert.ReferenceSixteenIdeal.main_v60) = v1 c
          ∧ r.2.mem ((c.tc : Thread Cert.ReferenceSixteenIdeal.nD Cert.ReferenceSixteenIdeal.τ).loc Cert.ReferenceSixteenIdeal.main_arg0) = m' ((c.tc : Thread Cert.ReferenceSixteenIdeal.nD Cert.ReferenceSixteenIdeal.τ).loc Cert.ReferenceSixteenIdeal.main_arg0))

def preserves_KernelInNatural_KernelInNaturalIdeal : Prop :=
  True

def algebraic_KernelInNaturalIdeal_ReferenceInNaturalIdeal [hKernelInNaturalIdeal : Cert.KernelInNaturalIdeal.Facts] [hReferenceInNaturalIdeal : Cert.ReferenceInNaturalIdeal.Facts] : Prop :=
  ∀ (m : (ℓ : Loc Cert.KernelInNaturalIdeal.nD Cert.KernelInNaturalIdeal.τ Cert.KernelInNaturalIdeal.sig) → Buf (Elt Ideal) ℓ) (g : Dev Cert.KernelInNaturalIdeal.nD → PrngReg)
    (m' : (ℓ : Loc Cert.ReferenceInNaturalIdeal.nD Cert.ReferenceInNaturalIdeal.τ Cert.ReferenceInNaturalIdeal.sig) → Buf (Elt Ideal) ℓ) (g' : Dev Cert.ReferenceInNaturalIdeal.nD → PrngReg), Pre_KernelInNaturalIdeal m →
    (∀ c : Dev Cert.KernelInNaturalIdeal.nD,
      m' ((c.tc : Thread Cert.ReferenceInNaturalIdeal.nD Cert.ReferenceInNaturalIdeal.τ).loc Cert.ReferenceInNaturalIdeal.main_arg0) = m ((c.tc : Thread Cert.KernelInNaturalIdeal.nD Cert.KernelInNaturalIdeal.τ).loc Cert.KernelInNaturalIdeal.main_arg0)
      ∧ m' ((c.tc : Thread Cert.ReferenceInNaturalIdeal.nD Cert.ReferenceInNaturalIdeal.τ).loc Cert.ReferenceInNaturalIdeal.main_arg1) = m ((c.tc : Thread Cert.KernelInNaturalIdeal.nD Cert.KernelInNaturalIdeal.τ).loc Cert.KernelInNaturalIdeal.main_arg1)) →
    ∃ (v0 : (c : Dev Cert.KernelInNaturalIdeal.nD) → Buf (Elt Ideal) ((c.tc : Thread Cert.KernelInNaturalIdeal.nD Cert.KernelInNaturalIdeal.τ).loc Cert.KernelInNaturalIdeal.main_v1)),
      θ_run (Cert.KernelInNaturalIdeal.defs (F := Ideal)) (onTc (τ := Cert.KernelInNaturalIdeal.τ) (Cert.KernelInNaturalIdeal.main (F := Ideal))) ⟨m, fun _ => 0, g⟩ (fun r => ∀ c : Dev Cert.KernelInNaturalIdeal.nD,
          r.2.mem ((c.tc : Thread Cert.KernelInNaturalIdeal.nD Cert.KernelInNaturalIdeal.τ).loc Cert.KernelInNaturalIdeal.main_v1) = v0 c
          ∧ r.2.mem ((c.tc : Thread Cert.KernelInNaturalIdeal.nD Cert.KernelInNaturalIdeal.τ).loc Cert.KernelInNaturalIdeal.main_arg0) = m ((c.tc : Thread Cert.KernelInNaturalIdeal.nD Cert.KernelInNaturalIdeal.τ).loc Cert.KernelInNaturalIdeal.main_arg0)
          ∧ r.2.mem ((c.tc : Thread Cert.KernelInNaturalIdeal.nD Cert.KernelInNaturalIdeal.τ).loc Cert.KernelInNaturalIdeal.main_arg1) = m ((c.tc : Thread Cert.KernelInNaturalIdeal.nD Cert.KernelInNaturalIdeal.τ).loc Cert.KernelInNaturalIdeal.main_arg1))
      ∧ θ_run (Cert.ReferenceInNaturalIdeal.defs (F := Ideal)) (onTc (τ := Cert.ReferenceInNaturalIdeal.τ) (Cert.ReferenceInNaturalIdeal.main (F := Ideal))) ⟨m', fun _ => 0, g'⟩ (fun r => ∀ c : Dev Cert.ReferenceInNaturalIdeal.nD,
          r.2.mem ((c.tc : Thread Cert.ReferenceInNaturalIdeal.nD Cert.ReferenceInNaturalIdeal.τ).loc Cert.ReferenceInNaturalIdeal.main_v12) = v0 c
          ∧ r.2.mem ((c.tc : Thread Cert.ReferenceInNaturalIdeal.nD Cert.ReferenceInNaturalIdeal.τ).loc Cert.ReferenceInNaturalIdeal.main_arg0) = m' ((c.tc : Thread Cert.ReferenceInNaturalIdeal.nD Cert.ReferenceInNaturalIdeal.τ).loc Cert.ReferenceInNaturalIdeal.main_arg0)
          ∧ r.2.mem ((c.tc : Thread Cert.ReferenceInNaturalIdeal.nD Cert.ReferenceInNaturalIdeal.τ).loc Cert.ReferenceInNaturalIdeal.main_arg1) = m' ((c.tc : Thread Cert.ReferenceInNaturalIdeal.nD Cert.ReferenceInNaturalIdeal.τ).loc Cert.ReferenceInNaturalIdeal.main_arg1))

def preserves_KernelInGates_KernelInGatesIdeal : Prop :=
  True

def algebraic_KernelInGatesIdeal_ReferenceInGatesIdeal [hKernelInGatesIdeal : Cert.KernelInGatesIdeal.Facts] [hReferenceInGatesIdeal : Cert.ReferenceInGatesIdeal.Facts] : Prop :=
  ∀ (m : (ℓ : Loc Cert.KernelInGatesIdeal.nD Cert.KernelInGatesIdeal.τ Cert.KernelInGatesIdeal.sig) → Buf (Elt Ideal) ℓ) (g : Dev Cert.KernelInGatesIdeal.nD → PrngReg)
    (m' : (ℓ : Loc Cert.ReferenceInGatesIdeal.nD Cert.ReferenceInGatesIdeal.τ Cert.ReferenceInGatesIdeal.sig) → Buf (Elt Ideal) ℓ) (g' : Dev Cert.ReferenceInGatesIdeal.nD → PrngReg), Pre_KernelInGatesIdeal m →
    (∀ c : Dev Cert.KernelInGatesIdeal.nD,
      m' ((c.tc : Thread Cert.ReferenceInGatesIdeal.nD Cert.ReferenceInGatesIdeal.τ).loc Cert.ReferenceInGatesIdeal.main_arg0) = m ((c.tc : Thread Cert.KernelInGatesIdeal.nD Cert.KernelInGatesIdeal.τ).loc Cert.KernelInGatesIdeal.main_arg0)
      ∧ m' ((c.tc : Thread Cert.ReferenceInGatesIdeal.nD Cert.ReferenceInGatesIdeal.τ).loc Cert.ReferenceInGatesIdeal.main_arg1) = m ((c.tc : Thread Cert.KernelInGatesIdeal.nD Cert.KernelInGatesIdeal.τ).loc Cert.KernelInGatesIdeal.main_arg1)) →
    ∃ (v0 : (c : Dev Cert.KernelInGatesIdeal.nD) → Buf (Elt Ideal) ((c.tc : Thread Cert.KernelInGatesIdeal.nD Cert.KernelInGatesIdeal.τ).loc Cert.KernelInGatesIdeal.main_v1)),
      θ_run (Cert.KernelInGatesIdeal.defs (F := Ideal)) (onTc (τ := Cert.KernelInGatesIdeal.τ) (Cert.KernelInGatesIdeal.main (F := Ideal))) ⟨m, fun _ => 0, g⟩ (fun r => ∀ c : Dev Cert.KernelInGatesIdeal.nD,
          r.2.mem ((c.tc : Thread Cert.KernelInGatesIdeal.nD Cert.KernelInGatesIdeal.τ).loc Cert.KernelInGatesIdeal.main_v1) = v0 c
          ∧ r.2.mem ((c.tc : Thread Cert.KernelInGatesIdeal.nD Cert.KernelInGatesIdeal.τ).loc Cert.KernelInGatesIdeal.main_arg0) = m ((c.tc : Thread Cert.KernelInGatesIdeal.nD Cert.KernelInGatesIdeal.τ).loc Cert.KernelInGatesIdeal.main_arg0)
          ∧ r.2.mem ((c.tc : Thread Cert.KernelInGatesIdeal.nD Cert.KernelInGatesIdeal.τ).loc Cert.KernelInGatesIdeal.main_arg1) = m ((c.tc : Thread Cert.KernelInGatesIdeal.nD Cert.KernelInGatesIdeal.τ).loc Cert.KernelInGatesIdeal.main_arg1))
      ∧ θ_run (Cert.ReferenceInGatesIdeal.defs (F := Ideal)) (onTc (τ := Cert.ReferenceInGatesIdeal.τ) (Cert.ReferenceInGatesIdeal.main (F := Ideal))) ⟨m', fun _ => 0, g'⟩ (fun r => ∀ c : Dev Cert.ReferenceInGatesIdeal.nD,
          r.2.mem ((c.tc : Thread Cert.ReferenceInGatesIdeal.nD Cert.ReferenceInGatesIdeal.τ).loc Cert.ReferenceInGatesIdeal.main_v9) = v0 c
          ∧ r.2.mem ((c.tc : Thread Cert.ReferenceInGatesIdeal.nD Cert.ReferenceInGatesIdeal.τ).loc Cert.ReferenceInGatesIdeal.main_arg0) = m' ((c.tc : Thread Cert.ReferenceInGatesIdeal.nD Cert.ReferenceInGatesIdeal.τ).loc Cert.ReferenceInGatesIdeal.main_arg0)
          ∧ r.2.mem ((c.tc : Thread Cert.ReferenceInGatesIdeal.nD Cert.ReferenceInGatesIdeal.τ).loc Cert.ReferenceInGatesIdeal.main_arg1) = m' ((c.tc : Thread Cert.ReferenceInGatesIdeal.nD Cert.ReferenceInGatesIdeal.τ).loc Cert.ReferenceInGatesIdeal.main_arg1))

def preserves_KernelInFour_KernelInFourIdeal : Prop :=
  True

def algebraic_KernelInFourIdeal_ReferenceInFourIdeal [hKernelInFourIdeal : Cert.KernelInFourIdeal.Facts] [hReferenceInFourIdeal : Cert.ReferenceInFourIdeal.Facts] : Prop :=
  ∀ (m : (ℓ : Loc Cert.KernelInFourIdeal.nD Cert.KernelInFourIdeal.τ Cert.KernelInFourIdeal.sig) → Buf (Elt Ideal) ℓ) (g : Dev Cert.KernelInFourIdeal.nD → PrngReg)
    (m' : (ℓ : Loc Cert.ReferenceInFourIdeal.nD Cert.ReferenceInFourIdeal.τ Cert.ReferenceInFourIdeal.sig) → Buf (Elt Ideal) ℓ) (g' : Dev Cert.ReferenceInFourIdeal.nD → PrngReg), Pre_KernelInFourIdeal m →
    (∀ c : Dev Cert.KernelInFourIdeal.nD,
      m' ((c.tc : Thread Cert.ReferenceInFourIdeal.nD Cert.ReferenceInFourIdeal.τ).loc Cert.ReferenceInFourIdeal.main_arg0) = m ((c.tc : Thread Cert.KernelInFourIdeal.nD Cert.KernelInFourIdeal.τ).loc Cert.KernelInFourIdeal.main_arg0)
      ∧ m' ((c.tc : Thread Cert.ReferenceInFourIdeal.nD Cert.ReferenceInFourIdeal.τ).loc Cert.ReferenceInFourIdeal.main_arg1) = m ((c.tc : Thread Cert.KernelInFourIdeal.nD Cert.KernelInFourIdeal.τ).loc Cert.KernelInFourIdeal.main_arg1)) →
    ∃ (v0 : (c : Dev Cert.KernelInFourIdeal.nD) → Buf (Elt Ideal) ((c.tc : Thread Cert.KernelInFourIdeal.nD Cert.KernelInFourIdeal.τ).loc Cert.KernelInFourIdeal.main_v1)),
      θ_run (Cert.KernelInFourIdeal.defs (F := Ideal)) (onTc (τ := Cert.KernelInFourIdeal.τ) (Cert.KernelInFourIdeal.main (F := Ideal))) ⟨m, fun _ => 0, g⟩ (fun r => ∀ c : Dev Cert.KernelInFourIdeal.nD,
          r.2.mem ((c.tc : Thread Cert.KernelInFourIdeal.nD Cert.KernelInFourIdeal.τ).loc Cert.KernelInFourIdeal.main_v1) = v0 c
          ∧ r.2.mem ((c.tc : Thread Cert.KernelInFourIdeal.nD Cert.KernelInFourIdeal.τ).loc Cert.KernelInFourIdeal.main_arg0) = m ((c.tc : Thread Cert.KernelInFourIdeal.nD Cert.KernelInFourIdeal.τ).loc Cert.KernelInFourIdeal.main_arg0)
          ∧ r.2.mem ((c.tc : Thread Cert.KernelInFourIdeal.nD Cert.KernelInFourIdeal.τ).loc Cert.KernelInFourIdeal.main_arg1) = m ((c.tc : Thread Cert.KernelInFourIdeal.nD Cert.KernelInFourIdeal.τ).loc Cert.KernelInFourIdeal.main_arg1))
      ∧ θ_run (Cert.ReferenceInFourIdeal.defs (F := Ideal)) (onTc (τ := Cert.ReferenceInFourIdeal.τ) (Cert.ReferenceInFourIdeal.main (F := Ideal))) ⟨m', fun _ => 0, g'⟩ (fun r => ∀ c : Dev Cert.ReferenceInFourIdeal.nD,
          r.2.mem ((c.tc : Thread Cert.ReferenceInFourIdeal.nD Cert.ReferenceInFourIdeal.τ).loc Cert.ReferenceInFourIdeal.main_v12) = v0 c
          ∧ r.2.mem ((c.tc : Thread Cert.ReferenceInFourIdeal.nD Cert.ReferenceInFourIdeal.τ).loc Cert.ReferenceInFourIdeal.main_arg0) = m' ((c.tc : Thread Cert.ReferenceInFourIdeal.nD Cert.ReferenceInFourIdeal.τ).loc Cert.ReferenceInFourIdeal.main_arg0)
          ∧ r.2.mem ((c.tc : Thread Cert.ReferenceInFourIdeal.nD Cert.ReferenceInFourIdeal.τ).loc Cert.ReferenceInFourIdeal.main_arg1) = m' ((c.tc : Thread Cert.ReferenceInFourIdeal.nD Cert.ReferenceInFourIdeal.τ).loc Cert.ReferenceInFourIdeal.main_arg1))

def preserves_KernelInSixteen_KernelInSixteenIdeal : Prop :=
  True

def algebraic_KernelInSixteenIdeal_ReferenceInSixteenIdeal [hKernelInSixteenIdeal : Cert.KernelInSixteenIdeal.Facts] [hReferenceInSixteenIdeal : Cert.ReferenceInSixteenIdeal.Facts] : Prop :=
  ∀ (m : (ℓ : Loc Cert.KernelInSixteenIdeal.nD Cert.KernelInSixteenIdeal.τ Cert.KernelInSixteenIdeal.sig) → Buf (Elt Ideal) ℓ) (g : Dev Cert.KernelInSixteenIdeal.nD → PrngReg)
    (m' : (ℓ : Loc Cert.ReferenceInSixteenIdeal.nD Cert.ReferenceInSixteenIdeal.τ Cert.ReferenceInSixteenIdeal.sig) → Buf (Elt Ideal) ℓ) (g' : Dev Cert.ReferenceInSixteenIdeal.nD → PrngReg), Pre_KernelInSixteenIdeal m →
    (∀ c : Dev Cert.KernelInSixteenIdeal.nD,
      m' ((c.tc : Thread Cert.ReferenceInSixteenIdeal.nD Cert.ReferenceInSixteenIdeal.τ).loc Cert.ReferenceInSixteenIdeal.main_arg0) = m ((c.tc : Thread Cert.KernelInSixteenIdeal.nD Cert.KernelInSixteenIdeal.τ).loc Cert.KernelInSixteenIdeal.main_arg0)
      ∧ m' ((c.tc : Thread Cert.ReferenceInSixteenIdeal.nD Cert.ReferenceInSixteenIdeal.τ).loc Cert.ReferenceInSixteenIdeal.main_arg1) = m ((c.tc : Thread Cert.KernelInSixteenIdeal.nD Cert.KernelInSixteenIdeal.τ).loc Cert.KernelInSixteenIdeal.main_arg1)) →
    ∃ (v0 : (c : Dev Cert.KernelInSixteenIdeal.nD) → Buf (Elt Ideal) ((c.tc : Thread Cert.KernelInSixteenIdeal.nD Cert.KernelInSixteenIdeal.τ).loc Cert.KernelInSixteenIdeal.main_v1)),
      θ_run (Cert.KernelInSixteenIdeal.defs (F := Ideal)) (onTc (τ := Cert.KernelInSixteenIdeal.τ) (Cert.KernelInSixteenIdeal.main (F := Ideal))) ⟨m, fun _ => 0, g⟩ (fun r => ∀ c : Dev Cert.KernelInSixteenIdeal.nD,
          r.2.mem ((c.tc : Thread Cert.KernelInSixteenIdeal.nD Cert.KernelInSixteenIdeal.τ).loc Cert.KernelInSixteenIdeal.main_v1) = v0 c
          ∧ r.2.mem ((c.tc : Thread Cert.KernelInSixteenIdeal.nD Cert.KernelInSixteenIdeal.τ).loc Cert.KernelInSixteenIdeal.main_arg0) = m ((c.tc : Thread Cert.KernelInSixteenIdeal.nD Cert.KernelInSixteenIdeal.τ).loc Cert.KernelInSixteenIdeal.main_arg0)
          ∧ r.2.mem ((c.tc : Thread Cert.KernelInSixteenIdeal.nD Cert.KernelInSixteenIdeal.τ).loc Cert.KernelInSixteenIdeal.main_arg1) = m ((c.tc : Thread Cert.KernelInSixteenIdeal.nD Cert.KernelInSixteenIdeal.τ).loc Cert.KernelInSixteenIdeal.main_arg1))
      ∧ θ_run (Cert.ReferenceInSixteenIdeal.defs (F := Ideal)) (onTc (τ := Cert.ReferenceInSixteenIdeal.τ) (Cert.ReferenceInSixteenIdeal.main (F := Ideal))) ⟨m', fun _ => 0, g'⟩ (fun r => ∀ c : Dev Cert.ReferenceInSixteenIdeal.nD,
          r.2.mem ((c.tc : Thread Cert.ReferenceInSixteenIdeal.nD Cert.ReferenceInSixteenIdeal.τ).loc Cert.ReferenceInSixteenIdeal.main_v12) = v0 c
          ∧ r.2.mem ((c.tc : Thread Cert.ReferenceInSixteenIdeal.nD Cert.ReferenceInSixteenIdeal.τ).loc Cert.ReferenceInSixteenIdeal.main_arg0) = m' ((c.tc : Thread Cert.ReferenceInSixteenIdeal.nD Cert.ReferenceInSixteenIdeal.τ).loc Cert.ReferenceInSixteenIdeal.main_arg0)
          ∧ r.2.mem ((c.tc : Thread Cert.ReferenceInSixteenIdeal.nD Cert.ReferenceInSixteenIdeal.τ).loc Cert.ReferenceInSixteenIdeal.main_arg1) = m' ((c.tc : Thread Cert.ReferenceInSixteenIdeal.nD Cert.ReferenceInSixteenIdeal.τ).loc Cert.ReferenceInSixteenIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)) →
    ∃ (v0 : (c : Dev Cert.KernelOutIdeal.nD) → Buf (Elt Ideal) ((c.tc : Thread Cert.KernelOutIdeal.nD Cert.KernelOutIdeal.τ).loc Cert.KernelOutIdeal.main_v1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v1) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v1) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)
      ∧ m' ((c.tc : Thread Cert.ReferenceMergeIdeal.nD Cert.ReferenceMergeIdeal.τ).loc Cert.ReferenceMergeIdeal.main_arg7) = m ((c.tc : Thread Cert.KernelMergeIdeal.nD Cert.KernelMergeIdeal.τ).loc Cert.KernelMergeIdeal.main_arg7)
      ∧ m' ((c.tc : Thread Cert.ReferenceMergeIdeal.nD Cert.ReferenceMergeIdeal.τ).loc Cert.ReferenceMergeIdeal.main_arg8) = m ((c.tc : Thread Cert.KernelMergeIdeal.nD Cert.KernelMergeIdeal.τ).loc Cert.KernelMergeIdeal.main_arg8)
      ∧ m' ((c.tc : Thread Cert.ReferenceMergeIdeal.nD Cert.ReferenceMergeIdeal.τ).loc Cert.ReferenceMergeIdeal.main_arg9) = m ((c.tc : Thread Cert.KernelMergeIdeal.nD Cert.KernelMergeIdeal.τ).loc Cert.KernelMergeIdeal.main_arg9)
      ∧ m' ((c.tc : Thread Cert.ReferenceMergeIdeal.nD Cert.ReferenceMergeIdeal.τ).loc Cert.ReferenceMergeIdeal.main_arg10) = m ((c.tc : Thread Cert.KernelMergeIdeal.nD Cert.KernelMergeIdeal.τ).loc Cert.KernelMergeIdeal.main_arg10)
      ∧ m' ((c.tc : Thread Cert.ReferenceMergeIdeal.nD Cert.ReferenceMergeIdeal.τ).loc Cert.ReferenceMergeIdeal.main_arg11) = m ((c.tc : Thread Cert.KernelMergeIdeal.nD Cert.KernelMergeIdeal.τ).loc Cert.KernelMergeIdeal.main_arg11)
      ∧ m' ((c.tc : Thread Cert.ReferenceMergeIdeal.nD Cert.ReferenceMergeIdeal.τ).loc Cert.ReferenceMergeIdeal.main_arg12) = m ((c.tc : Thread Cert.KernelMergeIdeal.nD Cert.KernelMergeIdeal.τ).loc Cert.KernelMergeIdeal.main_arg12)) →
    ∃ (v0 : (c : Dev Cert.KernelMergeIdeal.nD) → Buf (Elt Ideal) ((c.tc : Thread Cert.KernelMergeIdeal.nD Cert.KernelMergeIdeal.τ).loc Cert.KernelMergeIdeal.main_v3)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v3) = v0 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
          ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
          ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8)
          ∧ r.2.mem ((c.tc : Thread Cert.KernelMergeIdeal.nD Cert.KernelMergeIdeal.τ).loc Cert.KernelMergeIdeal.main_arg9) = m ((c.tc : Thread Cert.KernelMergeIdeal.nD Cert.KernelMergeIdeal.τ).loc Cert.KernelMergeIdeal.main_arg9)
          ∧ r.2.mem ((c.tc : Thread Cert.KernelMergeIdeal.nD Cert.KernelMergeIdeal.τ).loc Cert.KernelMergeIdeal.main_arg10) = m ((c.tc : Thread Cert.KernelMergeIdeal.nD Cert.KernelMergeIdeal.τ).loc Cert.KernelMergeIdeal.main_arg10)
          ∧ r.2.mem ((c.tc : Thread Cert.KernelMergeIdeal.nD Cert.KernelMergeIdeal.τ).loc Cert.KernelMergeIdeal.main_arg11) = m ((c.tc : Thread Cert.KernelMergeIdeal.nD Cert.KernelMergeIdeal.τ).loc Cert.KernelMergeIdeal.main_arg11)
          ∧ r.2.mem ((c.tc : Thread Cert.KernelMergeIdeal.nD Cert.KernelMergeIdeal.τ).loc Cert.KernelMergeIdeal.main_arg12) = m ((c.tc : Thread Cert.KernelMergeIdeal.nD Cert.KernelMergeIdeal.τ).loc Cert.KernelMergeIdeal.main_arg12))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v57) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6)
          ∧ r.2.mem ((c.tc : Thread Cert.ReferenceMergeIdeal.nD Cert.ReferenceMergeIdeal.τ).loc Cert.ReferenceMergeIdeal.main_arg7) = m' ((c.tc : Thread Cert.ReferenceMergeIdeal.nD Cert.ReferenceMergeIdeal.τ).loc Cert.ReferenceMergeIdeal.main_arg7)
          ∧ r.2.mem ((c.tc : Thread Cert.ReferenceMergeIdeal.nD Cert.ReferenceMergeIdeal.τ).loc Cert.ReferenceMergeIdeal.main_arg8) = m' ((c.tc : Thread Cert.ReferenceMergeIdeal.nD Cert.ReferenceMergeIdeal.τ).loc Cert.ReferenceMergeIdeal.main_arg8)
          ∧ r.2.mem ((c.tc : Thread Cert.ReferenceMergeIdeal.nD Cert.ReferenceMergeIdeal.τ).loc Cert.ReferenceMergeIdeal.main_arg9) = m' ((c.tc : Thread Cert.ReferenceMergeIdeal.nD Cert.ReferenceMergeIdeal.τ).loc Cert.ReferenceMergeIdeal.main_arg9)
          ∧ r.2.mem ((c.tc : Thread Cert.ReferenceMergeIdeal.nD Cert.ReferenceMergeIdeal.τ).loc Cert.ReferenceMergeIdeal.main_arg10) = m' ((c.tc : Thread Cert.ReferenceMergeIdeal.nD Cert.ReferenceMergeIdeal.τ).loc Cert.ReferenceMergeIdeal.main_arg10)
          ∧ r.2.mem ((c.tc : Thread Cert.ReferenceMergeIdeal.nD Cert.ReferenceMergeIdeal.τ).loc Cert.ReferenceMergeIdeal.main_arg11) = m' ((c.tc : Thread Cert.ReferenceMergeIdeal.nD Cert.ReferenceMergeIdeal.τ).loc Cert.ReferenceMergeIdeal.main_arg11)
          ∧ r.2.mem ((c.tc : Thread Cert.ReferenceMergeIdeal.nD Cert.ReferenceMergeIdeal.τ).loc Cert.ReferenceMergeIdeal.main_arg12) = m' ((c.tc : Thread Cert.ReferenceMergeIdeal.nD Cert.ReferenceMergeIdeal.τ).loc Cert.ReferenceMergeIdeal.main_arg12))

def preserves_KernelModulate_KernelModulateIdeal : Prop :=
  True

def algebraic_KernelModulateIdeal_ReferenceModulateIdeal [hKernelModulateIdeal : Cert.KernelModulateIdeal.Facts] [hReferenceModulateIdeal : Cert.ReferenceModulateIdeal.Facts] : Prop :=
  ∀ (m : (ℓ : Loc Cert.KernelModulateIdeal.nD Cert.KernelModulateIdeal.τ Cert.KernelModulateIdeal.sig) → Buf (Elt Ideal) ℓ) (g : Dev Cert.KernelModulateIdeal.nD → PrngReg)
    (m' : (ℓ : Loc Cert.ReferenceModulateIdeal.nD Cert.ReferenceModulateIdeal.τ Cert.ReferenceModulateIdeal.sig) → Buf (Elt Ideal) ℓ) (g' : Dev Cert.ReferenceModulateIdeal.nD → PrngReg), Pre_KernelModulateIdeal m →
    (∀ c : Dev Cert.KernelModulateIdeal.nD,
      m' ((c.tc : Thread Cert.ReferenceModulateIdeal.nD Cert.ReferenceModulateIdeal.τ).loc Cert.ReferenceModulateIdeal.main_arg0) = m ((c.tc : Thread Cert.KernelModulateIdeal.nD Cert.KernelModulateIdeal.τ).loc Cert.KernelModulateIdeal.main_arg0)
      ∧ m' ((c.tc : Thread Cert.ReferenceModulateIdeal.nD Cert.ReferenceModulateIdeal.τ).loc Cert.ReferenceModulateIdeal.main_arg1) = m ((c.tc : Thread Cert.KernelModulateIdeal.nD Cert.KernelModulateIdeal.τ).loc Cert.KernelModulateIdeal.main_arg1)
      ∧ m' ((c.tc : Thread Cert.ReferenceModulateIdeal.nD Cert.ReferenceModulateIdeal.τ).loc Cert.ReferenceModulateIdeal.main_arg2) = m ((c.tc : Thread Cert.KernelModulateIdeal.nD Cert.KernelModulateIdeal.τ).loc Cert.KernelModulateIdeal.main_arg2)) →
    ∃ (v0 : (c : Dev Cert.KernelModulateIdeal.nD) → Buf (Elt Ideal) ((c.tc : Thread Cert.KernelModulateIdeal.nD Cert.KernelModulateIdeal.τ).loc Cert.KernelModulateIdeal.main_v5)),
      θ_run (Cert.KernelModulateIdeal.defs (F := Ideal)) (onTc (τ := Cert.KernelModulateIdeal.τ) (Cert.KernelModulateIdeal.main (F := Ideal))) ⟨m, fun _ => 0, g⟩ (fun r => ∀ c : Dev Cert.KernelModulateIdeal.nD,
          r.2.mem ((c.tc : Thread Cert.KernelModulateIdeal.nD Cert.KernelModulateIdeal.τ).loc Cert.KernelModulateIdeal.main_v5) = v0 c
          ∧ r.2.mem ((c.tc : Thread Cert.KernelModulateIdeal.nD Cert.KernelModulateIdeal.τ).loc Cert.KernelModulateIdeal.main_arg0) = m ((c.tc : Thread Cert.KernelModulateIdeal.nD Cert.KernelModulateIdeal.τ).loc Cert.KernelModulateIdeal.main_arg0)
          ∧ r.2.mem ((c.tc : Thread Cert.KernelModulateIdeal.nD Cert.KernelModulateIdeal.τ).loc Cert.KernelModulateIdeal.main_arg1) = m ((c.tc : Thread Cert.KernelModulateIdeal.nD Cert.KernelModulateIdeal.τ).loc Cert.KernelModulateIdeal.main_arg1)
          ∧ r.2.mem ((c.tc : Thread Cert.KernelModulateIdeal.nD Cert.KernelModulateIdeal.τ).loc Cert.KernelModulateIdeal.main_arg2) = m ((c.tc : Thread Cert.KernelModulateIdeal.nD Cert.KernelModulateIdeal.τ).loc Cert.KernelModulateIdeal.main_arg2))
      ∧ θ_run (Cert.ReferenceModulateIdeal.defs (F := Ideal)) (onTc (τ := Cert.ReferenceModulateIdeal.τ) (Cert.ReferenceModulateIdeal.main (F := Ideal))) ⟨m', fun _ => 0, g'⟩ (fun r => ∀ c : Dev Cert.ReferenceModulateIdeal.nD,
          r.2.mem ((c.tc : Thread Cert.ReferenceModulateIdeal.nD Cert.ReferenceModulateIdeal.τ).loc Cert.ReferenceModulateIdeal.main_v4) = v0 c
          ∧ r.2.mem ((c.tc : Thread Cert.ReferenceModulateIdeal.nD Cert.ReferenceModulateIdeal.τ).loc Cert.ReferenceModulateIdeal.main_arg0) = m' ((c.tc : Thread Cert.ReferenceModulateIdeal.nD Cert.ReferenceModulateIdeal.τ).loc Cert.ReferenceModulateIdeal.main_arg0)
          ∧ r.2.mem ((c.tc : Thread Cert.ReferenceModulateIdeal.nD Cert.ReferenceModulateIdeal.τ).loc Cert.ReferenceModulateIdeal.main_arg1) = m' ((c.tc : Thread Cert.ReferenceModulateIdeal.nD Cert.ReferenceModulateIdeal.τ).loc Cert.ReferenceModulateIdeal.main_arg1)
          ∧ r.2.mem ((c.tc : Thread Cert.ReferenceModulateIdeal.nD Cert.ReferenceModulateIdeal.τ).loc Cert.ReferenceModulateIdeal.main_arg2) = m' ((c.tc : Thread Cert.ReferenceModulateIdeal.nD Cert.ReferenceModulateIdeal.τ).loc Cert.ReferenceModulateIdeal.main_arg2))

def preserves_KernelShort_KernelShortIdeal : Prop :=
  True

def algebraic_KernelShortIdeal_ReferenceShortIdeal [hKernelShortIdeal : Cert.KernelShortIdeal.Facts] [hReferenceShortIdeal : Cert.ReferenceShortIdeal.Facts] : Prop :=
  ∀ (m : (ℓ : Loc Cert.KernelShortIdeal.nD Cert.KernelShortIdeal.τ Cert.KernelShortIdeal.sig) → Buf (Elt Ideal) ℓ) (g : Dev Cert.KernelShortIdeal.nD → PrngReg)
    (m' : (ℓ : Loc Cert.ReferenceShortIdeal.nD Cert.ReferenceShortIdeal.τ Cert.ReferenceShortIdeal.sig) → Buf (Elt Ideal) ℓ) (g' : Dev Cert.ReferenceShortIdeal.nD → PrngReg), Pre_KernelShortIdeal m →
    (∀ c : Dev Cert.KernelShortIdeal.nD,
      m' ((c.tc : Thread Cert.ReferenceShortIdeal.nD Cert.ReferenceShortIdeal.τ).loc Cert.ReferenceShortIdeal.main_arg0) = m ((c.tc : Thread Cert.KernelShortIdeal.nD Cert.KernelShortIdeal.τ).loc Cert.KernelShortIdeal.main_arg0)
      ∧ m' ((c.tc : Thread Cert.ReferenceShortIdeal.nD Cert.ReferenceShortIdeal.τ).loc Cert.ReferenceShortIdeal.main_arg1) = m ((c.tc : Thread Cert.KernelShortIdeal.nD Cert.KernelShortIdeal.τ).loc Cert.KernelShortIdeal.main_arg1)
      ∧ m' ((c.tc : Thread Cert.ReferenceShortIdeal.nD Cert.ReferenceShortIdeal.τ).loc Cert.ReferenceShortIdeal.main_arg2) = m ((c.tc : Thread Cert.KernelShortIdeal.nD Cert.KernelShortIdeal.τ).loc Cert.KernelShortIdeal.main_arg2)) →
    ∃ (v0 : (c : Dev Cert.KernelShortIdeal.nD) → Buf (Elt Ideal) ((c.tc : Thread Cert.KernelShortIdeal.nD Cert.KernelShortIdeal.τ).loc Cert.KernelShortIdeal.main_v1_0)) (v1 : (c : Dev Cert.KernelShortIdeal.nD) → Buf (Elt Ideal) ((c.tc : Thread Cert.KernelShortIdeal.nD Cert.KernelShortIdeal.τ).loc Cert.KernelShortIdeal.main_v1_1)),
      θ_run (Cert.KernelShortIdeal.defs (F := Ideal)) (onTc (τ := Cert.KernelShortIdeal.τ) (Cert.KernelShortIdeal.main (F := Ideal))) ⟨m, fun _ => 0, g⟩ (fun r => ∀ c : Dev Cert.KernelShortIdeal.nD,
          r.2.mem ((c.tc : Thread Cert.KernelShortIdeal.nD Cert.KernelShortIdeal.τ).loc Cert.KernelShortIdeal.main_v1_0) = v0 c
          ∧ r.2.mem ((c.tc : Thread Cert.KernelShortIdeal.nD Cert.KernelShortIdeal.τ).loc Cert.KernelShortIdeal.main_v1_1) = v1 c
          ∧ r.2.mem ((c.tc : Thread Cert.KernelShortIdeal.nD Cert.KernelShortIdeal.τ).loc Cert.KernelShortIdeal.main_arg0) = m ((c.tc : Thread Cert.KernelShortIdeal.nD Cert.KernelShortIdeal.τ).loc Cert.KernelShortIdeal.main_arg0)
          ∧ r.2.mem ((c.tc : Thread Cert.KernelShortIdeal.nD Cert.KernelShortIdeal.τ).loc Cert.KernelShortIdeal.main_arg1) = m ((c.tc : Thread Cert.KernelShortIdeal.nD Cert.KernelShortIdeal.τ).loc Cert.KernelShortIdeal.main_arg1)
          ∧ r.2.mem ((c.tc : Thread Cert.KernelShortIdeal.nD Cert.KernelShortIdeal.τ).loc Cert.KernelShortIdeal.main_arg2) = m ((c.tc : Thread Cert.KernelShortIdeal.nD Cert.KernelShortIdeal.τ).loc Cert.KernelShortIdeal.main_arg2))
      ∧ θ_run (Cert.ReferenceShortIdeal.defs (F := Ideal)) (onTc (τ := Cert.ReferenceShortIdeal.τ) (Cert.ReferenceShortIdeal.main (F := Ideal))) ⟨m', fun _ => 0, g'⟩ (fun r => ∀ c : Dev Cert.ReferenceShortIdeal.nD,
          r.2.mem ((c.tc : Thread Cert.ReferenceShortIdeal.nD Cert.ReferenceShortIdeal.τ).loc Cert.ReferenceShortIdeal.main_v32) = v0 c
          ∧ r.2.mem ((c.tc : Thread Cert.ReferenceShortIdeal.nD Cert.ReferenceShortIdeal.τ).loc Cert.ReferenceShortIdeal.main_v26) = v1 c
          ∧ r.2.mem ((c.tc : Thread Cert.ReferenceShortIdeal.nD Cert.ReferenceShortIdeal.τ).loc Cert.ReferenceShortIdeal.main_arg0) = m' ((c.tc : Thread Cert.ReferenceShortIdeal.nD Cert.ReferenceShortIdeal.τ).loc Cert.ReferenceShortIdeal.main_arg0)
          ∧ r.2.mem ((c.tc : Thread Cert.ReferenceShortIdeal.nD Cert.ReferenceShortIdeal.τ).loc Cert.ReferenceShortIdeal.main_arg1) = m' ((c.tc : Thread Cert.ReferenceShortIdeal.nD Cert.ReferenceShortIdeal.τ).loc Cert.ReferenceShortIdeal.main_arg1)
          ∧ r.2.mem ((c.tc : Thread Cert.ReferenceShortIdeal.nD Cert.ReferenceShortIdeal.τ).loc Cert.ReferenceShortIdeal.main_arg2) = m' ((c.tc : Thread Cert.ReferenceShortIdeal.nD Cert.ReferenceShortIdeal.τ).loc Cert.ReferenceShortIdeal.main_arg2))

def preserves_KernelFilters_KernelFiltersIdeal : Prop :=
  True

def algebraic_KernelFiltersIdeal_ReferenceFiltersIdeal [hKernelFiltersIdeal : Cert.KernelFiltersIdeal.Facts] [hReferenceFiltersIdeal : Cert.ReferenceFiltersIdeal.Facts] : Prop :=
  ∀ (m : (ℓ : Loc Cert.KernelFiltersIdeal.nD Cert.KernelFiltersIdeal.τ Cert.KernelFiltersIdeal.sig) → Buf (Elt Ideal) ℓ) (g : Dev Cert.KernelFiltersIdeal.nD → PrngReg)
    (m' : (ℓ : Loc Cert.ReferenceFiltersIdeal.nD Cert.ReferenceFiltersIdeal.τ Cert.ReferenceFiltersIdeal.sig) → Buf (Elt Ideal) ℓ) (g' : Dev Cert.ReferenceFiltersIdeal.nD → PrngReg), Pre_KernelFiltersIdeal m →
    (∀ c : Dev Cert.KernelFiltersIdeal.nD,
      m' ((c.tc : Thread Cert.ReferenceFiltersIdeal.nD Cert.ReferenceFiltersIdeal.τ).loc Cert.ReferenceFiltersIdeal.main_arg0) = m ((c.tc : Thread Cert.KernelFiltersIdeal.nD Cert.KernelFiltersIdeal.τ).loc Cert.KernelFiltersIdeal.main_arg0)
      ∧ m' ((c.tc : Thread Cert.ReferenceFiltersIdeal.nD Cert.ReferenceFiltersIdeal.τ).loc Cert.ReferenceFiltersIdeal.main_arg1) = m ((c.tc : Thread Cert.KernelFiltersIdeal.nD Cert.KernelFiltersIdeal.τ).loc Cert.KernelFiltersIdeal.main_arg1)
      ∧ m' ((c.tc : Thread Cert.ReferenceFiltersIdeal.nD Cert.ReferenceFiltersIdeal.τ).loc Cert.ReferenceFiltersIdeal.main_arg2) = m ((c.tc : Thread Cert.KernelFiltersIdeal.nD Cert.KernelFiltersIdeal.τ).loc Cert.KernelFiltersIdeal.main_arg2)
      ∧ m' ((c.tc : Thread Cert.ReferenceFiltersIdeal.nD Cert.ReferenceFiltersIdeal.τ).loc Cert.ReferenceFiltersIdeal.main_arg3) = m ((c.tc : Thread Cert.KernelFiltersIdeal.nD Cert.KernelFiltersIdeal.τ).loc Cert.KernelFiltersIdeal.main_arg3)
      ∧ m' ((c.tc : Thread Cert.ReferenceFiltersIdeal.nD Cert.ReferenceFiltersIdeal.τ).loc Cert.ReferenceFiltersIdeal.main_arg4) = m ((c.tc : Thread Cert.KernelFiltersIdeal.nD Cert.KernelFiltersIdeal.τ).loc Cert.KernelFiltersIdeal.main_arg4)
      ∧ m' ((c.tc : Thread Cert.ReferenceFiltersIdeal.nD Cert.ReferenceFiltersIdeal.τ).loc Cert.ReferenceFiltersIdeal.main_arg5) = m ((c.tc : Thread Cert.KernelFiltersIdeal.nD Cert.KernelFiltersIdeal.τ).loc Cert.KernelFiltersIdeal.main_arg5)
      ∧ m' ((c.tc : Thread Cert.ReferenceFiltersIdeal.nD Cert.ReferenceFiltersIdeal.τ).loc Cert.ReferenceFiltersIdeal.main_arg6) = m ((c.tc : Thread Cert.KernelFiltersIdeal.nD Cert.KernelFiltersIdeal.τ).loc Cert.KernelFiltersIdeal.main_arg6)
      ∧ m' ((c.tc : Thread Cert.ReferenceFiltersIdeal.nD Cert.ReferenceFiltersIdeal.τ).loc Cert.ReferenceFiltersIdeal.main_arg7) = m ((c.tc : Thread Cert.KernelFiltersIdeal.nD Cert.KernelFiltersIdeal.τ).loc Cert.KernelFiltersIdeal.main_arg7)
      ∧ m' ((c.tc : Thread Cert.ReferenceFiltersIdeal.nD Cert.ReferenceFiltersIdeal.τ).loc Cert.ReferenceFiltersIdeal.main_arg8) = m ((c.tc : Thread Cert.KernelFiltersIdeal.nD Cert.KernelFiltersIdeal.τ).loc Cert.KernelFiltersIdeal.main_arg8)
      ∧ m' ((c.tc : Thread Cert.ReferenceFiltersIdeal.nD Cert.ReferenceFiltersIdeal.τ).loc Cert.ReferenceFiltersIdeal.main_arg9) = m ((c.tc : Thread Cert.KernelFiltersIdeal.nD Cert.KernelFiltersIdeal.τ).loc Cert.KernelFiltersIdeal.main_arg9)) →
    ∃ (v0 : (c : Dev Cert.KernelFiltersIdeal.nD) → Buf (Elt Ideal) ((c.tc : Thread Cert.KernelFiltersIdeal.nD Cert.KernelFiltersIdeal.τ).loc Cert.KernelFiltersIdeal.main_v9)),
      θ_run (Cert.KernelFiltersIdeal.defs (F := Ideal)) (onTc (τ := Cert.KernelFiltersIdeal.τ) (Cert.KernelFiltersIdeal.main (F := Ideal))) ⟨m, fun _ => 0, g⟩ (fun r => ∀ c : Dev Cert.KernelFiltersIdeal.nD,
          r.2.mem ((c.tc : Thread Cert.KernelFiltersIdeal.nD Cert.KernelFiltersIdeal.τ).loc Cert.KernelFiltersIdeal.main_v9) = v0 c
          ∧ r.2.mem ((c.tc : Thread Cert.KernelFiltersIdeal.nD Cert.KernelFiltersIdeal.τ).loc Cert.KernelFiltersIdeal.main_arg0) = m ((c.tc : Thread Cert.KernelFiltersIdeal.nD Cert.KernelFiltersIdeal.τ).loc Cert.KernelFiltersIdeal.main_arg0)
          ∧ r.2.mem ((c.tc : Thread Cert.KernelFiltersIdeal.nD Cert.KernelFiltersIdeal.τ).loc Cert.KernelFiltersIdeal.main_arg1) = m ((c.tc : Thread Cert.KernelFiltersIdeal.nD Cert.KernelFiltersIdeal.τ).loc Cert.KernelFiltersIdeal.main_arg1)
          ∧ r.2.mem ((c.tc : Thread Cert.KernelFiltersIdeal.nD Cert.KernelFiltersIdeal.τ).loc Cert.KernelFiltersIdeal.main_arg2) = m ((c.tc : Thread Cert.KernelFiltersIdeal.nD Cert.KernelFiltersIdeal.τ).loc Cert.KernelFiltersIdeal.main_arg2)
          ∧ r.2.mem ((c.tc : Thread Cert.KernelFiltersIdeal.nD Cert.KernelFiltersIdeal.τ).loc Cert.KernelFiltersIdeal.main_arg3) = m ((c.tc : Thread Cert.KernelFiltersIdeal.nD Cert.KernelFiltersIdeal.τ).loc Cert.KernelFiltersIdeal.main_arg3)
          ∧ r.2.mem ((c.tc : Thread Cert.KernelFiltersIdeal.nD Cert.KernelFiltersIdeal.τ).loc Cert.KernelFiltersIdeal.main_arg4) = m ((c.tc : Thread Cert.KernelFiltersIdeal.nD Cert.KernelFiltersIdeal.τ).loc Cert.KernelFiltersIdeal.main_arg4)
          ∧ r.2.mem ((c.tc : Thread Cert.KernelFiltersIdeal.nD Cert.KernelFiltersIdeal.τ).loc Cert.KernelFiltersIdeal.main_arg5) = m ((c.tc : Thread Cert.KernelFiltersIdeal.nD Cert.KernelFiltersIdeal.τ).loc Cert.KernelFiltersIdeal.main_arg5)
          ∧ r.2.mem ((c.tc : Thread Cert.KernelFiltersIdeal.nD Cert.KernelFiltersIdeal.τ).loc Cert.KernelFiltersIdeal.main_arg6) = m ((c.tc : Thread Cert.KernelFiltersIdeal.nD Cert.KernelFiltersIdeal.τ).loc Cert.KernelFiltersIdeal.main_arg6)
          ∧ r.2.mem ((c.tc : Thread Cert.KernelFiltersIdeal.nD Cert.KernelFiltersIdeal.τ).loc Cert.KernelFiltersIdeal.main_arg7) = m ((c.tc : Thread Cert.KernelFiltersIdeal.nD Cert.KernelFiltersIdeal.τ).loc Cert.KernelFiltersIdeal.main_arg7)
          ∧ r.2.mem ((c.tc : Thread Cert.KernelFiltersIdeal.nD Cert.KernelFiltersIdeal.τ).loc Cert.KernelFiltersIdeal.main_arg8) = m ((c.tc : Thread Cert.KernelFiltersIdeal.nD Cert.KernelFiltersIdeal.τ).loc Cert.KernelFiltersIdeal.main_arg8)
          ∧ r.2.mem ((c.tc : Thread Cert.KernelFiltersIdeal.nD Cert.KernelFiltersIdeal.τ).loc Cert.KernelFiltersIdeal.main_arg9) = m ((c.tc : Thread Cert.KernelFiltersIdeal.nD Cert.KernelFiltersIdeal.τ).loc Cert.KernelFiltersIdeal.main_arg9))
      ∧ θ_run (Cert.ReferenceFiltersIdeal.defs (F := Ideal)) (onTc (τ := Cert.ReferenceFiltersIdeal.τ) (Cert.ReferenceFiltersIdeal.main (F := Ideal))) ⟨m', fun _ => 0, g'⟩ (fun r => ∀ c : Dev Cert.ReferenceFiltersIdeal.nD,
          r.2.mem ((c.tc : Thread Cert.ReferenceFiltersIdeal.nD Cert.ReferenceFiltersIdeal.τ).loc Cert.ReferenceFiltersIdeal.main_v39) = v0 c
          ∧ r.2.mem ((c.tc : Thread Cert.ReferenceFiltersIdeal.nD Cert.ReferenceFiltersIdeal.τ).loc Cert.ReferenceFiltersIdeal.main_arg0) = m' ((c.tc : Thread Cert.ReferenceFiltersIdeal.nD Cert.ReferenceFiltersIdeal.τ).loc Cert.ReferenceFiltersIdeal.main_arg0)
          ∧ r.2.mem ((c.tc : Thread Cert.ReferenceFiltersIdeal.nD Cert.ReferenceFiltersIdeal.τ).loc Cert.ReferenceFiltersIdeal.main_arg1) = m' ((c.tc : Thread Cert.ReferenceFiltersIdeal.nD Cert.ReferenceFiltersIdeal.τ).loc Cert.ReferenceFiltersIdeal.main_arg1)
          ∧ r.2.mem ((c.tc : Thread Cert.ReferenceFiltersIdeal.nD Cert.ReferenceFiltersIdeal.τ).loc Cert.ReferenceFiltersIdeal.main_arg2) = m' ((c.tc : Thread Cert.ReferenceFiltersIdeal.nD Cert.ReferenceFiltersIdeal.τ).loc Cert.ReferenceFiltersIdeal.main_arg2)
          ∧ r.2.mem ((c.tc : Thread Cert.ReferenceFiltersIdeal.nD Cert.ReferenceFiltersIdeal.τ).loc Cert.ReferenceFiltersIdeal.main_arg3) = m' ((c.tc : Thread Cert.ReferenceFiltersIdeal.nD Cert.ReferenceFiltersIdeal.τ).loc Cert.ReferenceFiltersIdeal.main_arg3)
          ∧ r.2.mem ((c.tc : Thread Cert.ReferenceFiltersIdeal.nD Cert.ReferenceFiltersIdeal.τ).loc Cert.ReferenceFiltersIdeal.main_arg4) = m' ((c.tc : Thread Cert.ReferenceFiltersIdeal.nD Cert.ReferenceFiltersIdeal.τ).loc Cert.ReferenceFiltersIdeal.main_arg4)
          ∧ r.2.mem ((c.tc : Thread Cert.ReferenceFiltersIdeal.nD Cert.ReferenceFiltersIdeal.τ).loc Cert.ReferenceFiltersIdeal.main_arg5) = m' ((c.tc : Thread Cert.ReferenceFiltersIdeal.nD Cert.ReferenceFiltersIdeal.τ).loc Cert.ReferenceFiltersIdeal.main_arg5)
          ∧ r.2.mem ((c.tc : Thread Cert.ReferenceFiltersIdeal.nD Cert.ReferenceFiltersIdeal.τ).loc Cert.ReferenceFiltersIdeal.main_arg6) = m' ((c.tc : Thread Cert.ReferenceFiltersIdeal.nD Cert.ReferenceFiltersIdeal.τ).loc Cert.ReferenceFiltersIdeal.main_arg6)
          ∧ r.2.mem ((c.tc : Thread Cert.ReferenceFiltersIdeal.nD Cert.ReferenceFiltersIdeal.τ).loc Cert.ReferenceFiltersIdeal.main_arg7) = m' ((c.tc : Thread Cert.ReferenceFiltersIdeal.nD Cert.ReferenceFiltersIdeal.τ).loc Cert.ReferenceFiltersIdeal.main_arg7)
          ∧ r.2.mem ((c.tc : Thread Cert.ReferenceFiltersIdeal.nD Cert.ReferenceFiltersIdeal.τ).loc Cert.ReferenceFiltersIdeal.main_arg8) = m' ((c.tc : Thread Cert.ReferenceFiltersIdeal.nD Cert.ReferenceFiltersIdeal.τ).loc Cert.ReferenceFiltersIdeal.main_arg8)
          ∧ r.2.mem ((c.tc : Thread Cert.ReferenceFiltersIdeal.nD Cert.ReferenceFiltersIdeal.τ).loc Cert.ReferenceFiltersIdeal.main_arg9) = m' ((c.tc : Thread Cert.ReferenceFiltersIdeal.nD Cert.ReferenceFiltersIdeal.τ).loc Cert.ReferenceFiltersIdeal.main_arg9))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)
      ∧ m' ((c.tc : Thread Cert.ReferenceNormIdeal.nD Cert.ReferenceNormIdeal.τ).loc Cert.ReferenceNormIdeal.main_arg2) = m ((c.tc : Thread Cert.KernelNormIdeal.nD Cert.KernelNormIdeal.τ).loc Cert.KernelNormIdeal.main_arg2)
      ∧ m' ((c.tc : Thread Cert.ReferenceNormIdeal.nD Cert.ReferenceNormIdeal.τ).loc Cert.ReferenceNormIdeal.main_arg3) = m ((c.tc : Thread Cert.KernelNormIdeal.nD Cert.KernelNormIdeal.τ).loc Cert.KernelNormIdeal.main_arg3)) →
    ∃ (v0 : (c : Dev Cert.KernelNormIdeal.nD) → Buf (Elt Ideal) ((c.tc : Thread Cert.KernelNormIdeal.nD Cert.KernelNormIdeal.τ).loc Cert.KernelNormIdeal.main_v3_0)) (v1 : (c : Dev Cert.KernelNormIdeal.nD) → Buf (Elt Ideal) ((c.tc : Thread Cert.KernelNormIdeal.nD Cert.KernelNormIdeal.τ).loc Cert.KernelNormIdeal.main_v3_1)) (v2 : (c : Dev Cert.KernelNormIdeal.nD) → Buf (Elt Ideal) ((c.tc : Thread Cert.KernelNormIdeal.nD Cert.KernelNormIdeal.τ).loc Cert.KernelNormIdeal.main_v3_2)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v3_0) = v0 c
          ∧ r.2.mem ((c.tc : Thread Cert.KernelNormIdeal.nD Cert.KernelNormIdeal.τ).loc Cert.KernelNormIdeal.main_v3_1) = v1 c
          ∧ r.2.mem ((c.tc : Thread Cert.KernelNormIdeal.nD Cert.KernelNormIdeal.τ).loc Cert.KernelNormIdeal.main_v3_2) = v2 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
          ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
          ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v21) = v0 c
          ∧ r.2.mem ((c.tc : Thread Cert.ReferenceNormIdeal.nD Cert.ReferenceNormIdeal.τ).loc Cert.ReferenceNormIdeal.main_v23) = v1 c
          ∧ r.2.mem ((c.tc : Thread Cert.ReferenceNormIdeal.nD Cert.ReferenceNormIdeal.τ).loc Cert.ReferenceNormIdeal.main_v25) = v2 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1)
          ∧ r.2.mem ((c.tc : Thread Cert.ReferenceNormIdeal.nD Cert.ReferenceNormIdeal.τ).loc Cert.ReferenceNormIdeal.main_arg2) = m' ((c.tc : Thread Cert.ReferenceNormIdeal.nD Cert.ReferenceNormIdeal.τ).loc Cert.ReferenceNormIdeal.main_arg2)
          ∧ r.2.mem ((c.tc : Thread Cert.ReferenceNormIdeal.nD Cert.ReferenceNormIdeal.τ).loc Cert.ReferenceNormIdeal.main_arg3) = m' ((c.tc : Thread Cert.ReferenceNormIdeal.nD Cert.ReferenceNormIdeal.τ).loc Cert.ReferenceNormIdeal.main_arg3))

def Claim : Prop :=
  ∃ (hKernel : Cert.Kernel.Facts) (hKernelIdeal : Cert.KernelIdeal.Facts) (hReferenceIdeal : Cert.ReferenceIdeal.Facts) (hKernelFour : Cert.KernelFour.Facts) (hKernelFourIdeal : Cert.KernelFourIdeal.Facts) (hReferenceFourIdeal : Cert.ReferenceFourIdeal.Facts) (hKernelSixteen : Cert.KernelSixteen.Facts) (hKernelSixteenIdeal : Cert.KernelSixteenIdeal.Facts) (hReferenceSixteenIdeal : Cert.ReferenceSixteenIdeal.Facts) (hKernelInNatural : Cert.KernelInNatural.Facts) (hKernelInNaturalIdeal : Cert.KernelInNaturalIdeal.Facts) (hReferenceInNaturalIdeal : Cert.ReferenceInNaturalIdeal.Facts) (hKernelInGates : Cert.KernelInGates.Facts) (hKernelInGatesIdeal : Cert.KernelInGatesIdeal.Facts) (hReferenceInGatesIdeal : Cert.ReferenceInGatesIdeal.Facts) (hKernelInFour : Cert.KernelInFour.Facts) (hKernelInFourIdeal : Cert.KernelInFourIdeal.Facts) (hReferenceInFourIdeal : Cert.ReferenceInFourIdeal.Facts) (hKernelInSixteen : Cert.KernelInSixteen.Facts) (hKernelInSixteenIdeal : Cert.KernelInSixteenIdeal.Facts) (hReferenceInSixteenIdeal : Cert.ReferenceInSixteenIdeal.Facts) (hKernelOut : Cert.KernelOut.Facts) (hKernelOutIdeal : Cert.KernelOutIdeal.Facts) (hReferenceOutIdeal : Cert.ReferenceOutIdeal.Facts) (hKernelMerge : Cert.KernelMerge.Facts) (hKernelMergeIdeal : Cert.KernelMergeIdeal.Facts) (hReferenceMergeIdeal : Cert.ReferenceMergeIdeal.Facts) (hKernelModulate : Cert.KernelModulate.Facts) (hKernelModulateIdeal : Cert.KernelModulateIdeal.Facts) (hReferenceModulateIdeal : Cert.ReferenceModulateIdeal.Facts) (hKernelShort : Cert.KernelShort.Facts) (hKernelShortIdeal : Cert.KernelShortIdeal.Facts) (hReferenceShortIdeal : Cert.ReferenceShortIdeal.Facts) (hKernelFilters : Cert.KernelFilters.Facts) (hKernelFiltersIdeal : Cert.KernelFiltersIdeal.Facts) (hReferenceFiltersIdeal : Cert.ReferenceFiltersIdeal.Facts) (hKernelNorm : Cert.KernelNorm.Facts) (hKernelNormIdeal : Cert.KernelNormIdeal.Facts) (hReferenceNormIdeal : Cert.ReferenceNormIdeal.Facts),
    quiescent_Kernel (hKernel := hKernel)
    ∧ quiescent_KernelIdeal (hKernelIdeal := hKernelIdeal)
    ∧ quiescent_ReferenceIdeal (hReferenceIdeal := hReferenceIdeal)
    ∧ quiescent_KernelFour (hKernelFour := hKernelFour)
    ∧ quiescent_KernelFourIdeal (hKernelFourIdeal := hKernelFourIdeal)
    ∧ quiescent_ReferenceFourIdeal (hReferenceFourIdeal := hReferenceFourIdeal)
    ∧ quiescent_KernelSixteen (hKernelSixteen := hKernelSixteen)
    ∧ quiescent_KernelSixteenIdeal (hKernelSixteenIdeal := hKernelSixteenIdeal)
    ∧ quiescent_ReferenceSixteenIdeal (hReferenceSixteenIdeal := hReferenceSixteenIdeal)
    ∧ quiescent_KernelInNatural (hKernelInNatural := hKernelInNatural)
    ∧ quiescent_KernelInNaturalIdeal (hKernelInNaturalIdeal := hKernelInNaturalIdeal)
    ∧ quiescent_ReferenceInNaturalIdeal (hReferenceInNaturalIdeal := hReferenceInNaturalIdeal)
    ∧ quiescent_KernelInGates (hKernelInGates := hKernelInGates)
    ∧ quiescent_KernelInGatesIdeal (hKernelInGatesIdeal := hKernelInGatesIdeal)
    ∧ quiescent_ReferenceInGatesIdeal (hReferenceInGatesIdeal := hReferenceInGatesIdeal)
    ∧ quiescent_KernelInFour (hKernelInFour := hKernelInFour)
    ∧ quiescent_KernelInFourIdeal (hKernelInFourIdeal := hKernelInFourIdeal)
    ∧ quiescent_ReferenceInFourIdeal (hReferenceInFourIdeal := hReferenceInFourIdeal)
    ∧ quiescent_KernelInSixteen (hKernelInSixteen := hKernelInSixteen)
    ∧ quiescent_KernelInSixteenIdeal (hKernelInSixteenIdeal := hKernelInSixteenIdeal)
    ∧ quiescent_ReferenceInSixteenIdeal (hReferenceInSixteenIdeal := hReferenceInSixteenIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelModulate (hKernelModulate := hKernelModulate)
    ∧ quiescent_KernelModulateIdeal (hKernelModulateIdeal := hKernelModulateIdeal)
    ∧ quiescent_ReferenceModulateIdeal (hReferenceModulateIdeal := hReferenceModulateIdeal)
    ∧ quiescent_KernelShort (hKernelShort := hKernelShort)
    ∧ quiescent_KernelShortIdeal (hKernelShortIdeal := hKernelShortIdeal)
    ∧ quiescent_ReferenceShortIdeal (hReferenceShortIdeal := hReferenceShortIdeal)
    ∧ quiescent_KernelFilters (hKernelFilters := hKernelFilters)
    ∧ quiescent_KernelFiltersIdeal (hKernelFiltersIdeal := hKernelFiltersIdeal)
    ∧ quiescent_ReferenceFiltersIdeal (hReferenceFiltersIdeal := hReferenceFiltersIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ preserves_Kernel_KernelIdeal
    ∧ algebraic_KernelIdeal_ReferenceIdeal (hKernelIdeal := hKernelIdeal) (hReferenceIdeal := hReferenceIdeal)
    ∧ preserves_KernelFour_KernelFourIdeal
    ∧ algebraic_KernelFourIdeal_ReferenceFourIdeal (hKernelFourIdeal := hKernelFourIdeal) (hReferenceFourIdeal := hReferenceFourIdeal)
    ∧ preserves_KernelSixteen_KernelSixteenIdeal
    ∧ algebraic_KernelSixteenIdeal_ReferenceSixteenIdeal (hKernelSixteenIdeal := hKernelSixteenIdeal) (hReferenceSixteenIdeal := hReferenceSixteenIdeal)
    ∧ preserves_KernelInNatural_KernelInNaturalIdeal
    ∧ algebraic_KernelInNaturalIdeal_ReferenceInNaturalIdeal (hKernelInNaturalIdeal := hKernelInNaturalIdeal) (hReferenceInNaturalIdeal := hReferenceInNaturalIdeal)
    ∧ preserves_KernelInGates_KernelInGatesIdeal
    ∧ algebraic_KernelInGatesIdeal_ReferenceInGatesIdeal (hKernelInGatesIdeal := hKernelInGatesIdeal) (hReferenceInGatesIdeal := hReferenceInGatesIdeal)
    ∧ preserves_KernelInFour_KernelInFourIdeal
    ∧ algebraic_KernelInFourIdeal_ReferenceInFourIdeal (hKernelInFourIdeal := hKernelInFourIdeal) (hReferenceInFourIdeal := hReferenceInFourIdeal)
    ∧ preserves_KernelInSixteen_KernelInSixteenIdeal
    ∧ algebraic_KernelInSixteenIdeal_ReferenceInSixteenIdeal (hKernelInSixteenIdeal := hKernelInSixteenIdeal) (hReferenceInSixteenIdeal := hReferenceInSixteenIdeal)
    ∧ preserves_KernelOut_KernelOutIdeal
    ∧ algebraic_KernelOutIdeal_ReferenceOutIdeal (hKernelOutIdeal := hKernelOutIdeal) (hReferenceOutIdeal := hReferenceOutIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelModulate_KernelModulateIdeal
    ∧ algebraic_KernelModulateIdeal_ReferenceModulateIdeal (hKernelModulateIdeal := hKernelModulateIdeal) (hReferenceModulateIdeal := hReferenceModulateIdeal)
    ∧ preserves_KernelShort_KernelShortIdeal
    ∧ algebraic_KernelShortIdeal_ReferenceShortIdeal (hKernelShortIdeal := hKernelShortIdeal) (hReferenceShortIdeal := hReferenceShortIdeal)
    ∧ preserves_KernelFilters_KernelFiltersIdeal
    ∧ algebraic_KernelFiltersIdeal_ReferenceFiltersIdeal (hKernelFiltersIdeal := hKernelFiltersIdeal) (hReferenceFiltersIdeal := hReferenceFiltersIdeal)
    ∧ preserves_KernelNorm_KernelNormIdeal
    ∧ algebraic_KernelNormIdeal_ReferenceNormIdeal (hKernelNormIdeal := hKernelNormIdeal) (hReferenceNormIdeal := hReferenceNormIdeal)
-- ==== Kernel.lean ====
abbrev S2x8192x6144 : Shape := ⟨3, ![2, 8192, 6144]⟩
abbrev S2x8192x1024 : Shape := ⟨3, ![2, 8192, 1024]⟩
abbrev S1x128x1024 : Shape := ⟨3, ![1, 128, 1024]⟩
abbrev S1x64x1024 : Shape := ⟨3, ![1, 64, 1024]⟩
abbrev S128x256 : Shape := ⟨2, ![128, 256]⟩
abbrev S1x128x128 : Shape := ⟨3, ![1, 128, 128]⟩
abbrev S128x128 : Shape := ⟨2, ![128, 128]⟩
abbrev S1x64x128 : Shape := ⟨3, ![1, 64, 128]⟩
abbrev S64x128 : Shape := ⟨2, ![64, 128]⟩
abbrev S256x128 : Shape := ⟨2, ![256, 128]⟩
abbrev S128 : Shape := ⟨1, ![128]⟩
abbrev S128x1 : Shape := ⟨2, ![128, 1]⟩

abbrev nBuf : Space → Nat
  | .hbm => 3
  | .vmem => 18
  | .smem => 0
  | _ => 0

abbrev bufTy : (tb : Table) → Fin (tcTables nBuf tb) → BufTy
  | .hbm, ⟨0, _⟩ => ⟨S2x8192x6144, .bf16⟩
  | .hbm, ⟨1, _⟩ => ⟨S2x8192x1024, .bf16⟩
  | .hbm, ⟨2, _⟩ => ⟨S2x8192x1024, .f32⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x64x1024, .bf16⟩
  | .local _ .vmem, ⟨5, _⟩ => ⟨S1x64x1024, .bf16⟩
  | .local _ .vmem, ⟨6, _⟩ => ⟨S1x64x1024, .bf16⟩
  | .local _ .vmem, ⟨7, _⟩ => ⟨S1x64x1024, .bf16⟩
  | .local _ .vmem, ⟨8, _⟩ => ⟨S1x128x1024, .bf16⟩
  | .local _ .vmem, ⟨9, _⟩ => ⟨S1x128x1024, .bf16⟩
  | .local _ .vmem, ⟨10, _⟩ => ⟨S1x64x1024, .bf16⟩
  | .local _ .vmem, ⟨11, _⟩ => ⟨S1x64x1024, .bf16⟩
  | .local _ .vmem, ⟨12, _⟩ => ⟨S1x64x1024, .bf16⟩
  | .local _ .vmem, ⟨13, _⟩ => ⟨S1x64x1024, .bf16⟩
  | .local _ .vmem, ⟨14, _⟩ => ⟨S1x128x1024, .bf16⟩
  | .local _ .vmem, ⟨15, _⟩ => ⟨S1x128x1024, .bf16⟩
  | .local _ .vmem, ⟨16, _⟩ => ⟨S1x128x1024, .f32⟩
  | .local _ .vmem, ⟨17, _⟩ => ⟨S1x128x1024, .f32⟩
  | _, _ => ⟨S2x8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![arg0.toNat, v2.toNat, c4_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c2_i32 : BitVec 32 := 2#32
  let v1 : BitVec 32 := Scalar.muli v0 c2_i32
  let c127_i32 : BitVec 32 := 127#32
  let v2 : BitVec 32 := Scalar.minsi v1 c127_i32
  let c4_i32 : BitVec 32 := 4#32
  let c0_i32 : BitVec 32 := 0#32
  ![arg0.toNat, v2.toNat, c4_i32.toNat]

def cc0_transform_4 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![arg0.toNat, v2.toNat, c5_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c2_i32 : BitVec 32 := 2#32
  let v1 : BitVec 32 := Scalar.muli v0 c2_i32
  let c127_i32 : BitVec 32 := 127#32
  let v2 : BitVec 32 := Scalar.minsi v1 c127_i32
  let c5_i32 : BitVec 32 := 5#32
  let c0_i32 : BitVec 32 := 0#32
  ![arg0.toNat, v2.toNat, c5_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x8192x6144 : Shape := ⟨3, ![2, 8192, 6144]⟩
abbrev S2x8192x1024 : Shape := ⟨3, ![2, 8192, 1024]⟩
abbrev S2x8192x8x128 : Shape := ⟨4, ![2, 8192, 8, 128]⟩
abbrev S_ : Shape := ⟨0, ![]⟩
abbrev S1 : Shape := ⟨1, ![1]⟩
abbrev S8 : Shape := ⟨1, ![8]⟩
abbrev S2x8x8192x8192 : Shape := ⟨4, ![2, 8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x1x1 : Shape := ⟨3, ![8, 1, 1]⟩
abbrev S1x8192x8192 : Shape := ⟨3, ![1, 8192, 8192]⟩
abbrev S8x8192x8192 : Shape := ⟨3, ![8, 8192, 8192]⟩
abbrev S1x8x8192x8192 : Shape := ⟨4, ![1, 8, 8192, 8192]⟩
abbrev S2x8x8192 : Shape := ⟨3, ![2, 8, 8192]⟩
abbrev S2x8x8192x1 : Shape := ⟨4, ![2, 8, 8192, 1]⟩
abbrev S2x8x8192x128 : Shape := ⟨4, ![2, 8, 8192, 128]⟩

abbrev nBuf : Space → Nat
  | .hbm => 79
  | .vmem => 0
  | .smem => 0
  | _ => 0

abbrev bufTy : (tb : Table) → Fin (tcTables nBuf tb) → BufTy
  | .hbm, ⟨0, _⟩ => ⟨S2x8192x6144, .bf16⟩
  | .hbm, ⟨1, _⟩ => ⟨S2x8192x1024, .bf16⟩
  | .hbm, ⟨2, _⟩ => ⟨S2x8192x8x128, .bf16⟩
  | .hbm, ⟨3, _⟩ => ⟨S2x8192x1024, .bf16⟩
  | .hbm, ⟨4, _⟩ => ⟨S2x8192x8x128, .bf16⟩
  | .hbm, ⟨5, _⟩ => ⟨S2x8192x1024, .bf16⟩
  | .hbm, ⟨6, _⟩ => ⟨S2x8192x8x128, .bf16⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1, .f32⟩
  | .hbm, ⟨16, _⟩ => ⟨S1, .f32⟩
  | .hbm, ⟨17, _⟩ => ⟨S1, .f32⟩
  | .hbm, ⟨18, _⟩ => ⟨S1, .f32⟩
  | .hbm, ⟨19, _⟩ => ⟨S1, .f32⟩
  | .hbm, ⟨20, _⟩ => ⟨S1, .f32⟩
  | .hbm, ⟨21, _⟩ => ⟨S1, .f32⟩
  | .hbm, ⟨22, _⟩ => ⟨S1, .f32⟩
  | .hbm, ⟨23, _⟩ => ⟨S8, .f32⟩
  | .hbm, ⟨24, _⟩ => ⟨S2x8192x8x128, .f32⟩
  | .hbm, ⟨25, _⟩ => ⟨S2x8192x8x128, .f32⟩
  | .hbm, ⟨26, _⟩ => ⟨S2x8192x8x128, .f32⟩
  | .hbm, ⟨27, _⟩ => ⟨S2x8x8192x8192, .f32⟩
  | .hbm, ⟨28, _⟩ => ⟨S_, .f32⟩
  | .hbm, ⟨29, _⟩ => ⟨S2x8x8192x8192, .f32⟩
  | .hbm, ⟨30, _⟩ => ⟨S2x8x8192x8192, .f32⟩
  | .hbm, ⟨31, _⟩ => ⟨S8192, .i32⟩
  | .hbm, ⟨32, _⟩ => ⟨S1x8192, .i32⟩
  | .hbm, ⟨33, _⟩ => ⟨S8192x1, .i32⟩
  | .hbm, ⟨34, _⟩ => ⟨S8192x8192, .i32⟩
  | .hbm, ⟨35, _⟩ => ⟨S8192x8192, .i32⟩
  | .hbm, ⟨36, _⟩ => ⟨S8192x8192, .i32⟩
  | .hbm, ⟨37, _⟩ => ⟨S8192x8192, .i32⟩
  | .hbm, ⟨38, _⟩ => ⟨S8x1x1, .f32⟩
  | .hbm, ⟨39, _⟩ => ⟨S8x1x1, .f32⟩
  | .hbm, ⟨40, _⟩ => ⟨S_, .i32⟩
  | .hbm, ⟨41, _⟩ => ⟨S8192x8192, .i32⟩
  | .hbm, ⟨42, _⟩ => ⟨S8192x8192, .i32⟩
  | .hbm, ⟨43, _⟩ => ⟨S8192x8192, .f32⟩
  | .hbm, ⟨44, _⟩ => ⟨S1x8192x8192, .f32⟩
  | .hbm, ⟨45, _⟩ => ⟨S8x8192x8192, .f32⟩
  | .hbm, ⟨46, _⟩ => ⟨S8x8192x8192, .f32⟩
  | .hbm, ⟨47, _⟩ => ⟨S8x8192x8192, .f32⟩
  | .hbm, ⟨48, _⟩ => ⟨S_, .i32⟩
  | .hbm, ⟨49, _⟩ => ⟨S8192x8192, .i32⟩
  | .hbm, ⟨50, _⟩ => ⟨S8192x8192, .i1⟩
  | .hbm, ⟨51, _⟩ => ⟨S1x8x8192x8192, .f32⟩
  | .hbm, ⟨52, _⟩ => ⟨S2x8x8192x8192, .f32⟩
  | .hbm, ⟨53, _⟩ => ⟨S2x8x8192x8192, .f32⟩
  | .hbm, ⟨54, _⟩ => ⟨S_, .f32⟩
  | .hbm, ⟨55, _⟩ => ⟨S_, .f32⟩
  | .hbm, ⟨56, _⟩ => ⟨S2x8x8192x8192, .i1⟩
  | .hbm, ⟨57, _⟩ => ⟨S2x8x8192x8192, .f32⟩
  | .hbm, ⟨58, _⟩ => ⟨S2x8x8192x8192, .f32⟩
  | .hbm, ⟨59, _⟩ => ⟨S_, .f32⟩
  | .hbm, ⟨60, _⟩ => ⟨S2x8x8192, .f32⟩
  | .hbm, ⟨61, _⟩ => ⟨S2x8x8192x1, .f32⟩
  | .hbm, ⟨62, _⟩ => ⟨S2x8x8192x8192, .f32⟩
  | .hbm, ⟨63, _⟩ => ⟨S2x8x8192x8192, .f32⟩
  | .hbm, ⟨64, _⟩ => ⟨S2x8x8192x8192, .f32⟩
  | .hbm, ⟨65, _⟩ => ⟨S_, .f32⟩
  | .hbm, ⟨66, _⟩ => ⟨S2x8x8192, .f32⟩
  | .hbm, ⟨67, _⟩ => ⟨S2x8x8192x1, .f32⟩
  | .hbm, ⟨68, _⟩ => ⟨S2x8x8192x128, .f32⟩
  | .hbm, ⟨69, _⟩ => ⟨S2x8x8192x128, .f32⟩
  | .hbm, ⟨70, _⟩ => ⟨S2x8x8192x128, .f32⟩
  | .hbm, ⟨71, _⟩ => ⟨S2x8x8192x1, .f32⟩
  | .hbm, ⟨72, _⟩ => ⟨S2x8x8192x1, .f32⟩
  | .hbm, ⟨73, _⟩ => ⟨S2x8x8192x128, .f32⟩
  | .hbm, ⟨74, _⟩ => ⟨S2x8x8192x128, .bf16⟩
  | .hbm, ⟨75, _⟩ => ⟨S2x8192x8x128, .bf16⟩
  | .hbm, ⟨76, _⟩ => ⟨S2x8192x1024, .bf16⟩
  | .hbm, ⟨77, _⟩ => ⟨S2x8192x8x128, .f32⟩
  | .hbm, ⟨78, _⟩ => ⟨S2x8192x1024, .f32⟩
  | _, _ => ⟨S2x8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_cst_0 : Ref sig .tc := ⟨.hbm, 8, rfl⟩
abbrev main_cst_1 : Ref sig .tc := ⟨.hbm, 9, rfl⟩
abbrev main_cst_2 : Ref sig .tc := ⟨.hbm, 10, rfl⟩
abbrev main_cst_3 : Ref sig .tc := ⟨.hbm, 11, rfl⟩
abbrev main_cst_4 : Ref sig .tc := ⟨.hbm, 12, rfl⟩
abbrev main_cst_5 : Ref sig .tc := ⟨.hbm, 13, rfl⟩
abbrev main_cst_6 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_7 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_8 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_9 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_11 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]
-- ==== KernelFour.lean ====
abbrev S8x2048x3072 : Shape := ⟨3, ![8, 2048, 3072]⟩
abbrev S8x2048x1024 : Shape := ⟨3, ![8, 2048, 1024]⟩
abbrev S1x128x1024 : Shape := ⟨3, ![1, 128, 1024]⟩
abbrev S1x64x1024 : Shape := ⟨3, ![1, 64, 1024]⟩
abbrev S128x256 : Shape := ⟨2, ![128, 256]⟩
abbrev S1x128x128 : Shape := ⟨3, ![1, 128, 128]⟩
abbrev S128x128 : Shape := ⟨2, ![128, 128]⟩
abbrev S1x64x128 : Shape := ⟨3, ![1, 64, 128]⟩
abbrev S64x128 : Shape := ⟨2, ![64, 128]⟩
abbrev S256x128 : Shape := ⟨2, ![256, 128]⟩
abbrev S128 : Shape := ⟨1, ![128]⟩
abbrev S128x1 : Shape := ⟨2, ![128, 1]⟩

abbrev nBuf : Space → Nat
  | .hbm => 3
  | .vmem => 18
  | .smem => 0
  | _ => 0

abbrev bufTy : (tb : Table) → Fin (tcTables nBuf tb) → BufTy
  | .hbm, ⟨0, _⟩ => ⟨S8x2048x3072, .bf16⟩
  | .hbm, ⟨1, _⟩ => ⟨S8x2048x1024, .bf16⟩
  | .hbm, ⟨2, _⟩ => ⟨S8x2048x1024, .f32⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x64x1024, .bf16⟩
  | .local _ .vmem, ⟨5, _⟩ => ⟨S1x64x1024, .bf16⟩
  | .local _ .vmem, ⟨6, _⟩ => ⟨S1x64x1024, .bf16⟩
  | .local _ .vmem, ⟨7, _⟩ => ⟨S1x64x1024, .bf16⟩
  | .local _ .vmem, ⟨8, _⟩ => ⟨S1x128x1024, .bf16⟩
  | .local _ .vmem, ⟨9, _⟩ => ⟨S1x128x1024, .bf16⟩
  | .local _ .vmem, ⟨10, _⟩ => ⟨S1x64x1024, .bf16⟩
  | .local _ .vmem, ⟨11, _⟩ => ⟨S1x64x1024, .bf16⟩
  | .local _ .vmem, ⟨12, _⟩ => ⟨S1x64x1024, .bf16⟩
  | .local _ .vmem, ⟨13, _⟩ => ⟨S1x64x1024, .bf16⟩
  | .local _ .vmem, ⟨14, _⟩ => ⟨S1x128x1024, .bf16⟩
  | .local _ .vmem, ⟨15, _⟩ => ⟨S1x128x1024, .bf16⟩
  | .local _ .vmem, ⟨16, _⟩ => ⟨S1x128x1024, .f32⟩
  | .local _ .vmem, ⟨17, _⟩ => ⟨S1x128x1024, .f32⟩
  | _, _ => ⟨S8x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c2_i32 : BitVec 32 := 2#32
  let v1 : BitVec 32 := Scalar.muli v0 c2_i32
  let c31_i32 : BitVec 32 := 31#32
  let v2 : BitVec 32 := Scalar.minsi v1 c31_i32
  let c1_i32_0 : BitVec 32 := 1#32
  let c0_i32 : BitVec 32 := 0#32
  ![arg0.toNat, v2.toNat, c1_i32_0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c2_i32_0 : BitVec 32 := 2#32
  let c0_i32_1 : BitVec 32 := 0#32
  ![arg0.toNat, v2.toNat, c2_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c2_i32 : BitVec 32 := 2#32
  let v1 : BitVec 32 := Scalar.muli v0 c2_i32
  let c31_i32 : BitVec 32 := 31#32
  let v2 : BitVec 32 := Scalar.minsi v1 c31_i32
  let c2_i32_0 : BitVec 32 := 2#32
  let c0_i32 : BitVec 32 := 0#32
  ![arg0.toNat, v2.toNat, c2_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelFourIdeal.lean ====
variable {F : FTy → Type} [FloatOps F] [Named F]
def κ : String → Option EReal := fun
  | "mask" => some ⊥
  | _ => none
-- ==== ReferenceFourIdeal.lean ====
abbrev S8x2048x3072 : Shape := ⟨3, ![8, 2048, 3072]⟩
abbrev S8x2048x1024 : Shape := ⟨3, ![8, 2048, 1024]⟩
abbrev S8x2048x8x128 : Shape := ⟨4, ![8, 2048, 8, 128]⟩
abbrev S_ : Shape := ⟨0, ![]⟩
abbrev S1 : Shape := ⟨1, ![1]⟩
abbrev S8 : Shape := ⟨1, ![8]⟩
abbrev S8x8x2048x2048 : Shape := ⟨4, ![8, 8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x1x1 : Shape := ⟨3, ![8, 1, 1]⟩
abbrev S1x2048x2048 : Shape := ⟨3, ![1, 2048, 2048]⟩
abbrev S8x2048x2048 : Shape := ⟨3, ![8, 2048, 2048]⟩
abbrev S1x8x2048x2048 : Shape := ⟨4, ![1, 8, 2048, 2048]⟩
abbrev S8x8x2048 : Shape := ⟨3, ![8, 8, 2048]⟩
abbrev S8x8x2048x1 : Shape := ⟨4, ![8, 8, 2048, 1]⟩
abbrev S8x8x2048x128 : Shape := ⟨4, ![8, 8, 2048, 128]⟩

abbrev nBuf : Space → Nat
  | .hbm => 79
  | .vmem => 0
  | .smem => 0
  | _ => 0

abbrev bufTy : (tb : Table) → Fin (tcTables nBuf tb) → BufTy
  | .hbm, ⟨0, _⟩ => ⟨S8x2048x3072, .bf16⟩
  | .hbm, ⟨1, _⟩ => ⟨S8x2048x1024, .bf16⟩
  | .hbm, ⟨2, _⟩ => ⟨S8x2048x1024, .bf16⟩
  | .hbm, ⟨3, _⟩ => ⟨S8x2048x1024, .bf16⟩
  | .hbm, ⟨4, _⟩ => ⟨S8x2048x8x128, .bf16⟩
  | .hbm, ⟨5, _⟩ => ⟨S8x2048x8x128, .bf16⟩
  | .hbm, ⟨6, _⟩ => ⟨S8x2048x8x128, .bf16⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1, .f32⟩
  | .hbm, ⟨16, _⟩ => ⟨S1, .f32⟩
  | .hbm, ⟨17, _⟩ => ⟨S1, .f32⟩
  | .hbm, ⟨18, _⟩ => ⟨S1, .f32⟩
  | .hbm, ⟨19, _⟩ => ⟨S1, .f32⟩
  | .hbm, ⟨20, _⟩ => ⟨S1, .f32⟩
  | .hbm, ⟨21, _⟩ => ⟨S1, .f32⟩
  | .hbm, ⟨22, _⟩ => ⟨S1, .f32⟩
  | .hbm, ⟨23, _⟩ => ⟨S8, .f32⟩
  | .hbm, ⟨24, _⟩ => ⟨S8x2048x8x128, .f32⟩
  | .hbm, ⟨25, _⟩ => ⟨S8x2048x8x128, .f32⟩
  | .hbm, ⟨26, _⟩ => ⟨S8x2048x8x128, .f32⟩
  | .hbm, ⟨27, _⟩ => ⟨S8x8x2048x2048, .f32⟩
  | .hbm, ⟨28, _⟩ => ⟨S_, .f32⟩
  | .hbm, ⟨29, _⟩ => ⟨S8x8x2048x2048, .f32⟩
  | .hbm, ⟨30, _⟩ => ⟨S8x8x2048x2048, .f32⟩
  | .hbm, ⟨31, _⟩ => ⟨S2048, .i32⟩
  | .hbm, ⟨32, _⟩ => ⟨S1x2048, .i32⟩
  | .hbm, ⟨33, _⟩ => ⟨S2048x1, .i32⟩
  | .hbm, ⟨34, _⟩ => ⟨S2048x2048, .i32⟩
  | .hbm, ⟨35, _⟩ => ⟨S2048x2048, .i32⟩
  | .hbm, ⟨36, _⟩ => ⟨S2048x2048, .i32⟩
  | .hbm, ⟨37, _⟩ => ⟨S2048x2048, .i32⟩
  | .hbm, ⟨38, _⟩ => ⟨S8x1x1, .f32⟩
  | .hbm, ⟨39, _⟩ => ⟨S8x1x1, .f32⟩
  | .hbm, ⟨40, _⟩ => ⟨S_, .i32⟩
  | .hbm, ⟨41, _⟩ => ⟨S2048x2048, .i32⟩
  | .hbm, ⟨42, _⟩ => ⟨S2048x2048, .i32⟩
  | .hbm, ⟨43, _⟩ => ⟨S2048x2048, .f32⟩
  | .hbm, ⟨44, _⟩ => ⟨S1x2048x2048, .f32⟩
  | .hbm, ⟨45, _⟩ => ⟨S8x2048x2048, .f32⟩
  | .hbm, ⟨46, _⟩ => ⟨S8x2048x2048, .f32⟩
  | .hbm, ⟨47, _⟩ => ⟨S8x2048x2048, .f32⟩
  | .hbm, ⟨48, _⟩ => ⟨S_, .i32⟩
  | .hbm, ⟨49, _⟩ => ⟨S2048x2048, .i32⟩
  | .hbm, ⟨50, _⟩ => ⟨S2048x2048, .i1⟩
  | .hbm, ⟨51, _⟩ => ⟨S1x8x2048x2048, .f32⟩
  | .hbm, ⟨52, _⟩ => ⟨S8x8x2048x2048, .f32⟩
  | .hbm, ⟨53, _⟩ => ⟨S8x8x2048x2048, .f32⟩
  | .hbm, ⟨54, _⟩ => ⟨S_, .f32⟩
  | .hbm, ⟨55, _⟩ => ⟨S_, .f32⟩
  | .hbm, ⟨56, _⟩ => ⟨S8x8x2048x2048, .i1⟩
  | .hbm, ⟨57, _⟩ => ⟨S8x8x2048x2048, .f32⟩
  | .hbm, ⟨58, _⟩ => ⟨S8x8x2048x2048, .f32⟩
  | .hbm, ⟨59, _⟩ => ⟨S_, .f32⟩
  | .hbm, ⟨60, _⟩ => ⟨S8x8x2048, .f32⟩
  | .hbm, ⟨61, _⟩ => ⟨S8x8x2048x1, .f32⟩
  | .hbm, ⟨62, _⟩ => ⟨S8x8x2048x2048, .f32⟩
  | .hbm, ⟨63, _⟩ => ⟨S8x8x2048x2048, .f32⟩
  | .hbm, ⟨64, _⟩ => ⟨S8x8x2048x2048, .f32⟩
  | .hbm, ⟨65, _⟩ => ⟨S_, .f32⟩
  | .hbm, ⟨66, _⟩ => ⟨S8x8x2048, .f32⟩
  | .hbm, ⟨67, _⟩ => ⟨S8x8x2048x1, .f32⟩
  | .hbm, ⟨68, _⟩ => ⟨S8x8x2048x128, .f32⟩
  | .hbm, ⟨69, _⟩ => ⟨S8x8x2048x128, .f32⟩
  | .hbm, ⟨70, _⟩ => ⟨S8x8x2048x128, .f32⟩
  | .hbm, ⟨71, _⟩ => ⟨S8x8x2048x1, .f32⟩
  | .hbm, ⟨72, _⟩ => ⟨S8x8x2048x1, .f32⟩
  | .hbm, ⟨73, _⟩ => ⟨S8x8x2048x128, .f32⟩
  | .hbm, ⟨74, _⟩ => ⟨S8x8x2048x128, .bf16⟩
  | .hbm, ⟨75, _⟩ => ⟨S8x2048x8x128, .bf16⟩
  | .hbm, ⟨76, _⟩ => ⟨S8x2048x1024, .bf16⟩
  | .hbm, ⟨77, _⟩ => ⟨S8x2048x8x128, .f32⟩
  | .hbm, ⟨78, _⟩ => ⟨S8x2048x1024, .f32⟩
  | _, _ => ⟨S8x2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_cst_0 : Ref sig .tc := ⟨.hbm, 8, rfl⟩
abbrev main_cst_1 : Ref sig .tc := ⟨.hbm, 9, rfl⟩
abbrev main_cst_2 : Ref sig .tc := ⟨.hbm, 10, rfl⟩
abbrev main_cst_3 : Ref sig .tc := ⟨.hbm, 11, rfl⟩
abbrev main_cst_4 : Ref sig .tc := ⟨.hbm, 12, rfl⟩
abbrev main_cst_5 : Ref sig .tc := ⟨.hbm, 13, rfl⟩
abbrev main_cst_6 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_7 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_8 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_9 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_11 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]
-- ==== KernelSixteen.lean ====
abbrev S32x512x3072 : Shape := ⟨3, ![32, 512, 3072]⟩
abbrev S32x512x1024 : Shape := ⟨3, ![32, 512, 1024]⟩
abbrev S1x128x1024 : Shape := ⟨3, ![1, 128, 1024]⟩
abbrev S1x64x1024 : Shape := ⟨3, ![1, 64, 1024]⟩
abbrev S128x256 : Shape := ⟨2, ![128, 256]⟩
abbrev S1x128x128 : Shape := ⟨3, ![1, 128, 128]⟩
abbrev S128x128 : Shape := ⟨2, ![128, 128]⟩
abbrev S1x64x128 : Shape := ⟨3, ![1, 64, 128]⟩
abbrev S64x128 : Shape := ⟨2, ![64, 128]⟩
abbrev S256x128 : Shape := ⟨2, ![256, 128]⟩
abbrev S128 : Shape := ⟨1, ![128]⟩
abbrev S128x1 : Shape := ⟨2, ![128, 1]⟩

abbrev nBuf : Space → Nat
  | .hbm => 3
  | .vmem => 18
  | .smem => 0
  | _ => 0

abbrev bufTy : (tb : Table) → Fin (tcTables nBuf tb) → BufTy
  | .hbm, ⟨0, _⟩ => ⟨S32x512x3072, .bf16⟩
  | .hbm, ⟨1, _⟩ => ⟨S32x512x1024, .bf16⟩
  | .hbm, ⟨2, _⟩ => ⟨S32x512x1024, .f32⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x64x1024, .bf16⟩
  | .local _ .vmem, ⟨5, _⟩ => ⟨S1x64x1024, .bf16⟩
  | .local _ .vmem, ⟨6, _⟩ => ⟨S1x64x1024, .bf16⟩
  | .local _ .vmem, ⟨7, _⟩ => ⟨S1x64x1024, .bf16⟩
  | .local _ .vmem, ⟨8, _⟩ => ⟨S1x128x1024, .bf16⟩
  | .local _ .vmem, ⟨9, _⟩ => ⟨S1x128x1024, .bf16⟩
  | .local _ .vmem, ⟨10, _⟩ => ⟨S1x64x1024, .bf16⟩
  | .local _ .vmem, ⟨11, _⟩ => ⟨S1x64x1024, .bf16⟩
  | .local _ .vmem, ⟨12, _⟩ => ⟨S1x64x1024, .bf16⟩
  | .local _ .vmem, ⟨13, _⟩ => ⟨S1x64x1024, .bf16⟩
  | .local _ .vmem, ⟨14, _⟩ => ⟨S1x128x1024, .bf16⟩
  | .local _ .vmem, ⟨15, _⟩ => ⟨S1x128x1024, .bf16⟩
  | .local _ .vmem, ⟨16, _⟩ => ⟨S1x128x1024, .f32⟩
  | .local _ .vmem, ⟨17, _⟩ => ⟨S1x128x1024, .f32⟩
  | _, _ => ⟨S32x512x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c2_i32 : BitVec 32 := 2#32
  let v1 : BitVec 32 := Scalar.muli v0 c2_i32
  let c7_i32 : BitVec 32 := 7#32
  let v2 : BitVec 32 := Scalar.minsi v1 c7_i32
  let c1_i32_0 : BitVec 32 := 1#32
  let c0_i32 : BitVec 32 := 0#32
  ![arg0.toNat, v2.toNat, c1_i32_0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c2_i32_0 : BitVec 32 := 2#32
  let c0_i32_1 : BitVec 32 := 0#32
  ![arg0.toNat, v2.toNat, c2_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c2_i32 : BitVec 32 := 2#32
  let v1 : BitVec 32 := Scalar.muli v0 c2_i32
  let c7_i32 : BitVec 32 := 7#32
  let v2 : BitVec 32 := Scalar.minsi v1 c7_i32
  let c2_i32_0 : BitVec 32 := 2#32
  let c0_i32 : BitVec 32 := 0#32
  ![arg0.toNat, v2.toNat, c2_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelSixteenIdeal.lean ====
variable {F : FTy → Type} [FloatOps F] [Named F]
def κ : String → Option EReal := fun
  | "mask" => some ⊥
  | _ => none
-- ==== ReferenceSixteenIdeal.lean ====
abbrev S32x512x3072 : Shape := ⟨3, ![32, 512, 3072]⟩
abbrev S32x512x1024 : Shape := ⟨3, ![32, 512, 1024]⟩
abbrev S32x512x8x128 : Shape := ⟨4, ![32, 512, 8, 128]⟩
abbrev S_ : Shape := ⟨0, ![]⟩
abbrev S1 : Shape := ⟨1, ![1]⟩
abbrev S8 : Shape := ⟨1, ![8]⟩
abbrev S32x8x512x512 : Shape := ⟨4, ![32, 8, 512, 512]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S8x1x1 : Shape := ⟨3, ![8, 1, 1]⟩
abbrev S1x512x512 : Shape := ⟨3, ![1, 512, 512]⟩
abbrev S8x512x512 : Shape := ⟨3, ![8, 512, 512]⟩
abbrev S1x8x512x512 : Shape := ⟨4, ![1, 8, 512, 512]⟩
abbrev S32x8x512 : Shape := ⟨3, ![32, 8, 512]⟩
abbrev S32x8x512x1 : Shape := ⟨4, ![32, 8, 512, 1]⟩
abbrev S32x8x512x128 : Shape := ⟨4, ![32, 8, 512, 128]⟩

abbrev nBuf : Space → Nat
  | .hbm => 79
  | .vmem => 0
  | .smem => 0
  | _ => 0

abbrev bufTy : (tb : Table) → Fin (tcTables nBuf tb) → BufTy
  | .hbm, ⟨0, _⟩ => ⟨S32x512x3072, .bf16⟩
  | .hbm, ⟨1, _⟩ => ⟨S32x512x1024, .bf16⟩
  | .hbm, ⟨2, _⟩ => ⟨S32x512x1024, .bf16⟩
  | .hbm, ⟨3, _⟩ => ⟨S32x512x1024, .bf16⟩
  | .hbm, ⟨4, _⟩ => ⟨S32x512x8x128, .bf16⟩
  | .hbm, ⟨5, _⟩ => ⟨S32x512x8x128, .bf16⟩
  | .hbm, ⟨6, _⟩ => ⟨S32x512x8x128, .bf16⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1, .f32⟩
  | .hbm, ⟨16, _⟩ => ⟨S1, .f32⟩
  | .hbm, ⟨17, _⟩ => ⟨S1, .f32⟩
  | .hbm, ⟨18, _⟩ => ⟨S1, .f32⟩
  | .hbm, ⟨19, _⟩ => ⟨S1, .f32⟩
  | .hbm, ⟨20, _⟩ => ⟨S1, .f32⟩
  | .hbm, ⟨21, _⟩ => ⟨S1, .f32⟩
  | .hbm, ⟨22, _⟩ => ⟨S1, .f32⟩
  | .hbm, ⟨23, _⟩ => ⟨S8, .f32⟩
  | .hbm, ⟨24, _⟩ => ⟨S32x512x8x128, .f32⟩
  | .hbm, ⟨25, _⟩ => ⟨S32x512x8x128, .f32⟩
  | .hbm, ⟨26, _⟩ => ⟨S32x512x8x128, .f32⟩
  | .hbm, ⟨27, _⟩ => ⟨S32x8x512x512, .f32⟩
  | .hbm, ⟨28, _⟩ => ⟨S_, .f32⟩
  | .hbm, ⟨29, _⟩ => ⟨S32x8x512x512, .f32⟩
  | .hbm, ⟨30, _⟩ => ⟨S32x8x512x512, .f32⟩
  | .hbm, ⟨31, _⟩ => ⟨S512, .i32⟩
  | .hbm, ⟨32, _⟩ => ⟨S1x512, .i32⟩
  | .hbm, ⟨33, _⟩ => ⟨S512x1, .i32⟩
  | .hbm, ⟨34, _⟩ => ⟨S512x512, .i32⟩
  | .hbm, ⟨35, _⟩ => ⟨S512x512, .i32⟩
  | .hbm, ⟨36, _⟩ => ⟨S512x512, .i32⟩
  | .hbm, ⟨37, _⟩ => ⟨S512x512, .i32⟩
  | .hbm, ⟨38, _⟩ => ⟨S8x1x1, .f32⟩
  | .hbm, ⟨39, _⟩ => ⟨S8x1x1, .f32⟩
  | .hbm, ⟨40, _⟩ => ⟨S_, .i32⟩
  | .hbm, ⟨41, _⟩ => ⟨S512x512, .i32⟩
  | .hbm, ⟨42, _⟩ => ⟨S512x512, .i32⟩
  | .hbm, ⟨43, _⟩ => ⟨S512x512, .f32⟩
  | .hbm, ⟨44, _⟩ => ⟨S1x512x512, .f32⟩
  | .hbm, ⟨45, _⟩ => ⟨S8x512x512, .f32⟩
  | .hbm, ⟨46, _⟩ => ⟨S8x512x512, .f32⟩
  | .hbm, ⟨47, _⟩ => ⟨S8x512x512, .f32⟩
  | .hbm, ⟨48, _⟩ => ⟨S_, .i32⟩
  | .hbm, ⟨49, _⟩ => ⟨S512x512, .i32⟩
  | .hbm, ⟨50, _⟩ => ⟨S512x512, .i1⟩
  | .hbm, ⟨51, _⟩ => ⟨S1x8x512x512, .f32⟩
  | .hbm, ⟨52, _⟩ => ⟨S32x8x512x512, .f32⟩
  | .hbm, ⟨53, _⟩ => ⟨S32x8x512x512, .f32⟩
  | .hbm, ⟨54, _⟩ => ⟨S_, .f32⟩
  | .hbm, ⟨55, _⟩ => ⟨S_, .f32⟩
  | .hbm, ⟨56, _⟩ => ⟨S32x8x512x512, .i1⟩
  | .hbm, ⟨57, _⟩ => ⟨S32x8x512x512, .f32⟩
  | .hbm, ⟨58, _⟩ => ⟨S32x8x512x512, .f32⟩
  | .hbm, ⟨59, _⟩ => ⟨S_, .f32⟩
  | .hbm, ⟨60, _⟩ => ⟨S32x8x512, .f32⟩
  | .hbm, ⟨61, _⟩ => ⟨S32x8x512x1, .f32⟩
  | .hbm, ⟨62, _⟩ => ⟨S32x8x512x512, .f32⟩
  | .hbm, ⟨63, _⟩ => ⟨S32x8x512x512, .f32⟩
  | .hbm, ⟨64, _⟩ => ⟨S32x8x512x512, .f32⟩
  | .hbm, ⟨65, _⟩ => ⟨S_, .f32⟩
  | .hbm, ⟨66, _⟩ => ⟨S32x8x512, .f32⟩
  | .hbm, ⟨67, _⟩ => ⟨S32x8x512x1, .f32⟩
  | .hbm, ⟨68, _⟩ => ⟨S32x8x512x128, .f32⟩
  | .hbm, ⟨69, _⟩ => ⟨S32x8x512x128, .f32⟩
  | .hbm, ⟨70, _⟩ => ⟨S32x8x512x128, .f32⟩
  | .hbm, ⟨71, _⟩ => ⟨S32x8x512x1, .f32⟩
  | .hbm, ⟨72, _⟩ => ⟨S32x8x512x1, .f32⟩
  | .hbm, ⟨73, _⟩ => ⟨S32x8x512x128, .f32⟩
  | .hbm, ⟨74, _⟩ => ⟨S32x8x512x128, .bf16⟩
  | .hbm, ⟨75, _⟩ => ⟨S32x512x8x128, .bf16⟩
  | .hbm, ⟨76, _⟩ => ⟨S32x512x1024, .bf16⟩
  | .hbm, ⟨77, _⟩ => ⟨S32x512x8x128, .f32⟩
  | .hbm, ⟨78, _⟩ => ⟨S32x512x1024, .f32⟩
  | _, _ => ⟨S32x512x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_cst_0 : Ref sig .tc := ⟨.hbm, 8, rfl⟩
abbrev main_cst_1 : Ref sig .tc := ⟨.hbm, 9, rfl⟩
abbrev main_cst_2 : Ref sig .tc := ⟨.hbm, 10, rfl⟩
abbrev main_cst_3 : Ref sig .tc := ⟨.hbm, 11, rfl⟩
abbrev main_cst_4 : Ref sig .tc := ⟨.hbm, 12, rfl⟩
abbrev main_cst_5 : Ref sig .tc := ⟨.hbm, 13, rfl⟩
abbrev main_cst_6 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_7 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_8 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_9 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_11 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]
-- ==== KernelInNatural.lean ====
abbrev S16384x4096 : Shape := ⟨2, ![16384, 4096]⟩
abbrev S4096x20480 : Shape := ⟨2, ![4096, 20480]⟩
abbrev S6 : Shape := ⟨1, ![6]⟩
abbrev S16384x6144 : Shape := ⟨2, ![16384, 6144]⟩
abbrev S1024x4096 : Shape := ⟨2, ![1024, 4096]⟩
abbrev S4096x1024 : Shape := ⟨2, ![4096, 1024]⟩
abbrev S1 : Shape := ⟨1, ![1]⟩
abbrev S1024x1024 : Shape := ⟨2, ![1024, 1024]⟩

abbrev nBuf : Space → Nat
  | .hbm => 4
  | .vmem => 6
  | .smem => 1
  | _ => 0

abbrev bufTy : (tb : Table) → Fin (tcTables nBuf tb) → BufTy
  | .hbm, ⟨0, _⟩ => ⟨S16384x4096, .bf16⟩
  | .hbm, ⟨1, _⟩ => ⟨S4096x20480, .f32⟩
  | .hbm, ⟨2, _⟩ => ⟨S4096x20480, .bf16⟩
  | .hbm, ⟨3, _⟩ => ⟨S16384x6144, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .smem, ⟨0, _⟩ => ⟨S6, .i32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 6], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S6.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S6) ![v0.toNat] S1.size (k0_off1_inb i)) numel1_S1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KernelInNaturalIdeal.lean ====
abbrev S16384x4096 : Shape := ⟨2, ![16384, 4096]⟩
abbrev S4096x20480 : Shape := ⟨2, ![4096, 20480]⟩
abbrev S6 : Shape := ⟨1, ![6]⟩
abbrev S16384x6144 : Shape := ⟨2, ![16384, 6144]⟩
abbrev S1024x4096 : Shape := ⟨2, ![1024, 4096]⟩
abbrev S4096x1024 : Shape := ⟨2, ![4096, 1024]⟩
abbrev S1 : Shape := ⟨1, ![1]⟩
abbrev S1024x1024 : Shape := ⟨2, ![1024, 1024]⟩

abbrev nBuf : Space → Nat
  | .hbm => 4
  | .vmem => 6
  | .smem => 1
  | _ => 0

abbrev bufTy : (tb : Table) → Fin (tcTables nBuf tb) → BufTy
  | .hbm, ⟨0, _⟩ => ⟨S16384x4096, .bf16⟩
  | .hbm, ⟨1, _⟩ => ⟨S4096x20480, .f32⟩
  | .hbm, ⟨2, _⟩ => ⟨S4096x20480, .bf16⟩
  | .hbm, ⟨3, _⟩ => ⟨S16384x6144, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .smem, ⟨0, _⟩ => ⟨S6, .i32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 6], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S6.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S6) ![v0.toNat] S1.size (k0_off1_inb i)) numel1_S1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceInNaturalIdeal.lean ====
abbrev S16384x4096 : Shape := ⟨2, ![16384, 4096]⟩
abbrev S4096x20480 : Shape := ⟨2, ![4096, 20480]⟩
abbrev S16384x20480 : Shape := ⟨2, ![16384, 20480]⟩
abbrev S16384x3072 : Shape := ⟨2, ![16384, 3072]⟩
abbrev S16384x1024 : Shape := ⟨2, ![16384, 1024]⟩
abbrev S16384x6144 : Shape := ⟨2, ![16384, 6144]⟩

abbrev nBuf : Space → Nat
  | .hbm => 15
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x20480, .f32⟩
  | .hbm, ⟨2, _⟩ => ⟨S16384x4096, .f32⟩
  | .hbm, ⟨3, _⟩ => ⟨S16384x20480, .f32⟩
  | .hbm, ⟨4, _⟩ => ⟨S16384x3072, .f32⟩
  | .hbm, ⟨5, _⟩ => ⟨S16384x3072, .f32⟩
  | .hbm, ⟨6, _⟩ => ⟨S16384x3072, .f32⟩
  | .hbm, ⟨7, _⟩ => ⟨S16384x3072, .f32⟩
  | .hbm, ⟨8, _⟩ => ⟨S16384x4096, .f32⟩
  | .hbm, ⟨9, _⟩ => ⟨S16384x4096, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x6144, .f32⟩
  | .hbm, ⟨14, _⟩ => ⟨S16384x6144, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== KernelInGates.lean ====
abbrev S16384x4096 : Shape := ⟨2, ![16384, 4096]⟩
abbrev S4096x20480 : Shape := ⟨2, ![4096, 20480]⟩
abbrev S8 : Shape := ⟨1, ![8]⟩
abbrev S16384x8192 : Shape := ⟨2, ![16384, 8192]⟩
abbrev S1024x4096 : Shape := ⟨2, ![1024, 4096]⟩
abbrev S4096x1024 : Shape := ⟨2, ![4096, 1024]⟩
abbrev S1 : Shape := ⟨1, ![1]⟩
abbrev S1024x1024 : Shape := ⟨2, ![1024, 1024]⟩

abbrev nBuf : Space → Nat
  | .hbm => 4
  | .vmem => 6
  | .smem => 1
  | _ => 0

abbrev bufTy : (tb : Table) → Fin (tcTables nBuf tb) → BufTy
  | .hbm, ⟨0, _⟩ => ⟨S16384x4096, .bf16⟩
  | .hbm, ⟨1, _⟩ => ⟨S4096x20480, .f32⟩
  | .hbm, ⟨2, _⟩ => ⟨S4096x20480, .bf16⟩
  | .hbm, ⟨3, _⟩ => ⟨S16384x8192, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .smem, ⟨0, _⟩ => ⟨S8, .i32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S8.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S8) ![v0.toNat] S1.size (k0_off1_inb i)) numel1_S1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KernelInGatesIdeal.lean ====
abbrev S16384x4096 : Shape := ⟨2, ![16384, 4096]⟩
abbrev S4096x20480 : Shape := ⟨2, ![4096, 20480]⟩
abbrev S8 : Shape := ⟨1, ![8]⟩
abbrev S16384x8192 : Shape := ⟨2, ![16384, 8192]⟩
abbrev S1024x4096 : Shape := ⟨2, ![1024, 4096]⟩
abbrev S4096x1024 : Shape := ⟨2, ![4096, 1024]⟩
abbrev S1 : Shape := ⟨1, ![1]⟩
abbrev S1024x1024 : Shape := ⟨2, ![1024, 1024]⟩

abbrev nBuf : Space → Nat
  | .hbm => 4
  | .vmem => 6
  | .smem => 1
  | _ => 0

abbrev bufTy : (tb : Table) → Fin (tcTables nBuf tb) → BufTy
  | .hbm, ⟨0, _⟩ => ⟨S16384x4096, .bf16⟩
  | .hbm, ⟨1, _⟩ => ⟨S4096x20480, .f32⟩
  | .hbm, ⟨2, _⟩ => ⟨S4096x20480, .bf16⟩
  | .hbm, ⟨3, _⟩ => ⟨S16384x8192, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .smem, ⟨0, _⟩ => ⟨S8, .i32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S8.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S8) ![v0.toNat] S1.size (k0_off1_inb i)) numel1_S1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceInGatesIdeal.lean ====
abbrev S16384x4096 : Shape := ⟨2, ![16384, 4096]⟩
abbrev S4096x20480 : Shape := ⟨2, ![4096, 20480]⟩
abbrev S16384x20480 : Shape := ⟨2, ![16384, 20480]⟩
abbrev S16384x3072 : Shape := ⟨2, ![16384, 3072]⟩
abbrev S16384x8192 : Shape := ⟨2, ![16384, 8192]⟩

abbrev nBuf : Space → Nat
  | .hbm => 12
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x20480, .f32⟩
  | .hbm, ⟨2, _⟩ => ⟨S16384x4096, .f32⟩
  | .hbm, ⟨3, _⟩ => ⟨S16384x20480, .f32⟩
  | .hbm, ⟨4, _⟩ => ⟨S16384x3072, .f32⟩
  | .hbm, ⟨5, _⟩ => ⟨S16384x3072, .f32⟩
  | .hbm, ⟨6, _⟩ => ⟨S16384x3072, .f32⟩
  | .hbm, ⟨7, _⟩ => ⟨S16384x3072, .f32⟩
  | .hbm, ⟨8, _⟩ => ⟨S16384x4096, .f32⟩
  | .hbm, ⟨9, _⟩ => ⟨S16384x4096, .f32⟩
  | .hbm, ⟨10, _⟩ => ⟨S16384x8192, .f32⟩
  | .hbm, ⟨11, _⟩ => ⟨S16384x8192, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== KernelInFour.lean ====
abbrev S16384x4096 : Shape := ⟨2, ![16384, 4096]⟩
abbrev S4096x20480 : Shape := ⟨2, ![4096, 20480]⟩
abbrev S3 : Shape := ⟨1, ![3]⟩
abbrev S16384x3072 : Shape := ⟨2, ![16384, 3072]⟩
abbrev S1024x4096 : Shape := ⟨2, ![1024, 4096]⟩
abbrev S4096x1024 : Shape := ⟨2, ![4096, 1024]⟩
abbrev S1 : Shape := ⟨1, ![1]⟩
abbrev S1024x1024 : Shape := ⟨2, ![1024, 1024]⟩

abbrev nBuf : Space → Nat
  | .hbm => 4
  | .vmem => 6
  | .smem => 1
  | _ => 0

abbrev bufTy : (tb : Table) → Fin (tcTables nBuf tb) → BufTy
  | .hbm, ⟨0, _⟩ => ⟨S16384x4096, .bf16⟩
  | .hbm, ⟨1, _⟩ => ⟨S4096x20480, .f32⟩
  | .hbm, ⟨2, _⟩ => ⟨S4096x20480, .bf16⟩
  | .hbm, ⟨3, _⟩ => ⟨S16384x3072, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .smem, ⟨0, _⟩ => ⟨S3, .i32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 3], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S3.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S3) ![v0.toNat] S1.size (k0_off1_inb i)) numel1_S1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceInFourIdeal.lean ====
abbrev S16384x4096 : Shape := ⟨2, ![16384, 4096]⟩
abbrev S4096x20480 : Shape := ⟨2, ![4096, 20480]⟩
abbrev S16384x20480 : Shape := ⟨2, ![16384, 20480]⟩
abbrev S16384x3072 : Shape := ⟨2, ![16384, 3072]⟩
abbrev S16384x1024 : Shape := ⟨2, ![16384, 1024]⟩

abbrev nBuf : Space → Nat
  | .hbm => 15
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x20480, .f32⟩
  | .hbm, ⟨2, _⟩ => ⟨S16384x4096, .f32⟩
  | .hbm, ⟨3, _⟩ => ⟨S16384x20480, .f32⟩
  | .hbm, ⟨4, _⟩ => ⟨S16384x3072, .f32⟩
  | .hbm, ⟨5, _⟩ => ⟨S16384x3072, .f32⟩
  | .hbm, ⟨6, _⟩ => ⟨S16384x3072, .f32⟩
  | .hbm, ⟨7, _⟩ => ⟨S16384x3072, .f32⟩
  | .hbm, ⟨8, _⟩ => ⟨S16384x4096, .f32⟩
  | .hbm, ⟨9, _⟩ => ⟨S16384x4096, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x3072, .f32⟩
  | .hbm, ⟨14, _⟩ => ⟨S16384x3072, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== KernelInSixteen.lean ====
abbrev S16384x4096 : Shape := ⟨2, ![16384, 4096]⟩
abbrev S4096x20480 : Shape := ⟨2, ![4096, 20480]⟩
abbrev S3 : Shape := ⟨1, ![3]⟩
abbrev S16384x3072 : Shape := ⟨2, ![16384, 3072]⟩
abbrev S1024x4096 : Shape := ⟨2, ![1024, 4096]⟩
abbrev S4096x1024 : Shape := ⟨2, ![4096, 1024]⟩
abbrev S1 : Shape := ⟨1, ![1]⟩
abbrev S1024x1024 : Shape := ⟨2, ![1024, 1024]⟩

abbrev nBuf : Space → Nat
  | .hbm => 4
  | .vmem => 6
  | .smem => 1
  | _ => 0

abbrev bufTy : (tb : Table) → Fin (tcTables nBuf tb) → BufTy
  | .hbm, ⟨0, _⟩ => ⟨S16384x4096, .bf16⟩
  | .hbm, ⟨1, _⟩ => ⟨S4096x20480, .f32⟩
  | .hbm, ⟨2, _⟩ => ⟨S4096x20480, .bf16⟩
  | .hbm, ⟨3, _⟩ => ⟨S16384x3072, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .smem, ⟨0, _⟩ => ⟨S3, .i32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 3], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S3.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S3) ![v0.toNat] S1.size (k0_off1_inb i)) numel1_S1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceInSixteenIdeal.lean ====
abbrev S16384x4096 : Shape := ⟨2, ![16384, 4096]⟩
abbrev S4096x20480 : Shape := ⟨2, ![4096, 20480]⟩
abbrev S16384x20480 : Shape := ⟨2, ![16384, 20480]⟩
abbrev S16384x3072 : Shape := ⟨2, ![16384, 3072]⟩
abbrev S16384x1024 : Shape := ⟨2, ![16384, 1024]⟩

abbrev nBuf : Space → Nat
  | .hbm => 15
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x20480, .f32⟩
  | .hbm, ⟨2, _⟩ => ⟨S16384x4096, .f32⟩
  | .hbm, ⟨3, _⟩ => ⟨S16384x20480, .f32⟩
  | .hbm, ⟨4, _⟩ => ⟨S16384x3072, .f32⟩
  | .hbm, ⟨5, _⟩ => ⟨S16384x3072, .f32⟩
  | .hbm, ⟨6, _⟩ => ⟨S16384x3072, .f32⟩
  | .hbm, ⟨7, _⟩ => ⟨S16384x3072, .f32⟩
  | .hbm, ⟨8, _⟩ => ⟨S16384x4096, .f32⟩
  | .hbm, ⟨9, _⟩ => ⟨S16384x4096, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x3072, .f32⟩
  | .hbm, ⟨14, _⟩ => ⟨S16384x3072, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== KernelOut.lean ====
abbrev S16384x4096 : Shape := ⟨2, ![16384, 4096]⟩
abbrev S4096x4096 : Shape := ⟨2, ![4096, 4096]⟩
abbrev S4 : Shape := ⟨1, ![4]⟩
abbrev S1024x4096 : Shape := ⟨2, ![1024, 4096]⟩
abbrev S4096x1024 : Shape := ⟨2, ![4096, 1024]⟩
abbrev S1 : Shape := ⟨1, ![1]⟩
abbrev S1024x1024 : Shape := ⟨2, ![1024, 1024]⟩

abbrev nBuf : Space → Nat
  | .hbm => 4
  | .vmem => 6
  | .smem => 1
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S4096x4096, .bf16⟩
  | .hbm, ⟨3, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .smem, ⟨0, _⟩ => ⟨S4, .i32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S4) ![v0.toNat] S1.size (k0_off1_inb i)) numel1_S1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceOutIdeal.lean ====
abbrev S16384x4096 : Shape := ⟨2, ![16384, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelMerge.lean ====
abbrev S17408x1024 : Shape := ⟨2, ![17408, 1024]⟩
abbrev S16384x1024 : Shape := ⟨2, ![16384, 1024]⟩
abbrev S1024 : Shape := ⟨1, ![1024]⟩
abbrev S2x4x2048x1024 : Shape := ⟨4, ![2, 4, 2048, 1024]⟩
abbrev S2x16x512x1024 : Shape := ⟨4, ![2, 16, 512, 1024]⟩
abbrev S16384x8192 : Shape := ⟨2, ![16384, 8192]⟩
abbrev S1024x4096 : Shape := ⟨2, ![1024, 4096]⟩
abbrev S1x1024 : Shape := ⟨2, ![1, 1024]⟩
abbrev S16384x4096 : Shape := ⟨2, ![16384, 4096]⟩
abbrev S272x1024 : Shape := ⟨2, ![272, 1024]⟩
abbrev S256x1024 : Shape := ⟨2, ![256, 1024]⟩
abbrev S1x4x64x1024 : Shape := ⟨4, ![1, 4, 64, 1024]⟩
abbrev S1x16x16x1024 : Shape := ⟨4, ![1, 16, 16, 1024]⟩
abbrev S256x4096 : Shape := ⟨2, ![256, 4096]⟩
abbrev S8x256x128 : Shape := ⟨3, ![8, 256, 128]⟩
abbrev S128x1024 : Shape := ⟨2, ![128, 1024]⟩
abbrev S1x1x64x128 : Shape := ⟨4, ![1, 1, 64, 128]⟩
abbrev S64x128 : Shape := ⟨2, ![64, 128]⟩
abbrev S1x64x128 : Shape := ⟨3, ![1, 64, 128]⟩
abbrev S1x1x16x128 : Shape := ⟨4, ![1, 1, 16, 128]⟩
abbrev S16x128 : Shape := ⟨2, ![16, 128]⟩
abbrev S1x16x128 : Shape := ⟨3, ![1, 16, 128]⟩
abbrev S256x128 : Shape := ⟨2, ![256, 128]⟩
abbrev S1x256x128 : Shape := ⟨3, ![1, 256, 128]⟩
abbrev S1024x1024 : Shape := ⟨2, ![1024, 1024]⟩

abbrev nBuf : Space → Nat
  | .hbm => 17
  | .vmem => 33
  | .smem => 0
  | _ => 0

abbrev bufTy : (tb : Table) → Fin (tcTables nBuf tb) → BufTy
  | .hbm, ⟨0, _⟩ => ⟨S17408x1024, .f32⟩
  | .hbm, ⟨1, _⟩ => ⟨S17408x1024, .f32⟩
  | .hbm, ⟨2, _⟩ => ⟨S16384x1024, .f32⟩
  | .hbm, ⟨3, _⟩ => ⟨S1024, .f32⟩
  | .hbm, ⟨4, _⟩ => ⟨S16384x1024, .bf16⟩
  | .hbm, ⟨5, _⟩ => ⟨S16384x1024, .f32⟩
  | .hbm, ⟨6, _⟩ => ⟨S2x4x2048x1024, .bf16⟩
  | .hbm, ⟨7, _⟩ => ⟨S2x4x2048x1024, .f32⟩
  | .hbm, ⟨8, _⟩ => ⟨S2x16x512x1024, .bf16⟩
  | .hbm, ⟨9, _⟩ => ⟨S2x16x512x1024, .f32⟩
  | .hbm, ⟨10, _⟩ => ⟨S16384x8192, .bf16⟩
  | .hbm, ⟨11, _⟩ => ⟨S1024x4096, .f32⟩
  | .hbm, ⟨12, _⟩ => ⟨S1024x4096, .f32⟩
  | .hbm, ⟨13, _⟩ => ⟨S1x1024, .f32⟩
  | .hbm, ⟨14, _⟩ => ⟨S1024x4096, .bf16⟩
  | .hbm, ⟨15, _⟩ => ⟨S1024x4096, .bf16⟩
  | .hbm, ⟨16, _⟩ => ⟨S16384x4096, .bf16⟩
  | .local _ .vmem, ⟨0, _⟩ => ⟨S272x1024, .f32⟩
  | .local _ .vmem, ⟨1, _⟩ => ⟨S272x1024, .f32⟩
  | .local _ .vmem, ⟨2, _⟩ => ⟨S272x1024, .f32⟩
  | .local _ .vmem, ⟨3, _⟩ => ⟨S272x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .bf16⟩
  | .local _ .vmem, ⟨8, _⟩ => ⟨S256x1024, .bf16⟩
  | .local _ .vmem, ⟨9, _⟩ => ⟨S256x1024, .f32⟩
  | .local _ .vmem, ⟨10, _⟩ => ⟨S256x1024, .f32⟩
  | .local _ .vmem, ⟨11, _⟩ => ⟨S1x4x64x1024, .bf16⟩
  | .local _ .vmem, ⟨12, _⟩ => ⟨S1x4x64x1024, .bf16⟩
  | .local _ .vmem, ⟨13, _⟩ => ⟨S1x4x64x1024, .f32⟩
  | .local _ .vmem, ⟨14, _⟩ => ⟨S1x4x64x1024, .f32⟩
  | .local _ .vmem, ⟨15, _⟩ => ⟨S1x16x16x1024, .bf16⟩
  | .local _ .vmem, ⟨16, _⟩ => ⟨S1x16x16x1024, .bf16⟩
  | .local _ .vmem, ⟨17, _⟩ => ⟨S1x16x16x1024, .f32⟩
  | .local _ .vmem, ⟨18, _⟩ => ⟨S1x16x16x1024, .f32⟩
  | .local _ .vmem, ⟨19, _⟩ => ⟨S256x4096, .bf16⟩
  | .local _ .vmem, ⟨20, _⟩ => ⟨S256x4096, .bf16⟩
  | .local _ .vmem, ⟨21, _⟩ => ⟨S256x4096, .bf16⟩
  | .local _ .vmem, ⟨22, _⟩ => ⟨S256x4096, .bf16⟩
  | .local _ .vmem, ⟨23, _⟩ => ⟨S1024x4096, .bf16⟩
  | .local _ .vmem, ⟨24, _⟩ => ⟨S1024x4096, .bf16⟩
  | .local _ .vmem, ⟨25, _⟩ => ⟨S256x4096, .bf16⟩
  | .local _ .vmem, ⟨26, _⟩ => ⟨S256x4096, .bf16⟩
  | .local _ .vmem, ⟨27, _⟩ => ⟨S256x1024, .bf16⟩
  | .local _ .vmem, ⟨28, _⟩ => ⟨S256x1024, .bf16⟩
  | .local _ .vmem, ⟨29, _⟩ => ⟨S8x256x128, .f32⟩
  | .local _ .vmem, ⟨30, _⟩ => ⟨S8x256x128, .f32⟩
  | .local _ .vmem, ⟨31, _⟩ => ⟨S8x256x128, .f32⟩
  | .local _ .vmem, ⟨32, _⟩ => ⟨S8x256x128, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg14_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem13_0 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_7 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_8 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_9 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x16x16x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x16x16x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x4096 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x4096 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x4096 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceMergeIdeal.lean ====
abbrev S17408x1024 : Shape := ⟨2, ![17408, 1024]⟩
abbrev S16384x1024 : Shape := ⟨2, ![16384, 1024]⟩
abbrev S1024 : Shape := ⟨1, ![1024]⟩
abbrev S2x4x2048x1024 : Shape := ⟨4, ![2, 4, 2048, 1024]⟩
abbrev S2x16x512x1024 : Shape := ⟨4, ![2, 16, 512, 1024]⟩
abbrev S16384x8192 : Shape := ⟨2, ![16384, 8192]⟩
abbrev S1024x4096 : Shape := ⟨2, ![1024, 4096]⟩
abbrev S128x136x1024 : Shape := ⟨3, ![128, 136, 1024]⟩
abbrev S128x128x1024 : Shape := ⟨3, ![128, 128, 1024]⟩
abbrev S1x1024 : Shape := ⟨2, ![1, 1024]⟩
abbrev S2x2048x4x1024 : Shape := ⟨4, ![2, 2048, 4, 1024]⟩
abbrev S2x512x16x1024 : Shape := ⟨4, ![2, 512, 16, 1024]⟩
abbrev S1x16384x1024 : Shape := ⟨3, ![1, 16384, 1024]⟩
abbrev S3x16384x1024 : Shape := ⟨3, ![3, 16384, 1024]⟩
abbrev S_ : Shape := ⟨0, ![]⟩
abbrev S16384x4096 : Shape := ⟨2, ![16384, 4096]⟩

abbrev nBuf : Space → Nat
  | .hbm => 78
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S17408x1024, .f32⟩
  | .hbm, ⟨2, _⟩ => ⟨S16384x1024, .f32⟩
  | .hbm, ⟨3, _⟩ => ⟨S1024, .f32⟩
  | .hbm, ⟨4, _⟩ => ⟨S16384x1024, .bf16⟩
  | .hbm, ⟨5, _⟩ => ⟨S16384x1024, .f32⟩
  | .hbm, ⟨6, _⟩ => ⟨S2x4x2048x1024, .bf16⟩
  | .hbm, ⟨7, _⟩ => ⟨S2x4x2048x1024, .f32⟩
  | .hbm, ⟨8, _⟩ => ⟨S2x16x512x1024, .bf16⟩
  | .hbm, ⟨9, _⟩ => ⟨S2x16x512x1024, .f32⟩
  | .hbm, ⟨10, _⟩ => ⟨S16384x8192, .bf16⟩
  | .hbm, ⟨11, _⟩ => ⟨S1024x4096, .f32⟩
  | .hbm, ⟨12, _⟩ => ⟨S1024x4096, .f32⟩
  | .hbm, ⟨13, _⟩ => ⟨S128x136x1024, .f32⟩
  | .hbm, ⟨14, _⟩ => ⟨S128x128x1024, .f32⟩
  | .hbm, ⟨15, _⟩ => ⟨S16384x1024, .f32⟩
  | .hbm, ⟨16, _⟩ => ⟨S128x136x1024, .f32⟩
  | .hbm, ⟨17, _⟩ => ⟨S128x128x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S2x2048x4x1024, .f32⟩
  | .hbm, ⟨25, _⟩ => ⟨S16384x1024, .f32⟩
  | .hbm, ⟨26, _⟩ => ⟨S2x512x16x1024, .f32⟩
  | .hbm, ⟨27, _⟩ => ⟨S16384x1024, .f32⟩
  | .hbm, ⟨28, _⟩ => ⟨S1x16384x1024, .f32⟩
  | .hbm, ⟨29, _⟩ => ⟨S1x16384x1024, .f32⟩
  | .hbm, ⟨30, _⟩ => ⟨S1x16384x1024, .f32⟩
  | .hbm, ⟨31, _⟩ => ⟨S3x16384x1024, .f32⟩
  | .hbm, ⟨32, _⟩ => ⟨S_, .f32⟩
  | .hbm, ⟨33, _⟩ => ⟨S16384x1024, .f32⟩
  | .hbm, ⟨34, _⟩ => ⟨S1x16384x1024, .f32⟩
  | .hbm, ⟨35, _⟩ => ⟨S3x16384x1024, .f32⟩
  | .hbm, ⟨36, _⟩ => ⟨S3x16384x1024, .f32⟩
  | .hbm, ⟨37, _⟩ => ⟨S3x16384x1024, .f32⟩
  | .hbm, ⟨38, _⟩ => ⟨S2x2048x4x1024, .bf16⟩
  | .hbm, ⟨39, _⟩ => ⟨S16384x1024, .bf16⟩
  | .hbm, ⟨40, _⟩ => ⟨S2x512x16x1024, .bf16⟩
  | .hbm, ⟨41, _⟩ => ⟨S16384x1024, .bf16⟩
  | .hbm, ⟨42, _⟩ => ⟨S1x16384x1024, .bf16⟩
  | .hbm, ⟨43, _⟩ => ⟨S1x16384x1024, .bf16⟩
  | .hbm, ⟨44, _⟩ => ⟨S1x16384x1024, .bf16⟩
  | .hbm, ⟨45, _⟩ => ⟨S3x16384x1024, .bf16⟩
  | .hbm, ⟨46, _⟩ => ⟨S3x16384x1024, .f32⟩
  | .hbm, ⟨47, _⟩ => ⟨S3x16384x1024, .f32⟩
  | .hbm, ⟨48, _⟩ => ⟨S_, .f32⟩
  | .hbm, ⟨49, _⟩ => ⟨S16384x1024, .f32⟩
  | .hbm, ⟨50, _⟩ => ⟨S_, .f32⟩
  | .hbm, ⟨51, _⟩ => ⟨S16384x1024, .f32⟩
  | .hbm, ⟨52, _⟩ => ⟨S16384x1024, .f32⟩
  | .hbm, ⟨53, _⟩ => ⟨S16384x8192, .f32⟩
  | .hbm, ⟨54, _⟩ => ⟨S16384x4096, .f32⟩
  | .hbm, ⟨55, _⟩ => ⟨S16384x4096, .f32⟩
  | .hbm, ⟨56, _⟩ => ⟨S16384x4096, .f32⟩
  | .hbm, ⟨57, _⟩ => ⟨S16384x4096, .f32⟩
  | .hbm, ⟨58, _⟩ => ⟨S_, .f32⟩
  | .hbm, ⟨59, _⟩ => ⟨S16384x4096, .f32⟩
  | .hbm, ⟨60, _⟩ => ⟨S16384x4096, .f32⟩
  | .hbm, ⟨61, _⟩ => ⟨S_, .f32⟩
  | .hbm, ⟨62, _⟩ => ⟨S16384x4096, .f32⟩
  | .hbm, ⟨63, _⟩ => ⟨S16384x4096, .f32⟩
  | .hbm, ⟨64, _⟩ => ⟨S16384x4096, .f32⟩
  | .hbm, ⟨65, _⟩ => ⟨S16384x4096, .f32⟩
  | .hbm, ⟨66, _⟩ => ⟨S16384x4096, .f32⟩
  | .hbm, ⟨67, _⟩ => ⟨S16384x4096, .f32⟩
  | .hbm, ⟨68, _⟩ => ⟨S_, .f32⟩
  | .hbm, ⟨69, _⟩ => ⟨S16384x4096, .f32⟩
  | .hbm, ⟨70, _⟩ => ⟨S16384x4096, .f32⟩
  | .hbm, ⟨71, _⟩ => ⟨S_, .f32⟩
  | .hbm, ⟨72, _⟩ => ⟨S16384x4096, .f32⟩
  | .hbm, ⟨73, _⟩ => ⟨S16384x4096, .f32⟩
  | .hbm, ⟨74, _⟩ => ⟨S16384x4096, .f32⟩
  | .hbm, ⟨75, _⟩ => ⟨S16384x4096, .f32⟩
  | .hbm, ⟨76, _⟩ => ⟨S16384x4096, .f32⟩
  | .hbm, ⟨77, _⟩ => ⟨S16384x4096, .bf16⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_0 : Ref sig .tc := ⟨.hbm, 48, rfl⟩
abbrev main_v34 : Ref sig .tc := ⟨.hbm, 49, rfl⟩
abbrev main_cst_1 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_2 : Ref sig .tc := ⟨.hbm, 58, rfl⟩
abbrev main_v42 : Ref sig .tc := ⟨.hbm, 59, rfl⟩
abbrev main_v43 : Ref sig .tc := ⟨.hbm, 60, rfl⟩
abbrev main_cst_3 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_4 : Ref sig .tc := ⟨.hbm, 68, rfl⟩
abbrev main_v50 : Ref sig .tc := ⟨.hbm, 69, rfl⟩
abbrev main_v51 : Ref sig .tc := ⟨.hbm, 70, rfl⟩
abbrev main_cst_5 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]
-- ==== KernelModulate.lean ====
abbrev S2x4096 : Shape := ⟨2, ![2, 4096]⟩
abbrev S4096x24576 : Shape := ⟨2, ![4096, 24576]⟩
abbrev S24576 : Shape := ⟨1, ![24576]⟩
abbrev S_ : Shape := ⟨0, ![]⟩
abbrev S8x4096 : Shape := ⟨2, ![8, 4096]⟩
abbrev S1 : Shape := ⟨1, ![1]⟩
abbrev S1x24576 : Shape := ⟨2, ![1, 24576]⟩
abbrev S8x24576 : Shape := ⟨2, ![8, 24576]⟩
abbrev S4096x512 : Shape := ⟨2, ![4096, 512]⟩
abbrev S1x512 : Shape := ⟨2, ![1, 512]⟩
abbrev S8x512 : Shape := ⟨2, ![8, 512]⟩
abbrev S2x24576 : Shape := ⟨2, ![2, 24576]⟩

abbrev nBuf : Space → Nat
  | .hbm => 11
  | .vmem => 7
  | .smem => 0
  | _ => 0

abbrev bufTy : (tb : Table) → Fin (tcTables nBuf tb) → BufTy
  | .hbm, ⟨0, _⟩ => ⟨S2x4096, .f32⟩
  | .hbm, ⟨1, _⟩ => ⟨S4096x24576, .f32⟩
  | .hbm, ⟨2, _⟩ => ⟨S24576, .f32⟩
  | .hbm, ⟨3, _⟩ => ⟨S_, .f32⟩
  | .hbm, ⟨4, _⟩ => ⟨S8x4096, .f32⟩
  | .hbm, ⟨5, _⟩ => ⟨S_, .i32⟩
  | .hbm, ⟨6, _⟩ => ⟨S1, .i32⟩
  | .hbm, ⟨7, _⟩ => ⟨S8x4096, .f32⟩
  | .hbm, ⟨8, _⟩ => ⟨S1x24576, .f32⟩
  | .hbm, ⟨9, _⟩ => ⟨S8x24576, .f32⟩
  | .hbm, ⟨10, _⟩ => ⟨S2x24576, .f32⟩
  | .local _ .vmem, ⟨0, _⟩ => ⟨S8x4096, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | _, _ => ⟨S2x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceModulateIdeal.lean ====
abbrev S2x4096 : Shape := ⟨2, ![2, 4096]⟩
abbrev S4096x24576 : Shape := ⟨2, ![4096, 24576]⟩
abbrev S24576 : Shape := ⟨1, ![24576]⟩
abbrev S_ : Shape := ⟨0, ![]⟩
abbrev S2x24576 : Shape := ⟨2, ![2, 24576]⟩
abbrev S1x24576 : Shape := ⟨2, ![1, 24576]⟩

abbrev nBuf : Space → Nat
  | .hbm => 16
  | .vmem => 0
  | .smem => 0
  | _ => 0

abbrev bufTy : (tb : Table) → Fin (tcTables nBuf tb) → BufTy
  | .hbm, ⟨0, _⟩ => ⟨S2x4096, .f32⟩
  | .hbm, ⟨1, _⟩ => ⟨S4096x24576, .f32⟩
  | .hbm, ⟨2, _⟩ => ⟨S24576, .f32⟩
  | .hbm, ⟨3, _⟩ => ⟨S2x4096, .f32⟩
  | .hbm, ⟨4, _⟩ => ⟨S2x4096, .f32⟩
  | .hbm, ⟨5, _⟩ => ⟨S_, .f32⟩
  | .hbm, ⟨6, _⟩ => ⟨S2x4096, .f32⟩
  | .hbm, ⟨7, _⟩ => ⟨S2x4096, .f32⟩
  | .hbm, ⟨8, _⟩ => ⟨S_, .f32⟩
  | .hbm, ⟨9, _⟩ => ⟨S2x4096, .f32⟩
  | .hbm, ⟨10, _⟩ => ⟨S2x4096, .f32⟩
  | .hbm, ⟨11, _⟩ => ⟨S2x4096, .f32⟩
  | .hbm, ⟨12, _⟩ => ⟨S2x24576, .f32⟩
  | .hbm, ⟨13, _⟩ => ⟨S1x24576, .f32⟩
  | .hbm, ⟨14, _⟩ => ⟨S2x24576, .f32⟩
  | .hbm, ⟨15, _⟩ => ⟨S2x24576, .f32⟩
  | _, _ => ⟨S2x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== KernelShort.lean ====
abbrev S2x8192x6144 : Shape := ⟨3, ![2, 8192, 6144]⟩
abbrev S3x3072 : Shape := ⟨2, ![3, 3072]⟩
abbrev S3072 : Shape := ⟨1, ![3072]⟩
abbrev S1x3072 : Shape := ⟨2, ![1, 3072]⟩
abbrev S2x8704x1024 : Shape := ⟨3, ![2, 8704, 1024]⟩
abbrev S2x8192x1024 : Shape := ⟨3, ![2, 8192, 1024]⟩
abbrev S1x512x3072 : Shape := ⟨3, ![1, 512, 3072]⟩
abbrev S1x16x3072 : Shape := ⟨3, ![1, 16, 3072]⟩
abbrev S1x544x1024 : Shape := ⟨3, ![1, 544, 1024]⟩
abbrev S1x512x1024 : Shape := ⟨3, ![1, 512, 1024]⟩
abbrev S512x3072 : Shape := ⟨2, ![512, 3072]⟩
abbrev S16x3072 : Shape := ⟨2, ![16, 3072]⟩
abbrev S512x1024 : Shape := ⟨2, ![512, 1024]⟩
abbrev S8x1024 : Shape := ⟨2, ![8, 1024]⟩
abbrev S128x1024 : Shape := ⟨2, ![128, 1024]⟩
abbrev S1x128x1024 : Shape := ⟨3, ![1, 128, 1024]⟩
abbrev S1x8x1024 : Shape := ⟨3, ![1, 8, 1024]⟩

abbrev nBuf : Space → Nat
  | .hbm => 6
  | .vmem => 12
  | .smem => 0
  | _ => 0

abbrev bufTy : (tb : Table) → Fin (tcTables nBuf tb) → BufTy
  | .hbm, ⟨0, _⟩ => ⟨S2x8192x6144, .bf16⟩
  | .hbm, ⟨1, _⟩ => ⟨S3x3072, .f32⟩
  | .hbm, ⟨2, _⟩ => ⟨S3072, .f32⟩
  | .hbm, ⟨3, _⟩ => ⟨S1x3072, .f32⟩
  | .hbm, ⟨4, _⟩ => ⟨S2x8704x1024, .f32⟩
  | .hbm, ⟨5, _⟩ => ⟨S2x8192x1024, .f32⟩
  | .local _ .vmem, ⟨0, _⟩ => ⟨S1x512x3072, .bf16⟩
  | .local _ .vmem, ⟨1, _⟩ => ⟨S1x512x3072, .bf16⟩
  | .local _ .vmem, ⟨2, _⟩ => ⟨S1x16x3072, .bf16⟩
  | .local _ .vmem, ⟨3, _⟩ => ⟨S1x16x3072, .bf16⟩
  | .local _ .vmem, ⟨4, _⟩ => ⟨S1x16x3072, .bf16⟩
  | .local _ .vmem, ⟨5, _⟩ => ⟨S1x16x3072, .bf16⟩
  | .local _ .vmem, ⟨6, _⟩ => ⟨S3x3072, .f32⟩
  | .local _ .vmem, ⟨7, _⟩ => ⟨S1x3072, .f32⟩
  | .local _ .vmem, ⟨8, _⟩ => ⟨S1x544x1024, .f32⟩
  | .local _ .vmem, ⟨9, _⟩ => ⟨S1x544x1024, .f32⟩
  | .local _ .vmem, ⟨10, _⟩ => ⟨S1x512x1024, .f32⟩
  | .local _ .vmem, ⟨11, _⟩ => ⟨S1x512x1024, .f32⟩
  | _, _ => ⟨S2x8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceShortIdeal.lean ====
abbrev S2x8192x6144 : Shape := ⟨3, ![2, 8192, 6144]⟩
abbrev S3x3072 : Shape := ⟨2, ![3, 3072]⟩
abbrev S3072 : Shape := ⟨1, ![3072]⟩
abbrev S2x8192x3072 : Shape := ⟨3, ![2, 8192, 3072]⟩
abbrev S_ : Shape := ⟨0, ![]⟩
abbrev S2x8194x3072 : Shape := ⟨3, ![2, 8194, 3072]⟩
abbrev S1x3072 : Shape := ⟨2, ![1, 3072]⟩
abbrev S1x1x3072 : Shape := ⟨3, ![1, 1, 3072]⟩
abbrev S2x8192x1024 : Shape := ⟨3, ![2, 8192, 1024]⟩
abbrev S2x64x128x1024 : Shape := ⟨4, ![2, 64, 128, 1024]⟩
abbrev S2x64x136x1024 : Shape := ⟨4, ![2, 64, 136, 1024]⟩
abbrev S2x8704x1024 : Shape := ⟨3, ![2, 8704, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x8192x6144, .bf16⟩
  | .hbm, ⟨1, _⟩ => ⟨S3x3072, .f32⟩
  | .hbm, ⟨2, _⟩ => ⟨S3072, .f32⟩
  | .hbm, ⟨3, _⟩ => ⟨S2x8192x3072, .bf16⟩
  | .hbm, ⟨4, _⟩ => ⟨S2x8192x3072, .f32⟩
  | .hbm, ⟨5, _⟩ => ⟨S_, .i32⟩
  | .hbm, ⟨6, _⟩ => ⟨S_, .f32⟩
  | .hbm, ⟨7, _⟩ => ⟨S2x8194x3072, .f32⟩
  | .hbm, ⟨8, _⟩ => ⟨S1x3072, .f32⟩
  | .hbm, ⟨9, _⟩ => ⟨S3072, .f32⟩
  | .hbm, ⟨10, _⟩ => ⟨S2x8192x3072, .f32⟩
  | .hbm, ⟨11, _⟩ => ⟨S1x1x3072, .f32⟩
  | .hbm, ⟨12, _⟩ => ⟨S2x8192x3072, .f32⟩
  | .hbm, ⟨13, _⟩ => ⟨S2x8192x3072, .f32⟩
  | .hbm, ⟨14, _⟩ => ⟨S1x3072, .f32⟩
  | .hbm, ⟨15, _⟩ => ⟨S3072, .f32⟩
  | .hbm, ⟨16, _⟩ => ⟨S2x8192x3072, .f32⟩
  | .hbm, ⟨17, _⟩ => ⟨S1x1x3072, .f32⟩
  | .hbm, ⟨18, _⟩ => ⟨S2x8192x3072, .f32⟩
  | .hbm, ⟨19, _⟩ => ⟨S2x8192x3072, .f32⟩
  | .hbm, ⟨20, _⟩ => ⟨S2x8192x3072, .f32⟩
  | .hbm, ⟨21, _⟩ => ⟨S1x3072, .f32⟩
  | .hbm, ⟨22, _⟩ => ⟨S3072, .f32⟩
  | .hbm, ⟨23, _⟩ => ⟨S2x8192x3072, .f32⟩
  | .hbm, ⟨24, _⟩ => ⟨S1x1x3072, .f32⟩
  | .hbm, ⟨25, _⟩ => ⟨S2x8192x3072, .f32⟩
  | .hbm, ⟨26, _⟩ => ⟨S2x8192x3072, .f32⟩
  | .hbm, ⟨27, _⟩ => ⟨S2x8192x3072, .f32⟩
  | .hbm, ⟨28, _⟩ => ⟨S1x1x3072, .f32⟩
  | .hbm, ⟨29, _⟩ => ⟨S2x8192x3072, .f32⟩
  | .hbm, ⟨30, _⟩ => ⟨S2x8192x3072, .f32⟩
  | .hbm, ⟨31, _⟩ => ⟨S2x8192x1024, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S2x64x128x1024, .f32⟩
  | .hbm, ⟨36, _⟩ => ⟨S_, .i32⟩
  | .hbm, ⟨37, _⟩ => ⟨S_, .f32⟩
  | .hbm, ⟨38, _⟩ => ⟨S2x64x136x1024, .f32⟩
  | .hbm, ⟨39, _⟩ => ⟨S2x8704x1024, .f32⟩
  | _, _ => ⟨S2x8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_c_0 : Ref sig .tc := ⟨.hbm, 36, rfl⟩
abbrev main_call1_v0 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]
-- ==== KernelFilters.lean ====
abbrev S8192x33 : Shape := ⟨2, ![8192, 33]⟩
abbrev S33x64 : Shape := ⟨2, ![33, 64]⟩
abbrev S64 : Shape := ⟨1, ![64]⟩
abbrev S64x64 : Shape := ⟨2, ![64, 64]⟩
abbrev S64x2048 : Shape := ⟨2, ![64, 2048]⟩
abbrev S1024 : Shape := ⟨1, ![1024]⟩
abbrev S_ : Shape := ⟨0, ![]⟩
abbrev S8192x128 : Shape := ⟨2, ![8192, 128]⟩
abbrev S128x64 : Shape := ⟨2, ![128, 64]⟩
abbrev S1 : Shape := ⟨1, ![1]⟩
abbrev S1x64 : Shape := ⟨2, ![1, 64]⟩
abbrev S1x1024 : Shape := ⟨2, ![1, 1024]⟩
abbrev S2x8704x1024 : Shape := ⟨3, ![2, 8704, 1024]⟩
abbrev S1024x128 : Shape := ⟨2, ![1024, 128]⟩
abbrev S2x1088x1024 : Shape := ⟨3, ![2, 1088, 1024]⟩
abbrev S1024x64 : Shape := ⟨2, ![1024, 64]⟩
abbrev S1024x2048 : Shape := ⟨2, ![1024, 2048]⟩
abbrev S1024x1 : Shape := ⟨2, ![1024, 1]⟩
abbrev S1024x1024 : Shape := ⟨2, ![1024, 1024]⟩
abbrev S8x1024 : Shape := ⟨2, ![8, 1024]⟩
abbrev S128x1024 : Shape := ⟨2, ![128, 1024]⟩
abbrev S1x128x1024 : Shape := ⟨3, ![1, 128, 1024]⟩
abbrev S1x8x1024 : Shape := ⟨3, ![1, 8, 1024]⟩

abbrev nBuf : Space → Nat
  | .hbm => 23
  | .vmem => 13
  | .smem => 0
  | _ => 0

abbrev bufTy : (tb : Table) → Fin (tcTables nBuf tb) → BufTy
  | .hbm, ⟨0, _⟩ => ⟨S8192x33, .f32⟩
  | .hbm, ⟨1, _⟩ => ⟨S33x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S64x2048, .f32⟩
  | .hbm, ⟨9, _⟩ => ⟨S1024, .f32⟩
  | .hbm, ⟨10, _⟩ => ⟨S_, .f32⟩
  | .hbm, ⟨11, _⟩ => ⟨S8192x128, .f32⟩
  | .hbm, ⟨12, _⟩ => ⟨S_, .f32⟩
  | .hbm, ⟨13, _⟩ => ⟨S128x64, .f32⟩
  | .hbm, ⟨14, _⟩ => ⟨S_, .i32⟩
  | .hbm, ⟨15, _⟩ => ⟨S1, .i32⟩
  | .hbm, ⟨16, _⟩ => ⟨S128x64, .f32⟩
  | .hbm, ⟨17, _⟩ => ⟨S1x64, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S1x1024, .f32⟩
  | .hbm, ⟨22, _⟩ => ⟨S2x8704x1024, .f32⟩
  | .local _ .vmem, ⟨0, _⟩ => ⟨S1024x128, .f32⟩
  | .local _ .vmem, ⟨1, _⟩ => ⟨S1024x128, .f32⟩
  | .local _ .vmem, ⟨2, _⟩ => ⟨S128x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S1x64, .f32⟩
  | .local _ .vmem, ⟨9, _⟩ => ⟨S64x2048, .f32⟩
  | .local _ .vmem, ⟨10, _⟩ => ⟨S1x1024, .f32⟩
  | .local _ .vmem, ⟨11, _⟩ => ⟨S2x1088x1024, .f32⟩
  | .local _ .vmem, ⟨12, _⟩ => ⟨S2x1088x1024, .f32⟩
  | _, _ => ⟨S8192x33, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2x1088x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceFiltersIdeal.lean ====
abbrev S8192x33 : Shape := ⟨2, ![8192, 33]⟩
abbrev S33x64 : Shape := ⟨2, ![33, 64]⟩
abbrev S64 : Shape := ⟨1, ![64]⟩
abbrev S64x64 : Shape := ⟨2, ![64, 64]⟩
abbrev S64x2048 : Shape := ⟨2, ![64, 2048]⟩
abbrev S1024 : Shape := ⟨1, ![1024]⟩
abbrev S8192x64 : Shape := ⟨2, ![8192, 64]⟩
abbrev S1x64 : Shape := ⟨2, ![1, 64]⟩
abbrev S8192x1 : Shape := ⟨2, ![8192, 1]⟩
abbrev S1x1024 : Shape := ⟨2, ![1, 1024]⟩
abbrev S8192x1024 : Shape := ⟨2, ![8192, 1024]⟩
abbrev S8192x2048 : Shape := ⟨2, ![8192, 2048]⟩
abbrev S8192x2x1024 : Shape := ⟨3, ![8192, 2, 1024]⟩
abbrev S8192x1x1024 : Shape := ⟨3, ![8192, 1, 1024]⟩
abbrev S2x8192x1024 : Shape := ⟨3, ![2, 8192, 1024]⟩
abbrev S2x64x128x1024 : Shape := ⟨4, ![2, 64, 128, 1024]⟩
abbrev S_ : Shape := ⟨0, ![]⟩
abbrev S2x64x136x1024 : Shape := ⟨4, ![2, 64, 136, 1024]⟩
abbrev S2x8704x1024 : Shape := ⟨3, ![2, 8704, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x33, .f32⟩
  | .hbm, ⟨1, _⟩ => ⟨S33x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S64x2048, .f32⟩
  | .hbm, ⟨9, _⟩ => ⟨S1024, .f32⟩
  | .hbm, ⟨10, _⟩ => ⟨S8192x64, .f32⟩
  | .hbm, ⟨11, _⟩ => ⟨S1x64, .f32⟩
  | .hbm, ⟨12, _⟩ => ⟨S8192x64, .f32⟩
  | .hbm, ⟨13, _⟩ => ⟨S8192x64, .f32⟩
  | .hbm, ⟨14, _⟩ => ⟨S1x64, .f32⟩
  | .hbm, ⟨15, _⟩ => ⟨S8192x64, .f32⟩
  | .hbm, ⟨16, _⟩ => ⟨S8192x64, .f32⟩
  | .hbm, ⟨17, _⟩ => ⟨S8192x64, .f32⟩
  | .hbm, ⟨18, _⟩ => ⟨S8192x64, .f32⟩
  | .hbm, ⟨19, _⟩ => ⟨S1x64, .f32⟩
  | .hbm, ⟨20, _⟩ => ⟨S8192x64, .f32⟩
  | .hbm, ⟨21, _⟩ => ⟨S8192x64, .f32⟩
  | .hbm, ⟨22, _⟩ => ⟨S1x64, .f32⟩
  | .hbm, ⟨23, _⟩ => ⟨S8192x64, .f32⟩
  | .hbm, ⟨24, _⟩ => ⟨S8192x64, .f32⟩
  | .hbm, ⟨25, _⟩ => ⟨S8192x64, .f32⟩
  | .hbm, ⟨26, _⟩ => ⟨S8192x64, .f32⟩
  | .hbm, ⟨27, _⟩ => ⟨S1x64, .f32⟩
  | .hbm, ⟨28, _⟩ => ⟨S8192x64, .f32⟩
  | .hbm, ⟨29, _⟩ => ⟨S8192x64, .f32⟩
  | .hbm, ⟨30, _⟩ => ⟨S1x64, .f32⟩
  | .hbm, ⟨31, _⟩ => ⟨S8192x64, .f32⟩
  | .hbm, ⟨32, _⟩ => ⟨S8192x64, .f32⟩
  | .hbm, ⟨33, _⟩ => ⟨S8192x64, .f32⟩
  | .hbm, ⟨34, _⟩ => ⟨S8192x1, .f32⟩
  | .hbm, ⟨35, _⟩ => ⟨S8192x1, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x2048, .f32⟩
  | .hbm, ⟨42, _⟩ => ⟨S8192x2x1024, .f32⟩
  | .hbm, ⟨43, _⟩ => ⟨S8192x1x1024, .f32⟩
  | .hbm, ⟨44, _⟩ => ⟨S8192x2x1024, .f32⟩
  | .hbm, ⟨45, _⟩ => ⟨S8192x2x1024, .f32⟩
  | .hbm, ⟨46, _⟩ => ⟨S2x8192x1024, .f32⟩
  | .hbm, ⟨47, _⟩ => ⟨S2x64x128x1024, .f32⟩
  | .hbm, ⟨48, _⟩ => ⟨S_, .i32⟩
  | .hbm, ⟨49, _⟩ => ⟨S_, .f32⟩
  | .hbm, ⟨50, _⟩ => ⟨S2x64x136x1024, .f32⟩
  | .hbm, ⟨51, _⟩ => ⟨S2x8704x1024, .f32⟩
  | _, _ => ⟨S8192x33, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c : Ref sig .tc := ⟨.hbm, 48, rfl⟩
abbrev main_call0_v0 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== KernelNorm.lean ====
abbrev S2x8192x4096 : Shape := ⟨3, ![2, 8192, 4096]⟩
abbrev S4096 : Shape := ⟨1, ![4096]⟩
abbrev S2x4096 : Shape := ⟨2, ![2, 4096]⟩
abbrev S1x4096 : Shape := ⟨2, ![1, 4096]⟩
abbrev S2x1x4096 : Shape := ⟨3, ![2, 1, 4096]⟩
abbrev S2x4x2048x4096 : Shape := ⟨4, ![2, 4, 2048, 4096]⟩
abbrev S2x16x512x4096 : Shape := ⟨4, ![2, 16, 512, 4096]⟩
abbrev S1x256x4096 : Shape := ⟨3, ![1, 256, 4096]⟩
abbrev S1x1x4096 : Shape := ⟨3, ![1, 1, 4096]⟩
abbrev S1x4x64x4096 : Shape := ⟨4, ![1, 4, 64, 4096]⟩
abbrev S1x16x16x4096 : Shape := ⟨4, ![1, 16, 16, 4096]⟩
abbrev S32x256x128 : Shape := ⟨3, ![32, 256, 128]⟩
abbrev S256x4096 : Shape := ⟨2, ![256, 4096]⟩
abbrev S256 : Shape := ⟨1, ![256]⟩
abbrev S256x1 : Shape := ⟨2, ![256, 1]⟩
abbrev S256x128 : Shape := ⟨2, ![256, 128]⟩
abbrev S1x256x128 : Shape := ⟨3, ![1, 256, 128]⟩
abbrev S1x64x128 : Shape := ⟨3, ![1, 64, 128]⟩
abbrev S64x128 : Shape := ⟨2, ![64, 128]⟩
abbrev S1x1x64x128 : Shape := ⟨4, ![1, 1, 64, 128]⟩
abbrev S1x16x128 : Shape := ⟨3, ![1, 16, 128]⟩
abbrev S16x128 : Shape := ⟨2, ![16, 128]⟩
abbrev S1x1x16x128 : Shape := ⟨4, ![1, 1, 16, 128]⟩

abbrev nBuf : Space → Nat
  | .hbm => 10
  | .vmem => 14
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S2x4096, .f32⟩
  | .hbm, ⟨3, _⟩ => ⟨S2x4096, .f32⟩
  | .hbm, ⟨4, _⟩ => ⟨S1x4096, .f32⟩
  | .hbm, ⟨5, _⟩ => ⟨S2x1x4096, .f32⟩
  | .hbm, ⟨6, _⟩ => ⟨S2x1x4096, .f32⟩
  | .hbm, ⟨7, _⟩ => ⟨S2x8192x4096, .bf16⟩
  | .hbm, ⟨8, _⟩ => ⟨S2x4x2048x4096, .bf16⟩
  | .hbm, ⟨9, _⟩ => ⟨S2x16x512x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x256x4096, .bf16⟩
  | .local _ .vmem, ⟨8, _⟩ => ⟨S1x256x4096, .bf16⟩
  | .local _ .vmem, ⟨9, _⟩ => ⟨S1x4x64x4096, .bf16⟩
  | .local _ .vmem, ⟨10, _⟩ => ⟨S1x4x64x4096, .bf16⟩
  | .local _ .vmem, ⟨11, _⟩ => ⟨S1x16x16x4096, .bf16⟩
  | .local _ .vmem, ⟨12, _⟩ => ⟨S1x16x16x4096, .bf16⟩
  | .local _ .vmem, ⟨13, _⟩ => ⟨S32x256x128, .f32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x64x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x16x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceNormIdeal.lean ====
abbrev S2x8192x4096 : Shape := ⟨3, ![2, 8192, 4096]⟩
abbrev S4096 : Shape := ⟨1, ![4096]⟩
abbrev S2x4096 : Shape := ⟨2, ![2, 4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S2x1x4096 : Shape := ⟨3, ![2, 1, 4096]⟩
abbrev S2x2048x4x4096 : Shape := ⟨4, ![2, 2048, 4, 4096]⟩
abbrev S2x4x2048x4096 : Shape := ⟨4, ![2, 4, 2048, 4096]⟩
abbrev S2x512x16x4096 : Shape := ⟨4, ![2, 512, 16, 4096]⟩
abbrev S2x16x512x4096 : Shape := ⟨4, ![2, 16, 512, 4096]⟩

abbrev nBuf : Space → Nat
  | .hbm => 34
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S2x4096, .f32⟩
  | .hbm, ⟨3, _⟩ => ⟨S2x4096, .f32⟩
  | .hbm, ⟨4, _⟩ => ⟨S2x8192x4096, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x4096, .f32⟩
  | .hbm, ⟨16, _⟩ => ⟨S2x8192x4096, .f32⟩
  | .hbm, ⟨17, _⟩ => ⟨S1x1x4096, .f32⟩
  | .hbm, ⟨18, _⟩ => ⟨S2x8192x4096, .f32⟩
  | .hbm, ⟨19, _⟩ => ⟨S2x8192x4096, .f32⟩
  | .hbm, ⟨20, _⟩ => ⟨S2x1x4096, .f32⟩
  | .hbm, ⟨21, _⟩ => ⟨S_, .f32⟩
  | .hbm, ⟨22, _⟩ => ⟨S2x1x4096, .f32⟩
  | .hbm, ⟨23, _⟩ => ⟨S2x1x4096, .f32⟩
  | .hbm, ⟨24, _⟩ => ⟨S2x8192x4096, .f32⟩
  | .hbm, ⟨25, _⟩ => ⟨S2x8192x4096, .f32⟩
  | .hbm, ⟨26, _⟩ => ⟨S2x1x4096, .f32⟩
  | .hbm, ⟨27, _⟩ => ⟨S2x8192x4096, .f32⟩
  | .hbm, ⟨28, _⟩ => ⟨S2x8192x4096, .f32⟩
  | .hbm, ⟨29, _⟩ => ⟨S2x8192x4096, .bf16⟩
  | .hbm, ⟨30, _⟩ => ⟨S2x2048x4x4096, .bf16⟩
  | .hbm, ⟨31, _⟩ => ⟨S2x4x2048x4096, .bf16⟩
  | .hbm, ⟨32, _⟩ => ⟨S2x512x16x4096, .bf16⟩
  | .hbm, ⟨33, _⟩ => ⟨S2x16x512x4096, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Proof.Words.lean ====
/- Small 32-bit words read as integers: sums, differences, products, absolute values and comparisons of words
   whose integers stay far from the ends are those of the integers. And −∞ as a word. -/
module

public import Idealize.ShloMosaic.Lib.Pointwise
public import Idealize.ShloMosaic.Lib.WordCmp

@[expose] public section

noncomputable section

namespace Cert.Words

open Idealize.ShloMosaic

/-- The integer `a` written as a word. -/
abbrev Is (x : BitVec 32) (a : ℤ) : Prop := x.toInt = a

theorem bmod_small {a : ℤ} (h : -2 ^ 30 < a ∧ a < 2 ^ 30) : Int.bmod a (2 ^ 32) = a := by
  have h' : (2 : ℤ) ^ 30 = 1073741824 := by norm_num
  rw [h'] at h
  rw [Int.bmod_def]
  norm_num
  split_ifs <;> omega

theorem is_nat {a : ℕ} (h : a < 2 ^ 30) : Is (BitVec.ofNat 32 a) a :=
  WordCmp.toInt_ofNat_of_lt (lt_trans h (by norm_num))

theorem is_add {x y : BitVec 32} {a b : ℤ} (hx : Is x a) (hy : Is y b) (h : -2 ^ 30 < a + b ∧ a + b < 2 ^ 30) :
    Is (IntOp.addi x y) (a + b) := by
  show (x + y).toInt = _
  rw [BitVec.toInt_add, hx, hy, bmod_small h]

theorem is_sub {x y : BitVec 32} {a b : ℤ} (hx : Is x a) (hy : Is y b) (h : -2 ^ 30 < a - b ∧ a - b < 2 ^ 30) :
    Is (IntOp.subi x y) (a - b) := by
  show (x - y).toInt = _
  rw [BitVec.toInt_sub, hx, hy, bmod_small h]

theorem is_mul {x y : BitVec 32} {a b : ℤ} (hx : Is x a) (hy : Is y b) (h : -2 ^ 30 < a * b ∧ a * b < 2 ^ 30) :
    Is (IntOp.muli x y) (a * b) := by
  show (x * y).toInt = _
  rw [BitVec.toInt_mul, hx, hy, bmod_small h]

theorem is_abs {x : BitVec 32} {a : ℤ} (hx : Is x a) (h : -2 ^ 30 < a ∧ a < 2 ^ 30) :
    Is (IntOp.absi x) |a| := by
  unfold IntOp.absi
  rw [BitVec.msb_eq_toInt, hx]
  by_cases ha : a < 0
  · rw [decide_eq_true ha, if_pos rfl, Is, BitVec.toInt_neg, hx, bmod_small (by constructor <;> linarith [h.1, h.2]),
      abs_of_neg ha]
  · rw [decide_eq_false ha, if_neg (by simp), abs_of_nonneg (by omega)]; exact hx

theorem ofBool_iff (p : Bool) : BitVec.ofBool p = 1#1 ↔ p = true := by cases p <;> decide

theorem sle_iff {x y : BitVec 32} {a b : ℤ} (hx : Is x a) (hy : Is y b) : IntOp.cmpi .sle x y = 1#1 ↔ a ≤ b := by
  rw [show IntOp.cmpi .sle x y = BitVec.ofBool (x.sle y) from rfl, ofBool_iff, BitVec.sle_iff_toInt_le, hx, hy]

theorem slt_iff {x y : BitVec 32} {a b : ℤ} (hx : Is x a) (hy : Is y b) : IntOp.cmpi .slt x y = 1#1 ↔ a < b := by
  rw [show IntOp.cmpi .slt x y = BitVec.ofBool (x.slt y) from rfl, ofBool_iff, BitVec.slt_iff_toInt_lt, hx, hy]

theorem sge_iff {x y : BitVec 32} {a b : ℤ} (hx : Is x a) (hy : Is y b) : IntOp.cmpi .sge x y = 1#1 ↔ b ≤ a := by
  rw [show IntOp.cmpi .sge x y = BitVec.ofBool (y.sle x) from rfl, ofBool_iff, BitVec.sle_iff_toInt_le, hx, hy]

theorem and_iff (p q : BitVec 1) : IntOp.andi p q = 1#1 ↔ p = 1#1 ∧ q = 1#1 := by
  revert p q; decide

/-- The word of −∞ is −∞. -/
theorem ofBits_bot : Ideal.ofBits .f32 0xFF800000#32 = ⊥ := by simp [Ideal.ofBits, Ideal.ieee]

end Cert.Words

end
-- ==== Proof.Window.lean ====
/- The arithmetic of one row of windowed softmax attention, free of any program: a row is a query at place
   `t` of a stream of `n` keys, and it looks at the keys at most 64 places away. The whole stream (every other
   key masked to −∞) and a band of columns around the row (column `c` of a band that begins 64 places before
   place `b`) give the same largest score, the same sum of exponentials and the same weighted sum. -/
module

public import proofs.«01_k».proof.Proof.Words

@[expose] public section

noncomputable section

namespace Cert.Window

open Idealize.ShloMosaic Cert.Words

/-- Key place `u` is at most 64 places away from query place `t`. -/
abbrev Near (t u : ℕ) : Prop := u ≤ t + 64 ∧ t ≤ u + 64

/-- Column `c` of the band beginning 64 places before `b` holds a key of the stream near the query. -/
abbrev InBand (n b t c : ℕ) : Prop := (t ≤ b + c ∧ b + c ≤ t + 128) ∧ 64 ≤ b + c ∧ b + c < n + 64

/-- A score, masked to −∞ away from the query. -/
def masked (t : ℕ) (sc : ℕ → EReal) (u : ℕ) : EReal := if Near t u then sc u else ⊥

/-- The largest score of the row. -/
def top (n t : ℕ) (sc : ℕ → EReal) : EReal := Finset.univ.fold max ⊥ fun u : Fin n => masked t sc u

/-- The row's weight on key `u`, before normalising. -/
def weight (n t : ℕ) (sc : ℕ → EReal) (u : ℕ) : EReal := Ideal.exp (masked t sc u - top n t sc)

/-- The row's sum of weights. -/
def total (n t : ℕ) (sc : ℕ → EReal) : EReal := ∑ u : Fin n, weight n t sc u

/-- The row's output in one lane, whose value at key `u` is `w u`. -/
def out (n t : ℕ) (sc w : ℕ → EReal) : EReal := Ideal.div (∑ u : Fin n, weight n t sc u * w u) (total n t sc)

/-- The logarithm of the row's softmax denominator. -/
def lse (n t : ℕ) (sc : ℕ → EReal) : EReal := top n t sc + Ideal.log (total n t sc)

/-- A masked key weighs nothing, whatever the row's largest score is. -/
theorem exp_bot_sub (x : EReal) : Ideal.exp (⊥ - x) = 0 := by
  rw [sub_eq_add_neg, EReal.bot_add]; rfl

/-- A fold of `max` from −∞ is at most `x` exactly when every member is. -/
theorem fold_max_le {ι : Type*} [Fintype ι] (f : ι → EReal) (x : EReal) :
    Finset.univ.fold max ⊥ f ≤ x ↔ ∀ i, f i ≤ x := by
  rw [Finset.fold_max_le]; simp

/-- The largest member over the band is the largest over the stream. -/
theorem fold_band {N n b t : ℕ} (sc : ℕ → EReal) (hb : b ≤ t) (hN : t + 128 < b + N) (g : Fin N → EReal)
    (hg : ∀ c : Fin N, g c = if InBand n b t c then sc (b + c - 64) else ⊥) :
    Finset.univ.fold max ⊥ g = top n t sc := by
  refine eq_of_forall_ge_iff fun x => ?_
  rw [top, fold_max_le, fold_max_le]
  constructor
  · intro h u
    unfold masked
    split_ifs with hu
    · have hc := h ⟨u + 64 - b, by omega⟩
      rw [hg, if_pos (by constructor <;> constructor <;> simp only <;> have := u.isLt <;> omega)] at hc
      simpa [show b + (u.val + 64 - b) - 64 = u.val by omega] using hc
    · exact bot_le
  · intro h c
    rw [hg]
    split_ifs with hc
    · have hu := h ⟨b + c - 64, by omega⟩
      unfold masked at hu
      rwa [if_pos (by constructor <;> simp only <;> omega)] at hu
    · exact bot_le

/-- A sum over the band of what the near keys hold is the sum over the stream. -/
theorem sum_band {N n b t : ℕ} (f : ℕ → EReal) (hb : b ≤ t) (hN : t + 128 < b + N) :
    (∑ c : Fin N, if InBand n b t c then f (b + c - 64) else 0) = ∑ u : Fin n, if Near t u then f u else 0 := by
  rw [← Finset.sum_filter, ← Finset.sum_filter]
  refine Finset.sum_bij' (fun c hc => ⟨b + c.val - 64, ?_⟩) (fun u hu => ⟨u.val + 64 - b, ?_⟩) ?_ ?_ ?_ ?_ ?_
  · have := (Finset.mem_filter.1 hc).2; omega
  · have := (Finset.mem_filter.1 hu).2; omega
  · intro c hc
    have := (Finset.mem_filter.1 hc).2
    exact Finset.mem_filter.2 ⟨Finset.mem_univ _, by constructor <;> simp only <;> omega⟩
  · intro u hu
    have := (Finset.mem_filter.1 hu).2
    have := u.isLt
    exact Finset.mem_filter.2 ⟨Finset.mem_univ _, by constructor <;> constructor <;> simp only <;> omega⟩
  · intro c hc
    have := (Finset.mem_filter.1 hc).2
    exact Fin.ext (by simp only; omega)
  · intro u hu
    have := (Finset.mem_filter.1 hu).2
    exact Fin.ext (by simp only; omega)
  · intro c hc; rfl

/-- The weights of the stream vanish away from the query. -/
theorem weight_eq (n t : ℕ) (sc : ℕ → EReal) (u : ℕ) :
    weight n t sc u = if Near t u then Ideal.exp (sc u - top n t sc) else 0 := by
  unfold weight masked
  split_ifs with h
  · rfl
  · exact exp_bot_sub _

section Band

variable {N n b t : ℕ} {sc : ℕ → EReal} (hb : b ≤ t) (hN : t + 128 < b + N) {g : Fin N → EReal}
  (hg : ∀ c : Fin N, g c = if InBand n b t c then sc (b + c - 64) else ⊥)

include hg in
/-- A column's weight, in the band. -/
theorem band_weight (c : Fin N) : Ideal.exp (g c - top n t sc)
    = if InBand n b t c then Ideal.exp (sc (b + c - 64) - top n t sc) else 0 := by
  rw [hg]
  split_ifs with h
  · rfl
  · exact exp_bot_sub _

include hb hN hg

/-- The band's sum of weights is the stream's. -/
theorem band_total : ∑ c, Ideal.exp (g c - Finset.univ.fold max ⊥ g) = total n t sc := by
  rw [fold_band sc hb hN g hg, total]
  simp only [weight_eq, band_weight hg]
  exact sum_band (fun u => Ideal.exp (sc u - top n t sc)) hb hN

/-- The band's weighted sum is the stream's. -/
theorem band_mix {w : ℕ → EReal} {v : Fin N → EReal} (hv : ∀ c : Fin N, InBand n b t c → v c = w (b + c - 64)) :
    ∑ c, Ideal.exp (g c - Finset.univ.fold max ⊥ g) * v c = ∑ u : Fin n, weight n t sc u * w u := by
  rw [fold_band sc hb hN g hg]
  simp only [weight_eq, band_weight hg, ite_mul, zero_mul]
  rw [← sum_band (fun u => Ideal.exp (sc u - top n t sc) * w u) hb hN]
  refine Finset.sum_congr rfl fun c _ => ?_
  split_ifs with h
  · rw [hv c h]
  · rfl

/-- The band's output lane is the stream's. -/
theorem band_out {w : ℕ → EReal} {v : Fin N → EReal} (hv : ∀ c : Fin N, InBand n b t c → v c = w (b + c - 64)) :
    Ideal.div (∑ c, Ideal.exp (g c - Finset.univ.fold max ⊥ g) * v c) (∑ c, Ideal.exp (g c - Finset.univ.fold max ⊥ g))
      = out n t sc w := by
  rw [band_total hb hN hg, band_mix hb hN hg hv, out]

/-- The band's log denominator is the stream's. -/
theorem band_lse : Finset.univ.fold max ⊥ g + Ideal.log (∑ c, Ideal.exp (g c - Finset.univ.fold max ⊥ g))
    = lse n t sc := by
  rw [band_total hb hN hg, fold_band sc hb hN g hg, lse]

end Band

/-- The distance between places `t` and `u` of a stream, in tokens: a place is `dil` tokens. -/
def gap (dil t u : ℕ) : EReal := (((|(u : ℤ) - t| * dil : ℤ) : ℝ) : EReal)

/-- The kernel's mask word: the difference of column and row is at most 64 either way, and the key's place is in
    the stream. -/
theorem mask_iff {n i r c : ℕ} (hn : n < 2 ^ 20) (hi : i < 2 ^ 20) (hr : r < 128) (hc : c < 256) :
    IntOp.andi (IntOp.andi
      (IntOp.cmpi .sle (IntOp.absi (IntOp.subi (IntOp.subi (BitVec.ofNat 32 c) 64#32) (BitVec.ofNat 32 r))) 64#32)
      (IntOp.cmpi .sge (IntOp.subi (IntOp.addi (IntOp.muli (BitVec.ofNat 32 i) 128#32) (BitVec.ofNat 32 c)) 64#32) 0#32))
      (IntOp.cmpi .slt (IntOp.subi (IntOp.addi (IntOp.muli (BitVec.ofNat 32 i) 128#32) (BitVec.ofNat 32 c)) 64#32)
        (BitVec.ofNat 32 n)) = 1#1 ↔ InBand n (128 * i) (128 * i + r) c := by
  norm_num at hn hi
  have hcw := is_nat (a := c) (by norm_num; omega)
  have hrw := is_nat (a := r) (by norm_num; omega)
  have hiw := is_nat (a := i) (by norm_num; omega)
  have hnw := is_nat (a := n) (by norm_num; omega)
  have h64 : Is 64#32 64 := by decide
  have h128 : Is 128#32 128 := by decide
  have h0 : Is 0#32 0 := by decide
  have ha := is_abs (is_sub (is_sub hcw h64 (by constructor <;> norm_num <;> omega)) hrw
    (by constructor <;> norm_num <;> omega)) (by constructor <;> norm_num <;> omega)
  have hp := is_sub (is_add (is_mul hiw h128 (by constructor <;> norm_num <;> omega)) hcw
    (by constructor <;> norm_num <;> omega)) h64 (by constructor <;> norm_num <;> omega)
  rw [and_iff, and_iff, sle_iff ha h64, sge_iff hp h0, slt_iff hp hnw, abs_le]
  unfold InBand
  omega

/-- The kernel's distance word, as a number. -/
theorem dist_eq {i r c dil : ℕ} (hd : dil < 2 ^ 10) (hr : r < 128) (hc : c < 256) (h : 64 ≤ 128 * i + c) :
    (((IntOp.muli (IntOp.absi (IntOp.subi (IntOp.subi (BitVec.ofNat 32 c) 64#32) (BitVec.ofNat 32 r)))
      (BitVec.ofNat 32 dil)).toInt : ℝ) : EReal) = gap dil (128 * i + r) (128 * i + c - 64) := by
  norm_num at hd
  have hcw := is_nat (a := c) (by norm_num; omega)
  have hrw := is_nat (a := r) (by norm_num; omega)
  have hdw := is_nat (a := dil) (by norm_num; omega)
  have h64 : Is 64#32 64 := by decide
  have hs := is_sub (is_sub hcw h64 (by constructor <;> norm_num <;> omega)) hrw
    (by constructor <;> norm_num <;> omega)
  have hle : |((c : ℤ) - 64) - r| ≤ 256 := abs_le.2 (by constructor <;> omega)
  have hm := is_mul (is_abs hs (by constructor <;> norm_num <;> omega)) hdw
    (by constructor <;> norm_num <;> nlinarith [abs_nonneg (((c : ℤ) - 64) - r)])
  rw [hm, gap]
  congr 4
  omega

/-- The distance word of two places of the stream, as a number. -/
theorem gap_eq {t u dil : ℕ} (hd : dil < 2 ^ 10) (ht : t < 2 ^ 14) (hu : u < 2 ^ 14) :
    (((IntOp.muli (IntOp.absi (IntOp.subi (BitVec.ofNat 32 u) (BitVec.ofNat 32 t)))
      (BitVec.ofNat 32 dil)).toInt : ℝ) : EReal) = gap dil t u := by
  norm_num at hd ht hu
  have htw := is_nat (a := t) (by norm_num; omega)
  have huw := is_nat (a := u) (by norm_num; omega)
  have hdw := is_nat (a := dil) (by norm_num; omega)
  have hle : |(u : ℤ) - t| ≤ 2 ^ 14 := abs_le.2 (by constructor <;> norm_num <;> omega)
  norm_num at hle
  have hm := is_mul (is_abs (is_sub huw htw (by constructor <;> norm_num <;> omega))
    (by constructor <;> norm_num <;> omega)) hdw
    (by constructor <;> norm_num <;> nlinarith [abs_nonneg ((u : ℤ) - t)])
  rw [hm, gap]

/-- Two places at most 64 apart, as the reference compares them. -/
theorem near_iff {t u : ℕ} (ht : t < 2 ^ 14) (hu : u < 2 ^ 14) :
    IntOp.cmpi .sle (IntOp.absi (IntOp.subi (BitVec.ofNat 32 u) (BitVec.ofNat 32 t))) 64#32 = 1#1 ↔ Near t u := by
  norm_num at ht hu
  have htw := is_nat (a := t) (by norm_num; omega)
  have huw := is_nat (a := u) (by norm_num; omega)
  have h64 : Is 64#32 64 := by decide
  rw [sle_iff (is_abs (is_sub huw htw (by constructor <;> norm_num <;> omega))
    (by constructor <;> norm_num <;> omega)) h64, abs_le]
  unfold Near
  omega

end Cert.Window

end
-- ==== Proof.Spec.lean ====
/- What one attention group computes, as a function of an array of `[streams, places, lanes]` that holds queries,
   keys and values side by side: the reading both the kernel and the reference are brought to. -/
module

public import proofs.«01_k».proof.Proof.Window

@[expose] public section

noncomputable section

namespace Cert.Spec

open Idealize.ShloMosaic Cert.Window

/-- An array of rank three read at natural numbers, zero outside. -/
def at3 {a b c : ℕ} (x : FVec Ideal ⟨3, ![a, b, c]⟩ .bf16) (i j k : ℕ) : EReal :=
  if h : i < a ∧ j < b ∧ k < c then x (ix3 ⟨i, h.1⟩ ⟨j, h.2.1⟩ ⟨k, h.2.2⟩) else 0

theorem at3_ix3 {a b c : ℕ} (x : FVec Ideal ⟨3, ![a, b, c]⟩ .bf16) (i : Fin a) (j : Fin b) (k : Fin c) :
    x (ix3 i j k) = at3 x i j k := by
  rw [at3, dif_pos ⟨i.isLt, j.isLt, k.isLt⟩]

/-- The same, at three numbers in range. -/
theorem at3_of_lt {a b c : ℕ} (x : FVec Ideal ⟨3, ![a, b, c]⟩ .bf16) {i j k : ℕ} (hi : i < a) (hj : j < b) (hk : k < c) :
    at3 x i j k = x (ix3 ⟨i, hi⟩ ⟨j, hj⟩ ⟨k, hk⟩) := by
  rw [at3, dif_pos ⟨hi, hj, hk⟩]

/-- The layout of a group: how many places a stream has, how many tokens a place is, and the first lane of the
    queries, the keys and the values. -/
structure Group where
  n : ℕ
  dil : ℕ
  qc : ℕ
  kc : ℕ
  vc : ℕ
  slope : ℕ → BitVec 32

variable (g : Group) (X : ℕ → ℕ → ℕ → EReal)

/-- The score of query place `t` against key place `u` in head `h` of stream `s`. -/
def scoreOf (s h t u : ℕ) : EReal :=
  (∑ l : Fin 128, X s t (g.qc + (128 * h + l)) * X s u (g.kc + (128 * h + l))) * Ideal.ofBits .f32 0x3DB504F3#32
    - Ideal.ofBits .f32 (g.slope h) * gap g.dil t u

/-- The group's output in lane `l`. -/
def outOf (s t l : ℕ) : EReal := out g.n t (scoreOf g X s (l / 128) t) fun u => X s u (g.vc + l)

/-- The group's log softmax denominator, in every lane of its head. -/
def lseOf (s t l : ℕ) : EReal := lse g.n t (scoreOf g X s (l / 128) t)

end Cert.Spec

end
-- ==== Proof.Head.lean ====
/- One head of the attention kernel's body: what the body computes from one head's block of 128 queries and the
   256 keys and values around it, as functions of the mask, the distances and the head's slope, and how each reads
   at an index. -/
module

public import proofs.«01_k».proof.Proof.Gen.KernelIdeal.Skeleton
public import proofs.«01_k».proof.Proof.Spec
public import Idealize.ShloMosaic.Lib.Pipeline.ValueKit

@[expose] public section

set_option maxRecDepth 16384

noncomputable section

namespace Cert.Head

open Idealize.ShloMosaic Idealize.ShloMosaic.TcCoe Idealize.SL.Sem
open Cert.KernelIdeal Cert.KernelIdeal.Gen Cert.Window Cert.Words Cert.Spec

/-- The masked scores of 128 queries against 256 keys. -/
def score (msk slope : Ideal .f32) (valid : IVec S128x256 1) (dist : FVec Ideal S128x256 .f32)
    (q : FVec Ideal S1x128x128 .bf16) (kp : FVec Ideal S1x64x128 .bf16) (k : FVec Ideal S1x128x128 .bf16)
    (kn : FVec Ideal S1x64x128 .bf16) : FVec Ideal S128x256 .f32 :=
  select valid
    (subf (mulf (matmul dot_S128x128_S256x128_S128x256_1_1_0_0_n_n none
        (shapeCast S128x128 q shapeCasts_S1x128x128_S128x128) (k0_pay8 kp k kn) (constant S128x256 .f32 0x00000000#32))
      (broadcast S128x256 (Scalar.ofBits .f32 0x3DB504F3#32)))
      (mulf (broadcast S128x256 slope) dist))
    (broadcast S128x256 msk)

/-- The largest score of each row. -/
def peak (s : FVec Ideal S128x256 .f32) : FVec Ideal S128x1 .f32 :=
  shapeCast S128x1 (multiReduction .maximumf [1] S128 s 0xFF800000#32 reduces_S128x256_S128 (.inl rfl) rfl)
    shapeCasts_S128_S128x1

/-- The weights, not yet normalised. -/
def weights (s : FVec Ideal S128x256 .f32) : FVec Ideal S128x256 .f32 :=
  exp (subf s (broadcastTo S128x256 (peak s) broadcasts_S128x1_S128x256))

/-- Each row's sum of weights. -/
def sums (s : FVec Ideal S128x256 .f32) : FVec Ideal S128x1 .f32 :=
  shapeCast S128x1 (multiReduction .add [1] S128 (weights s) 0x00000000#32 reduces_S128x256_S128 (.inl rfl) rfl)
    shapeCasts_S128_S128x1

/-- The head's output block. -/
def outBlock (s : FVec Ideal S128x256 .f32) (v : FVec Ideal S256x128 .bf16) : FVec Ideal S1x128x128 .bf16 :=
  shapeCast S1x128x128 (truncf .bf16 (divf (matmul dot_S128x256_S256x128_S128x128_1_0_0_1_n_n none
      (truncf .bf16 (weights s) bitsLt_bf16_f32) v (constant S128x128 .f32 0x00000000#32))
    (broadcastTo S128x128 (sums s) broadcasts_S128x1_S128x128)) bitsLt_bf16_f32) shapeCasts_S128x128_S1x128x128

/-- The head's block of log denominators, one per row, along all lanes. -/
def lseBlock (s : FVec Ideal S128x256 .f32) : FVec Ideal S1x128x128 .f32 :=
  shapeCast S1x128x128 (broadcastTo S128x128
    (shapeCast S128x1 (addf (peak s) (log (sums s))) shapeCasts_S128x1_S128x1) broadcasts_S128x1_S128x128)
    shapeCasts_S128x128_S1x128x128

theorem score_at (msk slope : Ideal .f32) (valid : IVec S128x256 1) (dist : FVec Ideal S128x256 .f32)
    (q : FVec Ideal S1x128x128 .bf16) (kp : FVec Ideal S1x64x128 .bf16) (k : FVec Ideal S1x128x128 .bf16)
    (kn : FVec Ideal S1x64x128 .bf16) (r : Fin 128) (c : Fin 256) :
    score msk slope valid dist q kp k kn (ix2 r c) = Scalar.select (valid (ix2 r c))
      ((∑ e : Fin 128, q (ix3 0 r e) * k0_pay8 kp k kn (ix2 c e)) * Ideal.ofBits .f32 0x3DB504F3#32
        - slope * dist (ix2 r c)) msk := by
  pointwise [score]

theorem outBlock_at (s : FVec Ideal S128x256 .f32) (v : FVec Ideal S256x128 .bf16) (r e : Fin 128) :
    outBlock s v (ix3 0 r e) = Ideal.div
      (∑ c : Fin 256, Ideal.exp (s (ix2 r c) - Finset.univ.fold max ⊥ fun c : Fin 256 => s (ix2 r c)) * v (ix2 c e))
      (∑ c : Fin 256, Ideal.exp (s (ix2 r c) - Finset.univ.fold max ⊥ fun c : Fin 256 => s (ix2 r c))) := by
  pointwise [outBlock, sums, weights, peak, ofBits_bot]

theorem lseBlock_at (s : FVec Ideal S128x256 .f32) (r e : Fin 128) :
    lseBlock s (ix3 0 r e) = (Finset.univ.fold max ⊥ fun c : Fin 256 => s (ix2 r c))
      + Ideal.log (∑ c : Fin 256, Ideal.exp (s (ix2 r c) - Finset.univ.fold max ⊥ fun c : Fin 256 => s (ix2 r c))) := by
  pointwise [lseBlock, sums, weights, peak, ofBits_bot]

theorem keys_at (kp : FVec Ideal S1x64x128 .bf16) (k : FVec Ideal S1x128x128 .bf16)
    (kn : FVec Ideal S1x64x128 .bf16) (c : Fin 256) (e : Fin 128) : k0_pay8 kp k kn (ix2 c e)
    = if h : c.val < 64 then kp (ix3 0 ⟨c.val, h⟩ e) else
      if h' : c.val - 64 < 128 then k (ix3 0 ⟨c.val - 64, h'⟩ e) else kn (ix3 0 ⟨c.val - 64 - 128, by omega⟩ e) := by
  pointwise [k0_pay8]

/-- A score of the row, for a mask that is the band's. -/
theorem score_row {n b : ℕ} {slope : Ideal .f32} {valid : IVec S128x256 1} {dist : FVec Ideal S128x256 .f32}
    (q : FVec Ideal S1x128x128 .bf16) (kp : FVec Ideal S1x64x128 .bf16) (k : FVec Ideal S1x128x128 .bf16)
    (kn : FVec Ideal S1x64x128 .bf16) (r : Fin 128) {d : ℕ → EReal} {K : ℕ → Fin 128 → EReal}
    (hm : ∀ c : Fin 256, valid (ix2 r c) = 1#1 ↔ InBand n b (b + r) c)
    (hd : ∀ c : Fin 256, InBand n b (b + r) c → dist (ix2 r c) = d (b + c - 64))
    (hk : ∀ (c : Fin 256) (l : Fin 128), InBand n b (b + r) c → k0_pay8 (F := Ideal) kp k kn (ix2 c l) = K (b + c - 64) l)
    (c : Fin 256) : score ⊥ slope valid dist q kp k kn (ix2 r c) = if InBand n b (b + r) c then
      (∑ l : Fin 128, q (ix3 0 r l) * K (b + c - 64) l) * Ideal.ofBits .f32 0x3DB504F3#32 - slope * d (b + c - 64)
      else ⊥ := by
  rw [score_at]
  by_cases h : InBand n b (b + r) c
  · rw [if_pos h, hd c h, Scalar.select, if_pos (show valid (ix2 r c) = 1 from (hm c).2 h)]
    simp only [hk c _ h]
  · rw [if_neg h, Scalar.select, if_neg (show ¬valid (ix2 r c) = 1 from fun h' => h ((hm c).1 h'))]

/-- The head's output row, for a mask that is the band's: the stream's output lane. -/
theorem head_out {n b : ℕ} {slope : Ideal .f32} {valid : IVec S128x256 1} {dist : FVec Ideal S128x256 .f32}
    (q : FVec Ideal S1x128x128 .bf16) (kp : FVec Ideal S1x64x128 .bf16) (k : FVec Ideal S1x128x128 .bf16)
    (kn vp : FVec Ideal S1x64x128 .bf16) (v : FVec Ideal S1x128x128 .bf16) (vn : FVec Ideal S1x64x128 .bf16)
    (r e : Fin 128) {d : ℕ → EReal} {K V : ℕ → Fin 128 → EReal}
    (hm : ∀ c : Fin 256, valid (ix2 r c) = 1#1 ↔ InBand n b (b + r) c)
    (hd : ∀ c : Fin 256, InBand n b (b + r) c → dist (ix2 r c) = d (b + c - 64))
    (hk : ∀ (c : Fin 256) (l : Fin 128), InBand n b (b + r) c → k0_pay8 (F := Ideal) kp k kn (ix2 c l) = K (b + c - 64) l)
    (hv : ∀ (c : Fin 256) (l : Fin 128), InBand n b (b + r) c → k0_pay8 (F := Ideal) vp v vn (ix2 c l) = V (b + c - 64) l) :
    outBlock (score ⊥ slope valid dist q kp k kn) (k0_pay8 vp v vn) (ix3 0 r e)
      = out n (b + r) (fun u => (∑ l : Fin 128, q (ix3 0 r l) * K u l) * Ideal.ofBits .f32 0x3DB504F3#32 - slope * d u)
        (fun u => V u e) := by
  rw [outBlock_at]
  exact band_out (Nat.le_add_right b r) (by have := r.isLt; omega)
    (fun c => score_row q kp k kn r hm hd hk c) (fun c hc => hv c e hc)

/-- The head's log denominator of a row. -/
theorem head_lse {n b : ℕ} {slope : Ideal .f32} {valid : IVec S128x256 1} {dist : FVec Ideal S128x256 .f32}
    (q : FVec Ideal S1x128x128 .bf16) (kp : FVec Ideal S1x64x128 .bf16) (k : FVec Ideal S1x128x128 .bf16)
    (kn : FVec Ideal S1x64x128 .bf16) (r e : Fin 128) {d : ℕ → EReal} {K : ℕ → Fin 128 → EReal}
    (hm : ∀ c : Fin 256, valid (ix2 r c) = 1#1 ↔ InBand n b (b + r) c)
    (hd : ∀ c : Fin 256, InBand n b (b + r) c → dist (ix2 r c) = d (b + c - 64))
    (hk : ∀ (c : Fin 256) (l : Fin 128), InBand n b (b + r) c → k0_pay8 (F := Ideal) kp k kn (ix2 c l) = K (b + c - 64) l) :
    lseBlock (score ⊥ slope valid dist q kp k kn) (ix3 0 r e)
      = lse n (b + r)
        (fun u => (∑ l : Fin 128, q (ix3 0 r l) * K u l) * Ideal.ofBits .f32 0x3DB504F3#32 - slope * d u) := by
  rw [lseBlock_at]
  exact band_lse (Nat.le_add_right b r) (by have := r.isLt; omega) (fun c => score_row q kp k kn r hm hd hk c)

/-- A head's lanes of a block of 128 rows, from lane `o`. -/
def lane (o : ℕ) (x : FVec Ideal S1x128x1024 .bf16) : FVec Ideal S1x128x128 .bf16 :=
  fun y => x (ix3 0 (y 1) ⟨(o + (y 2).val) % 1024, Nat.mod_lt _ (by decide)⟩)

/-- A head's lanes of a block of 64 rows, from lane `o`. -/
def lane' (o : ℕ) (x : FVec Ideal S1x64x1024 .bf16) : FVec Ideal S1x64x128 .bf16 :=
  fun y => x (ix3 0 (y 1) ⟨(o + (y 2).val) % 1024, Nat.mod_lt _ (by decide)⟩)

theorem lane_at (h : Fin 8) (x : FVec Ideal S1x128x1024 .bf16) (r l : Fin 128) :
    lane (128 * h) x (ix3 0 r l) = x (ix3 0 r ⟨128 * h + l, by omega⟩) := by
  unfold lane
  congr 2
  exact Fin.ext (Nat.mod_eq_of_lt (show 128 * h.val + l.val < 1024 by omega))

theorem lane'_at (h : Fin 8) (x : FVec Ideal S1x64x1024 .bf16) (r : Fin 64) (l : Fin 128) :
    lane' (128 * h) x (ix3 0 r l) = x (ix3 0 r ⟨128 * h + l, by omega⟩) := by
  unfold lane'
  congr 2
  exact Fin.ext (Nat.mod_eq_of_lt (show 128 * h.val + l.val < 1024 by omega))

/-- A load of a head's lanes of a staged block. -/
theorem ld_lane (x : FVec Ideal S1x128x1024 .bf16) (o : ℕ) (inb) :
    View.ld (Val := Elt Ideal) (e' := .bf16) x (Rect.unit (s := S1x128x1024) ![0, 0, o] S1x128x128.size inb) = lane o x := by
  funext y
  have h2 : o + 128 ≤ 1024 := inb 2
  have h0 : (y 0).val < 1 := (y 0).isLt
  have hy : (y 2).val < 128 := (y 2).isLt
  refine congrArg x (funext fun a => ?_)
  fin_cases a <;> apply Fin.ext
  · show 0 + 1 * (y 0).val = 0
    omega
  · show 0 + 1 * (y 1).val = (y 1).val
    omega
  · show o + 1 * (y 2).val = (o + (y 2).val) % 1024
    omega

/-- A load of a head's lanes of a staged block. -/
theorem ld_lane' (x : FVec Ideal S1x64x1024 .bf16) (o : ℕ) (inb) :
    View.ld (Val := Elt Ideal) (e' := .bf16) x (Rect.unit (s := S1x64x1024) ![0, 0, o] S1x64x128.size inb) = lane' o x := by
  funext y
  have h2 : o + 128 ≤ 1024 := inb 2
  have h0 : (y 0).val < 1 := (y 0).isLt
  have hy : (y 2).val < 128 := (y 2).isLt
  refine congrArg x (funext fun a => ?_)
  fin_cases a <;> apply Fin.ext
  · show 0 + 1 * (y 0).val = 0
    omega
  · show 0 + 1 * (y 1).val = (y 1).val
    omega
  · show o + 1 * (y 2).val = (o + (y 2).val) % 1024
    omega

/-- The block of 1024 lanes whose eight tiles of 128 lanes are `f 0` … `f 7`. -/
def tiles {α : Type} (f : ℕ → S1x128x128.Idx → α) (y : S1x128x1024.Idx) : α :=
  f ((y 2).val / 128) (ix3 0 (y 1) ⟨(y 2).val % 128, Nat.mod_lt _ (by decide)⟩)

/-- It restricts to tile `h` on the lanes from `128 h`. -/
theorem tiles_piece {α : Type} (f : ℕ → S1x128x128.Idx → α) (h : ℕ) (x : S1x128x128.Idx) (inb) :
    tiles f ((Rect.unit (s := S1x128x1024) ![0, 0, 128 * h] S1x128x128.size inb).emb x) = f h x := by
  have h0 : (x 0).val < 1 := (x 0).isLt
  have h2 : (x 2).val < 128 := (x 2).isLt
  have e2 : (((Rect.unit (s := S1x128x1024) ![0, 0, 128 * h] S1x128x128.size inb).emb x) 2).val = 128 * h + 1 * (x 2).val := rfl
  have e1 : (((Rect.unit (s := S1x128x1024) ![0, 0, 128 * h] S1x128x128.size inb).emb x) 1).val = 0 + 1 * (x 1).val := rfl
  unfold tiles
  rw [show (((Rect.unit (s := S1x128x1024) ![0, 0, 128 * h] S1x128x128.size inb).emb x) 2).val / 128 = h by rw [e2]; omega]
  refine congrArg (f h) (funext fun a => ?_)
  fin_cases a <;> apply Fin.ext
  · show 0 = (x 0).val
    omega
  · refine e1.trans ?_
    show 0 + 1 * (x 1).val = (x 1).val
    omega
  · show (((Rect.unit (s := S1x128x1024) ![0, 0, 128 * h] S1x128x128.size inb).emb x) 2).val % 128 = (x 2).val
    rw [e2]
    omega

/-- What the body stores of head `h`'s output, from the seven input blocks. -/
def outHead (slope : ℕ → BitVec 32) (valid : IVec S128x256 1) (dist : FVec Ideal S128x256 .f32)
    (x0 x1 : FVec Ideal S1x128x1024 .bf16) (x2 x3 : FVec Ideal S1x64x1024 .bf16) (x4 : FVec Ideal S1x128x1024 .bf16)
    (x5 x6 : FVec Ideal S1x64x1024 .bf16) (h : ℕ) : FVec Ideal S1x128x128 .bf16 :=
  outBlock (score ⊥ (Ideal.ofBits .f32 (slope h)) valid dist (lane (128 * h) x0) (lane' (128 * h) x2)
    (lane (128 * h) x1) (lane' (128 * h) x3)) (k0_pay8 (lane' (128 * h) x5) (lane (128 * h) x4) (lane' (128 * h) x6))

/-- What the body stores of head `h`'s log denominators. -/
def lseHead (slope : ℕ → BitVec 32) (valid : IVec S128x256 1) (dist : FVec Ideal S128x256 .f32)
    (x0 x1 : FVec Ideal S1x128x1024 .bf16) (x2 x3 : FVec Ideal S1x64x1024 .bf16) (h : ℕ) : FVec Ideal S1x128x128 .f32 :=
  lseBlock (score ⊥ (Ideal.ofBits .f32 (slope h)) valid dist (lane (128 * h) x0) (lane' (128 * h) x2)
    (lane (128 * h) x1) (lane' (128 * h) x3))

/-- The band of 256 rows stacked from a block, its 64 predecessors and its 64 successors is the stream's, wherever
    the stream has a key. -/
theorem band_rows {n i k0 s : ℕ} {X : ℕ → ℕ → ℕ → EReal} {p : FVec Ideal S1x64x1024 .bf16}
    {x : FVec Ideal S1x128x1024 .bf16} {q : FVec Ideal S1x64x1024 .bf16}
    (hx : ∀ (r : Fin 128) (l : Fin 1024), x (ix3 0 r l) = X s (128 * i + r) (k0 + l))
    (hp : 1 ≤ i → ∀ (r : Fin 64) (l : Fin 1024), p (ix3 0 r l) = X s (128 * i - 64 + r) (k0 + l))
    (hq : 128 * i + 128 < n → ∀ (r : Fin 64) (l : Fin 1024), q (ix3 0 r l) = X s (128 * i + 128 + r) (k0 + l))
    (h : Fin 8) {t : ℕ} (c : Fin 256) (l : Fin 128) (hc : InBand n (128 * i) t c) :
    k0_pay8 (F := Ideal) (lane' (128 * h) p) (lane (128 * h) x) (lane' (128 * h) q) (ix2 c l)
      = X s (128 * i + c - 64) (k0 + (128 * h + l)) := by
  obtain ⟨_, h1, h2⟩ := hc
  rw [keys_at]
  split_ifs with h3 h4
  · rw [lane'_at, hp (by omega)]
    congr 1
    simp only
    omega
  · rw [lane_at, hx]
    congr 1
    simp only
    omega
  · rw [lane'_at, hq (by omega)]
    congr 1
    simp only
    omega

section Rows

variable {g : Group} {X : ℕ → ℕ → ℕ → EReal} {i s : ℕ} {valid : IVec S128x256 1} {dist : FVec Ideal S128x256 .f32}
  {x0 x1 : FVec Ideal S1x128x1024 .bf16} {x2 x3 : FVec Ideal S1x64x1024 .bf16} {x4 : FVec Ideal S1x128x1024 .bf16}
  {x5 x6 : FVec Ideal S1x64x1024 .bf16}
  (hm : ∀ (r : Fin 128) (c : Fin 256), valid (ix2 r c) = 1#1 ↔ InBand g.n (128 * i) (128 * i + r) c)
  (hd : ∀ (r : Fin 128) (c : Fin 256), InBand g.n (128 * i) (128 * i + r) c →
    dist (ix2 r c) = gap g.dil (128 * i + r) (128 * i + c - 64))
  (h0 : ∀ (r : Fin 128) (l : Fin 1024), x0 (ix3 0 r l) = X s (128 * i + r) (g.qc + l))
  (h1 : ∀ (r : Fin 128) (l : Fin 1024), x1 (ix3 0 r l) = X s (128 * i + r) (g.kc + l))
  (h2 : 1 ≤ i → ∀ (r : Fin 64) (l : Fin 1024), x2 (ix3 0 r l) = X s (128 * i - 64 + r) (g.kc + l))
  (h3 : 128 * i + 128 < g.n → ∀ (r : Fin 64) (l : Fin 1024), x3 (ix3 0 r l) = X s (128 * i + 128 + r) (g.kc + l))
  (h4 : ∀ (r : Fin 128) (l : Fin 1024), x4 (ix3 0 r l) = X s (128 * i + r) (g.vc + l))
  (h5 : 1 ≤ i → ∀ (r : Fin 64) (l : Fin 1024), x5 (ix3 0 r l) = X s (128 * i - 64 + r) (g.vc + l))
  (h6 : 128 * i + 128 < g.n → ∀ (r : Fin 64) (l : Fin 1024), x6 (ix3 0 r l) = X s (128 * i + 128 + r) (g.vc + l))

include hm hd h0 h1 h2 h3

/-- Head `h`'s log denominator of a row is the group's. -/
theorem lseHead_at (h : Fin 8) (r e : Fin 128) :
    lseHead g.slope valid dist x0 x1 x2 x3 h (ix3 0 r e) = lseOf g X s (128 * i + r) (128 * h + e) := by
  refine (head_lse (K := fun u l => X s u (g.kc + (128 * h + l))) _ _ _ _ r e (hm r) (hd r) (fun c l hc => band_rows h1 h2 h3 h c l hc)).trans ?_
  rw [lseOf, show (128 * h.val + e.val) / 128 = h by omega]
  simp only [lane_at, h0]
  rfl

include h4 h5 h6

/-- Head `h`'s output row is the group's. -/
theorem outHead_at (h : Fin 8) (r e : Fin 128) :
    outHead g.slope valid dist x0 x1 x2 x3 x4 x5 x6 h (ix3 0 r e) = outOf g X s (128 * i + r) (128 * h + e) := by
  refine (head_out (K := fun u l => X s u (g.kc + (128 * h + l))) (V := fun u l => X s u (g.vc + (128 * h + l)))
    _ _ _ _ _ _ _ r e (hm r) (hd r) (fun c l hc => band_rows h1 h2 h3 h c l hc)
    (fun c l hc => band_rows h4 h5 h6 h c l hc)).trans ?_
  rw [outOf, show (128 * h.val + e.val) / 128 = h by omega]
  simp only [lane_at, h0]
  rfl

end Rows

end Cert.Head

end
-- ==== Proof.Natural.Kernel.lean ====
/- The undilated group's kernel: its two result arrays are the group's output and log denominator. -/
module

public import proofs.«01_k».proof.Proof.Gen.KernelIdeal.Value
public import proofs.«01_k».proof.Proof.Head

@[expose] public section

set_option maxRecDepth 16384

noncomputable section

namespace Cert.KernelIdeal.Natural

open Idealize.ShloMosaic Idealize.ShloMosaic.TcCoe Idealize.SL.Sem
open Idealize.ShloMosaic.Pipeline (Dat)
open Cert.KernelIdeal Cert.KernelIdeal.Gen Cert.Window Cert.Words Cert.Spec Cert.Head

/-- The eight heads' slopes. -/
def slope : ℕ → BitVec 32
  | 0 => 0x3F5744FD#32
  | 1 => 0x3F3504F3#32
  | 2 => 0x3F1837F0#32
  | 3 => 0x3F000000#32
  | 4 => 0x3ED744FD#32
  | 5 => 0x3EB504F3#32
  | 6 => 0x3E9837F0#32
  | _ => 0x3E800000#32

/-- The group: one place per token, its queries, keys and values at lanes 3072, 4096 and 5120. -/
def group : Group := ⟨8192, 1, 3072, 4096, 5120, slope⟩

theorem mask (i : grid0.Coords) (r : Fin 128) (c : Fin 256) :
    k0_pay5 i (ix2 r c) = 1#1 ↔ InBand 8192 (128 * (i 1).val) (128 * (i 1).val + r) c := by
  pointwise [k0_pay5, k0_pay4]
  have hi : (i 1).val < 64 := (i 1).isLt
  exact mask_iff (by norm_num) (by norm_num; omega) r.isLt c.isLt

theorem dist (i : ℕ) (r : Fin 128) (c : Fin 256) (h : InBand 8192 (128 * i) (128 * i + r) c) :
    k0_pay6 (F := Ideal) (ix2 r c) = gap 1 (128 * i + r) (128 * i + c - 64) := by
  pointwise [k0_pay6, k0_pay4]
  exact dist_eq (by norm_num) r.isLt c.isLt h.2.1

/-- What the body stores of the eight heads' outputs. -/
theorem out7 (i : grid0.Coords) (x0 x1 : FVec Ideal S1x128x1024 .bf16) (x2 x3 : FVec Ideal S1x64x1024 .bf16)
    (x4 : FVec Ideal S1x128x1024 .bf16) (x5 x6 : FVec Ideal S1x64x1024 .bf16) (y : S1x128x1024.Idx) :
    out0_7 (F := Ideal) i x0 x1 x2 x3 x4 x5 x6 y
      = tiles (outHead slope (k0_pay5 i) (k0_pay6 (F := Ideal)) x0 x1 x2 x3 x4 x5 x6) y := by
  have hm : Named.named (F := Ideal) (φ := .f32) κ "mask" 0xF149F2CA#32 = (⊥ : EReal) :=
    IdealRules.named_const.ideal_named_scalar _ _ _ _ rfl
  unfold_out out0_7
  refine View.canon_apply_of_pieces (Val := Elt Ideal) _ _ ?_ y (cover0_7 _ _ _ _ _ _ _ _ y)
  simp only [List.forall_mem_cons, ld_lane, ld_lane']
  refine ⟨fun x => Eq.trans ?_ (tiles_piece _ 7 x _).symm, fun x => Eq.trans ?_ (tiles_piece _ 6 x _).symm, fun x => Eq.trans ?_ (tiles_piece _ 5 x _).symm, fun x => Eq.trans ?_ (tiles_piece _ 4 x _).symm,
    fun x => Eq.trans ?_ (tiles_piece _ 3 x _).symm, fun x => Eq.trans ?_ (tiles_piece _ 2 x _).symm, fun x => Eq.trans ?_ (tiles_piece _ 1 x _).symm, fun x => Eq.trans ?_ (tiles_piece _ 0 x _).symm, by simp⟩ <;>
    (rw [outHead, ← hm]; rfl)

/-- What the body stores of the eight heads' log-sum-exps. -/
theorem out8 (i : grid0.Coords) (x0 x1 : FVec Ideal S1x128x1024 .bf16) (x2 x3 : FVec Ideal S1x64x1024 .bf16)
    (x4 : FVec Ideal S1x128x1024 .bf16) (x5 x6 : FVec Ideal S1x64x1024 .bf16) (y : S1x128x1024.Idx) :
    out0_8 (F := Ideal) i x0 x1 x2 x3 x4 x5 x6 y
      = tiles (lseHead slope (k0_pay5 i) (k0_pay6 (F := Ideal)) x0 x1 x2 x3) y := by
  have hm : Named.named (F := Ideal) (φ := .f32) κ "mask" 0xF149F2CA#32 = (⊥ : EReal) :=
    IdealRules.named_const.ideal_named_scalar _ _ _ _ rfl
  unfold_out out0_8
  refine View.canon_apply_of_pieces (Val := Elt Ideal) _ _ ?_ y (cover0_8 _ _ _ _ _ _ _ _ y)
  simp only [List.forall_mem_cons, ld_lane, ld_lane']
  refine ⟨fun x => Eq.trans ?_ (tiles_piece _ 7 x _).symm, fun x => Eq.trans ?_ (tiles_piece _ 6 x _).symm, fun x => Eq.trans ?_ (tiles_piece _ 5 x _).symm, fun x => Eq.trans ?_ (tiles_piece _ 4 x _).symm,
    fun x => Eq.trans ?_ (tiles_piece _ 3 x _).symm, fun x => Eq.trans ?_ (tiles_piece _ 2 x _).symm, fun x => Eq.trans ?_ (tiles_piece _ 1 x _).symm, fun x => Eq.trans ?_ (tiles_piece _ 0 x _).symm, by simp⟩ <;>
    (rw [lseHead, ← hm]; rfl)

variable (m : (ℓ : Loc nD τ sig) → Buf (Elt Ideal) ℓ)

/-- The block each window stages at each grid point. -/
theorem idx : ∀ t : Fin cfg0.N,
    win0_0.index t = ![(grid0.coords t 0).val, (grid0.coords t 1).val, 3]
    ∧ win0_1.index t = ![(grid0.coords t 0).val, (grid0.coords t 1).val, 4]
    ∧ win0_2.index t = ![(grid0.coords t 0).val, 2 * (grid0.coords t 1).val - 1, 4]
    ∧ win0_3.index t = ![(grid0.coords t 0).val, min (2 * (grid0.coords t 1).val + 2) 127, 4]
    ∧ win0_4.index t = ![(grid0.coords t 0).val, (grid0.coords t 1).val, 5]
    ∧ win0_5.index t = ![(grid0.coords t 0).val, 2 * (grid0.coords t 1).val - 1, 5]
    ∧ win0_6.index t = ![(grid0.coords t 0).val, min (2 * (grid0.coords t 1).val + 2) 127, 5]
    ∧ win0_7.index t = ![(grid0.coords t 0).val, (grid0.coords t 1).val, 0]
    ∧ win0_8.index t = ![(grid0.coords t 0).val, (grid0.coords t 1).val, 0]
    ∧ (grid0.coords t 0).val < 2 ∧ (grid0.coords t 1).val < 64 :=
  (by decide +kernel : ∀ t : Fin grid0.N, _)

/-- The array the kernel reads. -/
def arg (c : Dev nD) : ℕ → ℕ → ℕ → EReal :=
  at3 (a := 2) (b := 8192) (c := 6144) (m ((c : Thread nD τ).loc main_arg0))

/-! What each input block holds: rows of its stream at the query block's place, before it and after it. -/

theorem blk0 (c : Dev nD) (t : Fin cfg0.N) (r : Fin 128) (l : Fin 1024) :
    (iblk m c 0 t : FVec Ideal S1x128x1024 .bf16) (ix3 0 r l)
      = arg m c (grid0.coords t 0).val (128 * (grid0.coords t 1).val + r) (3072 + l) := by
  obtain ⟨e0, e1, e2, e3, e4, e5, e6, e7, e8, h0, h1⟩ := idx t
  refine Eq.trans ?_ (at3_of_lt _ (by omega) (by omega) (by omega)).symm
  blk_ext [iblk, V, e0]

theorem blk1 (c : Dev nD) (t : Fin cfg0.N) (r : Fin 128) (l : Fin 1024) :
    (iblk m c 1 t : FVec Ideal S1x128x1024 .bf16) (ix3 0 r l)
      = arg m c (grid0.coords t 0).val (128 * (grid0.coords t 1).val + r) (4096 + l) := by
  obtain ⟨e0, e1, e2, e3, e4, e5, e6, e7, e8, h0, h1⟩ := idx t
  refine Eq.trans ?_ (at3_of_lt _ (by omega) (by omega) (by omega)).symm
  blk_ext [iblk, V, e1]

theorem blk2 (c : Dev nD) (t : Fin cfg0.N) (h : 1 ≤ (grid0.coords t 1).val) (r : Fin 64) (l : Fin 1024) :
    (iblk m c 2 t : FVec Ideal S1x64x1024 .bf16) (ix3 0 r l)
      = arg m c (grid0.coords t 0).val (128 * (grid0.coords t 1).val - 64 + r) (4096 + l) := by
  obtain ⟨e0, e1, e2, e3, e4, e5, e6, e7, e8, h0, h1⟩ := idx t
  refine Eq.trans ?_ (at3_of_lt _ (by omega) (by omega) (by omega)).symm
  blk_ext [iblk, V, e2]

theorem blk3 (c : Dev nD) (t : Fin cfg0.N) (h : 128 * (grid0.coords t 1).val + 128 < 8192) (r : Fin 64) (l : Fin 1024) :
    (iblk m c 3 t : FVec Ideal S1x64x1024 .bf16) (ix3 0 r l)
      = arg m c (grid0.coords t 0).val (128 * (grid0.coords t 1).val + 128 + r) (4096 + l) := by
  obtain ⟨e0, e1, e2, e3, e4, e5, e6, e7, e8, h0, h1⟩ := idx t
  refine Eq.trans ?_ (at3_of_lt _ (by omega) (by omega) (by omega)).symm
  blk_ext [iblk, V, e3]

theorem blk4 (c : Dev nD) (t : Fin cfg0.N) (r : Fin 128) (l : Fin 1024) :
    (iblk m c 4 t : FVec Ideal S1x128x1024 .bf16) (ix3 0 r l)
      = arg m c (grid0.coords t 0).val (128 * (grid0.coords t 1).val + r) (5120 + l) := by
  obtain ⟨e0, e1, e2, e3, e4, e5, e6, e7, e8, h0, h1⟩ := idx t
  refine Eq.trans ?_ (at3_of_lt _ (by omega) (by omega) (by omega)).symm
  blk_ext [iblk, V, e4]

theorem blk5 (c : Dev nD) (t : Fin cfg0.N) (h : 1 ≤ (grid0.coords t 1).val) (r : Fin 64) (l : Fin 1024) :
    (iblk m c 5 t : FVec Ideal S1x64x1024 .bf16) (ix3 0 r l)
      = arg m c (grid0.coords t 0).val (128 * (grid0.coords t 1).val - 64 + r) (5120 + l) := by
  obtain ⟨e0, e1, e2, e3, e4, e5, e6, e7, e8, h0, h1⟩ := idx t
  refine Eq.trans ?_ (at3_of_lt _ (by omega) (by omega) (by omega)).symm
  blk_ext [iblk, V, e5]

theorem blk6 (c : Dev nD) (t : Fin cfg0.N) (h : 128 * (grid0.coords t 1).val + 128 < 8192) (r : Fin 64) (l : Fin 1024) :
    (iblk m c 6 t : FVec Ideal S1x64x1024 .bf16) (ix3 0 r l)
      = arg m c (grid0.coords t 0).val (128 * (grid0.coords t 1).val + 128 + r) (5120 + l) := by
  obtain ⟨e0, e1, e2, e3, e4, e5, e6, e7, e8, h0, h1⟩ := idx t
  refine Eq.trans ?_ (at3_of_lt _ (by omega) (by omega) (by omega)).symm
  blk_ext [iblk, V, e6]

/-- What a grid point stores of the output. -/
theorem point7 (c : Dev nD) (t : Fin cfg0.N) (r : Fin 128) (l : Fin 1024) :
    tiles (outHead slope (k0_pay5 (grid0.coords t)) (k0_pay6 (F := Ideal)) (iblk m c 0 t) (iblk m c 1 t) (iblk m c 2 t)
      (iblk m c 3 t) (iblk m c 4 t) (iblk m c 5 t) (iblk m c 6 t)) (ix3 0 r l)
      = outOf group (arg m c) (grid0.coords t 0).val (128 * (grid0.coords t 1).val + r) l := by
  refine (outHead_at (g := group) (X := arg m c) (s := (grid0.coords t 0).val) (fun r c => mask _ r c)
    (fun r c hc => dist _ r c hc) (blk0 m c t) (blk1 m c t) (blk2 m c t) (blk3 m c t) (blk4 m c t) (blk5 m c t)
    (blk6 m c t) ⟨l.val / 128, by omega⟩ r ⟨l.val % 128, by omega⟩).trans ?_
  simp only [Nat.div_add_mod]

/-- What a grid point stores of the log denominators. -/
theorem point8 (c : Dev nD) (t : Fin cfg0.N) (r : Fin 128) (l : Fin 1024) :
    tiles (lseHead slope (k0_pay5 (grid0.coords t)) (k0_pay6 (F := Ideal)) (iblk m c 0 t) (iblk m c 1 t) (iblk m c 2 t)
      (iblk m c 3 t)) (ix3 0 r l)
      = lseOf group (arg m c) (grid0.coords t 0).val (128 * (grid0.coords t 1).val + r) l := by
  refine (lseHead_at (g := group) (X := arg m c) (s := (grid0.coords t 0).val) (fun r c => mask _ r c)
    (fun r c hc => dist _ r c hc) (blk0 m c t) (blk1 m c t) (blk2 m c t) (blk3 m c t)
    ⟨l.val / 128, by omega⟩ r ⟨l.val % 128, by omega⟩).trans ?_
  simp only [Nat.div_add_mod]

/-- A block index of the results at coordinates. -/
theorem eq_ix3 (y : S1x128x1024.Idx) : y = ix3 0 (y 1) (y 2) := by
  have h0 : (y 0).val < 1 := (y 0).isLt
  funext a
  fin_cases a <;> apply Fin.ext
  · show (y 0).val = 0
    omega
  · rfl
  · rfl

/-- The first result array is the group's output. -/
theorem final7 (c : Dev nD) : (dats m 0 c).arrAt 7 (cfgs 0).N
    = fun j : S2x8192x1024.Idx => outOf group (arg m c) (j 0).val (j 1).val (j 2).val := by
  refine (dats m 0 c).arrAt_eq_of_covers 7 _ (by decide +kernel) fun t _ y => ?_
  obtain ⟨e0, e1, e2, e3, e4, e5, e6, e7, e8, h0, h1⟩ := idx t
  blk_simp
  rw [after0_7, out7, eq_ix3 y]
  refine (point7 m c t (y 1) (y 2)).trans ?_
  blk_simp [e7]
  rw [Nat.mul_comm]

/-- The second result array is the group's log denominators. -/
theorem final8 (c : Dev nD) : (dats m 0 c).arrAt 8 (cfgs 0).N
    = fun j : S2x8192x1024.Idx => lseOf group (arg m c) (j 0).val (j 1).val (j 2).val := by
  refine (dats m 0 c).arrAt_eq_of_covers 8 _ (by decide +kernel) fun t _ y => ?_
  obtain ⟨e0, e1, e2, e3, e4, e5, e6, e7, e8, h0, h1⟩ := idx t
  blk_simp
  rw [after0_8, out8, eq_ix3 y]
  refine (point8 m c t (y 1) (y 2)).trans ?_
  blk_simp [e8]
  rw [Nat.mul_comm]

end Cert.KernelIdeal.Natural

end
-- ==== Proof.Natural.Reference.lean ====
/- The undilated group's reference, read at an index: its two results are the group's output and log denominator. -/
module

public import proofs.«01_k».proof.Proof.Gen.ReferenceIdeal.Read
public import proofs.«01_k».proof.Proof.Natural.Kernel

@[expose] public section

set_option maxRecDepth 16384

noncomputable section

namespace Cert.ReferenceIdeal.Natural

open Idealize.ShloMosaic Idealize.ShloMosaic.TcCoe Idealize.SL.Sem
open Cert.ReferenceIdeal Cert.ReferenceIdeal.Read Cert.Window Cert.Words Cert.Spec
open Cert.KernelIdeal.Natural (slope group)

variable (x : FVec Ideal S2x8192x6144 .bf16)

theorem slopes_at (h : Fin 8) : val_main_v14 (F := Ideal) (ix1 h) = Ideal.ofBits .f32 (slope h) := by
  pointwise [val_main_v14, val_main_v13, val_main_v12, val_main_v11, val_main_v10, val_main_v9, val_main_v8,
    val_main_v7, val_main_v6]
  fin_cases h <;> rfl

/-- Scaled products of queries and keys. -/
theorem dot_at (s : Fin 2) (h : Fin 8) (t u : Fin 8192) : (val_main_v20 (F := Ideal) x (ix4 s h t u) : EReal)
    = (∑ l : Fin 128, at3 x s t (3072 + (128 * h + l)) * at3 x s u (4096 + (128 * h + l)))
      * Ideal.ofBits .f32 0x3DB504F3#32 := by
  pointwise [val_main_v20, val_main_v19, val_main_cst_7, val_main_v18, val_main_v15, val_main_v16, val_main_v0,
    val_main_v1, val_main_v2, val_main_v3]
  refine congrArg (· * _) (Finset.sum_congr rfl fun l _ => ?_)
  rw [at3_of_lt x s.isLt t.isLt (show 3072 + (128 * h.val + l.val) < 6144 by omega),
    at3_of_lt x s.isLt u.isLt (show 4096 + (128 * h.val + l.val) < 6144 by omega)]
  simp only [Nat.mul_comm h.val 128]

theorem near_at (t u : Fin 8192) : val_main_v38 (F := Ideal) (ix2 t u) = 1#1 ↔ Near t u := by
  pointwise [val_main_v38, val_main_v37, val_main_c_8, val_main_v27, val_main_v26, val_main_v25, val_main_v24,
    val_main_v23, val_main_v22, val_main_v21]
  exact near_iff (by omega) (by omega)

theorem gap_at (t u : Fin 8192) : (val_main_v32 (F := Ideal) (ix2 t u) : EReal) = gap 1 t u := by
  pointwise [val_main_v32, val_main_v31, val_main_v30, val_main_c, val_main_v27, val_main_v26, val_main_v25,
    val_main_v24, val_main_v23, val_main_v22, val_main_v21]
  exact gap_eq (by norm_num) (by omega) (by omega)

/-- The masked scores. -/
theorem score_at (s : Fin 2) (h : Fin 8) (t u : Fin 8192) : (val_main_v42 (F := Ideal) x (ix4 s h t u) : EReal)
    = masked t (scoreOf group (at3 x) s h t) u := by
  pointwise [val_main_v42, val_main_call0_v0, val_main_call0_v1, val_main_call0_v2, val_main_cst_9, val_main_v41,
    val_main_v40, val_main_v39, val_main_v36, val_main_v35, val_main_v34, val_main_v33, val_main_v29, val_main_v28]
  rw [dot_at, slopes_at, gap_at, EReal.neg_mul, ← sub_eq_add_neg]
  unfold masked Scalar.select
  split_ifs with h1 h2 h2
  · rfl
  · exact absurd ((near_at t u).1 h1) h2
  · exact absurd ((near_at t u).2 h2) h1
  · exact ofBits_bot

/-- The largest score. -/
theorem top_at (s : Fin 2) (h : Fin 8) (t : Fin 8192) : (val_main_v43 (F := Ideal) x (ix3 s h t) : EReal)
    = top 8192 t (scoreOf group (at3 x) s h t) := by
  pointwise [val_main_v43, val_main_cst_10]
  simp only [score_at, ofBits_bot]
  rfl

/-- The weights. -/
theorem weight_at (s : Fin 2) (h : Fin 8) (t u : Fin 8192) : (val_main_v47 (F := Ideal) x (ix4 s h t u) : EReal)
    = weight 8192 t (scoreOf group (at3 x) s h t) u := by
  pointwise [val_main_v47, val_main_v46, val_main_v45, val_main_v44]
  rw [score_at, top_at]
  rfl

/-- The denominators. -/
theorem total_at (s : Fin 2) (h : Fin 8) (t : Fin 8192) : (val_main_v48 (F := Ideal) x (ix3 s h t) : EReal)
    = total 8192 t (scoreOf group (at3 x) s h t) := by
  pointwise [val_main_v48, val_main_cst_11]
  simp only [weight_at]
  rfl

/-- The first result. -/
theorem out_at (s : Fin 2) (t : Fin 8192) (l : Fin 1024) : (val_main_v58 (F := Ideal) x (ix3 s t l) : EReal)
    = outOf group (at3 x) s t l := by
  pointwise [val_main_v58, val_main_v57, val_main_v56, val_main_v52, val_main_v51, val_main_v50, val_main_v49,
    val_main_v17, val_main_v5, val_main_v4]
  rw [total_at]
  rw [outOf, out]
  refine congrArg (Ideal.div · _) (Finset.sum_congr rfl fun u _ => ?_)
  rw [weight_at]
  exact congrArg _ (at3_of_lt x s.isLt u.isLt (show 5120 + l.val < 6144 by omega)).symm

theorem log_at (s : Fin 2) (h : Fin 8) (t : Fin 8192) : (val_main_v54 (F := Ideal) x (ix4 s h t 0) : EReal)
    = lse 8192 t (scoreOf group (at3 x) s h t) := by
  have e1 : idx_main_v44 (ix4 s h t 0) = ix3 s h t := by funext a; fin_cases a <;> rfl
  have e2 : idx_main_v49 (ix4 s h t 0) = ix3 s h t := by funext a; fin_cases a <;> rfl
  rw [val_main_v54_apply, val_main_v53_apply, val_main_v49_apply, val_main_v44_apply, e1, e2, total_at, top_at]
  rfl

/-- The second result. -/
theorem lse_at (s : Fin 2) (t : Fin 8192) (l : Fin 1024) : (val_main_v60 (F := Ideal) x (ix3 s t l) : EReal)
    = lseOf group (at3 x) s t l := by
  pointwise [val_main_v60, val_main_v59, val_main_v55]
  exact log_at x s _ t

/-- The first result array. -/
theorem out_eq : val_main_v58 (F := Ideal) x
    = fun j : S2x8192x1024.Idx => outOf group (at3 x) (j 0).val (j 1).val (j 2).val := by
  funext j
  idx_vars j
  exact out_at x _ _ _

/-- The second result array. -/
theorem lse_eq : val_main_v60 (F := Ideal) x
    = fun j : S2x8192x1024.Idx => lseOf group (at3 x) (j 0).val (j 1).val (j 2).val := by
  funext j
  idx_vars j
  exact lse_at x _ _ _

end Cert.ReferenceIdeal.Natural

end
-- ==== Proof.Natural.Claims.lean ====
/- The claims about the undilated group's attention. -/
module

public import proofs.«01_k».proof.Defs
public import proofs.«01_k».proof.Proof.Gen.Kernel.Frame
public import proofs.«01_k».proof.Proof.Natural.Reference

@[expose] public section

set_option maxRecDepth 16384

noncomputable section

namespace Cert.Natural

open Idealize.ShloMosaic Idealize.ShloMosaic.TcCoe Idealize.SL.Sem
open Cert.Spec

theorem frame : Cert.quiescent_Kernel := fun m ρ _ => Cert.Kernel.Gen.frame m ρ

theorem frameIdeal : Cert.quiescent_KernelIdeal := fun m ρ _ => Cert.KernelIdeal.Gen.frame m ρ

theorem frameReference : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

theorem preserves : Cert.preserves_Kernel_KernelIdeal :=
  IdealRules.named_const.statement Cert.KernelIdeal.κ "mask" .f32 0xF149F2CA#32 ⊥ rfl

/-- Both programs end with the group's output and log denominators of the argument. -/
theorem algebraic : Cert.algebraic_KernelIdeal_ReferenceIdeal := by
  intro m ρ m' ρ' _ hagree
  refine ⟨fun c j => outOf Cert.KernelIdeal.Natural.group (Cert.KernelIdeal.Natural.arg m c) (j 0).val (j 1).val (j 2).val,
    fun c j => lseOf Cert.KernelIdeal.Natural.group (Cert.KernelIdeal.Natural.arg m c) (j 0).val (j 1).val (j 2).val, ?_, ?_⟩
  · exact (θ_run Cert.KernelIdeal.defs _ _).mono
      (fun _ h c => ⟨(h c).1.trans (Cert.KernelIdeal.Natural.final7 m c),
        (h c).2.1.trans (Cert.KernelIdeal.Natural.final8 m c), (h c).2.2⟩)
      (Cert.KernelIdeal.Value.run_blocks (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · rw [Cert.ReferenceIdeal.Read.val_main_v58_eq, hagree c]
      exact Cert.ReferenceIdeal.Natural.out_eq _
    · rw [Cert.ReferenceIdeal.Read.val_main_v60_eq, hagree c]
      exact Cert.ReferenceIdeal.Natural.lse_eq _

end Cert.Natural

end
-- ==== Proof.Four.Kernel.lean ====
/- The group of dilation 4's kernel: its two result arrays are the group's output and log denominator. -/
module

public import proofs.«01_k».proof.Proof.Gen.KernelFourIdeal.Value
public import proofs.«01_k».proof.Proof.Head

@[expose] public section

set_option maxRecDepth 16384

noncomputable section

namespace Cert.KernelFourIdeal.Four

open Idealize.ShloMosaic Idealize.ShloMosaic.TcCoe Idealize.SL.Sem
open Idealize.ShloMosaic.Pipeline (Dat)
open Cert.KernelFourIdeal Cert.KernelFourIdeal.Gen Cert.Window Cert.Words Cert.Spec Cert.Head

/-- The eight heads' slopes. -/
def slope : ℕ → BitVec 32
  | 0 => 0x3E5744FD#32
  | 1 => 0x3E3504F3#32
  | 2 => 0x3E1837F0#32
  | 3 => 0x3E000000#32
  | 4 => 0x3DD744FD#32
  | 5 => 0x3DB504F3#32
  | 6 => 0x3D9837F0#32
  | _ => 0x3D800000#32

/-- The group: one token in 4 per stream, its queries, keys and values at lanes 0, 1024 and 2048. -/
def group : Group := ⟨2048, 4, 0, 1024, 2048, slope⟩

theorem mask (i : grid0.Coords) (r : Fin 128) (c : Fin 256) :
    k0_pay5 i (ix2 r c) = 1#1 ↔ InBand 2048 (128 * (i 1).val) (128 * (i 1).val + r) c := by
  pointwise [k0_pay5, k0_pay4]
  have hi : (i 1).val < 16 := (i 1).isLt
  exact mask_iff (by norm_num) (by norm_num; omega) r.isLt c.isLt

theorem dist (i : ℕ) (r : Fin 128) (c : Fin 256) (h : InBand 2048 (128 * i) (128 * i + r) c) :
    k0_pay6 (F := Ideal) (ix2 r c) = gap 4 (128 * i + r) (128 * i + c - 64) := by
  pointwise [k0_pay6, k0_pay4]
  exact dist_eq (by norm_num) r.isLt c.isLt h.2.1

/-- What the body stores of the eight heads' outputs. -/
theorem out7 (i : grid0.Coords) (x0 x1 : FVec Ideal S1x128x1024 .bf16) (x2 x3 : FVec Ideal S1x64x1024 .bf16)
    (x4 : FVec Ideal S1x128x1024 .bf16) (x5 x6 : FVec Ideal S1x64x1024 .bf16) (y : S1x128x1024.Idx) :
    out0_7 (F := Ideal) i x0 x1 x2 x3 x4 x5 x6 y
      = tiles (outHead slope (k0_pay5 i) (k0_pay6 (F := Ideal)) x0 x1 x2 x3 x4 x5 x6) y := by
  have hm : Named.named (F := Ideal) (φ := .f32) κ "mask" 0xF149F2CA#32 = (⊥ : EReal) :=
    IdealRules.named_const.ideal_named_scalar _ _ _ _ rfl
  unfold_out out0_7
  refine View.canon_apply_of_pieces (Val := Elt Ideal) _ _ ?_ y (cover0_7 _ _ _ _ _ _ _ _ y)
  simp only [List.forall_mem_cons, ld_lane, ld_lane']
  refine ⟨fun x => Eq.trans ?_ (tiles_piece _ 7 x _).symm, fun x => Eq.trans ?_ (tiles_piece _ 6 x _).symm, fun x => Eq.trans ?_ (tiles_piece _ 5 x _).symm, fun x => Eq.trans ?_ (tiles_piece _ 4 x _).symm,
    fun x => Eq.trans ?_ (tiles_piece _ 3 x _).symm, fun x => Eq.trans ?_ (tiles_piece _ 2 x _).symm, fun x => Eq.trans ?_ (tiles_piece _ 1 x _).symm, fun x => Eq.trans ?_ (tiles_piece _ 0 x _).symm, by simp⟩ <;>
    (rw [outHead, ← hm]; rfl)

/-- What the body stores of the eight heads' log-sum-exps. -/
theorem out8 (i : grid0.Coords) (x0 x1 : FVec Ideal S1x128x1024 .bf16) (x2 x3 : FVec Ideal S1x64x1024 .bf16)
    (x4 : FVec Ideal S1x128x1024 .bf16) (x5 x6 : FVec Ideal S1x64x1024 .bf16) (y : S1x128x1024.Idx) :
    out0_8 (F := Ideal) i x0 x1 x2 x3 x4 x5 x6 y
      = tiles (lseHead slope (k0_pay5 i) (k0_pay6 (F := Ideal)) x0 x1 x2 x3) y := by
  have hm : Named.named (F := Ideal) (φ := .f32) κ "mask" 0xF149F2CA#32 = (⊥ : EReal) :=
    IdealRules.named_const.ideal_named_scalar _ _ _ _ rfl
  unfold_out out0_8
  refine View.canon_apply_of_pieces (Val := Elt Ideal) _ _ ?_ y (cover0_8 _ _ _ _ _ _ _ _ y)
  simp only [List.forall_mem_cons, ld_lane, ld_lane']
  refine ⟨fun x => Eq.trans ?_ (tiles_piece _ 7 x _).symm, fun x => Eq.trans ?_ (tiles_piece _ 6 x _).symm, fun x => Eq.trans ?_ (tiles_piece _ 5 x _).symm, fun x => Eq.trans ?_ (tiles_piece _ 4 x _).symm,
    fun x => Eq.trans ?_ (tiles_piece _ 3 x _).symm, fun x => Eq.trans ?_ (tiles_piece _ 2 x _).symm, fun x => Eq.trans ?_ (tiles_piece _ 1 x _).symm, fun x => Eq.trans ?_ (tiles_piece _ 0 x _).symm, by simp⟩ <;>
    (rw [lseHead, ← hm]; rfl)

variable (m : (ℓ : Loc nD τ sig) → Buf (Elt Ideal) ℓ)

/-- The block each window stages at each grid point. -/
theorem idx : ∀ t : Fin cfg0.N,
    win0_0.index t = ![(grid0.coords t 0).val, (grid0.coords t 1).val, 0]
    ∧ win0_1.index t = ![(grid0.coords t 0).val, (grid0.coords t 1).val, 1]
    ∧ win0_2.index t = ![(grid0.coords t 0).val, 2 * (grid0.coords t 1).val - 1, 1]
    ∧ win0_3.index t = ![(grid0.coords t 0).val, min (2 * (grid0.coords t 1).val + 2) 31, 1]
    ∧ win0_4.index t = ![(grid0.coords t 0).val, (grid0.coords t 1).val, 2]
    ∧ win0_5.index t = ![(grid0.coords t 0).val, 2 * (grid0.coords t 1).val - 1, 2]
    ∧ win0_6.index t = ![(grid0.coords t 0).val, min (2 * (grid0.coords t 1).val + 2) 31, 2]
    ∧ win0_7.index t = ![(grid0.coords t 0).val, (grid0.coords t 1).val, 0]
    ∧ win0_8.index t = ![(grid0.coords t 0).val, (grid0.coords t 1).val, 0]
    ∧ (grid0.coords t 0).val < 8 ∧ (grid0.coords t 1).val < 16 :=
  (by decide +kernel : ∀ t : Fin grid0.N, _)

/-- The array the kernel reads. -/
def arg (c : Dev nD) : ℕ → ℕ → ℕ → EReal :=
  at3 (a := 8) (b := 2048) (c := 3072) (m ((c : Thread nD τ).loc main_arg0))

/-! What each input block holds: rows of its stream at the query block's place, before it and after it. -/

theorem blk0 (c : Dev nD) (t : Fin cfg0.N) (r : Fin 128) (l : Fin 1024) :
    (iblk m c 0 t : FVec Ideal S1x128x1024 .bf16) (ix3 0 r l)
      = arg m c (grid0.coords t 0).val (128 * (grid0.coords t 1).val + r) (0 + l) := by
  obtain ⟨e0, e1, e2, e3, e4, e5, e6, e7, e8, h0, h1⟩ := idx t
  refine Eq.trans ?_ (at3_of_lt _ (by omega) (by omega) (by omega)).symm
  blk_ext [iblk, V, e0]

theorem blk1 (c : Dev nD) (t : Fin cfg0.N) (r : Fin 128) (l : Fin 1024) :
    (iblk m c 1 t : FVec Ideal S1x128x1024 .bf16) (ix3 0 r l)
      = arg m c (grid0.coords t 0).val (128 * (grid0.coords t 1).val + r) (1024 + l) := by
  obtain ⟨e0, e1, e2, e3, e4, e5, e6, e7, e8, h0, h1⟩ := idx t
  refine Eq.trans ?_ (at3_of_lt _ (by omega) (by omega) (by omega)).symm
  blk_ext [iblk, V, e1]

theorem blk2 (c : Dev nD) (t : Fin cfg0.N) (h : 1 ≤ (grid0.coords t 1).val) (r : Fin 64) (l : Fin 1024) :
    (iblk m c 2 t : FVec Ideal S1x64x1024 .bf16) (ix3 0 r l)
      = arg m c (grid0.coords t 0).val (128 * (grid0.coords t 1).val - 64 + r) (1024 + l) := by
  obtain ⟨e0, e1, e2, e3, e4, e5, e6, e7, e8, h0, h1⟩ := idx t
  refine Eq.trans ?_ (at3_of_lt _ (by omega) (by omega) (by omega)).symm
  blk_ext [iblk, V, e2]

theorem blk3 (c : Dev nD) (t : Fin cfg0.N) (h : 128 * (grid0.coords t 1).val + 128 < 2048) (r : Fin 64) (l : Fin 1024) :
    (iblk m c 3 t : FVec Ideal S1x64x1024 .bf16) (ix3 0 r l)
      = arg m c (grid0.coords t 0).val (128 * (grid0.coords t 1).val + 128 + r) (1024 + l) := by
  obtain ⟨e0, e1, e2, e3, e4, e5, e6, e7, e8, h0, h1⟩ := idx t
  refine Eq.trans ?_ (at3_of_lt _ (by omega) (by omega) (by omega)).symm
  blk_ext [iblk, V, e3]

theorem blk4 (c : Dev nD) (t : Fin cfg0.N) (r : Fin 128) (l : Fin 1024) :
    (iblk m c 4 t : FVec Ideal S1x128x1024 .bf16) (ix3 0 r l)
      = arg m c (grid0.coords t 0).val (128 * (grid0.coords t 1).val + r) (2048 + l) := by
  obtain ⟨e0, e1, e2, e3, e4, e5, e6, e7, e8, h0, h1⟩ := idx t
  refine Eq.trans ?_ (at3_of_lt _ (by omega) (by omega) (by omega)).symm
  blk_ext [iblk, V, e4]

theorem blk5 (c : Dev nD) (t : Fin cfg0.N) (h : 1 ≤ (grid0.coords t 1).val) (r : Fin 64) (l : Fin 1024) :
    (iblk m c 5 t : FVec Ideal S1x64x1024 .bf16) (ix3 0 r l)
      = arg m c (grid0.coords t 0).val (128 * (grid0.coords t 1).val - 64 + r) (2048 + l) := by
  obtain ⟨e0, e1, e2, e3, e4, e5, e6, e7, e8, h0, h1⟩ := idx t
  refine Eq.trans ?_ (at3_of_lt _ (by omega) (by omega) (by omega)).symm
  blk_ext [iblk, V, e5]

theorem blk6 (c : Dev nD) (t : Fin cfg0.N) (h : 128 * (grid0.coords t 1).val + 128 < 2048) (r : Fin 64) (l : Fin 1024) :
    (iblk m c 6 t : FVec Ideal S1x64x1024 .bf16) (ix3 0 r l)
      = arg m c (grid0.coords t 0).val (128 * (grid0.coords t 1).val + 128 + r) (2048 + l) := by
  obtain ⟨e0, e1, e2, e3, e4, e5, e6, e7, e8, h0, h1⟩ := idx t
  refine Eq.trans ?_ (at3_of_lt _ (by omega) (by omega) (by omega)).symm
  blk_ext [iblk, V, e6]

/-- What a grid point stores of the output. -/
theorem point7 (c : Dev nD) (t : Fin cfg0.N) (r : Fin 128) (l : Fin 1024) :
    tiles (outHead slope (k0_pay5 (grid0.coords t)) (k0_pay6 (F := Ideal)) (iblk m c 0 t) (iblk m c 1 t) (iblk m c 2 t)
      (iblk m c 3 t) (iblk m c 4 t) (iblk m c 5 t) (iblk m c 6 t)) (ix3 0 r l)
      = outOf group (arg m c) (grid0.coords t 0).val (128 * (grid0.coords t 1).val + r) l := by
  refine (outHead_at (g := group) (X := arg m c) (s := (grid0.coords t 0).val) (fun r c => mask _ r c)
    (fun r c hc => dist _ r c hc) (blk0 m c t) (blk1 m c t) (blk2 m c t) (blk3 m c t) (blk4 m c t) (blk5 m c t)
    (blk6 m c t) ⟨l.val / 128, by omega⟩ r ⟨l.val % 128, by omega⟩).trans ?_
  simp only [Nat.div_add_mod]

/-- What a grid point stores of the log denominators. -/
theorem point8 (c : Dev nD) (t : Fin cfg0.N) (r : Fin 128) (l : Fin 1024) :
    tiles (lseHead slope (k0_pay5 (grid0.coords t)) (k0_pay6 (F := Ideal)) (iblk m c 0 t) (iblk m c 1 t) (iblk m c 2 t)
      (iblk m c 3 t)) (ix3 0 r l)
      = lseOf group (arg m c) (grid0.coords t 0).val (128 * (grid0.coords t 1).val + r) l := by
  refine (lseHead_at (g := group) (X := arg m c) (s := (grid0.coords t 0).val) (fun r c => mask _ r c)
    (fun r c hc => dist _ r c hc) (blk0 m c t) (blk1 m c t) (blk2 m c t) (blk3 m c t)
    ⟨l.val / 128, by omega⟩ r ⟨l.val % 128, by omega⟩).trans ?_
  simp only [Nat.div_add_mod]

/-- A block index of the results at coordinates. -/
theorem eq_ix3 (y : S1x128x1024.Idx) : y = ix3 0 (y 1) (y 2) := by
  have h0 : (y 0).val < 1 := (y 0).isLt
  funext a
  fin_cases a <;> apply Fin.ext
  · show (y 0).val = 0
    omega
  · rfl
  · rfl

/-- The first result array is the group's output. -/
theorem final7 (c : Dev nD) : (dats m 0 c).arrAt 7 (cfgs 0).N
    = fun j : S8x2048x1024.Idx => outOf group (arg m c) (j 0).val (j 1).val (j 2).val := by
  refine (dats m 0 c).arrAt_eq_of_covers 7 _ (by decide +kernel) fun t _ y => ?_
  obtain ⟨e0, e1, e2, e3, e4, e5, e6, e7, e8, h0, h1⟩ := idx t
  blk_simp
  rw [after0_7, out7, eq_ix3 y]
  refine (point7 m c t (y 1) (y 2)).trans ?_
  blk_simp [e7]
  rw [Nat.mul_comm]

/-- The second result array is the group's log denominators. -/
theorem final8 (c : Dev nD) : (dats m 0 c).arrAt 8 (cfgs 0).N
    = fun j : S8x2048x1024.Idx => lseOf group (arg m c) (j 0).val (j 1).val (j 2).val := by
  refine (dats m 0 c).arrAt_eq_of_covers 8 _ (by decide +kernel) fun t _ y => ?_
  obtain ⟨e0, e1, e2, e3, e4, e5, e6, e7, e8, h0, h1⟩ := idx t
  blk_simp
  rw [after0_8, out8, eq_ix3 y]
  refine (point8 m c t (y 1) (y 2)).trans ?_
  blk_simp [e8]
  rw [Nat.mul_comm]

end Cert.KernelFourIdeal.Four

end
-- ==== Proof.Four.Reference.lean ====
/- The group of dilation 4's reference, read at an index: its two results are the group's output and log denominator. -/
module

public import proofs.«01_k».proof.Proof.Gen.ReferenceFourIdeal.Read
public import proofs.«01_k».proof.Proof.Four.Kernel

@[expose] public section

set_option maxRecDepth 16384

noncomputable section

namespace Cert.ReferenceFourIdeal.Four

open Idealize.ShloMosaic Idealize.ShloMosaic.TcCoe Idealize.SL.Sem
open Cert.ReferenceFourIdeal Cert.ReferenceFourIdeal.Read Cert.Window Cert.Words Cert.Spec
open Cert.KernelFourIdeal.Four (slope group)

variable (x : FVec Ideal S8x2048x3072 .bf16)

theorem slopes_at (h : Fin 8) : val_main_v14 (F := Ideal) (ix1 h) = Ideal.ofBits .f32 (slope h) := by
  pointwise [val_main_v14, val_main_v13, val_main_v12, val_main_v11, val_main_v10, val_main_v9, val_main_v8,
    val_main_v7, val_main_v6]
  fin_cases h <;> rfl

/-- Scaled products of queries and keys. -/
theorem dot_at (s : Fin 8) (h : Fin 8) (t u : Fin 2048) : (val_main_v20 (F := Ideal) x (ix4 s h t u) : EReal)
    = (∑ l : Fin 128, at3 x s t (0 + (128 * h + l)) * at3 x s u (1024 + (128 * h + l)))
      * Ideal.ofBits .f32 0x3DB504F3#32 := by
  pointwise [val_main_v20, val_main_v19, val_main_cst_7, val_main_v18, val_main_v15, val_main_v16, val_main_v0,
    val_main_v1, val_main_v3, val_main_v4]
  refine congrArg (· * _) (Finset.sum_congr rfl fun l _ => ?_)
  rw [at3_of_lt x s.isLt t.isLt (show 128 * h.val + l.val < 3072 by omega),
    at3_of_lt x s.isLt u.isLt (show 1024 + (128 * h.val + l.val) < 3072 by omega)]
  simp only [Nat.mul_comm h.val 128, Nat.zero_add]

theorem near_at (t u : Fin 2048) : val_main_v38 (F := Ideal) (ix2 t u) = 1#1 ↔ Near t u := by
  pointwise [val_main_v38, val_main_v37, val_main_c_8, val_main_v27, val_main_v26, val_main_v25, val_main_v24,
    val_main_v23, val_main_v22, val_main_v21]
  exact near_iff (by omega) (by omega)

theorem gap_at (t u : Fin 2048) : (val_main_v32 (F := Ideal) (ix2 t u) : EReal) = gap 4 t u := by
  pointwise [val_main_v32, val_main_v31, val_main_v30, val_main_c, val_main_v27, val_main_v26, val_main_v25,
    val_main_v24, val_main_v23, val_main_v22, val_main_v21]
  exact gap_eq (by norm_num) (by omega) (by omega)

/-- The masked scores. -/
theorem score_at (s : Fin 8) (h : Fin 8) (t u : Fin 2048) : (val_main_v42 (F := Ideal) x (ix4 s h t u) : EReal)
    = masked t (scoreOf group (at3 x) s h t) u := by
  pointwise [val_main_v42, val_main_call0_v0, val_main_call0_v1, val_main_call0_v2, val_main_cst_9, val_main_v41,
    val_main_v40, val_main_v39, val_main_v36, val_main_v35, val_main_v34, val_main_v33, val_main_v29, val_main_v28]
  rw [dot_at, slopes_at, gap_at, EReal.neg_mul, ← sub_eq_add_neg]
  unfold masked Scalar.select
  split_ifs with h1 h2 h2
  · rfl
  · exact absurd ((near_at t u).1 h1) h2
  · exact absurd ((near_at t u).2 h2) h1
  · exact ofBits_bot

/-- The largest score. -/
theorem top_at (s : Fin 8) (h : Fin 8) (t : Fin 2048) : (val_main_v43 (F := Ideal) x (ix3 s h t) : EReal)
    = top 2048 t (scoreOf group (at3 x) s h t) := by
  pointwise [val_main_v43, val_main_cst_10]
  simp only [score_at, ofBits_bot]
  rfl

/-- The weights. -/
theorem weight_at (s : Fin 8) (h : Fin 8) (t u : Fin 2048) : (val_main_v47 (F := Ideal) x (ix4 s h t u) : EReal)
    = weight 2048 t (scoreOf group (at3 x) s h t) u := by
  pointwise [val_main_v47, val_main_v46, val_main_v45, val_main_v44]
  rw [score_at, top_at]
  rfl

/-- The denominators. -/
theorem total_at (s : Fin 8) (h : Fin 8) (t : Fin 2048) : (val_main_v48 (F := Ideal) x (ix3 s h t) : EReal)
    = total 2048 t (scoreOf group (at3 x) s h t) := by
  pointwise [val_main_v48, val_main_cst_11]
  simp only [weight_at]
  rfl

/-- The first result. -/
theorem out_at (s : Fin 8) (t : Fin 2048) (l : Fin 1024) : (val_main_v58 (F := Ideal) x (ix3 s t l) : EReal)
    = outOf group (at3 x) s t l := by
  pointwise [val_main_v58, val_main_v57, val_main_v56, val_main_v52, val_main_v51, val_main_v50, val_main_v49,
    val_main_v17, val_main_v5, val_main_v2]
  rw [total_at]
  rw [outOf, out]
  refine congrArg (Ideal.div · _) (Finset.sum_congr rfl fun u _ => ?_)
  rw [weight_at]
  exact congrArg _ (at3_of_lt x s.isLt u.isLt (show 2048 + l.val < 3072 by omega)).symm

theorem log_at (s : Fin 8) (h : Fin 8) (t : Fin 2048) : (val_main_v54 (F := Ideal) x (ix4 s h t 0) : EReal)
    = lse 2048 t (scoreOf group (at3 x) s h t) := by
  have e1 : idx_main_v44 (ix4 s h t 0) = ix3 s h t := by funext a; fin_cases a <;> rfl
  have e2 : idx_main_v49 (ix4 s h t 0) = ix3 s h t := by funext a; fin_cases a <;> rfl
  rw [val_main_v54_apply, val_main_v53_apply, val_main_v49_apply, val_main_v44_apply, e1, e2, total_at, top_at]
  rfl

/-- The second result. -/
theorem lse_at (s : Fin 8) (t : Fin 2048) (l : Fin 1024) : (val_main_v60 (F := Ideal) x (ix3 s t l) : EReal)
    = lseOf group (at3 x) s t l := by
  pointwise [val_main_v60, val_main_v59, val_main_v55]
  exact log_at x s _ t

/-- The first result array. -/
theorem out_eq : val_main_v58 (F := Ideal) x
    = fun j : S8x2048x1024.Idx => outOf group (at3 x) (j 0).val (j 1).val (j 2).val := by
  funext j
  idx_vars j
  exact out_at x _ _ _

/-- The second result array. -/
theorem lse_eq : val_main_v60 (F := Ideal) x
    = fun j : S8x2048x1024.Idx => lseOf group (at3 x) (j 0).val (j 1).val (j 2).val := by
  funext j
  idx_vars j
  exact lse_at x _ _ _

end Cert.ReferenceFourIdeal.Four

end
-- ==== Proof.Four.Claims.lean ====
/- The claims about the group of dilation 4's attention. -/
module

public import proofs.«01_k».proof.Defs
public import proofs.«01_k».proof.Proof.Gen.KernelFour.Frame
public import proofs.«01_k».proof.Proof.Four.Reference

@[expose] public section

set_option maxRecDepth 16384

noncomputable section

namespace Cert.Four

open Idealize.ShloMosaic Idealize.ShloMosaic.TcCoe Idealize.SL.Sem
open Cert.Spec

theorem frame : Cert.quiescent_KernelFour := fun m ρ _ => Cert.KernelFour.Gen.frame m ρ

theorem frameIdeal : Cert.quiescent_KernelFourIdeal := fun m ρ _ => Cert.KernelFourIdeal.Gen.frame m ρ

theorem frameReference : Cert.quiescent_ReferenceFourIdeal := fun m ρ _ =>
  (θ_run Cert.ReferenceFourIdeal.defs _ _).mono
    (fun r h => ⟨fun c => (h c).2.2, sem_eq_zero_of_no_sems (by decide) r.2⟩)
    (Cert.ReferenceFourIdeal.Value.run (F := Ideal) m ρ)

theorem preserves : Cert.preserves_KernelFour_KernelFourIdeal :=
  IdealRules.named_const.statement Cert.KernelFourIdeal.κ "mask" .f32 0xF149F2CA#32 ⊥ rfl

/-- Both programs end with the group's output and log denominators of the argument. -/
theorem algebraic : Cert.algebraic_KernelFourIdeal_ReferenceFourIdeal := by
  intro m ρ m' ρ' _ hagree
  refine ⟨fun c j => outOf Cert.KernelFourIdeal.Four.group (Cert.KernelFourIdeal.Four.arg m c) (j 0).val (j 1).val (j 2).val,
    fun c j => lseOf Cert.KernelFourIdeal.Four.group (Cert.KernelFourIdeal.Four.arg m c) (j 0).val (j 1).val (j 2).val, ?_, ?_⟩
  · exact (θ_run Cert.KernelFourIdeal.defs _ _).mono
      (fun _ h c => ⟨(h c).1.trans (Cert.KernelFourIdeal.Four.final7 m c),
        (h c).2.1.trans (Cert.KernelFourIdeal.Four.final8 m c), (h c).2.2⟩)
      (Cert.KernelFourIdeal.Value.run_blocks (F := Ideal) m ρ)
  · refine (θ_run Cert.ReferenceFourIdeal.defs _ _).mono (fun _ h c => ⟨(h c).1.trans ?_, (h c).2.1.trans ?_, (h c).2.2⟩)
      (Cert.ReferenceFourIdeal.Value.run (F := Ideal) m' ρ')
    · rw [Cert.ReferenceFourIdeal.Read.val_main_v58_eq, hagree c]
      exact Cert.ReferenceFourIdeal.Four.out_eq _
    · rw [Cert.ReferenceFourIdeal.Read.val_main_v60_eq, hagree c]
      exact Cert.ReferenceFourIdeal.Four.lse_eq _

end Cert.Four

end
-- ==== Proof.Sixteen.Kernel.lean ====
/- The group of dilation 16's kernel: its two result arrays are the group's output and log denominator. -/
module

public import proofs.«01_k».proof.Proof.Gen.KernelSixteenIdeal.Value
public import proofs.«01_k».proof.Proof.Head

@[expose] public section

set_option maxRecDepth 16384

noncomputable section

namespace Cert.KernelSixteenIdeal.Sixteen

open Idealize.ShloMosaic Idealize.ShloMosaic.TcCoe Idealize.SL.Sem
open Idealize.ShloMosaic.Pipeline (Dat)
open Cert.KernelSixteenIdeal Cert.KernelSixteenIdeal.Gen Cert.Window Cert.Words Cert.Spec Cert.Head

/-- The eight heads' slopes. -/
def slope : ℕ → BitVec 32
  | 0 => 0x3D3504F3#32
  | 1 => 0x3D000000#32
  | 2 => 0x3CB504F3#32
  | 3 => 0x3C800000#32
  | 4 => 0x3C3504F3#32
  | 5 => 0x3C000000#32
  | 6 => 0x3BB504F3#32
  | _ => 0x3B800000#32

/-- The group: one token in 16 per stream, its queries, keys and values at lanes 0, 1024 and 2048. -/
def group : Group := ⟨512, 16, 0, 1024, 2048, slope⟩

theorem mask (i : grid0.Coords) (r : Fin 128) (c : Fin 256) :
    k0_pay5 i (ix2 r c) = 1#1 ↔ InBand 512 (128 * (i 1).val) (128 * (i 1).val + r) c := by
  pointwise [k0_pay5, k0_pay4]
  have hi : (i 1).val < 4 := (i 1).isLt
  exact mask_iff (by norm_num) (by norm_num; omega) r.isLt c.isLt

theorem dist (i : ℕ) (r : Fin 128) (c : Fin 256) (h : InBand 512 (128 * i) (128 * i + r) c) :
    k0_pay6 (F := Ideal) (ix2 r c) = gap 16 (128 * i + r) (128 * i + c - 64) := by
  pointwise [k0_pay6, k0_pay4]
  exact dist_eq (by norm_num) r.isLt c.isLt h.2.1

/-- What the body stores of the eight heads' outputs. -/
theorem out7 (i : grid0.Coords) (x0 x1 : FVec Ideal S1x128x1024 .bf16) (x2 x3 : FVec Ideal S1x64x1024 .bf16)
    (x4 : FVec Ideal S1x128x1024 .bf16) (x5 x6 : FVec Ideal S1x64x1024 .bf16) (y : S1x128x1024.Idx) :
    out0_7 (F := Ideal) i x0 x1 x2 x3 x4 x5 x6 y
      = tiles (outHead slope (k0_pay5 i) (k0_pay6 (F := Ideal)) x0 x1 x2 x3 x4 x5 x6) y := by
  have hm : Named.named (F := Ideal) (φ := .f32) κ "mask" 0xF149F2CA#32 = (⊥ : EReal) :=
    IdealRules.named_const.ideal_named_scalar _ _ _ _ rfl
  unfold_out out0_7
  refine View.canon_apply_of_pieces (Val := Elt Ideal) _ _ ?_ y (cover0_7 _ _ _ _ _ _ _ _ y)
  simp only [List.forall_mem_cons, ld_lane, ld_lane']
  refine ⟨fun x => Eq.trans ?_ (tiles_piece _ 7 x _).symm, fun x => Eq.trans ?_ (tiles_piece _ 6 x _).symm, fun x => Eq.trans ?_ (tiles_piece _ 5 x _).symm, fun x => Eq.trans ?_ (tiles_piece _ 4 x _).symm,
    fun x => Eq.trans ?_ (tiles_piece _ 3 x _).symm, fun x => Eq.trans ?_ (tiles_piece _ 2 x _).symm, fun x => Eq.trans ?_ (tiles_piece _ 1 x _).symm, fun x => Eq.trans ?_ (tiles_piece _ 0 x _).symm, by simp⟩ <;>
    (rw [outHead, ← hm]; rfl)

/-- What the body stores of the eight heads' log-sum-exps. -/
theorem out8 (i : grid0.Coords) (x0 x1 : FVec Ideal S1x128x1024 .bf16) (x2 x3 : FVec Ideal S1x64x1024 .bf16)
    (x4 : FVec Ideal S1x128x1024 .bf16) (x5 x6 : FVec Ideal S1x64x1024 .bf16) (y : S1x128x1024.Idx) :
    out0_8 (F := Ideal) i x0 x1 x2 x3 x4 x5 x6 y
      = tiles (lseHead slope (k0_pay5 i) (k0_pay6 (F := Ideal)) x0 x1 x2 x3) y := by
  have hm : Named.named (F := Ideal) (φ := .f32) κ "mask" 0xF149F2CA#32 = (⊥ : EReal) :=
    IdealRules.named_const.ideal_named_scalar _ _ _ _ rfl
  unfold_out out0_8
  refine View.canon_apply_of_pieces (Val := Elt Ideal) _ _ ?_ y (cover0_8 _ _ _ _ _ _ _ _ y)
  simp only [List.forall_mem_cons, ld_lane, ld_lane']
  refine ⟨fun x => Eq.trans ?_ (tiles_piece _ 7 x _).symm, fun x => Eq.trans ?_ (tiles_piece _ 6 x _).symm, fun x => Eq.trans ?_ (tiles_piece _ 5 x _).symm, fun x => Eq.trans ?_ (tiles_piece _ 4 x _).symm,
    fun x => Eq.trans ?_ (tiles_piece _ 3 x _).symm, fun x => Eq.trans ?_ (tiles_piece _ 2 x _).symm, fun x => Eq.trans ?_ (tiles_piece _ 1 x _).symm, fun x => Eq.trans ?_ (tiles_piece _ 0 x _).symm, by simp⟩ <;>
    (rw [lseHead, ← hm]; rfl)

variable (m : (ℓ : Loc nD τ sig) → Buf (Elt Ideal) ℓ)

/-- The block each window stages at each grid point. -/
theorem idx : ∀ t : Fin cfg0.N,
    win0_0.index t = ![(grid0.coords t 0).val, (grid0.coords t 1).val, 0]
    ∧ win0_1.index t = ![(grid0.coords t 0).val, (grid0.coords t 1).val, 1]
    ∧ win0_2.index t = ![(grid0.coords t 0).val, 2 * (grid0.coords t 1).val - 1, 1]
    ∧ win0_3.index t = ![(grid0.coords t 0).val, min (2 * (grid0.coords t 1).val + 2) 7, 1]
    ∧ win0_4.index t = ![(grid0.coords t 0).val, (grid0.coords t 1).val, 2]
    ∧ win0_5.index t = ![(grid0.coords t 0).val, 2 * (grid0.coords t 1).val - 1, 2]
    ∧ win0_6.index t = ![(grid0.coords t 0).val, min (2 * (grid0.coords t 1).val + 2) 7, 2]
    ∧ win0_7.index t = ![(grid0.coords t 0).val, (grid0.coords t 1).val, 0]
    ∧ win0_8.index t = ![(grid0.coords t 0).val, (grid0.coords t 1).val, 0]
    ∧ (grid0.coords t 0).val < 32 ∧ (grid0.coords t 1).val < 4 :=
  (by decide +kernel : ∀ t : Fin grid0.N, _)

/-- The array the kernel reads. -/
def arg (c : Dev nD) : ℕ → ℕ → ℕ → EReal :=
  at3 (a := 32) (b := 512) (c := 3072) (m ((c : Thread nD τ).loc main_arg0))

/-! What each input block holds: rows of its stream at the query block's place, before it and after it. -/

theorem blk0 (c : Dev nD) (t : Fin cfg0.N) (r : Fin 128) (l : Fin 1024) :
    (iblk m c 0 t : FVec Ideal S1x128x1024 .bf16) (ix3 0 r l)
      = arg m c (grid0.coords t 0).val (128 * (grid0.coords t 1).val + r) (0 + l) := by
  obtain ⟨e0, e1, e2, e3, e4, e5, e6, e7, e8, h0, h1⟩ := idx t
  refine Eq.trans ?_ (at3_of_lt _ (by omega) (by omega) (by omega)).symm
  blk_ext [iblk, V, e0]

theorem blk1 (c : Dev nD) (t : Fin cfg0.N) (r : Fin 128) (l : Fin 1024) :
    (iblk m c 1 t : FVec Ideal S1x128x1024 .bf16) (ix3 0 r l)
      = arg m c (grid0.coords t 0).val (128 * (grid0.coords t 1).val + r) (1024 + l) := by
  obtain ⟨e0, e1, e2, e3, e4, e5, e6, e7, e8, h0, h1⟩ := idx t
  refine Eq.trans ?_ (at3_of_lt _ (by omega) (by omega) (by omega)).symm
  blk_ext [iblk, V, e1]

theorem blk2 (c : Dev nD) (t : Fin cfg0.N) (h : 1 ≤ (grid0.coords t 1).val) (r : Fin 64) (l : Fin 1024) :
    (iblk m c 2 t : FVec Ideal S1x64x1024 .bf16) (ix3 0 r l)
      = arg m c (grid0.coords t 0).val (128 * (grid0.coords t 1).val - 64 + r) (1024 + l) := by
  obtain ⟨e0, e1, e2, e3, e4, e5, e6, e7, e8, h0, h1⟩ := idx t
  refine Eq.trans ?_ (at3_of_lt _ (by omega) (by omega) (by omega)).symm
  blk_ext [iblk, V, e2]

theorem blk3 (c : Dev nD) (t : Fin cfg0.N) (h : 128 * (grid0.coords t 1).val + 128 < 512) (r : Fin 64) (l : Fin 1024) :
    (iblk m c 3 t : FVec Ideal S1x64x1024 .bf16) (ix3 0 r l)
      = arg m c (grid0.coords t 0).val (128 * (grid0.coords t 1).val + 128 + r) (1024 + l) := by
  obtain ⟨e0, e1, e2, e3, e4, e5, e6, e7, e8, h0, h1⟩ := idx t
  refine Eq.trans ?_ (at3_of_lt _ (by omega) (by omega) (by omega)).symm
  blk_ext [iblk, V, e3]

theorem blk4 (c : Dev nD) (t : Fin cfg0.N) (r : Fin 128) (l : Fin 1024) :
    (iblk m c 4 t : FVec Ideal S1x128x1024 .bf16) (ix3 0 r l)
      = arg m c (grid0.coords t 0).val (128 * (grid0.coords t 1).val + r) (2048 + l) := by
  obtain ⟨e0, e1, e2, e3, e4, e5, e6, e7, e8, h0, h1⟩ := idx t
  refine Eq.trans ?_ (at3_of_lt _ (by omega) (by omega) (by omega)).symm
  blk_ext [iblk, V, e4]

theorem blk5 (c : Dev nD) (t : Fin cfg0.N) (h : 1 ≤ (grid0.coords t 1).val) (r : Fin 64) (l : Fin 1024) :
    (iblk m c 5 t : FVec Ideal S1x64x1024 .bf16) (ix3 0 r l)
      = arg m c (grid0.coords t 0).val (128 * (grid0.coords t 1).val - 64 + r) (2048 + l) := by
  obtain ⟨e0, e1, e2, e3, e4, e5, e6, e7, e8, h0, h1⟩ := idx t
  refine Eq.trans ?_ (at3_of_lt _ (by omega) (by omega) (by omega)).symm
  blk_ext [iblk, V, e5]

theorem blk6 (c : Dev nD) (t : Fin cfg0.N) (h : 128 * (grid0.coords t 1).val + 128 < 512) (r : Fin 64) (l : Fin 1024) :
    (iblk m c 6 t : FVec Ideal S1x64x1024 .bf16) (ix3 0 r l)
      = arg m c (grid0.coords t 0).val (128 * (grid0.coords t 1).val + 128 + r) (2048 + l) := by
  obtain ⟨e0, e1, e2, e3, e4, e5, e6, e7, e8, h0, h1⟩ := idx t
  refine Eq.trans ?_ (at3_of_lt _ (by omega) (by omega) (by omega)).symm
  blk_ext [iblk, V, e6]

/-- What a grid point stores of the output. -/
theorem point7 (c : Dev nD) (t : Fin cfg0.N) (r : Fin 128) (l : Fin 1024) :
    tiles (outHead slope (k0_pay5 (grid0.coords t)) (k0_pay6 (F := Ideal)) (iblk m c 0 t) (iblk m c 1 t) (iblk m c 2 t)
      (iblk m c 3 t) (iblk m c 4 t) (iblk m c 5 t) (iblk m c 6 t)) (ix3 0 r l)
      = outOf group (arg m c) (grid0.coords t 0).val (128 * (grid0.coords t 1).val + r) l := by
  refine (outHead_at (g := group) (X := arg m c) (s := (grid0.coords t 0).val) (fun r c => mask _ r c)
    (fun r c hc => dist _ r c hc) (blk0 m c t) (blk1 m c t) (blk2 m c t) (blk3 m c t) (blk4 m c t) (blk5 m c t)
    (blk6 m c t) ⟨l.val / 128, by omega⟩ r ⟨l.val % 128, by omega⟩).trans ?_
  simp only [Nat.div_add_mod]

/-- What a grid point stores of the log denominators. -/
theorem point8 (c : Dev nD) (t : Fin cfg0.N) (r : Fin 128) (l : Fin 1024) :
    tiles (lseHead slope (k0_pay5 (grid0.coords t)) (k0_pay6 (F := Ideal)) (iblk m c 0 t) (iblk m c 1 t) (iblk m c 2 t)
      (iblk m c 3 t)) (ix3 0 r l)
      = lseOf group (arg m c) (grid0.coords t 0).val (128 * (grid0.coords t 1).val + r) l := by
  refine (lseHead_at (g := group) (X := arg m c) (s := (grid0.coords t 0).val) (fun r c => mask _ r c)
    (fun r c hc => dist _ r c hc) (blk0 m c t) (blk1 m c t) (blk2 m c t) (blk3 m c t)
    ⟨l.val / 128, by omega⟩ r ⟨l.val % 128, by omega⟩).trans ?_
  simp only [Nat.div_add_mod]

/-- A block index of the results at coordinates. -/
theorem eq_ix3 (y : S1x128x1024.Idx) : y = ix3 0 (y 1) (y 2) := by
  have h0 : (y 0).val < 1 := (y 0).isLt
  funext a
  fin_cases a <;> apply Fin.ext
  · show (y 0).val = 0
    omega
  · rfl
  · rfl

/-- The first result array is the group's output. -/
theorem final7 (c : Dev nD) : (dats m 0 c).arrAt 7 (cfgs 0).N
    = fun j : S32x512x1024.Idx => outOf group (arg m c) (j 0).val (j 1).val (j 2).val := by
  refine (dats m 0 c).arrAt_eq_of_covers 7 _ (by decide +kernel) fun t _ y => ?_
  obtain ⟨e0, e1, e2, e3, e4, e5, e6, e7, e8, h0, h1⟩ := idx t
  blk_simp
  rw [after0_7, out7, eq_ix3 y]
  refine (point7 m c t (y 1) (y 2)).trans ?_
  blk_simp [e7]
  rw [Nat.mul_comm]

/-- The second result array is the group's log denominators. -/
theorem final8 (c : Dev nD) : (dats m 0 c).arrAt 8 (cfgs 0).N
    = fun j : S32x512x1024.Idx => lseOf group (arg m c) (j 0).val (j 1).val (j 2).val := by
  refine (dats m 0 c).arrAt_eq_of_covers 8 _ (by decide +kernel) fun t _ y => ?_
  obtain ⟨e0, e1, e2, e3, e4, e5, e6, e7, e8, h0, h1⟩ := idx t
  blk_simp
  rw [after0_8, out8, eq_ix3 y]
  refine (point8 m c t (y 1) (y 2)).trans ?_
  blk_simp [e8]
  rw [Nat.mul_comm]

end Cert.KernelSixteenIdeal.Sixteen

end
-- ==== Proof.Sixteen.Reference.lean ====
/- The group of dilation 16's reference, read at an index: its two results are the group's output and log denominator. -/
module

public import proofs.«01_k».proof.Proof.Gen.ReferenceSixteenIdeal.Read
public import proofs.«01_k».proof.Proof.Sixteen.Kernel

@[expose] public section

set_option maxRecDepth 16384

noncomputable section

namespace Cert.ReferenceSixteenIdeal.Sixteen

open Idealize.ShloMosaic Idealize.ShloMosaic.TcCoe Idealize.SL.Sem
open Cert.ReferenceSixteenIdeal Cert.ReferenceSixteenIdeal.Read Cert.Window Cert.Words Cert.Spec
open Cert.KernelSixteenIdeal.Sixteen (slope group)

variable (x : FVec Ideal S32x512x3072 .bf16)

theorem slopes_at (h : Fin 8) : val_main_v14 (F := Ideal) (ix1 h) = Ideal.ofBits .f32 (slope h) := by
  pointwise [val_main_v14, val_main_v13, val_main_v12, val_main_v11, val_main_v10, val_main_v9, val_main_v8,
    val_main_v7, val_main_v6]
  fin_cases h <;> rfl

/-- Scaled products of queries and keys. -/
theorem dot_at (s : Fin 32) (h : Fin 8) (t u : Fin 512) : (val_main_v20 (F := Ideal) x (ix4 s h t u) : EReal)
    = (∑ l : Fin 128, at3 x s t (0 + (128 * h + l)) * at3 x s u (1024 + (128 * h + l)))
      * Ideal.ofBits .f32 0x3DB504F3#32 := by
  pointwise [val_main_v20, val_main_v19, val_main_cst_7, val_main_v18, val_main_v15, val_main_v16, val_main_v0,
    val_main_v1, val_main_v3, val_main_v4]
  refine congrArg (· * _) (Finset.sum_congr rfl fun l _ => ?_)
  rw [at3_of_lt x s.isLt t.isLt (show 128 * h.val + l.val < 3072 by omega),
    at3_of_lt x s.isLt u.isLt (show 1024 + (128 * h.val + l.val) < 3072 by omega)]
  simp only [Nat.mul_comm h.val 128, Nat.zero_add]

theorem near_at (t u : Fin 512) : val_main_v38 (F := Ideal) (ix2 t u) = 1#1 ↔ Near t u := by
  pointwise [val_main_v38, val_main_v37, val_main_c_8, val_main_v27, val_main_v26, val_main_v25, val_main_v24,
    val_main_v23, val_main_v22, val_main_v21]
  exact near_iff (by omega) (by omega)

theorem gap_at (t u : Fin 512) : (val_main_v32 (F := Ideal) (ix2 t u) : EReal) = gap 16 t u := by
  pointwise [val_main_v32, val_main_v31, val_main_v30, val_main_c, val_main_v27, val_main_v26, val_main_v25,
    val_main_v24, val_main_v23, val_main_v22, val_main_v21]
  exact gap_eq (by norm_num) (by omega) (by omega)

/-- The masked scores. -/
theorem score_at (s : Fin 32) (h : Fin 8) (t u : Fin 512) : (val_main_v42 (F := Ideal) x (ix4 s h t u) : EReal)
    = masked t (scoreOf group (at3 x) s h t) u := by
  pointwise [val_main_v42, val_main_call0_v0, val_main_call0_v1, val_main_call0_v2, val_main_cst_9, val_main_v41,
    val_main_v40, val_main_v39, val_main_v36, val_main_v35, val_main_v34, val_main_v33, val_main_v29, val_main_v28]
  rw [dot_at, slopes_at, gap_at, EReal.neg_mul, ← sub_eq_add_neg]
  unfold masked Scalar.select
  split_ifs with h1 h2 h2
  · rfl
  · exact absurd ((near_at t u).1 h1) h2
  · exact absurd ((near_at t u).2 h2) h1
  · exact ofBits_bot

/-- The largest score. -/
theorem top_at (s : Fin 32) (h : Fin 8) (t : Fin 512) : (val_main_v43 (F := Ideal) x (ix3 s h t) : EReal)
    = top 512 t (scoreOf group (at3 x) s h t) := by
  pointwise [val_main_v43, val_main_cst_10]
  simp only [score_at, ofBits_bot]
  rfl

/-- The weights. -/
theorem weight_at (s : Fin 32) (h : Fin 8) (t u : Fin 512) : (val_main_v47 (F := Ideal) x (ix4 s h t u) : EReal)
    = weight 512 t (scoreOf group (at3 x) s h t) u := by
  pointwise [val_main_v47, val_main_v46, val_main_v45, val_main_v44]
  rw [score_at, top_at]
  rfl

/-- The denominators. -/
theorem total_at (s : Fin 32) (h : Fin 8) (t : Fin 512) : (val_main_v48 (F := Ideal) x (ix3 s h t) : EReal)
    = total 512 t (scoreOf group (at3 x) s h t) := by
  pointwise [val_main_v48, val_main_cst_11]
  simp only [weight_at]
  rfl

/-- The first result. -/
theorem out_at (s : Fin 32) (t : Fin 512) (l : Fin 1024) : (val_main_v58 (F := Ideal) x (ix3 s t l) : EReal)
    = outOf group (at3 x) s t l := by
  pointwise [val_main_v58, val_main_v57, val_main_v56, val_main_v52, val_main_v51, val_main_v50, val_main_v49,
    val_main_v17, val_main_v5, val_main_v2]
  rw [total_at]
  rw [outOf, out]
  refine congrArg (Ideal.div · _) (Finset.sum_congr rfl fun u _ => ?_)
  rw [weight_at]
  exact congrArg _ (at3_of_lt x s.isLt u.isLt (show 2048 + l.val < 3072 by omega)).symm

theorem log_at (s : Fin 32) (h : Fin 8) (t : Fin 512) : (val_main_v54 (F := Ideal) x (ix4 s h t 0) : EReal)
    = lse 512 t (scoreOf group (at3 x) s h t) := by
  have e1 : idx_main_v44 (ix4 s h t 0) = ix3 s h t := by funext a; fin_cases a <;> rfl
  have e2 : idx_main_v49 (ix4 s h t 0) = ix3 s h t := by funext a; fin_cases a <;> rfl
  rw [val_main_v54_apply, val_main_v53_apply, val_main_v49_apply, val_main_v44_apply, e1, e2, total_at, top_at]
  rfl

/-- The second result. -/
theorem lse_at (s : Fin 32) (t : Fin 512) (l : Fin 1024) : (val_main_v60 (F := Ideal) x (ix3 s t l) : EReal)
    = lseOf group (at3 x) s t l := by
  pointwise [val_main_v60, val_main_v59, val_main_v55]
  exact log_at x s _ t

/-- The first result array. -/
theorem out_eq : val_main_v58 (F := Ideal) x
    = fun j : S32x512x1024.Idx => outOf group (at3 x) (j 0).val (j 1).val (j 2).val := by
  funext j
  idx_vars j
  exact out_at x _ _ _

/-- The second result array. -/
theorem lse_eq : val_main_v60 (F := Ideal) x
    = fun j : S32x512x1024.Idx => lseOf group (at3 x) (j 0).val (j 1).val (j 2).val := by
  funext j
  idx_vars j
  exact lse_at x _ _ _

end Cert.ReferenceSixteenIdeal.Sixteen

end
-- ==== Proof.Sixteen.Claims.lean ====
/- The claims about the group of dilation 16's attention. -/
module

public import proofs.«01_k».proof.Defs
public import proofs.«01_k».proof.Proof.Gen.KernelSixteen.Frame
public import proofs.«01_k».proof.Proof.Sixteen.Reference

@[expose] public section

set_option maxRecDepth 16384

noncomputable section

namespace Cert.Sixteen

open Idealize.ShloMosaic Idealize.ShloMosaic.TcCoe Idealize.SL.Sem
open Cert.Spec

theorem frame : Cert.quiescent_KernelSixteen := fun m ρ _ => Cert.KernelSixteen.Gen.frame m ρ

theorem frameIdeal : Cert.quiescent_KernelSixteenIdeal := fun m ρ _ => Cert.KernelSixteenIdeal.Gen.frame m ρ

theorem frameReference : Cert.quiescent_ReferenceSixteenIdeal := fun m ρ _ =>
  (θ_run Cert.ReferenceSixteenIdeal.defs _ _).mono
    (fun r h => ⟨fun c => (h c).2.2, sem_eq_zero_of_no_sems (by decide) r.2⟩)
    (Cert.ReferenceSixteenIdeal.Value.run (F := Ideal) m ρ)

theorem preserves : Cert.preserves_KernelSixteen_KernelSixteenIdeal :=
  IdealRules.named_const.statement Cert.KernelSixteenIdeal.κ "mask" .f32 0xF149F2CA#32 ⊥ rfl

/-- Both programs end with the group's output and log denominators of the argument. -/
theorem algebraic : Cert.algebraic_KernelSixteenIdeal_ReferenceSixteenIdeal := by
  intro m ρ m' ρ' _ hagree
  refine ⟨fun c j => outOf Cert.KernelSixteenIdeal.Sixteen.group (Cert.KernelSixteenIdeal.Sixteen.arg m c) (j 0).val (j 1).val (j 2).val,
    fun c j => lseOf Cert.KernelSixteenIdeal.Sixteen.group (Cert.KernelSixteenIdeal.Sixteen.arg m c) (j 0).val (j 1).val (j 2).val, ?_, ?_⟩
  · exact (θ_run Cert.KernelSixteenIdeal.defs _ _).mono
      (fun _ h c => ⟨(h c).1.trans (Cert.KernelSixteenIdeal.Sixteen.final7 m c),
        (h c).2.1.trans (Cert.KernelSixteenIdeal.Sixteen.final8 m c), (h c).2.2⟩)
      (Cert.KernelSixteenIdeal.Value.run_blocks (F := Ideal) m ρ)
  · refine (θ_run Cert.ReferenceSixteenIdeal.defs _ _).mono (fun _ h c => ⟨(h c).1.trans ?_, (h c).2.1.trans ?_, (h c).2.2⟩)
      (Cert.ReferenceSixteenIdeal.Value.run (F := Ideal) m' ρ')
    · rw [Cert.ReferenceSixteenIdeal.Read.val_main_v58_eq, hagree c]
      exact Cert.ReferenceSixteenIdeal.Sixteen.out_eq _
    · rw [Cert.ReferenceSixteenIdeal.Read.val_main_v60_eq, hagree c]
      exact Cert.ReferenceSixteenIdeal.Sixteen.lse_eq _

end Cert.Sixteen

end
-- ==== Proof.Project.Spec.lean ====
/- A projection of the layer, free of any program: rows of activations times chosen columns of a weight matrix. -/
module

public import Idealize.ShloMosaic.PureOps.Ideal
public import Idealize.ShloMosaic.Lib.Pointwise

@[expose] public section

noncomputable section

namespace Cert.Project

open Idealize.ShloMosaic

/-- A matrix read at two numbers (zero outside it). -/
def at2 {a b : ℕ} {φ : FTy} (x : FVec Ideal ⟨2, ![a, b]⟩ φ) (i j : ℕ) : EReal :=
  if h : i < a ∧ j < b then x (ix2 ⟨i, h.1⟩ ⟨j, h.2⟩) else 0

theorem at2_of_lt {a b : ℕ} {φ : FTy} (x : FVec Ideal ⟨2, ![a, b]⟩ φ) {i j : ℕ} (hi : i < a) (hj : j < b) :
    at2 x i j = x (ix2 ⟨i, hi⟩ ⟨j, hj⟩) := by
  rw [at2, dif_pos ⟨hi, hj⟩]

/-- Column `j` of a result made of blocks of 1024 columns of the weights: which column of the weights it is. -/
def column (block : ℕ → ℕ) (j : ℕ) : ℕ := 1024 * block (j / 1024) + j % 1024

theorem column_block (block : ℕ → ℕ) (j : ℕ) {l : ℕ} (hl : l < 1024) :
    column block (j * 1024 + l) = 1024 * block j + l := by
  rw [column, show (j * 1024 + l) / 1024 = j by omega, show (j * 1024 + l) % 1024 = l by omega]

/-- One entry of the product of activations and weights. -/
def entry (X W : ℕ → ℕ → EReal) (i j : ℕ) : EReal := ∑ k : Fin 4096, X i k * W k j

end Cert.Project

end
-- ==== Proof.Project.NaturalKernel.lean ====
/- The projection onto the long convolution's inputs and the undilated group's queries, keys and values: what its kernel computes. -/
module

public import proofs.«01_k».proof.Proof.Gen.KernelInNaturalIdeal.Frame
public import proofs.«01_k».proof.Proof.Project.Spec
public import Idealize.ShloMosaic.Lib.Pipeline.ValueKit

@[expose] public section

set_option maxRecDepth 16384

noncomputable section

namespace Cert.KernelInNaturalIdeal.Project

open Idealize.ShloMosaic Idealize.ShloMosaic.TcCoe Idealize.SL.Sem
open Idealize.ShloMosaic.Pipeline (Dat)
open Cert.KernelInNaturalIdeal Cert.KernelInNaturalIdeal.Gen Cert.Project

variable (m : (ℓ : Loc nD τ sig) → Buf (Elt Ideal) ℓ)

/-- The blocks of 1024 columns of the weights that hold the convolution's inputs and this group's queries, keys and values. -/
def block (b : ℕ) : ℕ := b + 2 * (b - 3)

/-- The column blocks of the weights as the kernel's table lists them, in the result's order. -/
def table : pre0.Contents (Elt Ideal) := fun | 0 => fun i => lit0 (S6.rowMajor i)

theorem tbl_eq : tbl m = table := by
  funext j
  fin_cases j
  show V m 0 main_c = _
  entry_read
  rfl

theorem ok_table : ok0 (F := Ideal) table := by decide +kernel

theorem ok : Ok m := by
  rw [Ok, tbl_eq]
  exact ok_table

/-- The table as an admissible one. -/
def chosen : (pcfg0 (F := Ideal)).Adm := ⟨table, ok_table⟩

theorem adm_eq (hO : Ok m) : adm m hO = chosen := Subtype.ext (tbl_eq m)

/-- The output blocks are visited row by row, each once. -/
theorem covers : ∀ a : (pcfg0 (F := Ideal)).Adm, a = chosen → ((cfg0 a).win 2).Covers := by
  rintro _ rfl
  decide +kernel

/-- Which blocks a grid point reads and writes. -/
theorem idx : ∀ a : (pcfg0 (F := Ideal)).Adm, a = chosen → ∀ t : Fin grid0.N,
    ((cfg0 a).win 0).index t = ![(grid0.coords t 0).val, 0]
    ∧ ((cfg0 a).win 1).index t = ![0, block (grid0.coords t 1).val]
    ∧ ((cfg0 a).win 2).index t = ![(grid0.coords t 0).val, (grid0.coords t 1).val]
    ∧ (grid0.coords t 0).val < 16 ∧ block (grid0.coords t 1).val < 20 := by
  rintro _ rfl
  decide +kernel

/-- The rows of activations a grid point reads. -/
theorem blkX (hO : Ok m) (c : Dev nD) (t : Fin grid0.N) (r : Fin 1024) (k : Fin 4096) :
    (iblk m hO c 0 t : FVec Ideal S1024x4096 .bf16) (ix2 r k)
      = at2 (a := 16384) (b := 4096) (φ := .bf16) (m ((c.tc : Thread nD τ).loc main_arg0))
          (1024 * (grid0.coords t 0).val + r) k := by
  obtain ⟨e0, e1, e2, hi, hj⟩ := idx _ (adm_eq m hO) t
  refine Eq.trans ?_ (at2_of_lt _ (by omega) (by omega)).symm
  refine (congrFun (V_main_arg0 m c) _).trans (congrArg _ (funext fun a => Fin.ext ?_))
  fin_cases a <;> blk_simp [e0]
  · show _ * 1024 + r.val = 1024 * _ + r.val
    omega
  · rfl

/-- The host's cast of the weights is the weights. -/
theorem weights (c : Dev nD) : (V m c main_v0 : FVec Ideal S4096x20480 .bf16)
    = (m ((c.tc : Thread nD τ).loc main_arg1) : FVec Ideal S4096x20480 .f32) := by
  entry_read
  rfl

/-- The columns of weights a grid point reads. -/
theorem blkW (hO : Ok m) (c : Dev nD) (t : Fin grid0.N) (k : Fin 4096) (l : Fin 1024) :
    (iblk m hO c 1 t : FVec Ideal S4096x1024 .bf16) (ix2 k l)
      = at2 (a := 4096) (b := 20480) (φ := .f32) (m ((c.tc : Thread nD τ).loc main_arg1)) k
          (1024 * block (grid0.coords t 1).val + l) := by
  obtain ⟨e0, e1, e2, hi, hj⟩ := idx _ (adm_eq m hO) t
  refine Eq.trans ?_ (at2_of_lt _ (by omega) (by omega)).symm
  refine (congrFun (weights m c) _).trans (congrArg _ (funext fun a => Fin.ext ?_))
  fin_cases a <;> blk_simp [e1]
  · rfl
  · show _ * 1024 + l.val = 1024 * _ + l.val
    omega

/-- What a grid point stores. -/
theorem point (hO : Ok m) (c : Dev nD) (t : Fin grid0.N) (r l : Fin 1024) :
    (k0_pay1 (F := Ideal) (iblk m hO c 0 t) (iblk m hO c 1 t) (ix2 r l) : EReal)
      = entry (at2 (a := 16384) (b := 4096) (φ := .bf16) (m ((c.tc : Thread nD τ).loc main_arg0)))
          (at2 (a := 4096) (b := 20480) (φ := .f32) (m ((c.tc : Thread nD τ).loc main_arg1)))
          (1024 * (grid0.coords t 0).val + r) (1024 * block (grid0.coords t 1).val + l) := by
  pointwise [k0_pay1]
  exact Finset.sum_congr rfl fun k _ => by rw [blkX, blkW]

/-- A block index of the result at coordinates. -/
theorem eq_ix2 (y : S1024x1024.Idx) : y = ix2 (y 0) (y 1) := by
  funext a
  fin_cases a <;> rfl

/-- The chosen columns of the product of the arguments. -/
def columns (c : Dev nD) : FVec Ideal S16384x6144 .bf16 := fun i =>
  entry (at2 (a := 16384) (b := 4096) (φ := .bf16) (m ((c.tc : Thread nD τ).loc main_arg0)))
    (at2 (a := 4096) (b := 20480) (φ := .f32) (m ((c.tc : Thread nD τ).loc main_arg1)))
    (i 0).val (column block (i 1).val)

/-- What the kernel computes: the chosen columns of the product. -/
theorem final (hO : Ok m) (c : Dev nD) : (dats m hO 0 c).arrAt 2 (cfgM m hO).N = columns m c := by
  refine (dats m hO 0 c).arrAt_eq_of_covers 2 _ (covers _ (adm_eq m hO)) fun t _ y => ?_
  obtain ⟨e0, e1, e2, hi, hj⟩ := idx _ (adm_eq m hO) t
  unfold columns
  blk_simp
  rw [after0_2, outsAt0]
  frame_out
  refine (congrFun (congrArg₂ k0_pay1 (Memref.IsWhole.read_unread _ _) (Memref.IsWhole.read_unread _ _)) y).trans ?_
  refine (congrArg (k0_pay1 (F := Ideal) (iblk m hO c 0 t) (iblk m hO c 1 t)) (eq_ix2 y)).trans ((point m hO c t _ _).trans ?_)
  blk_simp [e2]
  rw [column_block _ _ ((show Fin 1024 from (show S1024x1024.Idx from y) 1).isLt), Nat.mul_comm 1024 (grid0.coords t 0).val]

end Cert.KernelInNaturalIdeal.Project

end
-- ==== Proof.Project.NaturalReference.lean ====
/- The projection onto the long convolution's inputs and the undilated group's queries, keys and values: what its reference computes. -/
module

public import proofs.«01_k».proof.Proof.Gen.ReferenceInNaturalIdeal.Read
public import proofs.«01_k».proof.Proof.Project.NaturalKernel

@[expose] public section

set_option maxRecDepth 16384

noncomputable section

namespace Cert.ReferenceInNaturalIdeal.Project

open Idealize.ShloMosaic Idealize.ShloMosaic.TcCoe Idealize.SL.Sem
open Cert.ReferenceInNaturalIdeal Cert.ReferenceInNaturalIdeal.Read Cert.Project
open Cert.KernelInNaturalIdeal.Project (block)

variable (x : FVec Ideal S16384x4096 .bf16) (w : FVec Ideal S4096x20480 .f32)

/-- The whole product at one entry. -/
theorem product_at (r : Fin 16384) (j : Fin 20480) :
    (val_main_v1 (F := Ideal) x w (ix2 r j) : EReal) = entry (at2 x) (at2 w) r j := by
  pointwise [val_main_v1, val_main_v0]
  exact Finset.sum_congr rfl fun k _ => (congrArg₂ _ (at2_of_lt x r.isLt k.isLt) (at2_of_lt w k.isLt j.isLt)).symm

/-- The chosen columns of the product. -/
theorem out_at (r : Fin 16384) (j : Fin 6144) :
    (val_main_v12 (F := Ideal) x w (ix2 r j) : EReal) = entry (at2 x) (at2 w) r (column block j) := by
  pointwise [val_main_v12, val_main_v11, val_main_v10, val_main_v9, val_main_v8, val_main_v5, val_main_v4, val_main_v3, val_main_v2]
  unfold column block
  split_ifs <;> refine (product_at x w _ _).trans (congrArg _ ?_) <;> dsimp only <;> omega

/-- The reference's array. -/
theorem out_eq : (val_main_v12 (F := Ideal) x w : FVec Ideal S16384x6144 .bf16)
    = fun i => entry (at2 x) (at2 w) (i 0).val (column block (i 1).val) := by
  funext i
  refine (congrArg _ (show i = ix2 (i 0) (i 1) by funext a; fin_cases a <;> rfl)).trans (out_at x w (i 0) (i 1))

end Cert.ReferenceInNaturalIdeal.Project

end
-- ==== Proof.Project.NaturalClaims.lean ====
/- The claims about the projection onto the long convolution's inputs and the undilated group's queries, keys and values. -/
module

public import proofs.«01_k».proof.Defs
public import proofs.«01_k».proof.Proof.Gen.KernelInNatural.Frame
public import proofs.«01_k».proof.Proof.Gen.ReferenceInNaturalIdeal.Run
public import proofs.«01_k».proof.Proof.Project.NaturalReference

@[expose] public section

set_option maxRecDepth 16384

noncomputable section

namespace Cert.Project.Natural

open Idealize.ShloMosaic Idealize.ShloMosaic.TcCoe Idealize.SL.Sem

/-- The kernel's table lists blocks inside the weights, whatever the memory. -/
theorem ok (m : (ℓ : Loc Cert.KernelInNatural.nD Cert.KernelInNatural.τ Cert.KernelInNatural.sig) → Buf (Elt Bits) ℓ) :
    Cert.KernelInNatural.Gen.Ok m := by
  have e : Cert.KernelInNatural.Gen.tbl m
      = fun | 0 => fun i => Cert.KernelInNatural.lit0 (Cert.KernelInNatural.S6.rowMajor i) := by
    funext j
    fin_cases j
    show Cert.KernelInNatural.Gen.V m 0 Cert.KernelInNatural.main_c = _
    entry_read
    rfl
  rw [Cert.KernelInNatural.Gen.Ok, e]
  decide +kernel

theorem frame : Cert.quiescent_KernelInNatural := fun m ρ _ => Cert.KernelInNatural.Gen.frame m ρ (ok m)

theorem frameIdeal : Cert.quiescent_KernelInNaturalIdeal := fun m ρ _ =>
  Cert.KernelInNaturalIdeal.Gen.frame m ρ (Cert.KernelInNaturalIdeal.Project.ok m)

theorem frameReference : Cert.quiescent_ReferenceInNaturalIdeal := fun m ρ _ =>
  (θ_run Cert.ReferenceInNaturalIdeal.defs _ _).mono
    (fun r h => ⟨fun c => (h c).2, sem_eq_zero_of_no_sems (by decide) r.2⟩)
    (Cert.ReferenceInNaturalIdeal.Value.run (F := Ideal) m ρ)

theorem preserves : Cert.preserves_KernelInNatural_KernelInNaturalIdeal := trivial

/-- Both programs end with the chosen columns of the product of activations and weights. -/
theorem algebraic : Cert.algebraic_KernelInNaturalIdeal_ReferenceInNaturalIdeal := by
  intro m ρ m' ρ' _ hagree
  have hO := Cert.KernelInNaturalIdeal.Project.ok m
  refine ⟨fun c => Cert.KernelInNaturalIdeal.Project.columns m c, ?_, ?_⟩
  · exact (θ_run Cert.KernelInNaturalIdeal.defs _ _).mono (fun _ h c => ⟨((h.1 c).1 2).trans (Cert.KernelInNaturalIdeal.Project.final m hO c), h.2 c⟩)
      (θ_run_and (Cert.KernelInNaturalIdeal.Gen.run_main m ρ hO) (Cert.KernelInNaturalIdeal.Gen.unchanged m ρ hO))
  · refine (θ_run Cert.ReferenceInNaturalIdeal.defs _ _).mono (fun _ h c => ⟨(h c).1.trans ?_, (h c).2⟩)
      (Cert.ReferenceInNaturalIdeal.Value.run (F := Ideal) m' ρ')
    rw [Cert.ReferenceInNaturalIdeal.Read.val_main_v12_eq, (hagree c).1, (hagree c).2]
    exact Cert.ReferenceInNaturalIdeal.Project.out_eq _ _

end Cert.Project.Natural

end
-- ==== Proof.Project.GatesKernel.lean ====
/- The projection onto the two branches' gates: what its kernel computes. -/
module

public import proofs.«01_k».proof.Proof.Gen.KernelInGatesIdeal.Frame
public import proofs.«01_k».proof.Proof.Project.Spec
public import Idealize.ShloMosaic.Lib.Pipeline.ValueKit

@[expose] public section

set_option maxRecDepth 16384

noncomputable section

namespace Cert.KernelInGatesIdeal.Project

open Idealize.ShloMosaic Idealize.ShloMosaic.TcCoe Idealize.SL.Sem
open Idealize.ShloMosaic.Pipeline (Dat)
open Cert.KernelInGatesIdeal Cert.KernelInGatesIdeal.Gen Cert.Project

variable (m : (ℓ : Loc nD τ sig) → Buf (Elt Ideal) ℓ)

/-- The blocks of 1024 columns of the weights that hold the two branches' gates. -/
def block (b : ℕ) : ℕ := b + 12

/-- The column blocks of the weights as the kernel's table lists them, in the result's order. -/
def table : pre0.Contents (Elt Ideal) := fun | 0 => fun i => lit0 (S8.rowMajor i)

theorem tbl_eq : tbl m = table := by
  funext j
  fin_cases j
  show V m 0 main_c = _
  entry_read
  rfl

theorem ok_table : ok0 (F := Ideal) table := by decide +kernel

theorem ok : Ok m := by
  rw [Ok, tbl_eq]
  exact ok_table

/-- The table as an admissible one. -/
def chosen : (pcfg0 (F := Ideal)).Adm := ⟨table, ok_table⟩

theorem adm_eq (hO : Ok m) : adm m hO = chosen := Subtype.ext (tbl_eq m)

/-- The output blocks are visited row by row, each once. -/
theorem covers : ∀ a : (pcfg0 (F := Ideal)).Adm, a = chosen → ((cfg0 a).win 2).Covers := by
  rintro _ rfl
  decide +kernel

/-- Which blocks a grid point reads and writes. -/
theorem idx : ∀ a : (pcfg0 (F := Ideal)).Adm, a = chosen → ∀ t : Fin grid0.N,
    ((cfg0 a).win 0).index t = ![(grid0.coords t 0).val, 0]
    ∧ ((cfg0 a).win 1).index t = ![0, block (grid0.coords t 1).val]
    ∧ ((cfg0 a).win 2).index t = ![(grid0.coords t 0).val, (grid0.coords t 1).val]
    ∧ (grid0.coords t 0).val < 16 ∧ block (grid0.coords t 1).val < 20 := by
  rintro _ rfl
  decide +kernel

/-- The rows of activations a grid point reads. -/
theorem blkX (hO : Ok m) (c : Dev nD) (t : Fin grid0.N) (r : Fin 1024) (k : Fin 4096) :
    (iblk m hO c 0 t : FVec Ideal S1024x4096 .bf16) (ix2 r k)
      = at2 (a := 16384) (b := 4096) (φ := .bf16) (m ((c.tc : Thread nD τ).loc main_arg0))
          (1024 * (grid0.coords t 0).val + r) k := by
  obtain ⟨e0, e1, e2, hi, hj⟩ := idx _ (adm_eq m hO) t
  refine Eq.trans ?_ (at2_of_lt _ (by omega) (by omega)).symm
  refine (congrFun (V_main_arg0 m c) _).trans (congrArg _ (funext fun a => Fin.ext ?_))
  fin_cases a <;> blk_simp [e0]
  · show _ * 1024 + r.val = 1024 * _ + r.val
    omega
  · rfl

/-- The host's cast of the weights is the weights. -/
theorem weights (c : Dev nD) : (V m c main_v0 : FVec Ideal S4096x20480 .bf16)
    = (m ((c.tc : Thread nD τ).loc main_arg1) : FVec Ideal S4096x20480 .f32) := by
  entry_read
  rfl

/-- The columns of weights a grid point reads. -/
theorem blkW (hO : Ok m) (c : Dev nD) (t : Fin grid0.N) (k : Fin 4096) (l : Fin 1024) :
    (iblk m hO c 1 t : FVec Ideal S4096x1024 .bf16) (ix2 k l)
      = at2 (a := 4096) (b := 20480) (φ := .f32) (m ((c.tc : Thread nD τ).loc main_arg1)) k
          (1024 * block (grid0.coords t 1).val + l) := by
  obtain ⟨e0, e1, e2, hi, hj⟩ := idx _ (adm_eq m hO) t
  refine Eq.trans ?_ (at2_of_lt _ (by omega) (by omega)).symm
  refine (congrFun (weights m c) _).trans (congrArg _ (funext fun a => Fin.ext ?_))
  fin_cases a <;> blk_simp [e1]
  · rfl
  · show _ * 1024 + l.val = 1024 * _ + l.val
    omega

/-- What a grid point stores. -/
theorem point (hO : Ok m) (c : Dev nD) (t : Fin grid0.N) (r l : Fin 1024) :
    (k0_pay1 (F := Ideal) (iblk m hO c 0 t) (iblk m hO c 1 t) (ix2 r l) : EReal)
      = entry (at2 (a := 16384) (b := 4096) (φ := .bf16) (m ((c.tc : Thread nD τ).loc main_arg0)))
          (at2 (a := 4096) (b := 20480) (φ := .f32) (m ((c.tc : Thread nD τ).loc main_arg1)))
          (1024 * (grid0.coords t 0).val + r) (1024 * block (grid0.coords t 1).val + l) := by
  pointwise [k0_pay1]
  exact Finset.sum_congr rfl fun k _ => by rw [blkX, blkW]

/-- A block index of the result at coordinates. -/
theorem eq_ix2 (y : S1024x1024.Idx) : y = ix2 (y 0) (y 1) := by
  funext a
  fin_cases a <;> rfl

/-- The gates' columns of the product of the arguments. -/
def columns (c : Dev nD) : FVec Ideal S16384x8192 .bf16 := fun i =>
  entry (at2 (a := 16384) (b := 4096) (φ := .bf16) (m ((c.tc : Thread nD τ).loc main_arg0)))
    (at2 (a := 4096) (b := 20480) (φ := .f32) (m ((c.tc : Thread nD τ).loc main_arg1)))
    (i 0).val (column block (i 1).val)

/-- What the kernel computes: the chosen columns of the product. -/
theorem final (hO : Ok m) (c : Dev nD) : (dats m hO 0 c).arrAt 2 (cfgM m hO).N = columns m c := by
  refine (dats m hO 0 c).arrAt_eq_of_covers 2 _ (covers _ (adm_eq m hO)) fun t _ y => ?_
  obtain ⟨e0, e1, e2, hi, hj⟩ := idx _ (adm_eq m hO) t
  unfold columns
  blk_simp
  rw [after0_2, outsAt0]
  frame_out
  refine (congrFun (congrArg₂ k0_pay1 (Memref.IsWhole.read_unread _ _) (Memref.IsWhole.read_unread _ _)) y).trans ?_
  refine (congrArg (k0_pay1 (F := Ideal) (iblk m hO c 0 t) (iblk m hO c 1 t)) (eq_ix2 y)).trans ((point m hO c t _ _).trans ?_)
  blk_simp [e2]
  rw [column_block _ _ ((show Fin 1024 from (show S1024x1024.Idx from y) 1).isLt), Nat.mul_comm 1024 (grid0.coords t 0).val]

end Cert.KernelInGatesIdeal.Project

end
-- ==== Proof.Project.GatesReference.lean ====
/- The projection onto the two branches' gates: what its reference computes. -/
module

public import proofs.«01_k».proof.Proof.Gen.ReferenceInGatesIdeal.Read
public import proofs.«01_k».proof.Proof.Project.GatesKernel

@[expose] public section

set_option maxRecDepth 16384

noncomputable section

namespace Cert.ReferenceInGatesIdeal.Project

open Idealize.ShloMosaic Idealize.ShloMosaic.TcCoe Idealize.SL.Sem
open Cert.ReferenceInGatesIdeal Cert.ReferenceInGatesIdeal.Read Cert.Project
open Cert.KernelInGatesIdeal.Project (block)

variable (x : FVec Ideal S16384x4096 .bf16) (w : FVec Ideal S4096x20480 .f32)

/-- The whole product at one entry. -/
theorem product_at (r : Fin 16384) (j : Fin 20480) :
    (val_main_v1 (F := Ideal) x w (ix2 r j) : EReal) = entry (at2 x) (at2 w) r j := by
  pointwise [val_main_v1, val_main_v0]
  exact Finset.sum_congr rfl fun k _ => (congrArg₂ _ (at2_of_lt x r.isLt k.isLt) (at2_of_lt w k.isLt j.isLt)).symm

/-- The gates' columns of the product. -/
theorem out_at (r : Fin 16384) (j : Fin 8192) :
    (val_main_v9 (F := Ideal) x w (ix2 r j) : EReal) = entry (at2 x) (at2 w) r (column block j) := by
  pointwise [val_main_v9, val_main_v8, val_main_v7, val_main_v6]
  unfold column block
  split_ifs <;> refine (product_at x w _ _).trans (congrArg _ ?_) <;> dsimp only <;> omega

/-- The reference's array. -/
theorem out_eq : (val_main_v9 (F := Ideal) x w : FVec Ideal S16384x8192 .bf16)
    = fun i => entry (at2 x) (at2 w) (i 0).val (column block (i 1).val) := by
  funext i
  refine (congrArg _ (show i = ix2 (i 0) (i 1) by funext a; fin_cases a <;> rfl)).trans (out_at x w (i 0) (i 1))

end Cert.ReferenceInGatesIdeal.Project

end
-- ==== Proof.Project.GatesClaims.lean ====
/- The claims about the projection onto the two branches' gates. -/
module

public import proofs.«01_k».proof.Defs
public import proofs.«01_k».proof.Proof.Gen.KernelInGates.Frame
public import proofs.«01_k».proof.Proof.Gen.ReferenceInGatesIdeal.Run
public import proofs.«01_k».proof.Proof.Project.GatesReference

@[expose] public section

set_option maxRecDepth 16384

noncomputable section

namespace Cert.Project.Gates

open Idealize.ShloMosaic Idealize.ShloMosaic.TcCoe Idealize.SL.Sem

/-- The kernel's table lists blocks inside the weights, whatever the memory. -/
theorem ok (m : (ℓ : Loc Cert.KernelInGates.nD Cert.KernelInGates.τ Cert.KernelInGates.sig) → Buf (Elt Bits) ℓ) :
    Cert.KernelInGates.Gen.Ok m := by
  have e : Cert.KernelInGates.Gen.tbl m
      = fun | 0 => fun i => Cert.KernelInGates.lit0 (Cert.KernelInGates.S8.rowMajor i) := by
    funext j
    fin_cases j
    show Cert.KernelInGates.Gen.V m 0 Cert.KernelInGates.main_c = _
    entry_read
    rfl
  rw [Cert.KernelInGates.Gen.Ok, e]
  decide +kernel

theorem frame : Cert.quiescent_KernelInGates := fun m ρ _ => Cert.KernelInGates.Gen.frame m ρ (ok m)

theorem frameIdeal : Cert.quiescent_KernelInGatesIdeal := fun m ρ _ =>
  Cert.KernelInGatesIdeal.Gen.frame m ρ (Cert.KernelInGatesIdeal.Project.ok m)

theorem frameReference : Cert.quiescent_ReferenceInGatesIdeal := fun m ρ _ =>
  (θ_run Cert.ReferenceInGatesIdeal.defs _ _).mono
    (fun r h => ⟨fun c => (h c).2, sem_eq_zero_of_no_sems (by decide) r.2⟩)
    (Cert.ReferenceInGatesIdeal.Value.run (F := Ideal) m ρ)

theorem preserves : Cert.preserves_KernelInGates_KernelInGatesIdeal := trivial

/-- Both programs end with the gates' columns of the product of activations and weights. -/
theorem algebraic : Cert.algebraic_KernelInGatesIdeal_ReferenceInGatesIdeal := by
  intro m ρ m' ρ' _ hagree
  have hO := Cert.KernelInGatesIdeal.Project.ok m
  refine ⟨fun c => Cert.KernelInGatesIdeal.Project.columns m c, ?_, ?_⟩
  · exact (θ_run Cert.KernelInGatesIdeal.defs _ _).mono (fun _ h c => ⟨((h.1 c).1 2).trans (Cert.KernelInGatesIdeal.Project.final m hO c), h.2 c⟩)
      (θ_run_and (Cert.KernelInGatesIdeal.Gen.run_main m ρ hO) (Cert.KernelInGatesIdeal.Gen.unchanged m ρ hO))
  · refine (θ_run Cert.ReferenceInGatesIdeal.defs _ _).mono (fun _ h c => ⟨(h c).1.trans ?_, (h c).2⟩)
      (Cert.ReferenceInGatesIdeal.Value.run (F := Ideal) m' ρ')
    rw [Cert.ReferenceInGatesIdeal.Read.val_main_v9_eq, (hagree c).1, (hagree c).2]
    exact Cert.ReferenceInGatesIdeal.Project.out_eq _ _

end Cert.Project.Gates

end
-- ==== Proof.Project.FourKernel.lean ====
/- The projection onto the queries, keys and values of the group of dilation 4: what its kernel computes. -/
module

public import proofs.«01_k».proof.Proof.Gen.KernelInFourIdeal.Frame
public import proofs.«01_k».proof.Proof.Project.Spec
public import Idealize.ShloMosaic.Lib.Pipeline.ValueKit

@[expose] public section

set_option maxRecDepth 16384

noncomputable section

namespace Cert.KernelInFourIdeal.Project

open Idealize.ShloMosaic Idealize.ShloMosaic.TcCoe Idealize.SL.Sem
open Idealize.ShloMosaic.Pipeline (Dat)
open Cert.KernelInFourIdeal Cert.KernelInFourIdeal.Gen Cert.Project

variable (m : (ℓ : Loc nD τ sig) → Buf (Elt Ideal) ℓ)

/-- The blocks of 1024 columns of the weights that hold this group's queries, keys and values. -/
def block (b : ℕ) : ℕ := 3 * b + 4

/-- The column blocks of the weights as the kernel's table lists them, in the result's order. -/
def table : pre0.Contents (Elt Ideal) := fun | 0 => fun i => lit0 (S3.rowMajor i)

theorem tbl_eq : tbl m = table := by
  funext j
  fin_cases j
  show V m 0 main_c = _
  entry_read
  rfl

theorem ok_table : ok0 (F := Ideal) table := by decide +kernel

theorem ok : Ok m := by
  rw [Ok, tbl_eq]
  exact ok_table

/-- The table as an admissible one. -/
def chosen : (pcfg0 (F := Ideal)).Adm := ⟨table, ok_table⟩

theorem adm_eq (hO : Ok m) : adm m hO = chosen := Subtype.ext (tbl_eq m)

/-- The output blocks are visited row by row, each once. -/
theorem covers : ∀ a : (pcfg0 (F := Ideal)).Adm, a = chosen → ((cfg0 a).win 2).Covers := by
  rintro _ rfl
  decide +kernel

/-- Which blocks a grid point reads and writes. -/
theorem idx : ∀ a : (pcfg0 (F := Ideal)).Adm, a = chosen → ∀ t : Fin grid0.N,
    ((cfg0 a).win 0).index t = ![(grid0.coords t 0).val, 0]
    ∧ ((cfg0 a).win 1).index t = ![0, block (grid0.coords t 1).val]
    ∧ ((cfg0 a).win 2).index t = ![(grid0.coords t 0).val, (grid0.coords t 1).val]
    ∧ (grid0.coords t 0).val < 16 ∧ block (grid0.coords t 1).val < 20 := by
  rintro _ rfl
  decide +kernel

/-- The rows of activations a grid point reads. -/
theorem blkX (hO : Ok m) (c : Dev nD) (t : Fin grid0.N) (r : Fin 1024) (k : Fin 4096) :
    (iblk m hO c 0 t : FVec Ideal S1024x4096 .bf16) (ix2 r k)
      = at2 (a := 16384) (b := 4096) (φ := .bf16) (m ((c.tc : Thread nD τ).loc main_arg0))
          (1024 * (grid0.coords t 0).val + r) k := by
  obtain ⟨e0, e1, e2, hi, hj⟩ := idx _ (adm_eq m hO) t
  refine Eq.trans ?_ (at2_of_lt _ (by omega) (by omega)).symm
  refine (congrFun (V_main_arg0 m c) _).trans (congrArg _ (funext fun a => Fin.ext ?_))
  fin_cases a <;> blk_simp [e0]
  · show _ * 1024 + r.val = 1024 * _ + r.val
    omega
  · rfl

/-- The host's cast of the weights is the weights. -/
theorem weights (c : Dev nD) : (V m c main_v0 : FVec Ideal S4096x20480 .bf16)
    = (m ((c.tc : Thread nD τ).loc main_arg1) : FVec Ideal S4096x20480 .f32) := by
  entry_read
  rfl

/-- The columns of weights a grid point reads. -/
theorem blkW (hO : Ok m) (c : Dev nD) (t : Fin grid0.N) (k : Fin 4096) (l : Fin 1024) :
    (iblk m hO c 1 t : FVec Ideal S4096x1024 .bf16) (ix2 k l)
      = at2 (a := 4096) (b := 20480) (φ := .f32) (m ((c.tc : Thread nD τ).loc main_arg1)) k
          (1024 * block (grid0.coords t 1).val + l) := by
  obtain ⟨e0, e1, e2, hi, hj⟩ := idx _ (adm_eq m hO) t
  refine Eq.trans ?_ (at2_of_lt _ (by omega) (by omega)).symm
  refine (congrFun (weights m c) _).trans (congrArg _ (funext fun a => Fin.ext ?_))
  fin_cases a <;> blk_simp [e1]
  · rfl
  · show _ * 1024 + l.val = 1024 * _ + l.val
    omega

/-- What a grid point stores. -/
theorem point (hO : Ok m) (c : Dev nD) (t : Fin grid0.N) (r l : Fin 1024) :
    (k0_pay1 (F := Ideal) (iblk m hO c 0 t) (iblk m hO c 1 t) (ix2 r l) : EReal)
      = entry (at2 (a := 16384) (b := 4096) (φ := .bf16) (m ((c.tc : Thread nD τ).loc main_arg0)))
          (at2 (a := 4096) (b := 20480) (φ := .f32) (m ((c.tc : Thread nD τ).loc main_arg1)))
          (1024 * (grid0.coords t 0).val + r) (1024 * block (grid0.coords t 1).val + l) := by
  pointwise [k0_pay1]
  exact Finset.sum_congr rfl fun k _ => by rw [blkX, blkW]

/-- A block index of the result at coordinates. -/
theorem eq_ix2 (y : S1024x1024.Idx) : y = ix2 (y 0) (y 1) := by
  funext a
  fin_cases a <;> rfl

/-- The group's columns of the product of the arguments. -/
def columns (c : Dev nD) : FVec Ideal S16384x3072 .bf16 := fun i =>
  entry (at2 (a := 16384) (b := 4096) (φ := .bf16) (m ((c.tc : Thread nD τ).loc main_arg0)))
    (at2 (a := 4096) (b := 20480) (φ := .f32) (m ((c.tc : Thread nD τ).loc main_arg1)))
    (i 0).val (column block (i 1).val)

/-- What the kernel computes: the chosen columns of the product. -/
theorem final (hO : Ok m) (c : Dev nD) : (dats m hO 0 c).arrAt 2 (cfgM m hO).N = columns m c := by
  refine (dats m hO 0 c).arrAt_eq_of_covers 2 _ (covers _ (adm_eq m hO)) fun t _ y => ?_
  obtain ⟨e0, e1, e2, hi, hj⟩ := idx _ (adm_eq m hO) t
  unfold columns
  blk_simp
  rw [after0_2, outsAt0]
  frame_out
  refine (congrFun (congrArg₂ k0_pay1 (Memref.IsWhole.read_unread _ _) (Memref.IsWhole.read_unread _ _)) y).trans ?_
  refine (congrArg (k0_pay1 (F := Ideal) (iblk m hO c 0 t) (iblk m hO c 1 t)) (eq_ix2 y)).trans ((point m hO c t _ _).trans ?_)
  blk_simp [e2]
  rw [column_block _ _ ((show Fin 1024 from (show S1024x1024.Idx from y) 1).isLt), Nat.mul_comm 1024 (grid0.coords t 0).val]

end Cert.KernelInFourIdeal.Project

end
-- ==== Proof.Project.FourReference.lean ====
/- The projection onto the queries, keys and values of the group of dilation 4: what its reference computes. -/
module

public import proofs.«01_k».proof.Proof.Gen.ReferenceInFourIdeal.Read
public import proofs.«01_k».proof.Proof.Project.FourKernel

@[expose] public section

set_option maxRecDepth 16384

noncomputable section

namespace Cert.ReferenceInFourIdeal.Project

open Idealize.ShloMosaic Idealize.ShloMosaic.TcCoe Idealize.SL.Sem
open Cert.ReferenceInFourIdeal Cert.ReferenceInFourIdeal.Read Cert.Project
open Cert.KernelInFourIdeal.Project (block)

variable (x : FVec Ideal S16384x4096 .bf16) (w : FVec Ideal S4096x20480 .f32)

/-- The whole product at one entry. -/
theorem product_at (r : Fin 16384) (j : Fin 20480) :
    (val_main_v1 (F := Ideal) x w (ix2 r j) : EReal) = entry (at2 x) (at2 w) r j := by
  pointwise [val_main_v1, val_main_v0]
  exact Finset.sum_congr rfl fun k _ => (congrArg₂ _ (at2_of_lt x r.isLt k.isLt) (at2_of_lt w k.isLt j.isLt)).symm

/-- The group's columns of the product. -/
theorem out_at (r : Fin 16384) (j : Fin 3072) :
    (val_main_v12 (F := Ideal) x w (ix2 r j) : EReal) = entry (at2 x) (at2 w) r (column block j) := by
  pointwise [val_main_v12, val_main_v11, val_main_v10, val_main_v9, val_main_v8, val_main_v5, val_main_v4, val_main_v3]
  unfold column block
  split_ifs <;> refine (product_at x w _ _).trans (congrArg _ ?_) <;> dsimp only <;> omega

/-- The reference's array. -/
theorem out_eq : (val_main_v12 (F := Ideal) x w : FVec Ideal S16384x3072 .bf16)
    = fun i => entry (at2 x) (at2 w) (i 0).val (column block (i 1).val) := by
  funext i
  refine (congrArg _ (show i = ix2 (i 0) (i 1) by funext a; fin_cases a <;> rfl)).trans (out_at x w (i 0) (i 1))

end Cert.ReferenceInFourIdeal.Project

end
-- ==== Proof.Project.FourClaims.lean ====
/- The claims about the projection onto the queries, keys and values of the group of dilation 4. -/
module

public import proofs.«01_k».proof.Defs
public import proofs.«01_k».proof.Proof.Gen.KernelInFour.Frame
public import proofs.«01_k».proof.Proof.Gen.ReferenceInFourIdeal.Run
public import proofs.«01_k».proof.Proof.Project.FourReference

@[expose] public section

set_option maxRecDepth 16384

noncomputable section

namespace Cert.Project.Four

open Idealize.ShloMosaic Idealize.ShloMosaic.TcCoe Idealize.SL.Sem

/-- The kernel's table lists blocks inside the weights, whatever the memory. -/
theorem ok (m : (ℓ : Loc Cert.KernelInFour.nD Cert.KernelInFour.τ Cert.KernelInFour.sig) → Buf (Elt Bits) ℓ) :
    Cert.KernelInFour.Gen.Ok m := by
  have e : Cert.KernelInFour.Gen.tbl m
      = fun | 0 => fun i => Cert.KernelInFour.lit0 (Cert.KernelInFour.S3.rowMajor i) := by
    funext j
    fin_cases j
    show Cert.KernelInFour.Gen.V m 0 Cert.KernelInFour.main_c = _
    entry_read
    rfl
  rw [Cert.KernelInFour.Gen.Ok, e]
  decide +kernel

theorem frame : Cert.quiescent_KernelInFour := fun m ρ _ => Cert.KernelInFour.Gen.frame m ρ (ok m)

theorem frameIdeal : Cert.quiescent_KernelInFourIdeal := fun m ρ _ =>
  Cert.KernelInFourIdeal.Gen.frame m ρ (Cert.KernelInFourIdeal.Project.ok m)

theorem frameReference : Cert.quiescent_ReferenceInFourIdeal := fun m ρ _ =>
  (θ_run Cert.ReferenceInFourIdeal.defs _ _).mono
    (fun r h => ⟨fun c => (h c).2, sem_eq_zero_of_no_sems (by decide) r.2⟩)
    (Cert.ReferenceInFourIdeal.Value.run (F := Ideal) m ρ)

theorem preserves : Cert.preserves_KernelInFour_KernelInFourIdeal := trivial

/-- Both programs end with the group's columns of the product of activations and weights. -/
theorem algebraic : Cert.algebraic_KernelInFourIdeal_ReferenceInFourIdeal := by
  intro m ρ m' ρ' _ hagree
  have hO := Cert.KernelInFourIdeal.Project.ok m
  refine ⟨fun c => Cert.KernelInFourIdeal.Project.columns m c, ?_, ?_⟩
  · exact (θ_run Cert.KernelInFourIdeal.defs _ _).mono (fun _ h c => ⟨((h.1 c).1 2).trans (Cert.KernelInFourIdeal.Project.final m hO c), h.2 c⟩)
      (θ_run_and (Cert.KernelInFourIdeal.Gen.run_main m ρ hO) (Cert.KernelInFourIdeal.Gen.unchanged m ρ hO))
  · refine (θ_run Cert.ReferenceInFourIdeal.defs _ _).mono (fun _ h c => ⟨(h c).1.trans ?_, (h c).2⟩)
      (Cert.ReferenceInFourIdeal.Value.run (F := Ideal) m' ρ')
    rw [Cert.ReferenceInFourIdeal.Read.val_main_v12_eq, (hagree c).1, (hagree c).2]
    exact Cert.ReferenceInFourIdeal.Project.out_eq _ _

end Cert.Project.Four

end
-- ==== Proof.Project.SixteenKernel.lean ====
/- The projection onto the queries, keys and values of the group of dilation 16: what its kernel computes. -/
module

public import proofs.«01_k».proof.Proof.Gen.KernelInSixteenIdeal.Frame
public import proofs.«01_k».proof.Proof.Project.Spec
public import Idealize.ShloMosaic.Lib.Pipeline.ValueKit

@[expose] public section

set_option maxRecDepth 16384

noncomputable section

namespace Cert.KernelInSixteenIdeal.Project

open Idealize.ShloMosaic Idealize.ShloMosaic.TcCoe Idealize.SL.Sem
open Idealize.ShloMosaic.Pipeline (Dat)
open Cert.KernelInSixteenIdeal Cert.KernelInSixteenIdeal.Gen Cert.Project

variable (m : (ℓ : Loc nD τ sig) → Buf (Elt Ideal) ℓ)

/-- The blocks of 1024 columns of the weights that hold this group's queries, keys and values. -/
def block (b : ℕ) : ℕ := 3 * b + 5

/-- The column blocks of the weights as the kernel's table lists them, in the result's order. -/
def table : pre0.Contents (Elt Ideal) := fun | 0 => fun i => lit0 (S3.rowMajor i)

theorem tbl_eq : tbl m = table := by
  funext j
  fin_cases j
  show V m 0 main_c = _
  entry_read
  rfl

theorem ok_table : ok0 (F := Ideal) table := by decide +kernel

theorem ok : Ok m := by
  rw [Ok, tbl_eq]
  exact ok_table

/-- The table as an admissible one. -/
def chosen : (pcfg0 (F := Ideal)).Adm := ⟨table, ok_table⟩

theorem adm_eq (hO : Ok m) : adm m hO = chosen := Subtype.ext (tbl_eq m)

/-- The output blocks are visited row by row, each once. -/
theorem covers : ∀ a : (pcfg0 (F := Ideal)).Adm, a = chosen → ((cfg0 a).win 2).Covers := by
  rintro _ rfl
  decide +kernel

/-- Which blocks a grid point reads and writes. -/
theorem idx : ∀ a : (pcfg0 (F := Ideal)).Adm, a = chosen → ∀ t : Fin grid0.N,
    ((cfg0 a).win 0).index t = ![(grid0.coords t 0).val, 0]
    ∧ ((cfg0 a).win 1).index t = ![0, block (grid0.coords t 1).val]
    ∧ ((cfg0 a).win 2).index t = ![(grid0.coords t 0).val, (grid0.coords t 1).val]
    ∧ (grid0.coords t 0).val < 16 ∧ block (grid0.coords t 1).val < 20 := by
  rintro _ rfl
  decide +kernel

/-- The rows of activations a grid point reads. -/
theorem blkX (hO : Ok m) (c : Dev nD) (t : Fin grid0.N) (r : Fin 1024) (k : Fin 4096) :
    (iblk m hO c 0 t : FVec Ideal S1024x4096 .bf16) (ix2 r k)
      = at2 (a := 16384) (b := 4096) (φ := .bf16) (m ((c.tc : Thread nD τ).loc main_arg0))
          (1024 * (grid0.coords t 0).val + r) k := by
  obtain ⟨e0, e1, e2, hi, hj⟩ := idx _ (adm_eq m hO) t
  refine Eq.trans ?_ (at2_of_lt _ (by omega) (by omega)).symm
  refine (congrFun (V_main_arg0 m c) _).trans (congrArg _ (funext fun a => Fin.ext ?_))
  fin_cases a <;> blk_simp [e0]
  · show _ * 1024 + r.val = 1024 * _ + r.val
    omega
  · rfl

/-- The host's cast of the weights is the weights. -/
theorem weights (c : Dev nD) : (V m c main_v0 : FVec Ideal S4096x20480 .bf16)
    = (m ((c.tc : Thread nD τ).loc main_arg1) : FVec Ideal S4096x20480 .f32) := by
  entry_read
  rfl

/-- The columns of weights a grid point reads. -/
theorem blkW (hO : Ok m) (c : Dev nD) (t : Fin grid0.N) (k : Fin 4096) (l : Fin 1024) :
    (iblk m hO c 1 t : FVec Ideal S4096x1024 .bf16) (ix2 k l)
      = at2 (a := 4096) (b := 20480) (φ := .f32) (m ((c.tc : Thread nD τ).loc main_arg1)) k
          (1024 * block (grid0.coords t 1).val + l) := by
  obtain ⟨e0, e1, e2, hi, hj⟩ := idx _ (adm_eq m hO) t
  refine Eq.trans ?_ (at2_of_lt _ (by omega) (by omega)).symm
  refine (congrFun (weights m c) _).trans (congrArg _ (funext fun a => Fin.ext ?_))
  fin_cases a <;> blk_simp [e1]
  · rfl
  · show _ * 1024 + l.val = 1024 * _ + l.val
    omega

/-- What a grid point stores. -/
theorem point (hO : Ok m) (c : Dev nD) (t : Fin grid0.N) (r l : Fin 1024) :
    (k0_pay1 (F := Ideal) (iblk m hO c 0 t) (iblk m hO c 1 t) (ix2 r l) : EReal)
      = entry (at2 (a := 16384) (b := 4096) (φ := .bf16) (m ((c.tc : Thread nD τ).loc main_arg0)))
          (at2 (a := 4096) (b := 20480) (φ := .f32) (m ((c.tc : Thread nD τ).loc main_arg1)))
          (1024 * (grid0.coords t 0).val + r) (1024 * block (grid0.coords t 1).val + l) := by
  pointwise [k0_pay1]
  exact Finset.sum_congr rfl fun k _ => by rw [blkX, blkW]

/-- A block index of the result at coordinates. -/
theorem eq_ix2 (y : S1024x1024.Idx) : y = ix2 (y 0) (y 1) := by
  funext a
  fin_cases a <;> rfl

/-- The group's columns of the product of the arguments. -/
def columns (c : Dev nD) : FVec Ideal S16384x3072 .bf16 := fun i =>
  entry (at2 (a := 16384) (b := 4096) (φ := .bf16) (m ((c.tc : Thread nD τ).loc main_arg0)))
    (at2 (a := 4096) (b := 20480) (φ := .f32) (m ((c.tc : Thread nD τ).loc main_arg1)))
    (i 0).val (column block (i 1).val)

/-- What the kernel computes: the chosen columns of the product. -/
theorem final (hO : Ok m) (c : Dev nD) : (dats m hO 0 c).arrAt 2 (cfgM m hO).N = columns m c := by
  refine (dats m hO 0 c).arrAt_eq_of_covers 2 _ (covers _ (adm_eq m hO)) fun t _ y => ?_
  obtain ⟨e0, e1, e2, hi, hj⟩ := idx _ (adm_eq m hO) t
  unfold columns
  blk_simp
  rw [after0_2, outsAt0]
  frame_out
  refine (congrFun (congrArg₂ k0_pay1 (Memref.IsWhole.read_unread _ _) (Memref.IsWhole.read_unread _ _)) y).trans ?_
  refine (congrArg (k0_pay1 (F := Ideal) (iblk m hO c 0 t) (iblk m hO c 1 t)) (eq_ix2 y)).trans ((point m hO c t _ _).trans ?_)
  blk_simp [e2]
  rw [column_block _ _ ((show Fin 1024 from (show S1024x1024.Idx from y) 1).isLt), Nat.mul_comm 1024 (grid0.coords t 0).val]

end Cert.KernelInSixteenIdeal.Project

end
-- ==== Proof.Project.SixteenReference.lean ====
/- The projection onto the queries, keys and values of the group of dilation 16: what its reference computes. -/
module

public import proofs.«01_k».proof.Proof.Gen.ReferenceInSixteenIdeal.Read
public import proofs.«01_k».proof.Proof.Project.SixteenKernel

@[expose] public section

set_option maxRecDepth 16384

noncomputable section

namespace Cert.ReferenceInSixteenIdeal.Project

open Idealize.ShloMosaic Idealize.ShloMosaic.TcCoe Idealize.SL.Sem
open Cert.ReferenceInSixteenIdeal Cert.ReferenceInSixteenIdeal.Read Cert.Project
open Cert.KernelInSixteenIdeal.Project (block)

variable (x : FVec Ideal S16384x4096 .bf16) (w : FVec Ideal S4096x20480 .f32)

/-- The whole product at one entry. -/
theorem product_at (r : Fin 16384) (j : Fin 20480) :
    (val_main_v1 (F := Ideal) x w (ix2 r j) : EReal) = entry (at2 x) (at2 w) r j := by
  pointwise [val_main_v1, val_main_v0]
  exact Finset.sum_congr rfl fun k _ => (congrArg₂ _ (at2_of_lt x r.isLt k.isLt) (at2_of_lt w k.isLt j.isLt)).symm

/-- The group's columns of the product. -/
theorem out_at (r : Fin 16384) (j : Fin 3072) :
    (val_main_v12 (F := Ideal) x w (ix2 r j) : EReal) = entry (at2 x) (at2 w) r (column block j) := by
  pointwise [val_main_v12, val_main_v11, val_main_v10, val_main_v9, val_main_v8, val_main_v5, val_main_v4, val_main_v3]
  unfold column block
  split_ifs <;> refine (product_at x w _ _).trans (congrArg _ ?_) <;> dsimp only <;> omega

/-- The reference's array. -/
theorem out_eq : (val_main_v12 (F := Ideal) x w : FVec Ideal S16384x3072 .bf16)
    = fun i => entry (at2 x) (at2 w) (i 0).val (column block (i 1).val) := by
  funext i
  refine (congrArg _ (show i = ix2 (i 0) (i 1) by funext a; fin_cases a <;> rfl)).trans (out_at x w (i 0) (i 1))

end Cert.ReferenceInSixteenIdeal.Project

end
-- ==== Proof.Project.SixteenClaims.lean ====
/- The claims about the projection onto the queries, keys and values of the group of dilation 16. -/
module

public import proofs.«01_k».proof.Defs
public import proofs.«01_k».proof.Proof.Gen.KernelInSixteen.Frame
public import proofs.«01_k».proof.Proof.Gen.ReferenceInSixteenIdeal.Run
public import proofs.«01_k».proof.Proof.Project.SixteenReference

@[expose] public section

set_option maxRecDepth 16384

noncomputable section

namespace Cert.Project.Sixteen

open Idealize.ShloMosaic Idealize.ShloMosaic.TcCoe Idealize.SL.Sem

/-- The kernel's table lists blocks inside the weights, whatever the memory. -/
theorem ok (m : (ℓ : Loc Cert.KernelInSixteen.nD Cert.KernelInSixteen.τ Cert.KernelInSixteen.sig) → Buf (Elt Bits) ℓ) :
    Cert.KernelInSixteen.Gen.Ok m := by
  have e : Cert.KernelInSixteen.Gen.tbl m
      = fun | 0 => fun i => Cert.KernelInSixteen.lit0 (Cert.KernelInSixteen.S3.rowMajor i) := by
    funext j
    fin_cases j
    show Cert.KernelInSixteen.Gen.V m 0 Cert.KernelInSixteen.main_c = _
    entry_read
    rfl
  rw [Cert.KernelInSixteen.Gen.Ok, e]
  decide +kernel

theorem frame : Cert.quiescent_KernelInSixteen := fun m ρ _ => Cert.KernelInSixteen.Gen.frame m ρ (ok m)

theorem frameIdeal : Cert.quiescent_KernelInSixteenIdeal := fun m ρ _ =>
  Cert.KernelInSixteenIdeal.Gen.frame m ρ (Cert.KernelInSixteenIdeal.Project.ok m)

theorem frameReference : Cert.quiescent_ReferenceInSixteenIdeal := fun m ρ _ =>
  (θ_run Cert.ReferenceInSixteenIdeal.defs _ _).mono
    (fun r h => ⟨fun c => (h c).2, sem_eq_zero_of_no_sems (by decide) r.2⟩)
    (Cert.ReferenceInSixteenIdeal.Value.run (F := Ideal) m ρ)

theorem preserves : Cert.preserves_KernelInSixteen_KernelInSixteenIdeal := trivial

/-- Both programs end with the group's columns of the product of activations and weights. -/
theorem algebraic : Cert.algebraic_KernelInSixteenIdeal_ReferenceInSixteenIdeal := by
  intro m ρ m' ρ' _ hagree
  have hO := Cert.KernelInSixteenIdeal.Project.ok m
  refine ⟨fun c => Cert.KernelInSixteenIdeal.Project.columns m c, ?_, ?_⟩
  · exact (θ_run Cert.KernelInSixteenIdeal.defs _ _).mono (fun _ h c => ⟨((h.1 c).1 2).trans (Cert.KernelInSixteenIdeal.Project.final m hO c), h.2 c⟩)
      (θ_run_and (Cert.KernelInSixteenIdeal.Gen.run_main m ρ hO) (Cert.KernelInSixteenIdeal.Gen.unchanged m ρ hO))
  · refine (θ_run Cert.ReferenceInSixteenIdeal.defs _ _).mono (fun _ h c => ⟨(h c).1.trans ?_, (h c).2⟩)
      (Cert.ReferenceInSixteenIdeal.Value.run (F := Ideal) m' ρ')
    rw [Cert.ReferenceInSixteenIdeal.Read.val_main_v12_eq, (hagree c).1, (hagree c).2]
    exact Cert.ReferenceInSixteenIdeal.Project.out_eq _ _

end Cert.Project.Sixteen

end
-- ==== Proof.Project.OutKernel.lean ====
/- The projection of the merged branches back onto the residual stream: what its kernel computes. -/
module

public import proofs.«01_k».proof.Proof.Gen.KernelOutIdeal.Frame
public import proofs.«01_k».proof.Proof.Project.Spec
public import Idealize.ShloMosaic.Lib.Pipeline.ValueKit

@[expose] public section

set_option maxRecDepth 16384

noncomputable section

namespace Cert.KernelOutIdeal.Project

open Idealize.ShloMosaic Idealize.ShloMosaic.TcCoe Idealize.SL.Sem
open Idealize.ShloMosaic.Pipeline (Dat)
open Cert.KernelOutIdeal Cert.KernelOutIdeal.Gen Cert.Project

variable (m : (ℓ : Loc nD τ sig) → Buf (Elt Ideal) ℓ)

/-- The blocks of 1024 columns of the weights in the result's order: all of them. -/
def block (b : ℕ) : ℕ := b

/-- The column blocks of the weights as the kernel's table lists them, in the result's order. -/
def table : pre0.Contents (Elt Ideal) := fun | 0 => fun i => lit0 (S4.rowMajor i)

theorem tbl_eq : tbl m = table := by
  funext j
  fin_cases j
  show V m 0 main_c = _
  entry_read
  rfl

theorem ok_table : ok0 (F := Ideal) table := by decide +kernel

theorem ok : Ok m := by
  rw [Ok, tbl_eq]
  exact ok_table

/-- The table as an admissible one. -/
def chosen : (pcfg0 (F := Ideal)).Adm := ⟨table, ok_table⟩

theorem adm_eq (hO : Ok m) : adm m hO = chosen := Subtype.ext (tbl_eq m)

/-- The output blocks are visited row by row, each once. -/
theorem covers : ∀ a : (pcfg0 (F := Ideal)).Adm, a = chosen → ((cfg0 a).win 2).Covers := by
  rintro _ rfl
  decide +kernel

/-- Which blocks a grid point reads and writes. -/
theorem idx : ∀ a : (pcfg0 (F := Ideal)).Adm, a = chosen → ∀ t : Fin grid0.N,
    ((cfg0 a).win 0).index t = ![(grid0.coords t 0).val, 0]
    ∧ ((cfg0 a).win 1).index t = ![0, block (grid0.coords t 1).val]
    ∧ ((cfg0 a).win 2).index t = ![(grid0.coords t 0).val, (grid0.coords t 1).val]
    ∧ (grid0.coords t 0).val < 16 ∧ block (grid0.coords t 1).val < 4 := by
  rintro _ rfl
  decide +kernel

/-- The rows of activations a grid point reads. -/
theorem blkX (hO : Ok m) (c : Dev nD) (t : Fin grid0.N) (r : Fin 1024) (k : Fin 4096) :
    (iblk m hO c 0 t : FVec Ideal S1024x4096 .bf16) (ix2 r k)
      = at2 (a := 16384) (b := 4096) (φ := .bf16) (m ((c.tc : Thread nD τ).loc main_arg0))
          (1024 * (grid0.coords t 0).val + r) k := by
  obtain ⟨e0, e1, e2, hi, hj⟩ := idx _ (adm_eq m hO) t
  refine Eq.trans ?_ (at2_of_lt _ (by omega) (by omega)).symm
  refine (congrFun (V_main_arg0 m c) _).trans (congrArg _ (funext fun a => Fin.ext ?_))
  fin_cases a <;> blk_simp [e0]
  · show _ * 1024 + r.val = 1024 * _ + r.val
    omega
  · rfl

/-- The host's cast of the weights is the weights. -/
theorem weights (c : Dev nD) : (V m c main_v0 : FVec Ideal S4096x4096 .bf16)
    = (m ((c.tc : Thread nD τ).loc main_arg1) : FVec Ideal S4096x4096 .f32) := by
  entry_read
  rfl

/-- The columns of weights a grid point reads. -/
theorem blkW (hO : Ok m) (c : Dev nD) (t : Fin grid0.N) (k : Fin 4096) (l : Fin 1024) :
    (iblk m hO c 1 t : FVec Ideal S4096x1024 .bf16) (ix2 k l)
      = at2 (a := 4096) (b := 4096) (φ := .f32) (m ((c.tc : Thread nD τ).loc main_arg1)) k
          (1024 * block (grid0.coords t 1).val + l) := by
  obtain ⟨e0, e1, e2, hi, hj⟩ := idx _ (adm_eq m hO) t
  refine Eq.trans ?_ (at2_of_lt _ (by omega) (by omega)).symm
  refine (congrFun (weights m c) _).trans (congrArg _ (funext fun a => Fin.ext ?_))
  fin_cases a <;> blk_simp [e1]
  · rfl
  · show _ * 1024 + l.val = 1024 * _ + l.val
    omega

/-- What a grid point stores. -/
theorem point (hO : Ok m) (c : Dev nD) (t : Fin grid0.N) (r l : Fin 1024) :
    (k0_pay1 (F := Ideal) (iblk m hO c 0 t) (iblk m hO c 1 t) (ix2 r l) : EReal)
      = entry (at2 (a := 16384) (b := 4096) (φ := .bf16) (m ((c.tc : Thread nD τ).loc main_arg0)))
          (at2 (a := 4096) (b := 4096) (φ := .f32) (m ((c.tc : Thread nD τ).loc main_arg1)))
          (1024 * (grid0.coords t 0).val + r) (1024 * block (grid0.coords t 1).val + l) := by
  pointwise [k0_pay1]
  exact Finset.sum_congr rfl fun k _ => by rw [blkX, blkW]

/-- A block index of the result at coordinates. -/
theorem eq_ix2 (y : S1024x1024.Idx) : y = ix2 (y 0) (y 1) := by
  funext a
  fin_cases a <;> rfl

/-- The entries of the product of the arguments. -/
def product (c : Dev nD) : FVec Ideal S16384x4096 .f32 := fun i =>
  entry (at2 (a := 16384) (b := 4096) (φ := .bf16) (m ((c.tc : Thread nD τ).loc main_arg0)))
    (at2 (a := 4096) (b := 4096) (φ := .f32) (m ((c.tc : Thread nD τ).loc main_arg1)))
    (i 0).val (column block (i 1).val)

/-- What the kernel computes: the product. -/
theorem final (hO : Ok m) (c : Dev nD) : (dats m hO 0 c).arrAt 2 (cfgM m hO).N = product m c := by
  refine (dats m hO 0 c).arrAt_eq_of_covers 2 _ (covers _ (adm_eq m hO)) fun t _ y => ?_
  obtain ⟨e0, e1, e2, hi, hj⟩ := idx _ (adm_eq m hO) t
  unfold product
  blk_simp
  rw [after0_2, outsAt0]
  frame_out
  refine (congrFun (congrArg₂ k0_pay1 (Memref.IsWhole.read_unread _ _) (Memref.IsWhole.read_unread _ _)) y).trans ?_
  refine (congrArg (k0_pay1 (F := Ideal) (iblk m hO c 0 t) (iblk m hO c 1 t)) (eq_ix2 y)).trans ((point m hO c t _ _).trans ?_)
  blk_simp [e2]
  rw [column_block _ _ ((show Fin 1024 from (show S1024x1024.Idx from y) 1).isLt), Nat.mul_comm 1024 (grid0.coords t 0).val]

end Cert.KernelOutIdeal.Project

end
-- ==== Proof.Project.OutReference.lean ====
/- The projection of the merged branches back onto the residual stream: what its reference computes. -/
module

public import proofs.«01_k».proof.Proof.Gen.ReferenceOutIdeal.Read
public import proofs.«01_k».proof.Proof.Project.OutKernel

@[expose] public section

set_option maxRecDepth 16384

noncomputable section

namespace Cert.ReferenceOutIdeal.Project

open Idealize.ShloMosaic Idealize.ShloMosaic.TcCoe Idealize.SL.Sem
open Cert.ReferenceOutIdeal Cert.ReferenceOutIdeal.Read Cert.Project
open Cert.KernelOutIdeal.Project (block)

variable (x : FVec Ideal S16384x4096 .bf16) (w : FVec Ideal S4096x4096 .f32)

/-- The whole product at one entry. -/
theorem product_at (r : Fin 16384) (j : Fin 4096) :
    (val_main_v1 (F := Ideal) x w (ix2 r j) : EReal) = entry (at2 x) (at2 w) r j := by
  pointwise [val_main_v1, val_main_v0]
  exact Finset.sum_congr rfl fun k _ => (congrArg₂ _ (at2_of_lt x r.isLt k.isLt) (at2_of_lt w k.isLt j.isLt)).symm

/-- The reference's array. -/
theorem out_eq : (val_main_v1 (F := Ideal) x w : FVec Ideal S16384x4096 .f32)
    = fun i => entry (at2 x) (at2 w) (i 0).val (column block (i 1).val) := by
  funext i
  refine (congrArg _ (show i = ix2 (i 0) (i 1) by funext a; fin_cases a <;> rfl)).trans ((product_at x w (i 0) (i 1)).trans ?_)
  exact congrArg _ (Nat.div_add_mod (i 1).val 1024).symm

end Cert.ReferenceOutIdeal.Project

end
-- ==== Proof.Project.OutClaims.lean ====
/- The claims about the projection of the merged branches back onto the residual stream. -/
module

public import proofs.«01_k».proof.Defs
public import proofs.«01_k».proof.Proof.Gen.KernelOut.Frame
public import proofs.«01_k».proof.Proof.Gen.ReferenceOutIdeal.Run
public import proofs.«01_k».proof.Proof.Project.OutReference

@[expose] public section

set_option maxRecDepth 16384

noncomputable section

namespace Cert.Project.Out

open Idealize.ShloMosaic Idealize.ShloMosaic.TcCoe Idealize.SL.Sem

/-- The kernel's table lists blocks inside the weights, whatever the memory. -/
theorem ok (m : (ℓ : Loc Cert.KernelOut.nD Cert.KernelOut.τ Cert.KernelOut.sig) → Buf (Elt Bits) ℓ) :
    Cert.KernelOut.Gen.Ok m := by
  have e : Cert.KernelOut.Gen.tbl m
      = fun | 0 => fun i => Cert.KernelOut.lit0 (Cert.KernelOut.S4.rowMajor i) := by
    funext j
    fin_cases j
    show Cert.KernelOut.Gen.V m 0 Cert.KernelOut.main_c = _
    entry_read
    rfl
  rw [Cert.KernelOut.Gen.Ok, e]
  decide +kernel

theorem frame : Cert.quiescent_KernelOut := fun m ρ _ => Cert.KernelOut.Gen.frame m ρ (ok m)

theorem frameIdeal : Cert.quiescent_KernelOutIdeal := fun m ρ _ =>
  Cert.KernelOutIdeal.Gen.frame m ρ (Cert.KernelOutIdeal.Project.ok m)

theorem frameReference : Cert.quiescent_ReferenceOutIdeal := fun m ρ _ =>
  (θ_run Cert.ReferenceOutIdeal.defs _ _).mono
    (fun r h => ⟨fun c => (h c).2, sem_eq_zero_of_no_sems (by decide) r.2⟩)
    (Cert.ReferenceOutIdeal.Value.run (F := Ideal) m ρ)

theorem preserves : Cert.preserves_KernelOut_KernelOutIdeal := trivial

/-- Both programs end with the entries of the product of activations and weights. -/
theorem algebraic : Cert.algebraic_KernelOutIdeal_ReferenceOutIdeal := by
  intro m ρ m' ρ' _ hagree
  have hO := Cert.KernelOutIdeal.Project.ok m
  refine ⟨fun c => Cert.KernelOutIdeal.Project.product m c, ?_, ?_⟩
  · exact (θ_run Cert.KernelOutIdeal.defs _ _).mono (fun _ h c => ⟨((h.1 c).1 2).trans (Cert.KernelOutIdeal.Project.final m hO c), h.2 c⟩)
      (θ_run_and (Cert.KernelOutIdeal.Gen.run_main m ρ hO) (Cert.KernelOutIdeal.Gen.unchanged m ρ hO))
  · refine (θ_run Cert.ReferenceOutIdeal.defs _ _).mono (fun _ h c => ⟨(h c).1.trans ?_, (h c).2⟩)
      (Cert.ReferenceOutIdeal.Value.run (F := Ideal) m' ρ')
    rw [Cert.ReferenceOutIdeal.Read.val_main_v1_eq, (hagree c).1, (hagree c).2]
    exact Cert.ReferenceOutIdeal.Project.out_eq _ _

end Cert.Project.Out

end
-- ==== Proof.Merge.Spec.lean ====
/- The gated merge of the two branches, free of any program: the gated, skip-corrected convolution output and the mean of
   the three attention groups weighted by their softmax masses, each projected and each scaled by its gate. -/
module

public import proofs.«01_k».proof.Proof.Project.Spec

@[expose] public section

noncomputable section

namespace Cert.Merge

open Idealize.ShloMosaic Cert.Project

/-- An array of rank four read at numbers (zero outside it). -/
def at4 {s a b c : ℕ} {φ : FTy} (x : FVec Ideal ⟨4, ![s, a, b, c]⟩ φ) (g i j k : ℕ) : EReal :=
  if h : g < s ∧ i < a ∧ j < b ∧ k < c then x (ix4 ⟨g, h.1⟩ ⟨i, h.2.1⟩ ⟨j, h.2.2.1⟩ ⟨k, h.2.2.2⟩) else 0

theorem at4_of_lt {s a b c : ℕ} {φ : FTy} (x : FVec Ideal ⟨4, ![s, a, b, c]⟩ φ) {g i j k : ℕ} (hg : g < s) (hi : i < a)
    (hj : j < b) (hk : k < c) : at4 x g i j k = x (ix4 ⟨g, hg⟩ ⟨i, hi⟩ ⟨j, hj⟩ ⟨k, hk⟩) := by
  rw [at4, dif_pos ⟨hg, hi, hj, hk⟩]

/-- An array of rank one read at a number (zero outside it). -/
def at1 {a : ℕ} {φ : FTy} (x : FVec Ideal ⟨1, ![a]⟩ φ) (i : ℕ) : EReal := if h : i < a then x (ix1 ⟨i, h⟩) else 0

theorem at1_of_lt {a : ℕ} {φ : FTy} (x : FVec Ideal ⟨1, ![a]⟩ φ) {i : ℕ} (hi : i < a) : at1 x i = x (ix1 ⟨i, hi⟩) := by
  rw [at1, dif_pos hi]

/-- The mean of three numbers, each weighted by the exponential of its logarithmic mass. -/
def mean (l0 l1 l2 o0 o1 o2 : EReal) : EReal :=
  Ideal.div
    (Ideal.exp (l0 - max (max l0 l1) l2) * o0 + Ideal.exp (l1 - max (max l0 l1) l2) * o1 + Ideal.exp (l2 - max (max l0 l1) l2) * o2)
    (Ideal.exp (l0 - max (max l0 l1) l2) + Ideal.exp (l1 - max (max l0 l1) l2) + Ideal.exp (l2 - max (max l0 l1) l2))

/-- The gated convolution output of token `i` in lane `k`: `y` and `z` lie in runs of 128 rows padded to 136. -/
def hyena (y z x : ℕ → ℕ → EReal) (skip : ℕ → EReal) (i k : ℕ) : EReal :=
  (y (136 * (i / 128) + i % 128) k + z (136 * (i / 128) + i % 128) k * skip k) * x i k

/-- The weighted mean of the attention groups for token `i` in lane `k`: of the dilated groups, stream `i % dil` of the
    token's sequence at place `i % 8192 / dil`. -/
def attention (o0 l0 : ℕ → ℕ → EReal) (o1 l1 o2 l2 : ℕ → ℕ → ℕ → ℕ → EReal) (i k : ℕ) : EReal :=
  mean (l0 i k) (l1 (i / 8192) (i % 4) (i % 8192 / 4) k) (l2 (i / 8192) (i % 16) (i % 8192 / 16) k)
    (o0 i k) (o1 (i / 8192) (i % 4) (i % 8192 / 4) k) (o2 (i / 8192) (i % 16) (i % 8192 / 16) k)

/-- The two branches at an entry: each gate's logistic times the branch's projection. -/
def merged (H A : ℕ → ℕ → EReal) (gH gA : EReal) (wH wA : ℕ → ℕ → EReal) (i j : ℕ) : EReal :=
  Ideal.logistic gH * (∑ k : Fin 1024, H i k * wH k j) + Ideal.logistic gA * ∑ k : Fin 1024, A i k * wA k j

end Cert.Merge

end
-- ==== Proof.Stores.lean ====
/- Lists of stores that all write parts of one array. -/
module

public import Idealize.ShloMosaic.Lib.Pipeline.ValueKit

@[expose] public section

noncomputable section

namespace Cert.Stores

open Idealize.ShloMosaic Idealize.ShloMosaic.TcCoe Idealize.SL.Sem

/-- Every store of the list writes its part of one array. -/
def Agree {S : Shape} {e : EltTy} (G : S.Idx → Elt Ideal e) (L : List (View.Piece (Elt Ideal) S e)) : Prop :=
  ∀ p ∈ L, ∀ x : p.1.shape.Idx, p.2 x = G (p.1.emb x)

theorem Agree.nil {S : Shape} {e : EltTy} (G : S.Idx → Elt Ideal e) : Agree G [] := by
  intro p hp
  simp at hp

theorem Agree.cons {S : Shape} {e : EltTy} {G : S.Idx → Elt Ideal e} {r : Rect S} {w : r.shape.Idx → Elt Ideal e}
    {L : List (View.Piece (Elt Ideal) S e)} (h : ∀ x, w x = G (r.emb x)) (hL : Agree G L) : Agree G (⟨r, w⟩ :: L) := by
  intro p hp
  rcases List.mem_cons.mp hp with rfl | hp
  · exact h
  · exact hL p hp

end Cert.Stores

end
-- ==== Proof.Merge.Planes.lean ====
/- Dilated streams laid back in token order through a scratch array: stores of every fourth or sixteenth row, then a
   read of whole planes. -/
module

public import proofs.«01_k».proof.Proof.Gen.KernelMergeIdeal.Value
public import proofs.«01_k».proof.Proof.Merge.Spec
public import proofs.«01_k».proof.Proof.Stores
public import Idealize.ShloMosaic.Lib.Pipeline.ValueKit

@[expose] public section

set_option maxRecDepth 16384

noncomputable section

namespace Cert.KernelMergeIdeal.Merge

open Idealize.ShloMosaic Idealize.ShloMosaic.TcCoe Idealize.SL.Sem
open Cert.KernelMergeIdeal Cert.KernelMergeIdeal.Gen Cert.Merge Cert.Stores

/-- The first row, first lane chunk and row distance of a store into the scratch array. -/
def place (p : View.Piece (Elt Ideal) S8x256x128 .f32) : List ℕ :=
  [p.1.off 0, p.1.off 1, p.1.off 2, p.1.size 0, p.1.size 1, p.1.size 2, p.1.stride 0, p.1.stride 1, p.1.stride 2]

/-- The places of all the stores: for each residue of the rows, each lane chunk. -/
def places (dil n : ℕ) : List (List ℕ) :=
  (List.range dil).reverse.flatMap fun r => (List.range 8).reverse.map fun c => [c, r, 0, 1, n, 128, 1, dil, 1]

/-- What the scratch array holds: row `i` is place `i / dil` of stream `i % dil`. -/
def spread {a b : ℕ} {φ : FTy} (dil : ℕ) (X : FVec Ideal ⟨4, ![1, a, b, 1024]⟩ φ) : S8x256x128.Idx → Elt Ideal .f32 := fun y =>
  at4 X 0 ((y 1).val % dil) ((y 1).val / dil) (128 * (y 0).val + (y 2).val)

/-- Every row of every lane chunk is stored. -/
theorem covered {dil n : ℕ} (hd : 0 < dil) (hn : dil * n = 256) (L : List (View.Piece (Elt Ideal) S8x256x128 .f32))
    (hL : L.map place = places dil n) (y : S8x256x128.Idx) : ∃ p ∈ L, y ∈ p.1.set := by
  have h0 : (y 0).val < 8 := (y 0).isLt
  have h1 : (y 1).val < 256 := (y 1).isLt
  have h2 : (y 2).val < 128 := (y 2).isLt
  have hm : [(y 0).val, (y 1).val % dil, 0, 1, n, 128, 1, dil, 1] ∈ L.map place := by
    rw [hL, places]
    refine List.mem_flatMap.mpr ⟨(y 1).val % dil, ?_, List.mem_map.mpr ⟨(y 0).val, ?_, rfl⟩⟩
    · exact List.mem_reverse.mpr (List.mem_range.mpr (Nat.mod_lt _ hd))
    · exact List.mem_reverse.mpr (List.mem_range.mpr h0)
  obtain ⟨p, hp, e⟩ := List.mem_map.mp hm
  refine ⟨p, hp, (LoadRect.mem_set _).mpr fun a => ?_⟩
  simp only [place, List.cons.injEq, and_true] at e
  obtain ⟨o0, o1, o2, s0, s1, s2, t0, t1, t2⟩ := e
  match a with
  | ⟨0, _⟩ => exact ⟨0, by rw [show p.1.size ⟨0, _⟩ = 1 from s0]; omega, by
      rw [show p.1.off ⟨0, _⟩ = _ from o0]; show (y 0).val = _; omega⟩
  | ⟨1, _⟩ => exact ⟨(y 1).val / dil, by
      rw [show p.1.size ⟨1, _⟩ = n from s1]
      exact Nat.div_lt_of_lt_mul (by omega), by
      rw [show p.1.off ⟨1, _⟩ = _ from o1, show p.1.stride ⟨1, _⟩ = _ from t1]
      exact (Nat.mod_add_div _ _).symm⟩
  | ⟨2, _⟩ => exact ⟨(y 2).val, by rw [show p.1.size ⟨2, _⟩ = 128 from s2]; exact h2, by
      rw [show p.1.off ⟨2, _⟩ = _ from o2, show p.1.stride ⟨2, _⟩ = _ from t2]; show (y 2).val = _; omega⟩

/-- One store of every `dil`-th row. -/
theorem strip {φ : FTy} {dil n : ℕ} (hd : 0 < dil) (X : FVec Ideal ⟨4, ![1, dil, n, 1024]⟩ φ) (c r k : ℕ)
    (hk : k = 128 * c) (hc : c < 8) (hr : r < dil)
    (inb : ∀ a : Fin 4, (![0, r, 0, k] : Fin 4 → ℕ) a + (![1, 1, n, 128] : Fin 4 → ℕ) a ≤ (![1, dil, n, 1024] : Fin 4 → ℕ) a)
    (inb' : ∀ a : Fin 3, (![1, n, 128] : Fin 3 → ℕ) a = 0
      ∨ (![c, r, 0] : Fin 3 → ℕ) a + (![1, dil, 1] : Fin 3 → ℕ) a * ((![1, n, 128] : Fin 3 → ℕ) a - 1) < S8x256x128.size a)
    (pos : ∀ a : Fin 3, 0 < (![1, dil, 1] : Fin 3 → ℕ) a)
    (hi : (⟨4, ![1, 1, n, 128]⟩ : Shape).ShapeCasts ⟨2, ![n, 128]⟩) (ho : (⟨2, ![n, 128]⟩ : Shape).ShapeCasts ⟨3, ![1, n, 128]⟩)
    (x : (⟨3, ![1, n, 128]⟩ : Shape).Idx) :
    (shapeCast ⟨3, ![1, n, 128]⟩ (shapeCast ⟨2, ![n, 128]⟩
        (fun z : (⟨4, ![1, 1, n, 128]⟩ : Shape).Idx =>
          X ((Rect.unit (s := ⟨4, ![1, dil, n, 1024]⟩) ![0, r, 0, k] ![1, 1, n, 128] inb).idx z)) hi) ho x : EReal)
      = spread dil X ((⟨⟨![c, r, 0], ![1, n, 128], ![1, dil, 1], inb'⟩, pos⟩ : Rect S8x256x128).emb x) := by
  subst hk
  have h0 : (x 0).val < 1 := (x 0).isLt
  have h1 : (x 1).val < n := (x 1).isLt
  have h2 : (x 2).val < 128 := (x 2).isLt
  have e0 : (Rect.emb (⟨⟨![c, r, 0], ![1, n, 128], ![1, dil, 1], inb'⟩, pos⟩ : Rect S8x256x128) x 0).val = c := by
    show c + 1 * (x 0).val = c
    omega
  have e1 : (Rect.emb (⟨⟨![c, r, 0], ![1, n, 128], ![1, dil, 1], inb'⟩, pos⟩ : Rect S8x256x128) x 1).val = r + dil * (x 1).val := rfl
  have e2 : (Rect.emb (⟨⟨![c, r, 0], ![1, n, 128], ![1, dil, 1], inb'⟩, pos⟩ : Rect S8x256x128) x 2).val = (x 2).val := by
    show 0 + 1 * (x 2).val = _
    omega
  unfold spread
  rw [e0, e1, e2, Nat.add_mul_mod_self_left, Nat.mod_eq_of_lt hr, Nat.add_mul_div_left _ _ hd, Nat.div_eq_of_lt hr,
    Nat.zero_add, at4_of_lt X (by omega) hr h1 (by omega)]
  rw [shapeCast_apply _ ho x (ix2 ⟨(x 1).val, h1⟩ ⟨(x 2).val, h2⟩) (by
      rw [Shape.rowMajor_val_two, Shape.rowMajor_val_three]
      show (x 1).val * 128 + (x 2).val = ((x 0).val * n + (x 1).val) * 128 + (x 2).val
      rw [show (x 0).val = 0 by omega, Nat.zero_mul, Nat.zero_add]),
    shapeCast_apply _ hi _ (ix4 0 0 ⟨(x 1).val, h1⟩ ⟨(x 2).val, h2⟩) (by
      rw [Shape.rowMajor_val_two, Shape.rowMajor_val_four]
      show ((0 * 1 + 0) * n + (x 1).val) * 128 + (x 2).val = (x 1).val * 128 + (x 2).val
      omega)]
  refine congrArg X (funext fun a => Fin.ext ?_)
  match a with
  | ⟨0, _⟩ => rfl
  | ⟨1, _⟩ => show r + 1 * 0 = r; omega
  | ⟨2, _⟩ => show 0 + 1 * (x 1).val = (x 1).val; omega
  | ⟨3, _⟩ => show 128 * c + 1 * (x 2).val = 128 * c + (x 2).val; omega

/-- A plane read after all the stores of an array. -/
theorem plane {κ : Kind} {sp : Space} (v : View sig κ sp S8x256x128 .f32) {dil n : ℕ} (hd : 0 < dil) (hn : dil * n = 256)
    {G : S8x256x128.Idx → Elt Ideal .f32} {L : List (View.Piece (Elt Ideal) S8x256x128 .f32)} (hG : Agree G L)
    (hL : L.map place = places dil n) (B : LoadRect S8x256x128) (x : B.shape.Idx) : v.readCov L B x = G (B.idx x) := by
  rw [View.readCov_eq_canon']
  exact View.canon_apply_of_pieces G L hG _ (covered hd hn L hL _)

end Cert.KernelMergeIdeal.Merge

end
-- ==== Proof.Merge.Streams.lean ====
/- The four scratch arrays of the merge kernel hold the dilated streams' outputs and masses in token order. -/
module

public import proofs.«01_k».proof.Proof.Merge.Planes

@[expose] public section

set_option maxRecDepth 16384

noncomputable section

namespace Cert.KernelMergeIdeal.Merge

open Idealize.ShloMosaic Idealize.ShloMosaic.TcCoe Idealize.SL.Sem
open Cert.KernelMergeIdeal Cert.KernelMergeIdeal.Gen Cert.Merge Cert.Stores

variable (c : Dev nD)

/-- A store of every `dil`-th row, of what is loaded from a buffer of single precision. -/
theorem strip_f32 {κ : Kind} {sp : Space} {dil n : ℕ} (hd : 0 < dil) (v : View sig κ sp ⟨4, ![1, dil, n, 1024]⟩ .f32)
    (f : v.ty.Contents (Elt Ideal)) (c r k : ℕ) (hk : k = 128 * c) (hc : c < 8) (hr : r < dil)
    (inb : ∀ a : Fin 4, (![0, r, 0, k] : Fin 4 → ℕ) a + (![1, 1, n, 128] : Fin 4 → ℕ) a ≤ (![1, dil, n, 1024] : Fin 4 → ℕ) a)
    (inb' : ∀ a : Fin 3, (![1, n, 128] : Fin 3 → ℕ) a = 0
      ∨ (![c, r, 0] : Fin 3 → ℕ) a + (![1, dil, 1] : Fin 3 → ℕ) a * ((![1, n, 128] : Fin 3 → ℕ) a - 1) < S8x256x128.size a)
    (pos : ∀ a : Fin 3, 0 < (![1, dil, 1] : Fin 3 → ℕ) a)
    (hi : (⟨4, ![1, 1, n, 128]⟩ : Shape).ShapeCasts ⟨2, ![n, 128]⟩) (ho : (⟨2, ![n, 128]⟩ : Shape).ShapeCasts ⟨3, ![1, n, 128]⟩)
    (x : (⟨3, ![1, n, 128]⟩ : Shape).Idx) :
    (shapeCast ⟨3, ![1, n, 128]⟩ (shapeCast ⟨2, ![n, 128]⟩ (v.readAt (Elt Ideal)
        (Rect.unit (s := ⟨4, ![1, dil, n, 1024]⟩) ![0, r, 0, k] ![1, 1, n, 128] inb).toLoadRect f) hi) ho x : EReal)
      = spread (φ := .f32) dil (v.read (Elt Ideal) f) ((⟨⟨![c, r, 0], ![1, n, 128], ![1, dil, 1], inb'⟩, pos⟩ : Rect S8x256x128).emb x) :=
  strip (φ := .f32) hd (v.read (Elt Ideal) f) c r k hk hc hr inb inb' pos hi ho x

/-- A store of every `dil`-th row, of what is loaded from a buffer of half precision and widened. -/
theorem strip_bf16 {κ : Kind} {sp : Space} {dil n : ℕ} (hd : 0 < dil) (v : View sig κ sp ⟨4, ![1, dil, n, 1024]⟩ .bf16)
    (f : v.ty.Contents (Elt Ideal)) (c r k : ℕ) (hk : k = 128 * c) (hc : c < 8) (hr : r < dil)
    (inb : ∀ a : Fin 4, (![0, r, 0, k] : Fin 4 → ℕ) a + (![1, 1, n, 128] : Fin 4 → ℕ) a ≤ (![1, dil, n, 1024] : Fin 4 → ℕ) a)
    (inb' : ∀ a : Fin 3, (![1, n, 128] : Fin 3 → ℕ) a = 0
      ∨ (![c, r, 0] : Fin 3 → ℕ) a + (![1, dil, 1] : Fin 3 → ℕ) a * ((![1, n, 128] : Fin 3 → ℕ) a - 1) < S8x256x128.size a)
    (pos : ∀ a : Fin 3, 0 < (![1, dil, 1] : Fin 3 → ℕ) a)
    (hi : (⟨4, ![1, 1, n, 128]⟩ : Shape).ShapeCasts ⟨2, ![n, 128]⟩) (ho : (⟨2, ![n, 128]⟩ : Shape).ShapeCasts ⟨3, ![1, n, 128]⟩)
    (x : (⟨3, ![1, n, 128]⟩ : Shape).Idx) :
    (shapeCast ⟨3, ![1, n, 128]⟩ (extf (F := Ideal) (φ := .bf16) .f32 (shapeCast ⟨2, ![n, 128]⟩ (v.readAt (Elt Ideal)
        (Rect.unit (s := ⟨4, ![1, dil, n, 1024]⟩) ![0, r, 0, k] ![1, 1, n, 128] inb).toLoadRect f) hi) bitsLt_bf16_f32) ho x : EReal)
      = spread (φ := .bf16) dil (v.read (Elt Ideal) f) ((⟨⟨![c, r, 0], ![1, n, 128], ![1, dil, 1], inb'⟩, pos⟩ : Rect S8x256x128).emb x) :=
  strip (φ := .bf16) hd (v.read (Elt Ideal) f) c r k hk hc hr inb inb' pos hi ho x

/-! Where each scratch array is written. -/

theorem placesO1 (arg7 : Memref sig .tc .vmem S1x4x64x1024 .bf16) (harg7 : arg7.IsWhole) (x6 : FVec Ideal S1x4x64x1024 .bf16) :
    (kernelRun0_A.sl.HS2_32 (F := Ideal) c arg7 harg7 x6).map place = places 4 64 := by
  sl_kernel_rfl

theorem placesL1 (arg8 : Memref sig .tc .vmem S1x4x64x1024 .f32) (harg8 : arg8.IsWhole) (x7 : FVec Ideal S1x4x64x1024 .f32) :
    (kernelRun0_A.sl.HS3_32 (F := Ideal) c arg8 harg8 x7).map place = places 4 64 := by
  sl_kernel_rfl

theorem placesO2 (arg9 : Memref sig .tc .vmem S1x16x16x1024 .bf16) (harg9 : arg9.IsWhole) (x8 : FVec Ideal S1x16x16x1024 .bf16) :
    (kernelRun0_A.sl.HS4_128 (F := Ideal) c arg9 harg9 x8).map place = places 16 16 := by
  sl_kernel_rfl

theorem placesL2 (arg10 : Memref sig .tc .vmem S1x16x16x1024 .f32) (harg10 : arg10.IsWhole) (x9 : FVec Ideal S1x16x16x1024 .f32) :
    (kernelRun0_A.sl.HS5_128 (F := Ideal) c arg10 harg10 x9).map place = places 16 16 := by
  sl_kernel_rfl

/-! What each scratch array is written with. -/

set_option maxHeartbeats 2000000 in
theorem agreeO1 (arg7 : Memref sig .tc .vmem S1x4x64x1024 .bf16) (harg7 : arg7.IsWhole) (x6 : FVec Ideal S1x4x64x1024 .bf16) :
    Agree (spread (φ := .bf16) 4 (arg7.view.read (Elt Ideal) (harg7.unread x6))) (kernelRun0_A.sl.HS2_32 (F := Ideal) c arg7 harg7 x6) := by
  unfold kernelRun0_A.sl.HS2_32 kernelRun0_A.sl.HS2_20
  repeat' apply Agree.cons
  on_goal 33 => exact Agree.nil _
  all_goals intro x; refine strip_bf16 (dil := 4) (n := 64) (by decide) arg7.view (harg7.unread x6) _ _ _ ?_ ?_ ?_ _ _ _ _ _ x
  all_goals first | rfl | decide

set_option maxHeartbeats 2000000 in
theorem agreeL1 (arg8 : Memref sig .tc .vmem S1x4x64x1024 .f32) (harg8 : arg8.IsWhole) (x7 : FVec Ideal S1x4x64x1024 .f32) :
    Agree (spread (φ := .f32) 4 (arg8.view.read (Elt Ideal) (harg8.unread x7))) (kernelRun0_A.sl.HS3_32 (F := Ideal) c arg8 harg8 x7) := by
  unfold kernelRun0_A.sl.HS3_32
  repeat' apply Agree.cons
  on_goal 33 => exact Agree.nil _
  all_goals intro x; refine strip_f32 (dil := 4) (n := 64) (by decide) arg8.view (harg8.unread x7) _ _ _ ?_ ?_ ?_ _ _ _ _ _ x
  all_goals first | rfl | decide

set_option maxHeartbeats 8000000 in
theorem agreeO2 (arg9 : Memref sig .tc .vmem S1x16x16x1024 .bf16) (harg9 : arg9.IsWhole) (x8 : FVec Ideal S1x16x16x1024 .bf16) :
    Agree (spread (φ := .bf16) 16 (arg9.view.read (Elt Ideal) (harg9.unread x8))) (kernelRun0_A.sl.HS4_128 (F := Ideal) c arg9 harg9 x8) := by
  unfold kernelRun0_A.sl.HS4_128 kernelRun0_A.sl.HS4_108 kernelRun0_A.sl.HS4_88 kernelRun0_A.sl.HS4_68 kernelRun0_A.sl.HS4_48
    kernelRun0_A.sl.HS4_28 kernelRun0_A.sl.HS4_8
  repeat' apply Agree.cons
  on_goal 129 => exact Agree.nil _
  all_goals intro x; refine strip_bf16 (dil := 16) (n := 16) (by decide) arg9.view (harg9.unread x8) _ _ _ ?_ ?_ ?_ _ _ _ _ _ x
  all_goals first | rfl | decide

set_option maxHeartbeats 8000000 in
theorem agreeL2 (arg10 : Memref sig .tc .vmem S1x16x16x1024 .f32) (harg10 : arg10.IsWhole) (x9 : FVec Ideal S1x16x16x1024 .f32) :
    Agree (spread (φ := .f32) 16 (arg10.view.read (Elt Ideal) (harg10.unread x9))) (kernelRun0_A.sl.HS5_128 (F := Ideal) c arg10 harg10 x9) := by
  unfold kernelRun0_A.sl.HS5_128
  repeat' apply Agree.cons
  on_goal 129 => exact Agree.nil _
  all_goals intro x; refine strip_f32 (dil := 16) (n := 16) (by decide) arg10.view (harg10.unread x9) _ _ _ ?_ ?_ ?_ _ _ _ _ _ x
  all_goals first | rfl | decide

end Cert.KernelMergeIdeal.Merge

end
-- ==== Proof.Merge.Branches.lean ====
/- The two branches the merge kernel prepares in its scratch arrays: the gated convolution output and the weighted mean of
   the attention groups. -/
module

public import proofs.«01_k».proof.Proof.Merge.Streams

@[expose] public section

set_option maxRecDepth 16384

noncomputable section

namespace Cert.KernelMergeIdeal.Merge

open Idealize.ShloMosaic Idealize.ShloMosaic.TcCoe Idealize.SL.Sem
open Cert.KernelMergeIdeal Cert.KernelMergeIdeal.Gen Cert.Merge Cert.Project Cert.Stores

/-- The gated convolution output of a block of 256 tokens; its two halves lie 136 rows apart in the padded layout. -/
def gated (x0 x1 : FVec Ideal S272x1024 .f32) (x2 : FVec Ideal S256x1024 .f32) (x3 : FVec Ideal S1x1024 .f32) :
    FVec Ideal S256x1024 .bf16 := fun y =>
  (at2 x0 (136 * ((y 0).val / 128) + (y 0).val % 128) (y 1).val
    + at2 x1 (136 * ((y 0).val / 128) + (y 0).val % 128) (y 1).val * at2 x3 0 (y 1).val) * at2 x2 (y 0).val (y 1).val

/-- The weighted mean of the three attention groups in a block of 256 tokens. -/
def blend (x4 : FVec Ideal S256x1024 .bf16) (x5 : FVec Ideal S256x1024 .f32) (x6 : FVec Ideal S1x4x64x1024 .bf16)
    (x7 : FVec Ideal S1x4x64x1024 .f32) (x8 : FVec Ideal S1x16x16x1024 .bf16) (x9 : FVec Ideal S1x16x16x1024 .f32) :
    FVec Ideal S256x1024 .bf16 := fun y =>
  mean (at2 x5 (y 0).val (y 1).val) (at4 x7 0 ((y 0).val % 4) ((y 0).val / 4) (y 1).val)
    (at4 x9 0 ((y 0).val % 16) ((y 0).val / 16) (y 1).val) (at2 x4 (y 0).val (y 1).val)
    (at4 x6 0 ((y 0).val % 4) ((y 0).val / 4) (y 1).val) (at4 x8 0 ((y 0).val % 16) ((y 0).val / 16) (y 1).val)

/-- One lane chunk of the mean, entry by entry. -/
theorem mean_at (l0 : FVec Ideal S256x128 .f32) (l1 l2 : FVec Ideal S1x256x128 .f32) (o0 : FVec Ideal S256x128 .bf16)
    (o1 o2 : FVec Ideal S1x256x128 .f32) (r : Fin 256) (l : Fin 128) :
    (k0_pay384 (F := Ideal) l0 l1 l2 o0 o1 o2 (ix2 r l) : EReal)
      = mean (l0 (ix2 r l)) (l1 (ix3 0 r l)) (l2 (ix3 0 r l)) (o0 (ix2 r l)) (o1 (ix3 0 r l)) (o2 (ix3 0 r l)) := by
  pointwise [k0_pay384]
  rfl

/-- A half block of the gated convolution output, entry by entry. -/
theorem gated_at (y z : FVec Ideal S128x1024 .f32) (s : FVec Ideal S1x1024 .f32) (x : FVec Ideal S128x1024 .f32)
    (r : Fin 128) (l : Fin 1024) :
    (k0_pay3 (F := Ideal) y z s x (ix2 r l) : EReal) = (y (ix2 r l) + z (ix2 r l) * s (ix2 0 l)) * x (ix2 r l) := by
  pointwise [k0_pay3]

variable (c : Dev nD)

/-- One of the two stores of the gated convolution output: half `h` of the block. -/
theorem gated_piece (arg1 arg2 : Memref sig .tc .vmem S272x1024 .f32) (harg1 : arg1.IsWhole) (harg2 : arg2.IsWhole)
    (arg3 : Memref sig .tc .vmem S256x1024 .f32) (harg3 : arg3.IsWhole) (arg4 : Memref sig .tc .vmem S1x1024 .f32) (harg4 : arg4.IsWhole)
    (x0 x1 : FVec Ideal S272x1024 .f32) (x2 : FVec Ideal S256x1024 .f32) (x3 : FVec Ideal S1x1024 .f32)
    (h p q : ℕ) (hp : p = 136 * h) (hq : q = 128 * h) (hh : h < 2)
    (i1 : ∀ a, (![p, 0] : Fin 2 → ℕ) a + S128x1024.size a ≤ S272x1024.size a)
    (i3 : ∀ a, (![q, 0] : Fin 2 → ℕ) a + S128x1024.size a ≤ S256x1024.size a)
    (i4 : ∀ a, (![0, 0] : Fin 2 → ℕ) a + S1x1024.size a ≤ S1x1024.size a) (x : S128x1024.Idx) :
    (k0_pay3 (F := Ideal) (arg1.view.readAt (Elt Ideal) (Rect.unit (s := S272x1024) ![p, 0] S128x1024.size i1).toLoadRect (harg1.unread x0))
        (arg2.view.readAt (Elt Ideal) (Rect.unit (s := S272x1024) ![p, 0] S128x1024.size i1).toLoadRect (harg2.unread x1))
        (arg4.view.readAt (Elt Ideal) (Rect.unit (s := S1x1024) ![0, 0] S1x1024.size i4).toLoadRect (harg4.unread x3))
        (arg3.view.readAt (Elt Ideal) (Rect.unit (s := S256x1024) ![q, 0] S128x1024.size i3).toLoadRect (harg3.unread x2)) x : EReal)
      = gated x0 x1 x2 x3 ((Rect.unit (s := S256x1024) ![q, 0] S128x1024.size i3).emb x) := by
  subst hp hq
  obtain ⟨r, l, rfl⟩ : ∃ (r : Fin 128) (l : Fin 1024), x = ix2 r l := ⟨x 0, x 1, by funext a; fin_cases a <;> rfl⟩
  have e0 : ((Rect.unit (s := S256x1024) ![128 * h, 0] S128x1024.size i3).emb (ix2 r l : S128x1024.Idx) 0).val = 128 * h + r.val := by
    show 128 * h + 1 * r.val = _
    omega
  have e1 : ((Rect.unit (s := S256x1024) ![128 * h, 0] S128x1024.size i3).emb (ix2 r l : S128x1024.Idx) 1).val = l.val := by
    show 0 + 1 * l.val = _
    omega
  simp only [View.readAt_eq_ld, Memref.IsWhole.read_unread]
  rw [gated_at, gated, e0, e1, show (128 * h + r.val) / 128 = h by omega, show (128 * h + r.val) % 128 = r.val by omega,
    at2_of_lt x0 (by omega) l.isLt, at2_of_lt x1 (by omega) l.isLt, at2_of_lt x2 (by omega) l.isLt,
    at2_of_lt x3 (by omega) l.isLt]
  refine congrArg₂ (· * ·) (congrArg₂ (· + ·) (congrArg x0 ?_) (congrArg₂ (· * ·) (congrArg x1 ?_) (congrArg x3 ?_))) (congrArg x2 ?_) <;>
    (funext a; fin_cases a <;> apply Fin.ext)
  all_goals first
    | (show 136 * h + 1 * r.val = 136 * h + r.val; omega)
    | (show 128 * h + 1 * r.val = 128 * h + r.val; omega)
    | (show 0 + 1 * l.val = l.val; omega)
    | (show 0 + 1 * 0 = 0; omega)

/-- The gated convolution output as the projections read it. -/
theorem gated_read (arg1 arg2 : Memref sig .tc .vmem S272x1024 .f32) (harg1 : arg1.IsWhole) (harg2 : arg2.IsWhole)
    (arg3 : Memref sig .tc .vmem S256x1024 .f32) (harg3 : arg3.IsWhole) (arg4 : Memref sig .tc .vmem S1x1024 .f32) (harg4 : arg4.IsWhole)
    (arg16 : Memref sig .tc .vmem S256x1024 .bf16)
    (x0 x1 : FVec Ideal S272x1024 .f32) (x2 : FVec Ideal S256x1024 .f32) (x3 : FVec Ideal S1x1024 .f32) :
    kernelRun0_A.sl.v2034 (F := Ideal) c arg1 harg1 arg2 harg2 arg3 harg3 arg4 harg4 arg16 x0 x1 x2 x3 = gated x0 x1 x2 x3 := by
  unfold kernelRun0_A.sl.v2034
  rw [View.readCov_eq_canon']
  funext y
  refine (View.canon_apply_of_pieces (S := S256x1024) (Val := Elt Ideal) (e := .bf16) (gated x0 x1 x2 x3) _ ?_ _ ?_).trans ?_
  · unfold kernelRun0_A.sl.HS0_2
    refine Agree.cons (fun x => ?_) (Agree.cons (fun x => ?_) (Agree.nil _))
    · exact gated_piece arg1 arg2 harg1 harg2 arg3 harg3 arg4 harg4 x0 x1 x2 x3 1 136 128 rfl rfl (by decide) _ _ _ x
    · exact gated_piece arg1 arg2 harg1 harg2 arg3 harg3 arg4 harg4 x0 x1 x2 x3 0 0 0 rfl rfl (by decide) _ _ _ x
  · exact View.cover_of_tiledL (s := S256x1024) _ S128x1024.size (by sl_kernel_rfl) _
  · refine congrArg (gated x0 x1 x2 x3) (funext fun a => Fin.ext ?_)
    fin_cases a
    · show 0 + 1 * (y 0).val = (y 0).val
      omega
    · show 0 + 1 * (y 1).val = (y 1).val
      omega

/-- One of the eight stores of the mean: lane chunk `a`. -/
theorem blend_piece (arg5 : Memref sig .tc .vmem S256x1024 .bf16) (harg5 : arg5.IsWhole)
    (arg6 : Memref sig .tc .vmem S256x1024 .f32) (harg6 : arg6.IsWhole)
    (arg7 : Memref sig .tc .vmem S1x4x64x1024 .bf16) (harg7 : arg7.IsWhole)
    (arg8 : Memref sig .tc .vmem S1x4x64x1024 .f32) (harg8 : arg8.IsWhole)
    (arg9 : Memref sig .tc .vmem S1x16x16x1024 .bf16) (harg9 : arg9.IsWhole)
    (arg10 : Memref sig .tc .vmem S1x16x16x1024 .f32) (harg10 : arg10.IsWhole)
    (arg18 arg19 arg20 arg21 : Memref sig .tc .vmem S8x256x128 .f32)
    (x4 : FVec Ideal S256x1024 .bf16) (x5 : FVec Ideal S256x1024 .f32) (x6 : FVec Ideal S1x4x64x1024 .bf16)
    (x7 : FVec Ideal S1x4x64x1024 .f32) (x8 : FVec Ideal S1x16x16x1024 .bf16) (x9 : FVec Ideal S1x16x16x1024 .f32)
    (a k : ℕ) (hk : k = 128 * a) (ha : a < 8)
    (i5 : ∀ b, (![0, k] : Fin 2 → ℕ) b + S256x128.size b ≤ S256x1024.size b)
    (ip : ∀ b, (![a, 0, 0] : Fin 3 → ℕ) b + S1x256x128.size b ≤ S8x256x128.size b) (x : S256x128.Idx) :
    (k0_pay384 (F := Ideal) (arg6.view.readAt (Elt Ideal) (Rect.unit (s := S256x1024) ![0, k] S256x128.size i5).toLoadRect (harg6.unread x5))
        (arg19.view.readCov (kernelRun0_A.sl.HS3_32 (F := Ideal) c arg8 harg8 x7) (Rect.unit (s := S8x256x128) ![a, 0, 0] S1x256x128.size ip).toLoadRect)
        (arg21.view.readCov (kernelRun0_A.sl.HS5_128 (F := Ideal) c arg10 harg10 x9) (Rect.unit (s := S8x256x128) ![a, 0, 0] S1x256x128.size ip).toLoadRect)
        (arg5.view.readAt (Elt Ideal) (Rect.unit (s := S256x1024) ![0, k] S256x128.size i5).toLoadRect (harg5.unread x4))
        (arg18.view.readCov (kernelRun0_A.sl.HS2_32 (F := Ideal) c arg7 harg7 x6) (Rect.unit (s := S8x256x128) ![a, 0, 0] S1x256x128.size ip).toLoadRect)
        (arg20.view.readCov (kernelRun0_A.sl.HS4_128 (F := Ideal) c arg9 harg9 x8) (Rect.unit (s := S8x256x128) ![a, 0, 0] S1x256x128.size ip).toLoadRect)
        x : EReal)
      = blend x4 x5 x6 x7 x8 x9 ((Rect.unit (s := S256x1024) ![0, k] S256x128.size i5).emb x) := by
  subst hk
  obtain ⟨r, l, rfl⟩ : ∃ (r : Fin 256) (l : Fin 128), x = ix2 r l := ⟨x 0, x 1, by funext a; fin_cases a <;> rfl⟩
  have e0 : ((Rect.unit (s := S256x1024) ![0, 128 * a] S256x128.size i5).emb (ix2 r l : S256x128.Idx) 0).val = r.val := by
    show 0 + 1 * r.val = _
    omega
  have e1 : ((Rect.unit (s := S256x1024) ![0, 128 * a] S256x128.size i5).emb (ix2 r l : S256x128.Idx) 1).val = 128 * a + l.val := by
    show 128 * a + 1 * l.val = _
    omega
  have p0 : ((Rect.unit (s := S8x256x128) ![a, 0, 0] S1x256x128.size ip).idx (ix3 0 r l : S1x256x128.Idx) 0).val = a := rfl
  have p1 : ((Rect.unit (s := S8x256x128) ![a, 0, 0] S1x256x128.size ip).idx (ix3 0 r l : S1x256x128.Idx) 1).val = r.val := by
    show 0 + 1 * r.val = _
    omega
  have p2 : ((Rect.unit (s := S8x256x128) ![a, 0, 0] S1x256x128.size ip).idx (ix3 0 r l : S1x256x128.Idx) 2).val = l.val := by
    show 0 + 1 * l.val = _
    omega
  have spread_at : ∀ {b d : ℕ} {φ : FTy} (dil : ℕ) (X : FVec Ideal ⟨4, ![1, b, d, 1024]⟩ φ),
      spread dil X ((Rect.unit (s := S8x256x128) ![a, 0, 0] S1x256x128.size ip).idx (ix3 0 r l : S1x256x128.Idx))
        = at4 X 0 (r.val % dil) (r.val / dil) (128 * a + l.val) := by
    intro b d φ dil X
    unfold spread
    rw [p0, p1, p2]
  have here : ∀ {φ : FTy} (X : FVec Ideal S256x1024 φ),
      X ((Rect.unit (s := S256x1024) ![0, 128 * a] S256x128.size i5).idx (ix2 r l : S256x128.Idx)) = at2 X r.val (128 * a + l.val) := by
    intro φ X
    rw [at2_of_lt X r.isLt (by omega)]
    refine congrArg X (funext fun b => ?_)
    fin_cases b <;> apply Fin.ext
    · exact e0
    · exact e1
  rw [mean_at, plane arg19.view (by decide) (by decide) (agreeL1 c arg8 harg8 x7) (placesL1 c arg8 harg8 x7),
    plane arg21.view (by decide) (by decide) (agreeL2 c arg10 harg10 x9) (placesL2 c arg10 harg10 x9),
    plane arg18.view (by decide) (by decide) (agreeO1 c arg7 harg7 x6) (placesO1 c arg7 harg7 x6),
    plane arg20.view (by decide) (by decide) (agreeO2 c arg9 harg9 x8) (placesO2 c arg9 harg9 x8)]
  simp only [View.readAt_eq_ld, Memref.IsWhole.read_unread]
  rw [blend, e0, e1, spread_at, spread_at, spread_at, spread_at]
  exact congrArg₂ (fun u v => mean u _ _ v _ _) (here x5) (here x4)

set_option maxHeartbeats 4000000 in
/-- The mean as the projections read it. -/
theorem blend_read (arg5 : Memref sig .tc .vmem S256x1024 .bf16) (harg5 : arg5.IsWhole)
    (arg6 : Memref sig .tc .vmem S256x1024 .f32) (harg6 : arg6.IsWhole)
    (arg7 : Memref sig .tc .vmem S1x4x64x1024 .bf16) (harg7 : arg7.IsWhole)
    (arg8 : Memref sig .tc .vmem S1x4x64x1024 .f32) (harg8 : arg8.IsWhole)
    (arg9 : Memref sig .tc .vmem S1x16x16x1024 .bf16) (harg9 : arg9.IsWhole)
    (arg10 : Memref sig .tc .vmem S1x16x16x1024 .f32) (harg10 : arg10.IsWhole)
    (arg17 : Memref sig .tc .vmem S256x1024 .bf16) (arg18 arg19 arg20 arg21 : Memref sig .tc .vmem S8x256x128 .f32)
    (x4 : FVec Ideal S256x1024 .bf16) (x5 : FVec Ideal S256x1024 .f32) (x6 : FVec Ideal S1x4x64x1024 .bf16)
    (x7 : FVec Ideal S1x4x64x1024 .f32) (x8 : FVec Ideal S1x16x16x1024 .bf16) (x9 : FVec Ideal S1x16x16x1024 .f32) :
    kernelRun0_A.sl.v2035 (F := Ideal) c arg5 harg5 arg6 harg6 arg7 harg7 arg8 harg8 arg9 harg9 arg10 harg10 arg17 arg18 arg19 arg20 arg21
      x4 x5 x6 x7 x8 x9 = blend x4 x5 x6 x7 x8 x9 := by
  unfold kernelRun0_A.sl.v2035
  rw [View.readCov_eq_canon']
  funext y
  refine (View.canon_apply_of_pieces (S := S256x1024) (Val := Elt Ideal) (e := .bf16) (blend x4 x5 x6 x7 x8 x9) _ ?_ _ ?_).trans ?_
  · unfold kernelRun0_A.sl.HS1_8
    have h := blend_piece c arg5 harg5 arg6 harg6 arg7 harg7 arg8 harg8 arg9 harg9 arg10 harg10 arg18 arg19 arg20 arg21 x4 x5 x6 x7 x8 x9
    refine Agree.cons (fun x => ?_) (Agree.cons (fun x => ?_) (Agree.cons (fun x => ?_) (Agree.cons (fun x => ?_)
      (Agree.cons (fun x => ?_) (Agree.cons (fun x => ?_) (Agree.cons (fun x => ?_) (Agree.cons (fun x => ?_) (Agree.nil _))))))))
    · exact h 7 896 rfl (by decide) _ _ x
    · exact h 6 768 rfl (by decide) _ _ x
    · exact h 5 640 rfl (by decide) _ _ x
    · exact h 4 512 rfl (by decide) _ _ x
    · exact h 3 384 rfl (by decide) _ _ x
    · exact h 2 256 rfl (by decide) _ _ x
    · exact h 1 128 rfl (by decide) _ _ x
    · exact h 0 0 rfl (by decide) _ _ x
  · exact View.cover_of_tiledL (s := S256x1024) _ S256x128.size (by sl_kernel_rfl) _
  · refine congrArg (blend x4 x5 x6 x7 x8 x9) (funext fun a => Fin.ext ?_)
    fin_cases a
    · show 0 + 1 * (y 0).val = (y 0).val
      omega
    · show 0 + 1 * (y 1).val = (y 1).val
      omega

end Cert.KernelMergeIdeal.Merge

end
-- ==== Proof.Merge.Kernel.lean ====
/- The merge of the two branches: what its kernel computes. -/
module

public import proofs.«01_k».proof.Proof.Merge.Branches

@[expose] public section

set_option maxRecDepth 16384

noncomputable section

namespace Cert.KernelMergeIdeal.Merge

open Idealize.ShloMosaic Idealize.ShloMosaic.TcCoe Idealize.SL.Sem
open Idealize.ShloMosaic.Pipeline (Dat)
open Cert.KernelMergeIdeal Cert.KernelMergeIdeal.Gen Cert.Merge Cert.Project Cert.Stores

/-- The two projections of a block of 256 tokens, each scaled by its gate and added. -/
def both (H A : FVec Ideal S256x1024 .bf16) (x10 x11 : FVec Ideal S256x4096 .bf16) (x12 x13 : FVec Ideal S1024x4096 .bf16) :
    FVec Ideal S256x4096 .bf16 := fun y =>
  merged (at2 H) (at2 A) (at2 x10 (y 0).val (y 1).val) (at2 x11 (y 0).val (y 1).val) (at2 x12) (at2 x13) (y 0).val (y 1).val

/-- A quarter of the columns, entry by entry. -/
theorem quarter_at (H A : FVec Ideal S256x1024 .bf16) (wh wa : FVec Ideal S1024x1024 .bf16) (gh ga : FVec Ideal S256x1024 .bf16)
    (r : Fin 256) (l : Fin 1024) :
    (k0_pay2 (F := Ideal) H A wh wa gh ga (ix2 r l) : EReal)
      = Ideal.logistic (gh (ix2 r l)) * (∑ k : Fin 1024, H (ix2 r k) * wh (ix2 k l))
        + Ideal.logistic (ga (ix2 r l)) * ∑ k : Fin 1024, A (ix2 r k) * wa (ix2 k l) := by
  pointwise [k0_pay2]

/-- One of the four stores of the result: columns `1024 a` and on. -/
theorem quarter_piece (arg11 arg12 : Memref sig .tc .vmem S256x4096 .bf16) (harg11 : arg11.IsWhole) (harg12 : arg12.IsWhole)
    (arg13 arg14 : Memref sig .tc .vmem S1024x4096 .bf16) (harg13 : arg13.IsWhole) (harg14 : arg14.IsWhole)
    (H A : FVec Ideal S256x1024 .bf16) (x10 x11 : FVec Ideal S256x4096 .bf16) (x12 x13 : FVec Ideal S1024x4096 .bf16)
    (a k : ℕ) (hk : k = 1024 * a) (ha : a < 4)
    (ig : ∀ b, (![0, k] : Fin 2 → ℕ) b + S256x1024.size b ≤ S256x4096.size b)
    (iw : ∀ b, (![0, k] : Fin 2 → ℕ) b + S1024x1024.size b ≤ S1024x4096.size b) (x : S256x1024.Idx) :
    (k0_pay2 (F := Ideal) H A
        (arg13.view.readAt (Elt Ideal) (Rect.unit (s := S1024x4096) ![0, k] S1024x1024.size iw).toLoadRect (harg13.unread x12))
        (arg14.view.readAt (Elt Ideal) (Rect.unit (s := S1024x4096) ![0, k] S1024x1024.size iw).toLoadRect (harg14.unread x13))
        (arg11.view.readAt (Elt Ideal) (Rect.unit (s := S256x4096) ![0, k] S256x1024.size ig).toLoadRect (harg11.unread x10))
        (arg12.view.readAt (Elt Ideal) (Rect.unit (s := S256x4096) ![0, k] S256x1024.size ig).toLoadRect (harg12.unread x11)) x : EReal)
      = both H A x10 x11 x12 x13 ((Rect.unit (s := S256x4096) ![0, k] S256x1024.size ig).emb x) := by
  subst hk
  obtain ⟨r, l, rfl⟩ : ∃ (r : Fin 256) (l : Fin 1024), x = ix2 r l := ⟨x 0, x 1, by funext a; fin_cases a <;> rfl⟩
  have e0 : ((Rect.unit (s := S256x4096) ![0, 1024 * a] S256x1024.size ig).emb (ix2 r l : S256x1024.Idx) 0).val = r.val := by
    show 0 + 1 * r.val = _
    omega
  have e1 : ((Rect.unit (s := S256x4096) ![0, 1024 * a] S256x1024.size ig).emb (ix2 r l : S256x1024.Idx) 1).val = 1024 * a + l.val := by
    show 1024 * a + 1 * l.val = _
    omega
  have gate : ∀ (X : FVec Ideal S256x4096 .bf16),
      X ((Rect.unit (s := S256x4096) ![0, 1024 * a] S256x1024.size ig).idx (ix2 r l : S256x1024.Idx)) = at2 X r.val (1024 * a + l.val) := by
    intro X
    rw [at2_of_lt X r.isLt (by omega)]
    refine congrArg X (funext fun b => ?_)
    fin_cases b <;> apply Fin.ext
    · exact e0
    · exact e1
  have weight : ∀ (X : FVec Ideal S1024x4096 .bf16) (j : Fin 1024),
      X ((Rect.unit (s := S1024x4096) ![0, 1024 * a] S1024x1024.size iw).idx (ix2 j l : S1024x1024.Idx)) = at2 X j.val (1024 * a + l.val) := by
    intro X j
    rw [at2_of_lt X j.isLt (by omega)]
    refine congrArg X (funext fun b => ?_)
    fin_cases b <;> apply Fin.ext
    · show 0 + 1 * j.val = j.val
      omega
    · show 1024 * a + 1 * l.val = 1024 * a + l.val
      omega
  have row : ∀ (X : FVec Ideal S256x1024 .bf16) (j : Fin 1024), X (ix2 r j) = at2 X r.val j.val :=
    fun X j => (at2_of_lt X r.isLt j.isLt).symm
  simp only [View.readAt_eq_ld, Memref.IsWhole.read_unread]
  rw [quarter_at, both, e0, e1, merged]
  refine congrArg₂ (· + ·) (congrArg₂ (· * ·) (congrArg _ (gate x10)) (Finset.sum_congr rfl fun j _ => ?_))
    (congrArg₂ (· * ·) (congrArg _ (gate x11)) (Finset.sum_congr rfl fun j _ => ?_))
  · exact congrArg₂ (· * ·) (row H j) (weight x12 j)
  · exact congrArg₂ (· * ·) (row A j) (weight x13 j)

set_option maxHeartbeats 400000 in
/-- What the body leaves in the result's block. -/
theorem body_eq (c : Dev nD) (i : grid0.Coords)
    (arg1 : Memref sig .tc .vmem S272x1024 .f32) (harg1 : arg1.IsWhole)
    (arg2 : Memref sig .tc .vmem S272x1024 .f32) (harg2 : arg2.IsWhole)
    (arg3 : Memref sig .tc .vmem S256x1024 .f32) (harg3 : arg3.IsWhole)
    (arg4 : Memref sig .tc .vmem S1x1024 .f32) (harg4 : arg4.IsWhole)
    (arg5 : Memref sig .tc .vmem S256x1024 .bf16) (harg5 : arg5.IsWhole)
    (arg6 : Memref sig .tc .vmem S256x1024 .f32) (harg6 : arg6.IsWhole)
    (arg7 : Memref sig .tc .vmem S1x4x64x1024 .bf16) (harg7 : arg7.IsWhole)
    (arg8 : Memref sig .tc .vmem S1x4x64x1024 .f32) (harg8 : arg8.IsWhole)
    (arg9 : Memref sig .tc .vmem S1x16x16x1024 .bf16) (harg9 : arg9.IsWhole)
    (arg10 : Memref sig .tc .vmem S1x16x16x1024 .f32) (harg10 : arg10.IsWhole)
    (arg11 : Memref sig .tc .vmem S256x4096 .bf16) (harg11 : arg11.IsWhole)
    (arg12 : Memref sig .tc .vmem S256x4096 .bf16) (harg12 : arg12.IsWhole)
    (arg13 : Memref sig .tc .vmem S1024x4096 .bf16) (harg13 : arg13.IsWhole)
    (arg14 : Memref sig .tc .vmem S1024x4096 .bf16) (harg14 : arg14.IsWhole)
    (arg15 : Memref sig .tc .vmem S256x4096 .bf16) (harg15 : arg15.IsWhole)
    (arg16 : Memref sig .tc .vmem S256x1024 .bf16) (harg16 : arg16.IsWhole)
    (arg17 : Memref sig .tc .vmem S256x1024 .bf16) (harg17 : arg17.IsWhole)
    (arg18 : Memref sig .tc .vmem S8x256x128 .f32) (harg18 : arg18.IsWhole)
    (arg19 : Memref sig .tc .vmem S8x256x128 .f32) (harg19 : arg19.IsWhole)
    (arg20 : Memref sig .tc .vmem S8x256x128 .f32) (harg20 : arg20.IsWhole)
    (arg21 : Memref sig .tc .vmem S8x256x128 .f32) (harg21 : arg21.IsWhole)
    (x0 : FVec Ideal S272x1024 .f32) (x1 : FVec Ideal S272x1024 .f32) (x2 : FVec Ideal S256x1024 .f32) (x3 : FVec Ideal S1x1024 .f32) (x4 : FVec Ideal S256x1024 .bf16) (x5 : FVec Ideal S256x1024 .f32) (x6 : FVec Ideal S1x4x64x1024 .bf16) (x7 : FVec Ideal S1x4x64x1024 .f32) (x8 : FVec Ideal S1x16x16x1024 .bf16) (x9 : FVec Ideal S1x16x16x1024 .f32) (x10 : FVec Ideal S256x4096 .bf16) (x11 : FVec Ideal S256x4096 .bf16) (x12 : FVec Ideal S1024x4096 .bf16) (x13 : FVec Ideal S1024x4096 .bf16) (y : S256x4096.Idx) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 y
      = both (gated x0 x1 x2 x3) (blend x4 x5 x6 x7 x8 x9) x10 x11 x12 x13 y := by
  refine Eq.trans ?_ (congrFun (congrArg₂ (fun H A => both H A x10 x11 x12 x13)
    (gated_read c arg1 arg2 harg1 harg2 arg3 harg3 arg4 harg4 arg16 x0 x1 x2 x3)
    (blend_read c arg5 harg5 arg6 harg6 arg7 harg7 arg8 harg8 arg9 harg9 arg10 harg10 arg17 arg18 arg19 arg20 arg21 x4 x5 x6 x7 x8 x9)) y)
  unfold out0_A_14
  refine (congrFun (View.read_writes_junk_eq_canon VO0_14 _) y).trans ?_
  have h := quarter_piece arg11 arg12 harg11 harg12 arg13 arg14 harg13 harg14
    (kernelRun0_A.sl.v2034 (F := Ideal) c arg1 harg1 arg2 harg2 arg3 harg3 arg4 harg4 arg16 x0 x1 x2 x3)
    (kernelRun0_A.sl.v2035 (F := Ideal) c arg5 harg5 arg6 harg6 arg7 harg7 arg8 harg8 arg9 harg9 arg10 harg10 arg17 arg18 arg19 arg20 arg21
      x4 x5 x6 x7 x8 x9) x10 x11 x12 x13
  refine View.canon_apply_of_pieces (S := S256x4096) (Val := Elt Ideal) (e := .bf16) _ _ ?_ y
    (cover0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 y)
  unfold kernelRun0_A
  refine Agree.cons ?_ (Agree.cons ?_ (Agree.cons ?_ (Agree.cons ?_ (Agree.nil _))))
  · exact fun x => h 3 3072 rfl (by decide) _ _ x
  · exact fun x => h 2 2048 rfl (by decide) _ _ x
  · exact fun x => h 1 1024 rfl (by decide) _ _ x
  · exact fun x => h 0 0 rfl (by decide) _ _ x

end Cert.KernelMergeIdeal.Merge

end
-- ==== Proof.Merge.Result.lean ====
/- The merge of the two branches: the kernel's blocks put together. -/
module

public import proofs.«01_k».proof.Proof.Merge.Kernel

@[expose] public section

set_option maxRecDepth 16384

noncomputable section

namespace Cert.KernelMergeIdeal.Merge

open Idealize.ShloMosaic Idealize.ShloMosaic.TcCoe Idealize.SL.Sem
open Idealize.ShloMosaic.Pipeline (Dat)
open Cert.KernelMergeIdeal Cert.KernelMergeIdeal.Gen Cert.Merge Cert.Project

variable (m : (ℓ : Loc nD τ sig) → Buf (Elt Ideal) ℓ)

/-- Which rows of its array each window stages at each grid point. -/
theorem idx_rows : ∀ t : Fin cfg0.N,
    win0_0.index t = ![t.val, 0] ∧ win0_1.index t = ![t.val, 0] ∧ win0_2.index t = ![t.val, 0] ∧ win0_3.index t = ![0, 0]
    ∧ win0_4.index t = ![t.val, 0] ∧ win0_5.index t = ![t.val, 0] ∧ win0_10.index t = ![t.val, 0] ∧ win0_11.index t = ![t.val, 1]
    ∧ win0_12.index t = ![0, 0] ∧ win0_13.index t = ![0, 0] ∧ win0_14.index t = ![t.val, 0] ∧ t.val < 64 :=
  (by decide +kernel : ∀ t : Fin grid0.N, _)

/-- Which places of the dilated streams. -/
theorem idx_streams : ∀ t : Fin cfg0.N,
    win0_6.index t = ![t.val / 32, 0, t.val % 32, 0] ∧ win0_7.index t = ![t.val / 32, 0, t.val % 32, 0]
    ∧ win0_8.index t = ![t.val / 32, 0, t.val % 32, 0] ∧ win0_9.index t = ![t.val / 32, 0, t.val % 32, 0] ∧ t.val < 64 :=
  (by decide +kernel : ∀ t : Fin grid0.N, _)

/-- The arguments as the kernel takes them. -/
abbrev convolved (c : Dev nD) : FVec Ideal S17408x1024 .f32 := m ((c : Thread nD τ).loc main_arg0)
abbrev signal (c : Dev nD) : FVec Ideal S17408x1024 .f32 := m ((c : Thread nD τ).loc main_arg1)
abbrev factor (c : Dev nD) : FVec Ideal S16384x1024 .f32 := m ((c : Thread nD τ).loc main_arg2)
abbrev skips (c : Dev nD) : FVec Ideal S1024 .f32 := m ((c : Thread nD τ).loc main_arg3)
abbrev out0 (c : Dev nD) : FVec Ideal S16384x1024 .bf16 := m ((c : Thread nD τ).loc main_arg4)
abbrev lse0 (c : Dev nD) : FVec Ideal S16384x1024 .f32 := m ((c : Thread nD τ).loc main_arg5)
abbrev out1 (c : Dev nD) : FVec Ideal S2x4x2048x1024 .bf16 := m ((c : Thread nD τ).loc main_arg6)
abbrev lse1 (c : Dev nD) : FVec Ideal S2x4x2048x1024 .f32 := m ((c : Thread nD τ).loc main_arg7)
abbrev out2 (c : Dev nD) : FVec Ideal S2x16x512x1024 .bf16 := m ((c : Thread nD τ).loc main_arg8)
abbrev lse2 (c : Dev nD) : FVec Ideal S2x16x512x1024 .f32 := m ((c : Thread nD τ).loc main_arg9)
abbrev gates (c : Dev nD) : FVec Ideal S16384x8192 .bf16 := m ((c : Thread nD τ).loc main_arg10)
abbrev wHyena (c : Dev nD) : FVec Ideal S1024x4096 .f32 := m ((c : Thread nD τ).loc main_arg11)
abbrev wAttention (c : Dev nD) : FVec Ideal S1024x4096 .f32 := m ((c : Thread nD τ).loc main_arg12)

/-- The blocks a grid point reads. -/
abbrev blk0 (c : Dev nD) (t : Fin cfg0.N) : FVec Ideal S272x1024 .f32 := iblk m c 0 t
abbrev blk1 (c : Dev nD) (t : Fin cfg0.N) : FVec Ideal S272x1024 .f32 := iblk m c 1 t
abbrev blk2 (c : Dev nD) (t : Fin cfg0.N) : FVec Ideal S256x1024 .f32 := iblk m c 2 t
abbrev blk3 (c : Dev nD) (t : Fin cfg0.N) : FVec Ideal S1x1024 .f32 := iblk m c 3 t
abbrev blk4 (c : Dev nD) (t : Fin cfg0.N) : FVec Ideal S256x1024 .bf16 := iblk m c 4 t
abbrev blk5 (c : Dev nD) (t : Fin cfg0.N) : FVec Ideal S256x1024 .f32 := iblk m c 5 t
abbrev blk6 (c : Dev nD) (t : Fin cfg0.N) : FVec Ideal S1x4x64x1024 .bf16 := iblk m c 6 t
abbrev blk7 (c : Dev nD) (t : Fin cfg0.N) : FVec Ideal S1x4x64x1024 .f32 := iblk m c 7 t
abbrev blk8 (c : Dev nD) (t : Fin cfg0.N) : FVec Ideal S1x16x16x1024 .bf16 := iblk m c 8 t
abbrev blk9 (c : Dev nD) (t : Fin cfg0.N) : FVec Ideal S1x16x16x1024 .f32 := iblk m c 9 t
abbrev blk10 (c : Dev nD) (t : Fin cfg0.N) : FVec Ideal S256x4096 .bf16 := iblk m c 10 t
abbrev blk11 (c : Dev nD) (t : Fin cfg0.N) : FVec Ideal S256x4096 .bf16 := iblk m c 11 t
abbrev blk12 (c : Dev nD) (t : Fin cfg0.N) : FVec Ideal S1024x4096 .bf16 := iblk m c 12 t
abbrev blk13 (c : Dev nD) (t : Fin cfg0.N) : FVec Ideal S1024x4096 .bf16 := iblk m c 13 t

theorem at_blk0 (c : Dev nD) (t : Fin cfg0.N) {i k : ℕ} (hi : i < 272) (hk : k < 1024) :
    at2 (blk0 m c t) i k = at2 (convolved m c) (272 * t.val + i) k := by
  obtain ⟨e0, e1, e2, e3, e4, e5, e10, e11, e12, e13, e14, ht⟩ := idx_rows t
  rw [at2_of_lt _ hi hk, at2_of_lt _ (by omega) (by omega)]
  refine (congrFun (V_main_arg0 m c) _).trans (congrArg _ (funext fun a => Fin.ext ?_))
  fin_cases a <;> blk_simp [e0] <;> first | rfl | exact congrArg (· + i) (Nat.mul_comm _ _)

theorem at_blk1 (c : Dev nD) (t : Fin cfg0.N) {i k : ℕ} (hi : i < 272) (hk : k < 1024) :
    at2 (blk1 m c t) i k = at2 (signal m c) (272 * t.val + i) k := by
  obtain ⟨e0, e1, e2, e3, e4, e5, e10, e11, e12, e13, e14, ht⟩ := idx_rows t
  rw [at2_of_lt _ hi hk, at2_of_lt _ (by omega) (by omega)]
  refine (congrFun (V_main_arg1 m c) _).trans (congrArg _ (funext fun a => Fin.ext ?_))
  fin_cases a <;> blk_simp [e1] <;> first | rfl | exact congrArg (· + i) (Nat.mul_comm _ _)

theorem at_blk2 (c : Dev nD) (t : Fin cfg0.N) {i k : ℕ} (hi : i < 256) (hk : k < 1024) :
    at2 (blk2 m c t) i k = at2 (factor m c) (256 * t.val + i) k := by
  obtain ⟨e0, e1, e2, e3, e4, e5, e10, e11, e12, e13, e14, ht⟩ := idx_rows t
  rw [at2_of_lt _ hi hk, at2_of_lt _ (by omega) (by omega)]
  refine (congrFun (V_main_arg2 m c) _).trans (congrArg _ (funext fun a => Fin.ext ?_))
  fin_cases a <;> blk_simp [e2] <;> first | rfl | exact congrArg (· + i) (Nat.mul_comm _ _)

theorem at_blk4 (c : Dev nD) (t : Fin cfg0.N) {i k : ℕ} (hi : i < 256) (hk : k < 1024) :
    at2 (blk4 m c t) i k = at2 (out0 m c) (256 * t.val + i) k := by
  obtain ⟨e0, e1, e2, e3, e4, e5, e10, e11, e12, e13, e14, ht⟩ := idx_rows t
  rw [at2_of_lt _ hi hk, at2_of_lt _ (by omega) (by omega)]
  refine (congrFun (V_main_arg4 m c) _).trans (congrArg _ (funext fun a => Fin.ext ?_))
  fin_cases a <;> blk_simp [e4] <;> first | rfl | exact congrArg (· + i) (Nat.mul_comm _ _)

theorem at_blk5 (c : Dev nD) (t : Fin cfg0.N) {i k : ℕ} (hi : i < 256) (hk : k < 1024) :
    at2 (blk5 m c t) i k = at2 (lse0 m c) (256 * t.val + i) k := by
  obtain ⟨e0, e1, e2, e3, e4, e5, e10, e11, e12, e13, e14, ht⟩ := idx_rows t
  rw [at2_of_lt _ hi hk, at2_of_lt _ (by omega) (by omega)]
  refine (congrFun (V_main_arg5 m c) _).trans (congrArg _ (funext fun a => Fin.ext ?_))
  fin_cases a <;> blk_simp [e5] <;> first | rfl | exact congrArg (· + i) (Nat.mul_comm _ _)

theorem at_blk10 (c : Dev nD) (t : Fin cfg0.N) {i k : ℕ} (hi : i < 256) (hk : k < 4096) :
    at2 (blk10 m c t) i k = at2 (gates m c) (256 * t.val + i) k := by
  obtain ⟨e0, e1, e2, e3, e4, e5, e10, e11, e12, e13, e14, ht⟩ := idx_rows t
  rw [at2_of_lt _ hi hk, at2_of_lt _ (by omega) (by omega)]
  refine (congrFun (V_main_arg10 m c) _).trans (congrArg _ (funext fun a => Fin.ext ?_))
  fin_cases a <;> blk_simp [e10] <;> first | rfl | exact congrArg (· + i) (Nat.mul_comm _ _)

theorem at_blk11 (c : Dev nD) (t : Fin cfg0.N) {i k : ℕ} (hi : i < 256) (hk : k < 4096) :
    at2 (blk11 m c t) i k = at2 (gates m c) (256 * t.val + i) (4096 + k) := by
  obtain ⟨e0, e1, e2, e3, e4, e5, e10, e11, e12, e13, e14, ht⟩ := idx_rows t
  rw [at2_of_lt _ hi hk, at2_of_lt _ (by omega) (by omega)]
  refine (congrFun (V_main_arg10 m c) _).trans (congrArg _ (funext fun a => Fin.ext ?_))
  fin_cases a <;> blk_simp [e11] <;> first | rfl | exact congrArg (· + i) (Nat.mul_comm _ _)

theorem at_blk6 (c : Dev nD) (t : Fin cfg0.N) {r p k : ℕ} (hr : r < 4) (hp : p < 64) (hk : k < 1024) :
    at4 (blk6 m c t) 0 r p k = at4 (out1 m c) (t.val / 32) r (64 * (t.val % 32) + p) k := by
  obtain ⟨e6, e7, e8, e9, ht⟩ := idx_streams t
  rw [at4_of_lt _ (by omega) hr hp hk, at4_of_lt _ (by omega) hr (by omega) hk]
  refine (congrFun (V_main_arg6 m c) _).trans (congrArg _ (funext fun a => Fin.ext ?_))
  fin_cases a <;> blk_simp [e6] <;> first | rfl | exact congrArg (· + p) (Nat.mul_comm _ _)

theorem at_blk7 (c : Dev nD) (t : Fin cfg0.N) {r p k : ℕ} (hr : r < 4) (hp : p < 64) (hk : k < 1024) :
    at4 (blk7 m c t) 0 r p k = at4 (lse1 m c) (t.val / 32) r (64 * (t.val % 32) + p) k := by
  obtain ⟨e6, e7, e8, e9, ht⟩ := idx_streams t
  rw [at4_of_lt _ (by omega) hr hp hk, at4_of_lt _ (by omega) hr (by omega) hk]
  refine (congrFun (V_main_arg7 m c) _).trans (congrArg _ (funext fun a => Fin.ext ?_))
  fin_cases a <;> blk_simp [e7] <;> first | rfl | exact congrArg (· + p) (Nat.mul_comm _ _)

theorem at_blk8 (c : Dev nD) (t : Fin cfg0.N) {r p k : ℕ} (hr : r < 16) (hp : p < 16) (hk : k < 1024) :
    at4 (blk8 m c t) 0 r p k = at4 (out2 m c) (t.val / 32) r (16 * (t.val % 32) + p) k := by
  obtain ⟨e6, e7, e8, e9, ht⟩ := idx_streams t
  rw [at4_of_lt _ (by omega) hr hp hk, at4_of_lt _ (by omega) hr (by omega) hk]
  refine (congrFun (V_main_arg8 m c) _).trans (congrArg _ (funext fun a => Fin.ext ?_))
  fin_cases a <;> blk_simp [e8] <;> first | rfl | exact congrArg (· + p) (Nat.mul_comm _ _)

theorem at_blk9 (c : Dev nD) (t : Fin cfg0.N) {r p k : ℕ} (hr : r < 16) (hp : p < 16) (hk : k < 1024) :
    at4 (blk9 m c t) 0 r p k = at4 (lse2 m c) (t.val / 32) r (16 * (t.val % 32) + p) k := by
  obtain ⟨e6, e7, e8, e9, ht⟩ := idx_streams t
  rw [at4_of_lt _ (by omega) hr hp hk, at4_of_lt _ (by omega) hr (by omega) hk]
  refine (congrFun (V_main_arg9 m c) _).trans (congrArg _ (funext fun a => Fin.ext ?_))
  fin_cases a <;> blk_simp [e9] <;> first | rfl | exact congrArg (· + p) (Nat.mul_comm _ _)

/-- The skip weights arrive as one row. -/
theorem row_skips (c : Dev nD) : (V m c main_v0 : FVec Ideal S1x1024 .f32)
    = fun i : S1x1024.Idx => skips m c (ix1 (i 1)) := by
  entry_read
  exact funext fun i => broadcastInDim_apply _ _ _ _ _ (fun a => by fin_cases a; rfl)

/-- The weights arrive cast. -/
theorem cast_hyena (c : Dev nD) : (V m c main_v1 : FVec Ideal S1024x4096 .bf16) = wHyena m c := by
  entry_read
  rfl

theorem cast_attention (c : Dev nD) : (V m c main_v2 : FVec Ideal S1024x4096 .bf16) = wAttention m c := by
  entry_read
  rfl

theorem at_blk3 (c : Dev nD) (t : Fin cfg0.N) {k : ℕ} (hk : k < 1024) :
    at2 (blk3 m c t) 0 k = at1 (skips m c) k := by
  obtain ⟨e0, e1, e2, e3, e4, e5, e10, e11, e12, e13, e14, ht⟩ := idx_rows t
  rw [at2_of_lt _ (by omega) hk, at1_of_lt _ hk]
  refine (congrFun (row_skips m c) _).trans (congrArg _ (funext fun a => Fin.ext ?_))
  fin_cases a
  change ((win0_3.blk t).view.emb (ix2 0 ⟨k, hk⟩) 1).val = k
  blk_simp [e3]

theorem at_blk12 (c : Dev nD) (t : Fin cfg0.N) {i k : ℕ} (hi : i < 1024) (hk : k < 4096) :
    at2 (blk12 m c t) i k = at2 (wHyena m c) i k := by
  obtain ⟨e0, e1, e2, e3, e4, e5, e10, e11, e12, e13, e14, ht⟩ := idx_rows t
  rw [at2_of_lt _ hi hk, at2_of_lt _ hi hk]
  refine (congrFun (cast_hyena m c) _).trans (congrArg _ (funext fun a => Fin.ext ?_))
  fin_cases a <;> blk_simp [e12] <;> rfl

theorem at_blk13 (c : Dev nD) (t : Fin cfg0.N) {i k : ℕ} (hi : i < 1024) (hk : k < 4096) :
    at2 (blk13 m c t) i k = at2 (wAttention m c) i k := by
  obtain ⟨e0, e1, e2, e3, e4, e5, e10, e11, e12, e13, e14, ht⟩ := idx_rows t
  rw [at2_of_lt _ hi hk, at2_of_lt _ hi hk]
  refine (congrFun (cast_attention m c) _).trans (congrArg _ (funext fun a => Fin.ext ?_))
  fin_cases a <;> blk_simp [e13] <;> rfl

/-- The gated convolution of a grid point's tokens. -/
theorem hyena_blk (c : Dev nD) (t : Fin cfg0.N) {r k : ℕ} (hr : r < 256) (hk : k < 1024) :
    at2 (φ := .bf16) (gated (blk0 m c t) (blk1 m c t) (blk2 m c t) (blk3 m c t)) r k
      = hyena (at2 (convolved m c)) (at2 (signal m c)) (at2 (factor m c)) (at1 (skips m c)) (256 * t.val + r) k := by
  rw [at2_of_lt _ hr hk]
  have e : 136 * ((256 * t.val + r) / 128) + (256 * t.val + r) % 128 = 272 * t.val + (136 * (r / 128) + r % 128) := by omega
  show (at2 (blk0 m c t) (136 * (r / 128) + r % 128) k + at2 (blk1 m c t) (136 * (r / 128) + r % 128) k * at2 (blk3 m c t) 0 k)
    * at2 (blk2 m c t) r k = _
  rw [hyena, e, at_blk0 m c t (by omega) hk, at_blk1 m c t (by omega) hk, at_blk2 m c t hr hk, at_blk3 m c t hk]

/-- The mean of the three attention streams over a grid point's tokens. -/
theorem attention_blk (c : Dev nD) (t : Fin cfg0.N) {r k : ℕ} (hr : r < 256) (hk : k < 1024) :
    at2 (φ := .bf16) (blend (blk4 m c t) (blk5 m c t) (blk6 m c t) (blk7 m c t) (blk8 m c t) (blk9 m c t)) r k
      = attention (at2 (out0 m c)) (at2 (lse0 m c)) (at4 (out1 m c)) (at4 (lse1 m c)) (at4 (out2 m c)) (at4 (lse2 m c)) (256 * t.val + r) k := by
  have ht : t.val < 64 := (idx_streams t).2.2.2.2
  rw [at2_of_lt _ hr hk]
  have e1 : (256 * t.val + r) / 8192 = t.val / 32 := by omega
  have e2 : (256 * t.val + r) % 4 = r % 4 := by omega
  have e3 : (256 * t.val + r) % 8192 / 4 = 64 * (t.val % 32) + r / 4 := by omega
  have e4 : (256 * t.val + r) % 16 = r % 16 := by omega
  have e5 : (256 * t.val + r) % 8192 / 16 = 16 * (t.val % 32) + r / 16 := by omega
  show mean (at2 (blk5 m c t) r k) (at4 (blk7 m c t) 0 (r % 4) (r / 4) k) (at4 (blk9 m c t) 0 (r % 16) (r / 16) k)
    (at2 (blk4 m c t) r k) (at4 (blk6 m c t) 0 (r % 4) (r / 4) k) (at4 (blk8 m c t) 0 (r % 16) (r / 16) k) = _
  rw [attention, e1, e2, e3, e4, e5, at_blk4 m c t hr hk, at_blk5 m c t hr hk,
    at_blk6 m c t (by omega) (by omega) hk, at_blk7 m c t (by omega) (by omega) hk,
    at_blk8 m c t (by omega) (by omega) hk, at_blk9 m c t (by omega) (by omega) hk]

/-- The merge as one array. -/
def result (c : Dev nD) : FVec Ideal S16384x4096 .bf16 := fun i =>
  merged (hyena (at2 (convolved m c)) (at2 (signal m c)) (at2 (factor m c)) (at1 (skips m c)))
    (attention (at2 (out0 m c)) (at2 (lse0 m c)) (at4 (out1 m c)) (at4 (lse1 m c)) (at4 (out2 m c)) (at4 (lse2 m c)))
    (at2 (gates m c) (i 0) (i 1)) (at2 (gates m c) (i 0) (4096 + (i 1).val)) (at2 (wHyena m c)) (at2 (wAttention m c)) (i 0) (i 1)

/-- What a grid point writes is its part of that array. -/
theorem both_blk (c : Dev nD) (t : Fin cfg0.N) {r j : ℕ} (hr : r < 256) (hj : j < 4096) :
    merged (at2 (φ := .bf16) (gated (blk0 m c t) (blk1 m c t) (blk2 m c t) (blk3 m c t)))
      (at2 (φ := .bf16) (blend (blk4 m c t) (blk5 m c t) (blk6 m c t) (blk7 m c t) (blk8 m c t) (blk9 m c t)))
      (at2 (blk10 m c t) r j) (at2 (blk11 m c t) r j) (at2 (blk12 m c t)) (at2 (blk13 m c t)) r j
    = merged (hyena (at2 (convolved m c)) (at2 (signal m c)) (at2 (factor m c)) (at1 (skips m c)))
      (attention (at2 (out0 m c)) (at2 (lse0 m c)) (at4 (out1 m c)) (at4 (lse1 m c)) (at4 (out2 m c)) (at4 (lse2 m c)))
      (at2 (gates m c) (256 * t.val + r) j) (at2 (gates m c) (256 * t.val + r) (4096 + j)) (at2 (wHyena m c)) (at2 (wAttention m c))
      (256 * t.val + r) j := by
  rw [merged, merged, at_blk10 m c t hr hj, at_blk11 m c t hr hj]
  refine congrArg₂ (· + ·) (congrArg (Ideal.logistic _ * ·) (Finset.sum_congr rfl fun k _ => ?_))
    (congrArg (Ideal.logistic _ * ·) (Finset.sum_congr rfl fun k _ => ?_))
  · rw [hyena_blk m c t hr k.isLt, at_blk12 m c t k.isLt hj]
  · rw [attention_blk m c t hr k.isLt, at_blk13 m c t k.isLt hj]

/-- The output array of the kernel. -/
theorem final14 (c : Dev nD) : (dats m 0 c).arrAt 14 cfg0.N = result m c :=
  (dats m 0 c).arrAt_eq_of_covers 14 _ (by decide +kernel) fun t _ y => by
    obtain ⟨e0, e1, e2, e3, e4, e5, e10, e11, e12, e13, e14, ht⟩ := idx_rows t
    have hr : (y 0).val < 256 := (y 0).isLt
    have hj : (y 1).val < 4096 := (y 1).isLt
    blk_simp
    rw [after0_14, outsAt0, body_eq]
    refine (both_blk m c t hr hj).trans ?_
    blk_simp [e14, result]
    rw [Nat.mul_comm 256 t.val]

end Cert.KernelMergeIdeal.Merge

end
-- ==== Proof.Merge.Reference.lean ====
/- The merge of the two branches: what its reference computes. -/
module

public import proofs.«01_k».proof.Proof.Gen.ReferenceMergeIdeal.Read
public import proofs.«01_k».proof.Proof.Merge.Result
public import proofs.«01_k».proof.Proof.Words

@[expose] public section

set_option maxRecDepth 16384

noncomputable section

namespace Cert.ReferenceMergeIdeal.Merge

open Idealize.ShloMosaic Idealize.ShloMosaic.TcCoe Idealize.SL.Sem
open Cert.ReferenceMergeIdeal Cert.ReferenceMergeIdeal.Read Cert.Merge Cert.Project

variable (x0 x1 : FVec Ideal S17408x1024 .f32) (x2 : FVec Ideal S16384x1024 .f32) (x3 : FVec Ideal S1024 .f32)
  (x4 : FVec Ideal S16384x1024 .bf16) (x5 : FVec Ideal S16384x1024 .f32)
  (x6 : FVec Ideal S2x4x2048x1024 .bf16) (x7 : FVec Ideal S2x4x2048x1024 .f32)
  (x8 : FVec Ideal S2x16x512x1024 .bf16) (x9 : FVec Ideal S2x16x512x1024 .f32)
  (x10 : FVec Ideal S16384x8192 .bf16) (x11 x12 : FVec Ideal S1024x4096 .f32)

/-- The gated convolution at one token. -/
theorem hyena_at (i : Fin 16384) (k : Fin 1024) : (val_main_v10 (F := Ideal) x0 x1 x2 x3 (ix2 i k) : EReal)
    = hyena (at2 x0) (at2 x1) (at2 x2) (at1 x3) i k := by
  pointwise [val_main_v10, val_main_v9, val_main_v8, val_main_v7, val_main_v6, val_main_v5, val_main_v4, val_main_v3,
    val_main_v2, val_main_v1, val_main_v0]
  have e : i.val / 128 * 136 = 136 * (i.val / 128) := Nat.mul_comm _ _
  have h : 136 * (i.val / 128) + i.val % 128 < 17408 := by omega
  rw [hyena, at2_of_lt x0 h k.isLt, at2_of_lt x1 h k.isLt, at2_of_lt x2 i.isLt k.isLt, at1_of_lt x3 k.isLt]
  simp only [e]

/-- The strided streams, token by token. -/
theorem lse1_at (i : Fin 16384) (k : Fin 1024) : (val_main_v12 (F := Ideal) x7 (ix2 i k) : EReal)
    = at4 x7 (i.val / 8192) (i.val % 4) (i.val % 8192 / 4) k := by
  pointwise [val_main_v12, val_main_v11]
  have e : i.val / 4 % 2048 = i.val % 8192 / 4 := by omega
  rw [at4_of_lt x7 (by omega) (by omega) (by omega) k.isLt]
  simp only [e]

theorem lse2_at (i : Fin 16384) (k : Fin 1024) : (val_main_v14 (F := Ideal) x9 (ix2 i k) : EReal)
    = at4 x9 (i.val / 8192) (i.val % 16) (i.val % 8192 / 16) k := by
  pointwise [val_main_v14, val_main_v13]
  have e : i.val / 16 % 512 = i.val % 8192 / 16 := by omega
  rw [at4_of_lt x9 (by omega) (by omega) (by omega) k.isLt]
  simp only [e]

theorem out1_at (i : Fin 16384) (k : Fin 1024) : (val_main_v25 (F := Ideal) x6 (ix2 i k) : EReal)
    = at4 x6 (i.val / 8192) (i.val % 4) (i.val % 8192 / 4) k := by
  pointwise [val_main_v25, val_main_v24]
  have e : i.val / 4 % 2048 = i.val % 8192 / 4 := by omega
  rw [at4_of_lt x6 (by omega) (by omega) (by omega) k.isLt]
  simp only [e]

theorem out2_at (i : Fin 16384) (k : Fin 1024) : (val_main_v27 (F := Ideal) x8 (ix2 i k) : EReal)
    = at4 x8 (i.val / 8192) (i.val % 16) (i.val % 8192 / 16) k := by
  pointwise [val_main_v27, val_main_v26]
  have e : i.val / 16 % 512 = i.val % 8192 / 16 := by omega
  rw [at4_of_lt x8 (by omega) (by omega) (by omega) k.isLt]
  simp only [e]

/-- The three log denominators stacked. -/
theorem stack_lse (i : Fin 16384) (k : Fin 1024) :
    (val_main_v18 (F := Ideal) x5 x7 x9 (ix3 0 i k) : EReal) = at2 x5 i k
    ∧ (val_main_v18 (F := Ideal) x5 x7 x9 (ix3 1 i k) : EReal) = at4 x7 (i.val / 8192) (i.val % 4) (i.val % 8192 / 4) k
    ∧ (val_main_v18 (F := Ideal) x5 x7 x9 (ix3 2 i k) : EReal) = at4 x9 (i.val / 8192) (i.val % 16) (i.val % 8192 / 16) k := by
  refine ⟨?_, ?_, ?_⟩
  · pointwise [val_main_v18, val_main_v15]
    exact (at2_of_lt x5 i.isLt k.isLt).symm
  · rw [← lse1_at]
    pointwise [val_main_v18, val_main_v16]
  · rw [← lse2_at]
    pointwise [val_main_v18, val_main_v17]

/-- The three outputs stacked. -/
theorem stack_out (i : Fin 16384) (k : Fin 1024) :
    (val_main_v31 (F := Ideal) x4 x6 x8 (ix3 0 i k) : EReal) = at2 x4 i k
    ∧ (val_main_v31 (F := Ideal) x4 x6 x8 (ix3 1 i k) : EReal) = at4 x6 (i.val / 8192) (i.val % 4) (i.val % 8192 / 4) k
    ∧ (val_main_v31 (F := Ideal) x4 x6 x8 (ix3 2 i k) : EReal) = at4 x8 (i.val / 8192) (i.val % 16) (i.val % 8192 / 16) k := by
  refine ⟨?_, ?_, ?_⟩
  · pointwise [val_main_v31, val_main_v28]
    exact (at2_of_lt x4 i.isLt k.isLt).symm
  · rw [← out1_at]
    pointwise [val_main_v31, val_main_v29]
  · rw [← out2_at]
    pointwise [val_main_v31, val_main_v30]

/-- The largest of three, from minus infinity. -/
theorem fold_three (f : Fin 3 → EReal) : Finset.fold max ⊥ f Finset.univ = max (max (f 0) (f 1)) (f 2) := by
  rw [show (Finset.univ : Finset (Fin 3)) = {0, 1, 2} from rfl, Finset.fold_insert (by decide), Finset.fold_insert (by decide),
    Finset.fold_singleton, max_eq_left (bot_le : ⊥ ≤ f 2), max_assoc]

theorem top_at (i : Fin 16384) (k : Fin 1024) : (val_main_v19 (F := Ideal) x5 x7 x9 (ix2 i k) : EReal)
    = max (max (at2 x5 i k) (at4 x7 (i.val / 8192) (i.val % 4) (i.val % 8192 / 4) k))
        (at4 x9 (i.val / 8192) (i.val % 16) (i.val % 8192 / 16) k) := by
  pointwise [val_main_v19, val_main_cst]
  obtain ⟨h0, h1, h2⟩ := stack_lse x5 x7 x9 i k
  rw [← h0, ← h1, ← h2]
  exact (congrArg (Finset.fold max · _ _) Words.ofBits_bot).trans (fold_three _)

/-- The weight of one stream. -/
theorem weight_at (s : Fin 3) (i : Fin 16384) (k : Fin 1024) : (val_main_v23 (F := Ideal) x5 x7 x9 (ix3 s i k) : EReal)
    = Ideal.exp (val_main_v18 (F := Ideal) x5 x7 x9 (ix3 s i k) - max (max (at2 x5 i k)
        (at4 x7 (i.val / 8192) (i.val % 4) (i.val % 8192 / 4) k)) (at4 x9 (i.val / 8192) (i.val % 16) (i.val % 8192 / 16) k)) := by
  pointwise [val_main_v23, val_main_v22, val_main_v21, val_main_v20]
  rw [top_at]

/-- The mean of the three streams at one token. -/
theorem attention_at (i : Fin 16384) (k : Fin 1024) : (val_main_v36 (F := Ideal) x4 x5 x6 x7 x8 x9 (ix2 i k) : EReal)
    = attention (at2 x4) (at2 x5) (at4 x6) (at4 x7) (at4 x8) (at4 x9) i k := by
  pointwise [val_main_v36, val_main_v35, val_main_v34, val_main_v33, val_main_v32, val_main_cst_0, val_main_cst_1]
  obtain ⟨h0, h1, h2⟩ := stack_lse x5 x7 x9 i k
  obtain ⟨o0, o1, o2⟩ := stack_out x4 x6 x8 i k
  rw [Fin.sum_univ_three, Fin.sum_univ_three]
  simp only [weight_at]
  rw [h0, h1, h2, o0, o1, o2]
  rfl

/-- The gates, first half and second half. -/
theorem gate_hyena (i : Fin 16384) (j : Fin 4096) : (val_main_v45 (F := Ideal) x10 (ix2 i j) : EReal)
    = Ideal.logistic (at2 x10 i j) := by
  pointwise [val_main_v45, val_main_v44, val_main_v43, val_main_v42, val_main_v41, val_main_v40, val_main_v38, val_main_v37,
    val_main_cst_2, val_main_cst_3]
  rw [at2_of_lt x10 i.isLt (show j.val < 8192 by omega)]
  rfl

theorem gate_attention (i : Fin 16384) (j : Fin 4096) : (val_main_v53 (F := Ideal) x10 (ix2 i j) : EReal)
    = Ideal.logistic (at2 x10 i (4096 + j.val)) := by
  pointwise [val_main_v53, val_main_v52, val_main_v51, val_main_v50, val_main_v49, val_main_v48, val_main_v39, val_main_v37,
    val_main_cst_4, val_main_cst_5]
  rw [at2_of_lt x10 i.isLt (show 4096 + j.val < 8192 by omega)]
  rfl

/-- The merged branches at one entry. -/
theorem merged_at (i : Fin 16384) (j : Fin 4096) :
    (val_main_v57 (F := Ideal) x0 x1 x2 x3 x4 x5 x6 x7 x8 x9 x10 x11 x12 (ix2 i j) : EReal)
    = merged (hyena (at2 x0) (at2 x1) (at2 x2) (at1 x3)) (attention (at2 x4) (at2 x5) (at4 x6) (at4 x7) (at4 x8) (at4 x9))
        (at2 x10 i j) (at2 x10 i (4096 + j.val)) (at2 x11) (at2 x12) i j := by
  pointwise [val_main_v57, val_main_v56, val_main_v55, val_main_v54, val_main_v47, val_main_v46]
  rw [gate_hyena, gate_attention]
  refine congrArg₂ (· + ·) (congrArg (Ideal.logistic _ * ·) (Finset.sum_congr rfl fun k _ => ?_))
    (congrArg (Ideal.logistic _ * ·) (Finset.sum_congr rfl fun k _ => ?_))
  · rw [hyena_at, at2_of_lt x11 k.isLt j.isLt]
  · rw [attention_at, at2_of_lt x12 k.isLt j.isLt]

/-- The reference's array. -/
theorem merged_eq : (val_main_v57 (F := Ideal) x0 x1 x2 x3 x4 x5 x6 x7 x8 x9 x10 x11 x12 : FVec Ideal S16384x4096 .bf16)
    = fun i => merged (hyena (at2 x0) (at2 x1) (at2 x2) (at1 x3))
        (attention (at2 x4) (at2 x5) (at4 x6) (at4 x7) (at4 x8) (at4 x9))
        (at2 x10 (i 0) (i 1)) (at2 x10 (i 0) (4096 + (i 1).val)) (at2 x11) (at2 x12) (i 0) (i 1) := by
  funext i
  exact (congrArg _ (show i = ix2 (i 0) (i 1) by funext a; fin_cases a <;> rfl)).trans
    (merged_at x0 x1 x2 x3 x4 x5 x6 x7 x8 x9 x10 x11 x12 (i 0) (i 1))

end Cert.ReferenceMergeIdeal.Merge

end
-- ==== Proof.Merge.Claims.lean ====
/- The claims about the merge of the two branches. -/
module

public import proofs.«01_k».proof.Defs
public import proofs.«01_k».proof.Proof.Gen.KernelMerge.Frame
public import proofs.«01_k».proof.Proof.Gen.KernelMergeIdeal.Value
public import proofs.«01_k».proof.Proof.Gen.ReferenceMergeIdeal.Run
public import proofs.«01_k».proof.Proof.Merge.Reference

@[expose] public section

set_option maxRecDepth 16384

noncomputable section

namespace Cert.Merge

open Idealize.ShloMosaic Idealize.ShloMosaic.TcCoe Idealize.SL.Sem

theorem frame : Cert.quiescent_KernelMerge := fun m ρ _ => Cert.KernelMerge.Gen.frame m ρ

theorem frameIdeal : Cert.quiescent_KernelMergeIdeal := fun m ρ _ => Cert.KernelMergeIdeal.Gen.frame m ρ

theorem frameReference : Cert.quiescent_ReferenceMergeIdeal := fun m ρ _ =>
  (θ_run Cert.ReferenceMergeIdeal.defs _ _).mono
    (fun r h => ⟨fun c => (h c).2, sem_eq_zero_of_no_sems (by decide) r.2⟩)
    (Cert.ReferenceMergeIdeal.Value.run (F := Ideal) m ρ)

theorem preserves : Cert.preserves_KernelMerge_KernelMergeIdeal := trivial

/-- Both programs end with the gated sum of the two projected branches. -/
theorem algebraic : Cert.algebraic_KernelMergeIdeal_ReferenceMergeIdeal := by
  intro m ρ m' ρ' _ hagree
  refine ⟨fun c => Cert.KernelMergeIdeal.Merge.result m c, ?_, ?_⟩
  · exact (θ_run Cert.KernelMergeIdeal.defs _ _).mono
      (fun _ h c => ⟨(h c).1.trans (Cert.KernelMergeIdeal.Merge.final14 m c), (h c).2⟩)
      (Cert.KernelMergeIdeal.Value.run_blocks (F := Ideal) m ρ)
  · refine (θ_run Cert.ReferenceMergeIdeal.defs _ _).mono (fun _ h c => ⟨(h c).1.trans ?_, (h c).2⟩)
      (Cert.ReferenceMergeIdeal.Value.run (F := Ideal) m' ρ')
    obtain ⟨a0, a1, a2, a3, a4, a5, a6, a7, a8, a9, a10, a11, a12⟩ := hagree c
    rw [Cert.ReferenceMergeIdeal.Read.val_main_v57_eq, a0, a1, a2, a3, a4, a5, a6, a7, a8, a9, a10, a11, a12]
    exact Cert.ReferenceMergeIdeal.Merge.merged_eq _ _ _ _ _ _ _ _ _ _ _ _ _

end Cert.Merge

end
-- ==== Proof.Modulate.Spec.lean ====
/- The modulation of the layer by its condition, free of any program: the SiLU of the condition times a weight matrix,
   plus a bias. -/
module

public import proofs.«01_k».proof.Proof.Merge.Spec
public import Idealize.ShloMosaic.Lib.Routing.OpsOne

@[expose] public section

noncomputable section

namespace Cert.Modulate

open Idealize.ShloMosaic Idealize.ShloMosaic.Routing

/-- The SiLU of a number. -/
def silu (a : EReal) : EReal := a * Ideal.logistic a

/-- One entry of the modulation: row `i` of the condition against column `j` of the weights, plus the bias. -/
def modulation (C W : ℕ → ℕ → EReal) (B : ℕ → EReal) (i j : ℕ) : EReal := (∑ k : Fin 4096, silu (C i k) * W k j) + B j

/-- Where row `r` of an update of whole rows, written from the first row on, lands: at row `r`. -/
theorem lands_row {R U C : ℕ} (d : ScatterDims (shape2 R C) (shape1 1) (shape2 U C)) (hu : d.updateWindowDims = [0, 1])
    (hi : d.insertedWindowDims = []) (hs : d.scatterDimsToOperandDims = [0]) (idx : IVec (shape1 1) 32)
    (h0 : (idx (ix1 0)).toInt = 0) (r' : Fin U) (k' : Fin C) (r : Fin R) (k : Fin C) :
    d.resultIdx? (ix2 r' k') idx = some (ix2 r k) ↔ r'.val = r.val ∧ k' = k := by
  obtain ⟨uw, iw, sd, iv, wf⟩ := d
  subst hu hi hs
  have window : ∀ a : Fin 2, ScatterDims.window ⟨[0, 1], [], [0], iv, wf⟩ (ix2 r' k') a = (ix2 r' k' a).val := fun a => by
    fin_cases a <;> rfl
  have start0 : ScatterDims.start ⟨[0, 1], [], [0], iv, wf⟩ (ix2 r' k') idx 0 = 0 := by
    unfold ScatterDims.start
    rw [dif_pos (List.mem_singleton.2 rfl)]
    refine (congrArg (fun t => (idx t).toInt) ?_).trans h0
    funext b
    match b with
    | ⟨0, _⟩ => exact Subsingleton.elim (α := Fin 1) _ _
  have start1 : ScatterDims.start ⟨[0, 1], [], [0], iv, wf⟩ (ix2 r' k') idx 1 = 0 := by
    unfold ScatterDims.start
    rw [dif_neg fun h => absurd (List.mem_singleton.1 h) (by decide : (1 : Fin 2) ≠ 0)]
  refine (resultIdx?_ix2 _ (ix2 r' k') idx r k).trans ?_
  rw [Fin.ext_iff (a := k'), start0, start1, window, window]
  show ((0 : ℤ) + (r'.val : ℕ) = r.val ∧ (0 : ℤ) + (k'.val : ℕ) = k.val) ↔ _
  omega

/-- Rows written over the first rows of an array are what those rows then hold. -/
theorem rows_set {α : Type} {R U C : ℕ} (d : ScatterDims (shape2 R C) (shape1 1) (shape2 U C)) (hu : d.updateWindowDims = [0, 1])
    (hi : d.insertedWindowDims = []) (hs : d.scatterDimsToOperandDims = [0]) (idx : IVec (shape1 1) 32)
    (h0 : (idx (ix1 0)).toInt = 0) (x : (shape2 R C).Idx → α) (u : (shape2 U C).Idx → α) (r' : Fin U) (r : Fin R)
    (hr : r'.val = r.val) (k : Fin C) : Host.scatter d (fun _ b => b) x idx u (ix2 r k) = u (ix2 r' k) := by
  refine scatter_set_hit d x idx u _ _ (fun j hj => ?_) (ix2 r' k) ((lands_row d hu hi hs idx h0 r' k r k).2 ⟨hr, rfl⟩)
  have e : j = ix2 (j 0) (j 1) := by funext a; fin_cases a <;> rfl
  have l := (lands_row d hu hi hs idx h0 (j 0) (j 1) r k).1 ((congrArg (fun t => d.resultIdx? t idx) e.symm).trans hj)
  rw [e]
  exact congrArg u (congrArg₂ ix2 (Fin.ext (l.1.trans hr.symm)) l.2)

end Cert.Modulate

end
-- ==== Proof.Modulate.Kernel.lean ====
/- The modulation of the layer by its condition: what its kernel computes. -/
module

public import proofs.«01_k».proof.Proof.Gen.KernelModulateIdeal.Frame
public import proofs.«01_k».proof.Proof.Modulate.Spec
public import Idealize.ShloMosaic.Lib.Pipeline.ValueKit

@[expose] public section

set_option maxRecDepth 16384

noncomputable section

namespace Cert.KernelModulateIdeal.Modulate

open Idealize.ShloMosaic Idealize.ShloMosaic.TcCoe Idealize.SL.Sem
open Idealize.ShloMosaic.Pipeline (Dat)
open Cert.KernelModulateIdeal Cert.KernelModulateIdeal.Gen Cert.Modulate Cert.Project Cert.Merge

variable (m : (ℓ : Loc nD τ sig) → Buf (Elt Ideal) ℓ)

/-- The arguments as the kernel takes them, and the condition over the eight rows it works on. -/
abbrev condition (c : Dev nD) : FVec Ideal S2x4096 .f32 := m ((c : Thread nD τ).loc main_arg0)
abbrev weights (c : Dev nD) : FVec Ideal S4096x24576 .f32 := m ((c : Thread nD τ).loc main_arg1)
abbrev bias (c : Dev nD) : FVec Ideal S24576 .f32 := m ((c : Thread nD τ).loc main_arg2)
abbrev eight (c : Dev nD) : FVec Ideal S8x4096 .f32 := V m c main_v2

/-- Which blocks a grid point reads and writes. -/
theorem idx : ∀ t : Fin cfg0.N, win0_0.index t = ![0, 0] ∧ win0_1.index t = ![0, t.val] ∧ win0_2.index t = ![0, t.val]
    ∧ win0_3.index t = ![0, t.val] ∧ t.val < 48 :=
  (by decide +kernel : ∀ t : Fin grid0.N, _)

/-- The blocks a grid point reads. -/
abbrev blk0 (c : Dev nD) (t : Fin cfg0.N) : FVec Ideal S8x4096 .f32 := iblk m c 0 t
abbrev blk1 (c : Dev nD) (t : Fin cfg0.N) : FVec Ideal S4096x512 .f32 := iblk m c 1 t
abbrev blk2 (c : Dev nD) (t : Fin cfg0.N) : FVec Ideal S1x512 .f32 := iblk m c 2 t

theorem at_blk0 (c : Dev nD) (t : Fin cfg0.N) {i k : ℕ} (hi : i < 8) (hk : k < 4096) :
    at2 (blk0 m c t) i k = at2 (eight m c) i k := by
  obtain ⟨e0, e1, e2, e3, ht⟩ := idx t
  rw [at2_of_lt _ hi hk, at2_of_lt _ hi hk]
  refine congrArg (eight m c) (funext fun a => Fin.ext ?_)
  fin_cases a <;> blk_simp [e0] <;> rfl

theorem at_blk1 (c : Dev nD) (t : Fin cfg0.N) {k j : ℕ} (hk : k < 4096) (hj : j < 512) :
    at2 (blk1 m c t) k j = at2 (weights m c) k (512 * t.val + j) := by
  obtain ⟨e0, e1, e2, e3, ht⟩ := idx t
  rw [at2_of_lt _ hk hj, at2_of_lt _ hk (by omega)]
  refine (congrFun (V_main_arg1 m c) _).trans (congrArg _ (funext fun a => Fin.ext ?_))
  fin_cases a <;> blk_simp [e1] <;> first | rfl | exact congrArg (· + j) (Nat.mul_comm _ _)

/-- The bias arrives as one row. -/
theorem row_bias (c : Dev nD) : (V m c main_v3 : FVec Ideal S1x24576 .f32) = fun i : S1x24576.Idx => bias m c (ix1 (i 1)) := by
  have e : (V m c main_v3 : FVec Ideal S1x24576 .f32) = broadcastInDim S1x24576 ![1] bcast_S24576_S1x24576_1 (bias m c) := rfl
  rw [e]
  exact funext fun i => broadcastInDim_apply _ _ _ _ _ (fun a => by fin_cases a; rfl)

theorem at_blk2 (c : Dev nD) (t : Fin cfg0.N) {j : ℕ} (hj : j < 512) :
    at2 (blk2 m c t) 0 j = at1 (bias m c) (512 * t.val + j) := by
  obtain ⟨e0, e1, e2, e3, ht⟩ := idx t
  rw [at2_of_lt _ (by omega) hj, at1_of_lt _ (by omega)]
  refine (congrFun (row_bias m c) _).trans (congrArg _ (funext fun a => Fin.ext ?_))
  fin_cases a
  change ((win0_2.blk t).view.emb (ix2 0 ⟨j, hj⟩) 1).val = 512 * t.val + j
  blk_simp [e2]
  exact congrArg (· + j) (Nat.mul_comm _ _)

/-- What a grid point stores, of its blocks. -/
theorem stored (x0 : FVec Ideal S8x4096 .f32) (x1 : FVec Ideal S4096x512 .f32) (x2 : FVec Ideal S1x512 .f32) (r : Fin 8) (l : Fin 512) :
    (k0_pay1 (F := Ideal) x0 x1 x2 (ix2 r l) : EReal) = (∑ k : Fin 4096, silu (at2 x0 r k) * at2 x1 k l) + at2 x2 0 l := by
  pointwise [k0_pay1]
  rw [at2_of_lt x2 (by omega) l.isLt]
  refine congrArg₂ (· + ·) (Finset.sum_congr rfl fun k _ => ?_) rfl
  rw [at2_of_lt x0 r.isLt k.isLt, at2_of_lt x1 k.isLt l.isLt]
  rfl

/-- The modulation over the eight rows. -/
def rows (c : Dev nD) : FVec Ideal S8x24576 .f32 := fun i =>
  modulation (at2 (eight m c)) (at2 (weights m c)) (at1 (bias m c)) (i 0) (i 1)

/-- The output array of the kernel. -/
theorem final3 (c : Dev nD) : (dats m 0 c).arrAt 3 cfg0.N = rows m c :=
  (dats m 0 c).arrAt_eq_of_covers 3 _ (by decide +kernel) fun t _ y => by
    obtain ⟨e0, e1, e2, e3, ht⟩ := idx t
    have hr : (y 0).val < 8 := (y 0).isLt
    have hj : (y 1).val < 512 := (y 1).isLt
    blk_simp
    rw [after0_3]
    frame_out
    refine (congrArg (k0_pay1 (F := Ideal) (iblk m c 0 t) (iblk m c 1 t) (iblk m c 2 t))
      (show y = (ix2 (y 0) (y 1) : S8x512.Idx) by funext a; fin_cases a <;> rfl)).trans ((stored (blk0 m c t) (blk1 m c t) (blk2 m c t) _ _).trans ?_)
    blk_simp [e3, rows, modulation]
    rw [Nat.mul_comm t.val 512]
    refine congrArg₂ (· + ·) (Finset.sum_congr rfl fun k _ => ?_) (at_blk2 m c t hj)
    exact congrArg₂ (fun a b => silu a * b) (at_blk0 m c t hr k.isLt) (at_blk1 m c t k.isLt hj)

/-- The eight rows begin with the condition's. -/
theorem eight_at (c : Dev nD) {i k : ℕ} (hi : i < 2) (hk : k < 4096) : at2 (eight m c) i k = at2 (condition m c) i k := by
  rw [at2_of_lt _ (by omega) hk, at2_of_lt _ hi hk]
  have e : eight m c = Host.scatter scatter_S8x4096_S1_S2x4096_01_n_0_0 (fun _ b => b)
      (broadcastInDim S8x4096 ![] bcast_S_S8x4096 (constant (F := Ideal) S_ .f32 0x00000000#32))
      (broadcastInDim S1 ![] bcast_S_S1 (constantI S_ 32 0#32)) (condition m c) := by
    show StableHlo.after hostOps0 (fun b => m (c, b)) (Proc.devRef .tc main_v2) = _
    entry_read
    rfl
  rw [e]
  exact rows_set scatter_S8x4096_S1_S2x4096_01_n_0_0 rfl rfl rfl (broadcastInDim S1 ![] bcast_S_S1 (constantI S_ 32 0#32)) (by decide) _ _ ⟨i, hi⟩ ⟨i, by omega⟩ rfl ⟨k, hk⟩

/-- The modulation of the layer. -/
def result (c : Dev nD) : FVec Ideal S2x24576 .f32 := fun i =>
  modulation (at2 (condition m c)) (at2 (weights m c)) (at1 (bias m c)) (i 0) (i 1)

/-- The first two rows of the kernel's output are the modulation. -/
theorem first_rows (c : Dev nD) : extractStridedSlice S2x24576 ![0, 0] (rows m c) slices_S8x24576_S2x24576_0_0 = result m c := by
  funext i
  have hi : (i 0).val < 2 := (i 0).isLt
  refine (extractStridedSlice_apply ![0, 0] (rows m c) slices_S8x24576_S2x24576_0_0 i (ix2 ⟨(i 0).val, by omega⟩ (i 1)) (fun a => match a with
    | ⟨0, _⟩ => by show (i 0).val = 0 + (i 0).val; omega
    | ⟨1, _⟩ => by show (i 1).val = 0 + (i 1).val; omega)).trans ?_
  show modulation _ _ _ (i 0).val (i 1).val = modulation _ _ _ (i 0).val (i 1).val
  unfold modulation
  exact congrArg (· + _) (Finset.sum_congr rfl fun k _ => by rw [eight_at m c hi k.isLt])

/-- What the program leaves in its result. -/
theorem left (c : Dev nD) : Pipeline.afterTail₀ cfgs (dats m) 0 (V0 m) [hostOps1] c main_v5 = result m c := by
  have e : Pipeline.afterTail₀ cfgs (dats m) 0 (V0 m) [hostOps1] c main_v5
      = extractStridedSlice S2x24576 ![0, 0] (Pipeline.withArrays spec0 c (V0 m c) (fun w => (dats m 0 c).arrAt w cfg0.N)
          (Proc.devRef .tc (Pipeline.arrRef spec0 3)) : FVec Ideal S8x24576 .f32) slices_S8x24576_S2x24576_0_0 := rfl
  rw [e, Pipeline.withArrays_arr spec0 (by decide) c, final3]
  exact first_rows m c

end Cert.KernelModulateIdeal.Modulate

end
-- ==== Proof.Modulate.Reference.lean ====
/- The modulation of the layer by its condition: what its reference computes. -/
module

public import proofs.«01_k».proof.Proof.Gen.ReferenceModulateIdeal.Read
public import proofs.«01_k».proof.Proof.Modulate.Spec
public import Idealize.ShloMosaic.Lib.Pipeline.ValueKit

@[expose] public section

set_option maxRecDepth 16384

noncomputable section

namespace Cert.ReferenceModulateIdeal.Modulate

open Idealize.ShloMosaic Idealize.ShloMosaic.TcCoe Idealize.SL.Sem
open Cert.ReferenceModulateIdeal Cert.ReferenceModulateIdeal.Read Cert.Modulate Cert.Merge Cert.Project

variable (x0 : FVec Ideal S2x4096 .f32) (x1 : FVec Ideal S4096x24576 .f32) (x2 : FVec Ideal S24576 .f32)

/-- The condition through its activation. -/
theorem silu_at (i : Fin 2) (k : Fin 4096) : (val_main_v0 (F := Ideal) x0 (ix2 i k) : EReal) = silu (at2 x0 i k) := by
  pointwise [val_main_v0, val_main_call0_v5, val_main_call0_v4, val_main_call0_v3, val_main_call0_v2, val_main_call0_v1,
    val_main_call0_v0, val_main_call0_cst, val_main_call0_cst_0]
  rw [at2_of_lt x0 i.isLt k.isLt]
  rfl

/-- One entry of the modulation. -/
theorem modulation_at (i : Fin 2) (j : Fin 24576) : (val_main_v4 (F := Ideal) x0 x1 x2 (ix2 i j) : EReal)
    = modulation (at2 x0) (at2 x1) (at1 x2) i j := by
  pointwise [val_main_v4, val_main_v3, val_main_v2, val_main_v1]
  refine congrArg₂ (· + ·) (Finset.sum_congr rfl fun k _ => ?_) (at1_of_lt x2 j.isLt).symm
  rw [silu_at, at2_of_lt x1 k.isLt j.isLt]

/-- The reference's array. -/
theorem modulation_eq : (val_main_v4 (F := Ideal) x0 x1 x2 : FVec Ideal S2x24576 .f32)
    = fun i => modulation (at2 x0) (at2 x1) (at1 x2) (i 0) (i 1) := by
  funext i
  exact (congrArg _ (show i = ix2 (i 0) (i 1) by funext a; fin_cases a <;> rfl)).trans (modulation_at x0 x1 x2 (i 0) (i 1))

end Cert.ReferenceModulateIdeal.Modulate

end
-- ==== Proof.Modulate.Claims.lean ====
/- The claims about the modulation of the layer. -/
module

public import proofs.«01_k».proof.Defs
public import proofs.«01_k».proof.Proof.Gen.KernelModulate.Frame
public import proofs.«01_k».proof.Proof.Gen.ReferenceModulateIdeal.Run
public import proofs.«01_k».proof.Proof.Modulate.Kernel
public import proofs.«01_k».proof.Proof.Modulate.Reference

@[expose] public section

set_option maxRecDepth 16384

noncomputable section

namespace Cert.Modulate

open Idealize.ShloMosaic Idealize.ShloMosaic.TcCoe Idealize.SL.Sem

theorem frame : Cert.quiescent_KernelModulate := fun m ρ _ => Cert.KernelModulate.Gen.frame m ρ

theorem frameIdeal : Cert.quiescent_KernelModulateIdeal := fun m ρ _ => Cert.KernelModulateIdeal.Gen.frame m ρ

theorem frameReference : Cert.quiescent_ReferenceModulateIdeal := fun m ρ _ =>
  (θ_run Cert.ReferenceModulateIdeal.defs _ _).mono
    (fun r h => ⟨fun c => (h c).2, sem_eq_zero_of_no_sems (by decide) r.2⟩)
    (Cert.ReferenceModulateIdeal.Value.run (F := Ideal) m ρ)

theorem preserves : Cert.preserves_KernelModulate_KernelModulateIdeal := trivial

open Cert.KernelModulateIdeal in
/-- Both programs end with the modulation of the two conditions. -/
theorem algebraic : Cert.algebraic_KernelModulateIdeal_ReferenceModulateIdeal := by
  intro m ρ m' ρ' _ hagree
  refine ⟨fun c => Cert.KernelModulateIdeal.Modulate.result m c, ?_, ?_⟩
  · exact (θ_run Cert.KernelModulateIdeal.defs _ _).mono
      (fun _ h c => ⟨((h.1 c).2 main_v5 (Pipeline.mem_restRefs_of main_v5 (by decide) (by decide))).trans
        (Cert.KernelModulateIdeal.Modulate.left m c), h.2 c⟩)
      (θ_run_and (Cert.KernelModulateIdeal.Gen.run_main m ρ) (Cert.KernelModulateIdeal.Gen.unchanged m ρ))
  · refine (θ_run Cert.ReferenceModulateIdeal.defs _ _).mono (fun _ h c => ⟨(h c).1.trans ?_, (h c).2⟩)
      (Cert.ReferenceModulateIdeal.Value.run (F := Ideal) m' ρ')
    obtain ⟨a0, a1, a2⟩ := hagree c
    rw [Cert.ReferenceModulateIdeal.Read.val_main_v4_eq, a0, a1, a2]
    exact Cert.ReferenceModulateIdeal.Modulate.modulation_eq _ _ _

end Cert.Modulate

end
-- ==== Proof.Short.Spec.lean ====
/- The short convolution of the gated branch: three taps along the sequence, and the product of two of its three parts in
   groups of rows with a gap after each. -/
module

public import proofs.«01_k».proof.Proof.Spec
public import proofs.«01_k».proof.Proof.Merge.Spec

@[expose] public section

noncomputable section

namespace Cert.Short

open Idealize.ShloMosaic

variable (U : ℕ → ℕ → ℕ → EReal) (W : ℕ → ℕ → EReal) (B : ℕ → EReal)

/-- The three taps at one place: the row before, the row and the row after, nothing beyond the ends. -/
def taps (b p j : ℕ) : EReal :=
  W 0 j * (if p = 0 then 0 else U b (p - 1) j) + W 1 j * U b p j + W 2 j * (if p = 8191 then 0 else U b (p + 1) j) + B j

/-- The product of the third part and the second, in groups of 128 rows with 8 rows of zeros after each. -/
def gated (b r j : ℕ) : EReal :=
  if r % 136 < 128 then
    taps U W B b (128 * (r / 136) + r % 136) (2048 + j) * taps U W B b (128 * (r / 136) + r % 136) (1024 + j)
  else 0

end Cert.Short

end
-- ==== Proof.Short.Block.lean ====
/- The short convolution of the gated branch: what a grid point of its kernel stores. -/
module

public import proofs.«01_k».proof.Proof.Gen.KernelShortIdeal.Value
public import proofs.«01_k».proof.Proof.Short.Spec
public import Idealize.ShloMosaic.Lib.Pipeline.ValueKit
public import Idealize.ShloMosaic.Lib.WordCmp

@[expose] public section

set_option maxRecDepth 16384

noncomputable section

namespace Cert.KernelShortIdeal.Short

open Idealize.ShloMosaic Idealize.ShloMosaic.TcCoe Idealize.SL.Sem
open Idealize.ShloMosaic.Pipeline (Dat)
open Cert.KernelShortIdeal Cert.KernelShortIdeal.Gen Cert.Project Cert.Merge Cert.Spec Cert.Short

/-- A block of rows in groups of 128 with 8 rows of zeros after each. -/
def padded (D : FVec Ideal S512x1024 .f32) (r j : ℕ) : EReal :=
  if r % 136 < 128 then at2 D (128 * (r / 136) + r % 136) j else 0

theorem padded_rows (D : FVec Ideal S512x1024 .f32) (q : ℕ) {r j : ℕ} (hr : r < 128) :
    padded D (136 * q + r) j = at2 D (128 * q + r) j := by
  have e1 : (136 * q + r) % 136 = r := by omega
  have e2 : (136 * q + r) / 136 = q := by omega
  rw [padded, e1, e2, if_pos hr]

theorem padded_gap (D : FVec Ideal S512x1024 .f32) (q : ℕ) {r j : ℕ} (hr : r < 8) : padded D (136 * q + 128 + r) j = 0 := by
  have e1 : (136 * q + 128 + r) % 136 = 128 + r := by omega
  rw [padded, e1, if_neg (by omega)]

section Pieces
variable (a b : FVec Ideal S512x3072 .f32) (c d : FVec Ideal S1x3072 .f32)

theorem rows0 (x : S1x128x1024.Idx) : (k0_pay12 (F := Ideal) a b c d x : EReal) = at2 (k0_pay10 (F := Ideal) a b c d) (128 * 0 + (x 1).val) (x 2).val := by
  have h1 : (x 1).val < 128 := (x 1).isLt
  have h2 : (x 2).val < 1024 := (x 2).isLt
  rw [at2_of_lt _ (by omega) h2]
  pointwise [k0_pay12]

theorem rows1 (x : S1x128x1024.Idx) : (k0_pay14 (F := Ideal) a b c d x : EReal) = at2 (k0_pay10 (F := Ideal) a b c d) (128 * 1 + (x 1).val) (x 2).val := by
  have h1 : (x 1).val < 128 := (x 1).isLt
  have h2 : (x 2).val < 1024 := (x 2).isLt
  rw [at2_of_lt _ (by omega) h2]
  pointwise [k0_pay14]

theorem rows2 (x : S1x128x1024.Idx) : (k0_pay16 (F := Ideal) a b c d x : EReal) = at2 (k0_pay10 (F := Ideal) a b c d) (128 * 2 + (x 1).val) (x 2).val := by
  have h1 : (x 1).val < 128 := (x 1).isLt
  have h2 : (x 2).val < 1024 := (x 2).isLt
  rw [at2_of_lt _ (by omega) h2]
  pointwise [k0_pay16]

theorem rows3 (D : FVec Ideal S512x1024 .f32) (x : S1x128x1024.Idx) : (k0_pay2 (F := Ideal) D x : EReal) = at2 D (128 * 3 + (x 1).val) (x 2).val := by
  have h1 : (x 1).val < 128 := (x 1).isLt
  have h2 : (x 2).val < 1024 := (x 2).isLt
  rw [at2_of_lt _ (by omega) h2]
  pointwise [k0_pay2]

theorem gap0 (x : S1x8x1024.Idx) : (k0_pay13 (F := Ideal) x : EReal) = 0 := by pointwise [k0_pay13, k0_pay11]
theorem gap1 (x : S1x8x1024.Idx) : (k0_pay15 (F := Ideal) x : EReal) = 0 := by pointwise [k0_pay15, k0_pay11]
theorem gap2 (x : S1x8x1024.Idx) : (k0_pay1 (F := Ideal) (k0_pay11 (F := Ideal)) x : EReal) = 0 := by pointwise [k0_pay1, k0_pay11]
theorem gap3 (x : S1x8x1024.Idx) : (k0_pay3 (F := Ideal) (k0_pay11 (F := Ideal)) x : EReal) = 0 := by pointwise [k0_pay3, k0_pay11]
end Pieces

/-- Where a piece of rows, or a gap, of the output block stands. -/
theorem piece_rows (D : FVec Ideal S512x1024 .f32) (q : ℕ) (inb : ∀ a, (![0, 136 * q, 0] : Fin 3 → ℕ) a + (![1, 128, 1024] : Fin 3 → ℕ) a ≤ S1x544x1024.size a)
    (x : S1x128x1024.Idx) :
    padded D ((Rect.unit (s := S1x544x1024) ![0, 136 * q, 0] ![1, 128, 1024] inb).emb x 1).val
      ((Rect.unit (s := S1x544x1024) ![0, 136 * q, 0] ![1, 128, 1024] inb).emb x 2).val = at2 D (128 * q + (x 1).val) (x 2).val := by
  have h1 : (x 1).val < 128 := (x 1).isLt
  rw [← padded_rows D q h1]
  refine congrArg₂ (padded D) ?_ ?_
  · show 136 * q + 1 * (x 1).val = _
    omega
  · show 0 + 1 * (x 2).val = _
    omega

theorem piece_gap (D : FVec Ideal S512x1024 .f32) (q : ℕ) (inb : ∀ a, (![0, 136 * q + 128, 0] : Fin 3 → ℕ) a + (![1, 8, 1024] : Fin 3 → ℕ) a ≤ S1x544x1024.size a)
    (x : S1x8x1024.Idx) :
    padded D ((Rect.unit (s := S1x544x1024) ![0, 136 * q + 128, 0] ![1, 8, 1024] inb).emb x 1).val
      ((Rect.unit (s := S1x544x1024) ![0, 136 * q + 128, 0] ![1, 8, 1024] inb).emb x 2).val = 0 := by
  have h1 : (x 1).val < 8 := (x 1).isLt
  rw [← padded_gap D q (j := (x 2).val) h1]
  refine congrArg₂ (padded D) ?_ ?_
  · show 136 * q + 128 + 1 * (x 1).val = _
    omega
  · show 0 + 1 * (x 2).val = _
    omega

theorem out5 (x0 : FVec Ideal S1x512x3072 .bf16) (x1 x2 : FVec Ideal S1x16x3072 .bf16) (x3 : FVec Ideal S3x3072 .f32) (x4 : FVec Ideal S1x3072 .f32) (c : Dev nD) (t : Fin cfg0.N) (y : S1x544x1024.Idx) :
    (out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) x0 x1 x2 x3 x4 y : EReal)
     = padded (k0_pay10 (F := Ideal) (k0_pay5 (F := Ideal) (grid0.coords t) x0 x2) (k0_pay6 (F := Ideal) (grid0.coords t) x0 x1 x3) (k0_pay7 (F := Ideal) x3) x4) (y 1).val (y 2).val := by
  frame_out
  refine View.canon_apply_of_pieces (Val := Elt Ideal) (e := .f32) (fun y : S1x544x1024.Idx => padded (k0_pay10 (F := Ideal) (k0_pay5 (F := Ideal) (grid0.coords t) x0 x2) (k0_pay6 (F := Ideal) (grid0.coords t) x0 x1 x3) (k0_pay7 (F := Ideal) x3) x4) (y 1).val (y 2).val) _ ?_ y (View.cover_of_tiledBy _ ![1, 8, 1024] (by sl_kernel_rfl) y)
  simp only [List.forall_mem_cons]
  exact ⟨fun x => (gap3 x).trans (piece_gap _ 3 inb_S1x544x1024_S1x8x1024_0_536_0 x).symm,
    fun x => (rows3 _ x).trans (piece_rows _ 3 inb_S1x544x1024_S1x128x1024_0_408_0 x).symm,
    fun x => (gap2 x).trans (piece_gap _ 2 inb_S1x544x1024_S1x8x1024_0_400_0 x).symm,
    fun x => (rows2 _ _ _ _ x).trans (piece_rows _ 2 inb_S1x544x1024_S1x128x1024_0_272_0 x).symm,
    fun x => (gap1 x).trans (piece_gap _ 1 inb_S1x544x1024_S1x8x1024_0_264_0 x).symm,
    fun x => (rows1 _ _ _ _ x).trans (piece_rows _ 1 inb_S1x544x1024_S1x128x1024_0_136_0 x).symm,
    fun x => (gap0 x).trans (piece_gap _ 0 inb_S1x544x1024_S1x8x1024_0_128_0 x).symm,
    fun x => (rows0 _ _ _ _ x).trans (piece_rows _ 0 inb_S1x544x1024_S1x128x1024_0_0_0 x).symm, by simp⟩

theorem out6 (x0 : FVec Ideal S1x512x3072 .bf16) (x1 x2 : FVec Ideal S1x16x3072 .bf16) (x3 : FVec Ideal S3x3072 .f32) (x4 : FVec Ideal S1x3072 .f32) (c : Dev nD) (t : Fin cfg0.N) (y : S1x512x1024.Idx) :
    (out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) x0 x1 x2 x3 x4 y : EReal)
     = k0_pay9 (F := Ideal) (k0_pay5 (F := Ideal) (grid0.coords t) x0 x2) (k0_pay6 (F := Ideal) (grid0.coords t) x0 x1 x3) (k0_pay7 (F := Ideal) x3) x4 y := by
  frame_out

/-- A choice by a decided word. -/
theorem pick {p : BitVec 1} {P : Prop} [Decidable P] (h : p = 1#1 ↔ P) (x y : EReal) : Scalar.select p x y = if P then x else y := by
  unfold Scalar.select
  by_cases hP : P
  · rw [if_pos hP]
    exact if_pos (h.2 hP)
  · rw [if_neg hP]
    exact if_neg fun h' => hP (h.1 h')

/-- The three taps over a block of rows and the blocks on either side of it. -/
def blockTaps (q : ℕ) (x0 : FVec Ideal S1x512x3072 .bf16) (x1 x2 : FVec Ideal S1x16x3072 .bf16) (x3 : FVec Ideal S3x3072 .f32)
    (x4 : FVec Ideal S1x3072 .f32) (r l : ℕ) : EReal :=
  at2 x3 0 l * (if r = 0 then (if 0 < q then at3 x1 0 15 l else 0) else at3 x0 0 (r - 1) l) + at2 x3 1 l * at3 x0 0 r l
    + at2 x3 2 l * (if r = 511 then (if q < 15 then at3 x2 0 0 l else 0) else at3 x0 0 (r + 1) l) + at2 x4 0 l

section Rows
variable (i : grid0.Coords) (x0 : FVec Ideal S1x512x3072 .bf16) (x1 x2 : FVec Ideal S1x16x3072 .bf16) (x3 : FVec Ideal S3x3072 .f32)
    (x4 : FVec Ideal S1x3072 .f32)

/-- The row after. -/
theorem next_at (r : Fin 512) (l : Fin 3072) : (k0_pay5 (F := Ideal) i x0 x2 (ix2 r l) : EReal)
    = if r.val = 511 then (if (i 1).val < 15 then at3 x2 0 0 l else 0) else at3 x0 0 (r.val + 1) l := by
  have hi : (i 1).val < 16 := (i 1).isLt
  pointwise [k0_pay5, k0_pay4]
  rw [pick (WordCmp.cmpi_eq_ofNat_eq_one_iff (a := r.val) (b := 511) (by omega) (by omega)),
    pick (p := Scalar.cmpi .slt (BitVec.ofNat 32 (i 1).val) 15#32) (P := (i 1).val < 15)
      (WordCmp.cmpi_slt_ofNat_eq_one_iff (a := (i 1).val) (b := 15) (by omega) (by omega)),
    at3_of_lt x2 (by omega) (by omega) l.isLt]
  by_cases hr : r.val = 511
  · rw [if_pos hr, if_pos hr]; rfl
  · rw [if_neg hr, if_neg hr, at3_of_lt x0 (by omega) (show r.val + 1 < 512 by omega) l.isLt]
    exact congrArg (fun q => x0 (ix3 0 q l)) (Fin.ext (by show (r.val + 512 - 511) % 512 = r.val + 1; omega))

/-- The row before, and the row itself, with their taps. -/
theorem before_at (r : Fin 512) (l : Fin 3072) : (k0_pay6 (F := Ideal) i x0 x1 x3 (ix2 r l) : EReal)
    = at2 x3 0 l * (if r.val = 0 then (if 0 < (i 1).val then at3 x1 0 15 l else 0) else at3 x0 0 (r.val - 1) l)
      + at2 x3 1 l * at3 x0 0 r l := by
  have hi : (i 1).val < 16 := (i 1).isLt
  pointwise [k0_pay6, k0_pay4]
  rw [pick (WordCmp.cmpi_eq_ofNat_eq_one_iff (a := r.val) (b := 0) (by omega) (by omega)),
    pick (p := Scalar.cmpi .sgt (BitVec.ofNat 32 (i 1).val) 0#32) (P := 0 < (i 1).val)
      (WordCmp.cmpi_sgt_ofNat_eq_one_iff (a := (i 1).val) (b := 0) (by omega) (by omega)),
    at3_of_lt x1 (by omega) (by omega) l.isLt, at2_of_lt x3 (by omega) l.isLt, at2_of_lt x3 (by omega) l.isLt,
    at3_of_lt x0 (by omega) r.isLt l.isLt]
  refine congrArg₂ (· + ·) (congrArg (x3 (ix2 0 l) * ·) ?_) rfl
  by_cases hr : r.val = 0
  · rw [if_pos hr, if_pos hr]; rfl
  · rw [if_neg hr, if_neg hr, at3_of_lt x0 (by omega) (show r.val - 1 < 512 by omega) l.isLt]
    exact congrArg (fun q => x0 (ix3 0 q l)) (Fin.ext (by show (r.val + 512 - 1) % 512 = r.val - 1; omega))

/-- The three taps and the bias. -/
theorem taps_at (r : Fin 512) (l : Fin 3072) :
    (k0_pay8 (F := Ideal) (k0_pay5 (F := Ideal) i x0 x2) (k0_pay6 (F := Ideal) i x0 x1 x3) (k0_pay7 (F := Ideal) x3) x4 (ix2 r l) : EReal)
    = blockTaps (i 1).val x0 x1 x2 x3 x4 r l := by
  pointwise [k0_pay8, k0_pay7]
  rw [next_at, before_at, blockTaps, at2_of_lt x3 (show 2 < 3 by omega) l.isLt, at2_of_lt x4 (by omega) l.isLt]
  rfl

/-- The first part, as it is stored. -/
theorem first_at (y : S1x512x1024.Idx) :
    (k0_pay9 (F := Ideal) (k0_pay5 (F := Ideal) i x0 x2) (k0_pay6 (F := Ideal) i x0 x1 x3) (k0_pay7 (F := Ideal) x3) x4 y : EReal)
    = blockTaps (i 1).val x0 x1 x2 x3 x4 (y 1) (y 2) := by
  have h1 : (y 1).val < 512 := (y 1).isLt
  have h2 : (y 2).val < 1024 := (y 2).isLt
  refine Eq.trans ?_ (taps_at i x0 x1 x2 x3 x4 ⟨(y 1).val, h1⟩ ⟨(y 2).val, by omega⟩)
  pointwise [k0_pay9]

/-- The product of the third part and the second. -/
theorem product_at {r j : ℕ} (hr : r < 512) (hj : j < 1024) :
    at2 (k0_pay10 (F := Ideal) (k0_pay5 (F := Ideal) i x0 x2) (k0_pay6 (F := Ideal) i x0 x1 x3) (k0_pay7 (F := Ideal) x3) x4) r j
    = blockTaps (i 1).val x0 x1 x2 x3 x4 r (2048 + j) * blockTaps (i 1).val x0 x1 x2 x3 x4 r (1024 + j) := by
  rw [at2_of_lt _ hr hj]
  refine Eq.trans ?_ (congrArg₂ (· * ·) (taps_at i x0 x1 x2 x3 x4 ⟨r, hr⟩ ⟨2048 + j, by omega⟩)
    (taps_at i x0 x1 x2 x3 x4 ⟨r, hr⟩ ⟨1024 + j, by omega⟩))
  pointwise [k0_pay10]

end Rows

end Cert.KernelShortIdeal.Short
end
-- ==== Proof.Short.Kernel.lean ====
/- The short convolution of the gated branch: what its kernel computes. -/
module

public import proofs.«01_k».proof.Proof.Short.Block

@[expose] public section

set_option maxRecDepth 16384

noncomputable section

namespace Cert.KernelShortIdeal.Short

open Idealize.ShloMosaic Idealize.ShloMosaic.TcCoe Idealize.SL.Sem
open Idealize.ShloMosaic.Pipeline (Dat)
open Cert.KernelShortIdeal Cert.KernelShortIdeal.Gen Cert.Project Cert.Merge Cert.Spec Cert.Short

variable (m : (ℓ : Loc nD τ sig) → Buf (Elt Ideal) ℓ)

/-- The arguments as the kernel takes them. -/
abbrev rowsIn (c : Dev nD) : FVec Ideal S2x8192x6144 .bf16 := m ((c : Thread nD τ).loc main_arg0)
abbrev weights (c : Dev nD) : FVec Ideal S3x3072 .f32 := m ((c : Thread nD τ).loc main_arg1)
abbrev bias (c : Dev nD) : FVec Ideal S3072 .f32 := m ((c : Thread nD τ).loc main_arg2)

/-- Which blocks a grid point reads and writes. -/
theorem idx : ∀ t : Fin cfg0.N,
    win0_0.index t = ![(grid0.coords t 0).val, (grid0.coords t 1).val, 0]
    ∧ win0_1.index t = ![(grid0.coords t 0).val, 32 * (grid0.coords t 1).val - 1, 0]
    ∧ win0_2.index t = ![(grid0.coords t 0).val, min (32 * (grid0.coords t 1).val + 32) 511, 0]
    ∧ win0_3.index t = ![0, 0] ∧ win0_4.index t = ![0, 0]
    ∧ win0_5.index t = ![(grid0.coords t 0).val, (grid0.coords t 1).val, 0]
    ∧ win0_6.index t = ![(grid0.coords t 0).val, (grid0.coords t 1).val, 0]
    ∧ (grid0.coords t 0).val < 2 ∧ (grid0.coords t 1).val < 16 :=
  (by decide +kernel : ∀ t : Fin grid0.N, _)

/-- The blocks a grid point reads. -/
abbrev blk0 (c : Dev nD) (t : Fin cfg0.N) : FVec Ideal S1x512x3072 .bf16 := iblk m c 0 t
abbrev blk1 (c : Dev nD) (t : Fin cfg0.N) : FVec Ideal S1x16x3072 .bf16 := iblk m c 1 t
abbrev blk2 (c : Dev nD) (t : Fin cfg0.N) : FVec Ideal S1x16x3072 .bf16 := iblk m c 2 t
abbrev blk3 (c : Dev nD) (t : Fin cfg0.N) : FVec Ideal S3x3072 .f32 := iblk m c 3 t
abbrev blk4 (c : Dev nD) (t : Fin cfg0.N) : FVec Ideal S1x3072 .f32 := iblk m c 4 t

theorem at_blk0 (c : Dev nD) (t : Fin cfg0.N) {r l : ℕ} (hr : r < 512) (hl : l < 3072) :
    at3 (blk0 m c t) 0 r l = at3 (rowsIn m c) (grid0.coords t 0).val (512 * (grid0.coords t 1).val + r) l := by
  obtain ⟨e0, -, -, -, -, -, -, h0, h1⟩ := idx t
  rw [at3_of_lt _ (by omega) hr hl, at3_of_lt _ h0 (by omega) (by omega)]
  refine (congrFun (V_main_arg0 m c) _).trans (congrArg _ (funext fun a => Fin.ext ?_))
  fin_cases a <;> blk_simp [e0] <;> first | rfl | exact congrArg (· + r) (Nat.mul_comm _ _)

theorem at_blk1 (c : Dev nD) (t : Fin cfg0.N) (hq : 0 < (grid0.coords t 1).val) {l : ℕ} (hl : l < 3072) :
    at3 (blk1 m c t) 0 15 l = at3 (rowsIn m c) (grid0.coords t 0).val (512 * (grid0.coords t 1).val - 1) l := by
  obtain ⟨-, e1, -, -, -, -, -, h0, h1⟩ := idx t
  rw [at3_of_lt _ (by omega) (by omega) hl, at3_of_lt _ h0 (by omega) (by omega)]
  refine (congrFun (V_main_arg0 m c) _).trans (congrArg _ (funext fun a => Fin.ext ?_))
  fin_cases a <;> blk_simp [e1] <;> first | rfl | (show (32 * (grid0.coords t 1).val - 1) * 16 + 15 = 512 * (grid0.coords t 1).val - 1; omega)

theorem at_blk2 (c : Dev nD) (t : Fin cfg0.N) (hq : (grid0.coords t 1).val < 15) {l : ℕ} (hl : l < 3072) :
    at3 (blk2 m c t) 0 0 l = at3 (rowsIn m c) (grid0.coords t 0).val (512 * (grid0.coords t 1).val + 512) l := by
  obtain ⟨-, -, e2, -, -, -, -, h0, h1⟩ := idx t
  rw [at3_of_lt _ (by omega) (by omega) hl, at3_of_lt _ h0 (by omega) (by omega)]
  refine (congrFun (V_main_arg0 m c) _).trans (congrArg _ (funext fun a => Fin.ext ?_))
  fin_cases a <;> blk_simp [e2] <;> first | rfl | (show min (32 * (grid0.coords t 1).val + 32) 511 * 16 = 512 * (grid0.coords t 1).val + 512; omega)

theorem at_blk3 (c : Dev nD) (t : Fin cfg0.N) {k l : ℕ} (hk : k < 3) (hl : l < 3072) :
    at2 (blk3 m c t) k l = at2 (weights m c) k l := by
  obtain ⟨-, -, -, e3, -⟩ := idx t
  rw [at2_of_lt _ hk hl, at2_of_lt _ hk hl]
  refine (congrFun (V_main_arg1 m c) _).trans (congrArg _ (funext fun a => Fin.ext ?_))
  fin_cases a <;> blk_simp [e3] <;> rfl

/-- The bias arrives as one row. -/
theorem row_bias (c : Dev nD) : (V m c main_v0 : FVec Ideal S1x3072 .f32) = fun i : S1x3072.Idx => bias m c (ix1 (i 1)) := by
  have e : (V m c main_v0 : FVec Ideal S1x3072 .f32) = broadcastInDim S1x3072 ![1] bcast_S3072_S1x3072_1 (bias m c) := rfl
  rw [e]
  exact funext fun i => broadcastInDim_apply _ _ _ _ _ (fun a => by fin_cases a; rfl)

theorem at_blk4 (c : Dev nD) (t : Fin cfg0.N) {l : ℕ} (hl : l < 3072) : at2 (blk4 m c t) 0 l = at1 (bias m c) l := by
  obtain ⟨-, -, -, -, e4, -⟩ := idx t
  rw [at2_of_lt _ (by omega) hl, at1_of_lt _ hl]
  refine (congrFun (row_bias m c) _).trans (congrArg _ (funext fun a => Fin.ext ?_))
  fin_cases a
  change ((win0_4.blk t).view.emb (ix2 0 ⟨l, hl⟩) 1).val = l
  blk_simp [e4]

/-- The three taps over the blocks of a grid point are those over the array. -/
theorem taps_of_blocks (c : Dev nD) (t : Fin cfg0.N) {r l : ℕ} (hr : r < 512) (hl : l < 3072) :
    blockTaps (grid0.coords t 1).val (blk0 m c t) (blk1 m c t) (blk2 m c t) (blk3 m c t) (blk4 m c t) r l
      = taps (at3 (rowsIn m c)) (at2 (weights m c)) (at1 (bias m c)) (grid0.coords t 0).val (512 * (grid0.coords t 1).val + r) l := by
  obtain ⟨-, -, -, -, -, -, -, h0, h1⟩ := idx t
  rw [blockTaps, taps, at_blk0 m c t hr hl, at_blk3 m c t (k := 0) (by omega) hl, at_blk3 m c t (k := 1) (by omega) hl,
    at_blk3 m c t (k := 2) (by omega) hl, at_blk4 m c t hl]
  refine congrArg (· + _) (congrArg₂ (· + ·) (congrArg (· + _) (congrArg (_ * ·) ?_)) (congrArg (_ * ·) ?_))
  · by_cases h : r = 0
    · rw [if_pos h]
      by_cases hq : 0 < (grid0.coords t 1).val
      · rw [if_pos hq, if_neg (by omega), at_blk1 m c t hq hl, h]; rfl
      · rw [if_neg hq, if_pos (by omega)]
    · rw [if_neg h, if_neg (by omega), at_blk0 m c t (by omega) hl]
      exact congrArg (fun p => at3 (rowsIn m c) _ p l) (by omega)
  · by_cases h : r = 511
    · rw [if_pos h]
      by_cases hq : (grid0.coords t 1).val < 15
      · rw [if_pos hq, if_neg (by omega), at_blk2 m c t hq hl, h]
      · rw [if_neg hq, if_pos (by omega)]
    · rw [if_neg h, if_neg (by omega), at_blk0 m c t (by omega) hl]
      exact congrArg (fun p => at3 (rowsIn m c) _ p l) (by omega)

/-- The two arrays the kernel leaves. -/
def products (c : Dev nD) : FVec Ideal S2x8704x1024 .f32 := fun i =>
  gated (at3 (rowsIn m c)) (at2 (weights m c)) (at1 (bias m c)) (i 0).val (i 1).val (i 2).val

def firsts (c : Dev nD) : FVec Ideal S2x8192x1024 .f32 := fun i =>
  taps (at3 (rowsIn m c)) (at2 (weights m c)) (at1 (bias m c)) (i 0).val (i 1).val (i 2).val

/-- The rows and gaps of a block are those of the array. -/
theorem gated_of_block (c : Dev nD) (t : Fin cfg0.N) {r j : ℕ} (hr : r < 544) (hj : j < 1024) :
    padded (k0_pay10 (F := Ideal) (k0_pay5 (F := Ideal) (grid0.coords t) (blk0 m c t) (blk2 m c t))
        (k0_pay6 (F := Ideal) (grid0.coords t) (blk0 m c t) (blk1 m c t) (blk3 m c t)) (k0_pay7 (F := Ideal) (blk3 m c t)) (blk4 m c t)) r j
      = gated (at3 (rowsIn m c)) (at2 (weights m c)) (at1 (bias m c)) (grid0.coords t 0).val (544 * (grid0.coords t 1).val + r) j := by
  have e1 : (544 * (grid0.coords t 1).val + r) % 136 = r % 136 := by omega
  have e2 : 128 * ((544 * (grid0.coords t 1).val + r) / 136) = 512 * (grid0.coords t 1).val + 128 * (r / 136) := by omega
  rw [padded, gated, e1, e2]
  by_cases h : r % 136 < 128
  · rw [if_pos h, if_pos h, product_at _ _ _ _ _ _ (by omega) hj, taps_of_blocks m c t (by omega) (by omega),
      taps_of_blocks m c t (by omega) (by omega), Nat.add_assoc]
  · rw [if_neg h, if_neg h]

theorem final5 (c : Dev nD) : (dats m 0 c).arrAt 5 cfg0.N = products m c :=
  (dats m 0 c).arrAt_eq_of_covers 5 _ (by decide +kernel) fun t _ y => by
    obtain ⟨e0, e1, e2, e3, e4, e5, e6, h0, h1⟩ := idx t
    have hy0 : (y 0).val = 0 := by have := (y 0).isLt; change (y 0).val < 1 at this; omega
    have hy1 : (y 1).val < 544 := (y 1).isLt
    have hy2 : (y 2).val < 1024 := (y 2).isLt
    blk_simp
    rw [after0_5]
    refine (out5 (blk0 m c t) (blk1 m c t) (blk2 m c t) (blk3 m c t) (blk4 m c t) c t y).trans ((gated_of_block m c t hy1 hy2).trans ?_)
    blk_simp [e5, products]
    rw [Nat.mul_comm 544]

/-- What a grid point stores of the first part. -/
theorem first_of_block (c : Dev nD) (t : Fin cfg0.N) (y : S1x512x1024.Idx) : ((outsAt0 m c t).2 y : EReal)
    = taps (at3 (rowsIn m c)) (at2 (weights m c)) (at1 (bias m c)) (grid0.coords t 0).val (512 * (grid0.coords t 1).val + (y 1).val)
        (y 2).val := by
  have hy1 : (y 1).val < 512 := (y 1).isLt
  have hy2 : (y 2).val < 1024 := (y 2).isLt
  unfold outsAt0
  dsimp only
  rw [out6 (blk0 m c t) (blk1 m c t) (blk2 m c t) (blk3 m c t) (blk4 m c t) c t y, first_at]
  exact taps_of_blocks m c t hy1 (show (y 2).val < 3072 by omega)

theorem final6 (c : Dev nD) : (dats m 0 c).arrAt 6 cfg0.N = firsts m c :=
  (dats m 0 c).arrAt_eq_of_covers 6 _ (by decide +kernel) fun t _ y => by
    obtain ⟨e0, e1, e2, e3, e4, e5, e6, h0, h1⟩ := idx t
    have hy0 : (y 0).val = 0 := by have := (y 0).isLt; change (y 0).val < 1 at this; omega
    blk_simp
    rw [after0_6]
    refine (first_of_block m c t y).trans ?_
    blk_simp [e6, firsts]
    rw [Nat.mul_comm 512]

end Cert.KernelShortIdeal.Short

end
-- ==== Proof.Short.Reference.lean ====
/- The short convolution of the gated branch: what its reference computes. -/
module

public import proofs.«01_k».proof.Proof.Gen.ReferenceShortIdeal.Read
public import proofs.«01_k».proof.Proof.Short.Spec
public import Idealize.ShloMosaic.Lib.Pipeline.ValueKit
public import Idealize.ShloMosaic.Lib.KernelVsHost

@[expose] public section

set_option maxRecDepth 16384

noncomputable section

namespace Cert.ReferenceShortIdeal.Short

open Idealize.ShloMosaic Idealize.ShloMosaic.TcCoe Idealize.SL.Sem
open Cert.ReferenceShortIdeal Cert.ReferenceShortIdeal.Read Cert.Short Cert.Merge Cert.Project Cert.Spec

variable (x0 : FVec Ideal S2x8192x6144 .bf16) (x1 : FVec Ideal S3x3072 .f32) (x2 : FVec Ideal S3072 .f32)

theorem zero_word : (FloatOps.sitofp (F := Ideal) .f32 (0#32) : EReal) = 0 := by
  show (((0#32 : BitVec 32).toInt : ℝ) : EReal) = 0
  simp

/-- The value both paddings are made of. -/
theorem fill (i : S_.Idx) : (val_main_call0_v0 (F := Ideal) i : EReal) = 0 := by
  pointwise [val_main_call0_v0, val_main_c]
  exact zero_word

theorem fill' (i : S_.Idx) : (val_main_call1_v0 (F := Ideal) i : EReal) = 0 := by
  pointwise [val_main_call1_v0, val_main_c_0]
  exact zero_word

/-- The padded rows: one row of zeros on either side. -/
theorem padded_at (b : Fin 2) (p : Fin 8194) (j : Fin 3072) : (val_main_v2 (F := Ideal) x0 (ix3 b p j) : EReal)
    = if p.val = 0 then 0 else if p.val = 8193 then 0 else at3 x0 b (p.val - 1) j := by
  rw [val_main_v2]
  by_cases h0 : p.val = 0
  · rw [if_pos h0]
    refine (pad_apply_of_not_inside _ _ _ _ _ _ _ _ (1 : Fin 3) ?_).trans (fill _)
    intro h
    have := h.1
    change 1 ≤ p.val at this
    omega
  · rw [if_neg h0]
    by_cases h1 : p.val = 8193
    · rw [if_pos h1]
      refine (pad_apply_of_not_inside _ _ _ _ _ _ _ _ (1 : Fin 3) ?_).trans (fill _)
      intro h
      have := h.2.2
      change (p.val - 1) / 1 < 8192 at this
      omega
    · rw [if_neg h1]
      refine (pad_apply_of_inside _ _ _ _ _ _ _ _ (ix3 b (⟨p.val - 1, by omega⟩ : Fin 8192) j) (fun a => match a with
        | ⟨0, _⟩ => by show b.val = 0 + b.val * 1; omega
        | ⟨1, _⟩ => by show p.val = 1 + (p.val - 1) * 1; omega
        | ⟨2, _⟩ => by show j.val = 0 + j.val * 1; omega)).trans ?_
      pointwise [val_main_v1, val_main_v0]
      rw [at3_of_lt x0 b.isLt (show p.val - 1 < 8192 by omega) (show j.val < 6144 by omega)]

/-- The three taps and the bias at one place. -/
theorem taps_at (b : Fin 2) (p : Fin 8192) (j : Fin 3072) : (val_main_v25 (F := Ideal) x0 x1 x2 (ix3 b p j) : EReal)
    = taps (at3 x0) (at2 x1) (at1 x2) b p j := by
  pointwise [val_main_v25, val_main_v24, val_main_v23, val_main_v22, val_main_v21, val_main_v20, val_main_v19, val_main_v18,
    val_main_v17, val_main_v16, val_main_v15, val_main_v14, val_main_v13, val_main_v12, val_main_v11, val_main_v10, val_main_v9,
    val_main_v8, val_main_v7, val_main_v6, val_main_v5, val_main_v4, val_main_v3]
  rw [padded_at, padded_at, padded_at, taps, at2_of_lt x1 (show 0 < 3 by omega) j.isLt, at2_of_lt x1 (show 1 < 3 by omega) j.isLt,
    at2_of_lt x1 (show 2 < 3 by omega) j.isLt, at1_of_lt x2 j.isLt]
  have hp := p.isLt
  refine congrArg₂ (· + ·) (congrArg₂ (· + ·) (congrArg₂ (· + ·) (congrArg (_ * ·) ?_) (congrArg (_ * ·) ?_))
    (congrArg (_ * ·) ?_)) rfl
  · by_cases h : p.val = 0
    · rw [if_pos h, if_pos h]
    · rw [if_neg h, if_neg h, if_neg (by show ¬p.val = 8193; omega)]
  · rw [if_neg (by show ¬1 + p.val = 0; omega), if_neg (by show ¬1 + p.val = 8193; omega)]
    exact congrArg (fun q => at3 x0 b q j) (by show 1 + p.val - 1 = p.val; omega)
  · rw [if_neg (by show ¬2 + p.val = 0; omega)]
    by_cases h : p.val = 8191
    · rw [if_pos (by show 2 + p.val = 8193; omega), if_pos h]
    · rw [if_neg (by show ¬2 + p.val = 8193; omega), if_neg h]
      exact congrArg (fun q => at3 x0 b q j) (by show 2 + p.val - 1 = p.val + 1; omega)

/-- The reference's second array. -/
theorem first_eq : (val_main_v26 (F := Ideal) x0 x1 x2 : FVec Ideal S2x8192x1024 .f32)
    = fun i => taps (at3 x0) (at2 x1) (at1 x2) (i 0).val (i 1).val (i 2).val := by
  funext i
  have h2 : (i 2).val < 1024 := (i 2).isLt
  refine Eq.trans ?_ (taps_at x0 x1 x2 (i 0) (i 1) (⟨(i 2).val, by omega⟩ : Fin 3072))
  pointwise [val_main_v26]

/-- The product of the third part and the second. -/
theorem product_at (b : Fin 2) (p : Fin 8192) (j : Fin 1024) : (val_main_v29 (F := Ideal) x0 x1 x2 (ix3 b p j) : EReal)
    = taps (at3 x0) (at2 x1) (at1 x2) b p (2048 + j.val) * taps (at3 x0) (at2 x1) (at1 x2) b p (1024 + j.val) := by
  refine Eq.trans ?_ (congrArg₂ (· * ·) (taps_at x0 x1 x2 b p (⟨2048 + j.val, by omega⟩ : Fin 3072))
    (taps_at x0 x1 x2 b p (⟨1024 + j.val, by omega⟩ : Fin 3072)))
  pointwise [val_main_v29, val_main_v28, val_main_v27]

/-- The groups of rows, each with a gap after it. -/
theorem group_at (b : Fin 2) (g : Fin 64) (r : Fin 136) (j : Fin 1024) : (val_main_v31 (F := Ideal) x0 x1 x2 (ix4 b g r j) : EReal)
    = if r.val < 128 then
        taps (at3 x0) (at2 x1) (at1 x2) b (128 * g.val + r.val) (2048 + j.val)
          * taps (at3 x0) (at2 x1) (at1 x2) b (128 * g.val + r.val) (1024 + j.val)
      else 0 := by
  rw [val_main_v31]
  by_cases h : r.val < 128
  · rw [if_pos h]
    refine (pad_apply_of_inside _ _ _ _ _ _ _ _ (ix4 b g (⟨r.val, h⟩ : Fin 128) j) (fun a => match a with
        | ⟨0, _⟩ => by show b.val = 0 + b.val * 1; omega
        | ⟨1, _⟩ => by show g.val = 0 + g.val * 1; omega
        | ⟨2, _⟩ => by show r.val = 0 + r.val * 1; omega
        | ⟨3, _⟩ => by show j.val = 0 + j.val * 1; omega)).trans ?_
    refine Eq.trans ?_ (product_at x0 x1 x2 b (⟨128 * g.val + r.val, by omega⟩ : Fin 8192) j)
    pointwise [val_main_v30]
    exact congrArg (fun q => val_main_v29 (F := Ideal) x0 x1 x2 (ix3 b q j)) (Fin.ext (by show g.val * 128 + r.val = 128 * g.val + r.val; omega))
  · rw [if_neg h]
    refine (pad_apply_of_not_inside _ _ _ _ _ _ _ _ (2 : Fin 4) ?_).trans (fill' _)
    intro h'
    have := h'.2.2
    change (r.val - 0) / 1 < 128 at this
    omega

/-- The reference's first array. -/
theorem gated_eq : (val_main_v32 (F := Ideal) x0 x1 x2 : FVec Ideal S2x8704x1024 .f32)
    = fun i => gated (at3 x0) (at2 x1) (at1 x2) (i 0).val (i 1).val (i 2).val := by
  funext i
  have h1 : (i 1).val < 8704 := (i 1).isLt
  refine Eq.trans ?_ (group_at x0 x1 x2 (i 0) (⟨(i 1).val / 136, by omega⟩ : Fin 64) (⟨(i 1).val % 136, by omega⟩ : Fin 136) (i 2))
  pointwise [val_main_v32]

end Cert.ReferenceShortIdeal.Short

end
-- ==== Proof.Short.Claims.lean ====
/- The claims about the short convolution of the gated branch. -/
module

public import proofs.«01_k».proof.Defs
public import proofs.«01_k».proof.Proof.Gen.KernelShort.Frame
public import proofs.«01_k».proof.Proof.Gen.KernelShortIdeal.Value
public import proofs.«01_k».proof.Proof.Gen.ReferenceShortIdeal.Run
public import proofs.«01_k».proof.Proof.Short.Kernel
public import proofs.«01_k».proof.Proof.Short.Reference

@[expose] public section

set_option maxRecDepth 16384

noncomputable section

namespace Cert.Short

open Idealize.ShloMosaic Idealize.ShloMosaic.TcCoe Idealize.SL.Sem

theorem frame : Cert.quiescent_KernelShort := fun m ρ _ => Cert.KernelShort.Gen.frame m ρ

theorem frameIdeal : Cert.quiescent_KernelShortIdeal := fun m ρ _ => Cert.KernelShortIdeal.Gen.frame m ρ

theorem frameReference : Cert.quiescent_ReferenceShortIdeal := fun m ρ _ =>
  (θ_run Cert.ReferenceShortIdeal.defs _ _).mono
    (fun r h => ⟨fun c => (h c).2.2, sem_eq_zero_of_no_sems (by decide) r.2⟩)
    (Cert.ReferenceShortIdeal.Value.run (F := Ideal) m ρ)

theorem preserves : Cert.preserves_KernelShort_KernelShortIdeal := trivial

/-- Both programs end with the gated products, a gap after each group of rows, and the first part of the taps. -/
theorem algebraic : Cert.algebraic_KernelShortIdeal_ReferenceShortIdeal := by
  intro m ρ m' ρ' _ hagree
  refine ⟨fun c => Cert.KernelShortIdeal.Short.products m c, fun c => Cert.KernelShortIdeal.Short.firsts m c, ?_, ?_⟩
  · exact (θ_run Cert.KernelShortIdeal.defs _ _).mono
      (fun _ h c => ⟨(h c).1.trans (Cert.KernelShortIdeal.Short.final5 m c),
        (h c).2.1.trans (Cert.KernelShortIdeal.Short.final6 m c), (h c).2.2⟩)
      (Cert.KernelShortIdeal.Value.run_blocks (F := Ideal) m ρ)
  · refine (θ_run Cert.ReferenceShortIdeal.defs _ _).mono (fun _ h c => ⟨(h c).1.trans ?_, (h c).2.1.trans ?_, (h c).2.2⟩)
      (Cert.ReferenceShortIdeal.Value.run (F := Ideal) m' ρ')
    · obtain ⟨a0, a1, a2⟩ := hagree c
      rw [Cert.ReferenceShortIdeal.Read.val_main_v32_eq, a0, a1, a2]
      exact Cert.ReferenceShortIdeal.Short.gated_eq _ _ _
    · obtain ⟨a0, a1, a2⟩ := hagree c
      refine (Cert.ReferenceShortIdeal.Read.val_main_v26_eq (F := Ideal) _ _ _).trans ?_
      rw [a0, a1, a2]
      exact Cert.ReferenceShortIdeal.Short.first_eq _ _ _

end Cert.Short

end
-- ==== Proof.Filters.Spec.lean ====
/- The filters of the long convolution, free of any program: three layers of sines over a table of features, a matrix
   product, and a decay along the table's first column. -/
module

public import proofs.«01_k».proof.Proof.Modulate.Spec

@[expose] public section

noncomputable section

namespace Cert.Filters

open Idealize.ShloMosaic Idealize.ShloMosaic.Routing Cert.Modulate Cert.Project Cert.Merge

/-- One layer: the sine of a frequency times a row against a column of weights, plus a bias. -/
def layer (n : ℕ) (A : ℕ → ℕ → EReal) (W : ℕ → ℕ → EReal) (B Fr : ℕ → EReal) (r j : ℕ) : EReal :=
  Ideal.sin (Fr j * ((∑ k : Fin n, A r k * W k j) + B j))

theorem layer_congr (n : ℕ) {A A' W W' : ℕ → ℕ → EReal} {B B' Fr Fr' : ℕ → EReal} {r r' j : ℕ}
    (hA : ∀ k < n, A r k = A' r' k) (hW : ∀ k < n, W k j = W' k j) (hB : B j = B' j) (hF : Fr j = Fr' j) :
    layer n A W B Fr r j = layer n A' W' B' Fr' r' j := by
  rw [layer, layer, hB, hF]
  exact congrArg (fun s => Ideal.sin (Fr' j * (s + B' j)))
    (Finset.sum_congr rfl fun k _ => by rw [hA k k.isLt, hW k k.isLt])

/-- A layer of an array of weights. -/
theorem layer_at {n c : ℕ} (A : ℕ → ℕ → EReal) (W : FVec Ideal ⟨2, ![n, c]⟩ .f32) (B Fr : ℕ → EReal) (r : ℕ) (j : Fin c) :
    layer n A (at2 W) B Fr r j = Ideal.sin (Fr j * ((∑ k : Fin n, A r k * W (ix2 k j)) + B j)) := by
  rw [layer]
  exact congrArg (fun s => Ideal.sin (Fr j * (s + B j))) (Finset.sum_congr rfl fun k _ => by rw [at2_of_lt W k.isLt j.isLt])

/-- Features and weights past the `n`-th add nothing when those weights are zero. -/
theorem layer_of_zeros (n l : ℕ) (A W : ℕ → ℕ → EReal) (B Fr : ℕ → EReal) (r j : ℕ) (h : ∀ k, n ≤ k → k < n + l → W k j = 0) :
    layer (n + l) A W B Fr r j = layer n A W B Fr r j := by
  rw [layer, layer, Fin.sum_univ_add]
  have z : ∑ k : Fin l, A r (Fin.natAdd n k : Fin (n + l)) * W (Fin.natAdd n k : Fin (n + l)) j = 0 :=
    Finset.sum_eq_zero fun k _ => by
      rw [h _ (by show n ≤ n + k.val; omega) (Fin.natAdd n k).isLt, mul_zero]
  rw [z, add_zero]
  rfl

variable (n : ℕ) (Z W1 : ℕ → ℕ → EReal) (B1 : ℕ → EReal) (W2 : ℕ → ℕ → EReal) (B2 : ℕ → EReal) (W3 : ℕ → ℕ → EReal)
  (B3 Fr : ℕ → EReal) (Wo : ℕ → ℕ → EReal) (D : ℕ → EReal)

/-- The three layers, over tables of `n` features. -/
def hidden : ℕ → ℕ → EReal := layer 64 (layer 64 (layer n Z W1 B1 Fr) W2 B2 Fr) W3 B3 Fr

/-- Filter `p` (forward, backward) at lag `r` and channel `j`. -/
def filter (p r j : ℕ) : EReal :=
  (∑ k : Fin 64, hidden n Z W1 B1 W2 B2 W3 B3 Fr r k * Wo k (1024 * p + j)) * Ideal.exp (-(Z r 0) * D j)

/-- A table of rows in groups of 128 with 8 rows of zeros after each. -/
def spread (G : ℕ → ℕ → ℕ → EReal) (p r j : ℕ) : EReal :=
  if r % 136 < 128 then G p (128 * (r / 136) + r % 136) j else 0

theorem spread_rows (G : ℕ → ℕ → ℕ → EReal) (p q : ℕ) {r j : ℕ} (hr : r < 128) :
    spread G p (136 * q + r) j = G p (128 * q + r) j := by
  have e1 : (136 * q + r) % 136 = r := by omega
  have e2 : (136 * q + r) / 136 = q := by omega
  rw [spread, e1, e2, if_pos hr]

theorem spread_gap (G : ℕ → ℕ → ℕ → EReal) (p q : ℕ) {r j : ℕ} (hr : r < 8) : spread G p (136 * q + 128 + r) j = 0 := by
  have e1 : (136 * q + 128 + r) % 136 = 128 + r := by omega
  rw [spread, e1, if_neg (by omega)]

/-- Rows past an update of whole rows stay as they were. -/
theorem rows_kept {α : Type} {R U C : ℕ} (d : ScatterDims (shape2 R C) (shape1 1) (shape2 U C)) (hu : d.updateWindowDims = [0, 1])
    (hi : d.insertedWindowDims = []) (hs : d.scatterDimsToOperandDims = [0]) (idx : IVec (shape1 1) 32)
    (h0 : (idx (ix1 0)).toInt = 0) (x : (shape2 R C).Idx → α) (u : (shape2 U C).Idx → α) (r : Fin R)
    (hr : U ≤ r.val) (k : Fin C) : Host.scatter d (fun _ b => b) x idx u (ix2 r k) = x (ix2 r k) := by
  refine scatter_set_miss d x idx u _ fun j hj => ?_
  have e : j = ix2 (j 0) (j 1) := by funext a; fin_cases a <;> rfl
  have l := (lands_row d hu hi hs idx h0 (j 0) (j 1) r k).1 ((congrArg (fun t => d.resultIdx? t idx) e.symm).trans hj)
  have hj0 : (j 0).val < U := (j 0).isLt
  exact absurd l.1 (by omega)

end Cert.Filters

end
-- ==== Proof.Filters.Block.lean ====
/- The filters of the long convolution: what a grid point of their kernel stores. -/
module

public import proofs.«01_k».proof.Proof.Gen.KernelFiltersIdeal.Value
public import proofs.«01_k».proof.Proof.Filters.Spec
public import Idealize.ShloMosaic.Lib.Pipeline.ValueKit
public import Idealize.ShloMosaic.Lib.KernelVsHost

@[expose] public section

set_option maxRecDepth 16384

noncomputable section

namespace Cert.KernelFiltersIdeal.Filters

open Idealize.ShloMosaic Idealize.ShloMosaic.TcCoe Idealize.SL.Sem
open Idealize.ShloMosaic.Pipeline (Dat)
open Cert.KernelFiltersIdeal Cert.KernelFiltersIdeal.Gen Cert.Project Cert.Merge Cert.Filters

section Pieces
variable {G : ℕ → ℕ → ℕ → EReal}

/-- A piece of 128 rows stands where its group does. -/
theorem piece_rows (p q o : ℕ) (ho : o = 128 * q) (D : FVec Ideal S1024x1024 .f32) (hD : ∀ r < 1024, ∀ j < 1024, at2 D r j = G p r j)
    (hs : S1024x1024.Slices ![o, 0] S128x1024) (hc : S128x1024.ShapeCasts S1x128x1024)
    (inb : ∀ a, (![p, 136 * q, 0] : Fin 3 → ℕ) a + (![1, 128, 1024] : Fin 3 → ℕ) a ≤ S2x1088x1024.size a) (x : S1x128x1024.Idx) :
    (shapeCast S1x128x1024 (extractStridedSlice S128x1024 ![o, 0] D hs) hc x : EReal)
      = spread G ((Rect.unit (s := S2x1088x1024) ![p, 136 * q, 0] ![1, 128, 1024] inb).emb x 0).val
        ((Rect.unit (s := S2x1088x1024) ![p, 136 * q, 0] ![1, 128, 1024] inb).emb x 1).val
        ((Rect.unit (s := S2x1088x1024) ![p, 136 * q, 0] ![1, 128, 1024] inb).emb x 2).val := by
  subst ho
  have h0 : (x 0).val = 0 := by have := (x 0).isLt; change (x 0).val < 1 at this; omega
  have h1 : (x 1).val < 128 := (x 1).isLt
  have h2 : (x 2).val < 1024 := (x 2).isLt
  have hq : 136 * q + 128 ≤ 1088 := inb 1
  have e : ((Rect.unit (s := S2x1088x1024) ![p, 136 * q, 0] ![1, 128, 1024] inb).emb x 0).val = p := by
    show p + 1 * (x 0).val = p; omega
  have e1 : ((Rect.unit (s := S2x1088x1024) ![p, 136 * q, 0] ![1, 128, 1024] inb).emb x 1).val = 136 * q + (x 1).val := by
    show 136 * q + 1 * (x 1).val = _; omega
  have e2 : ((Rect.unit (s := S2x1088x1024) ![p, 136 * q, 0] ![1, 128, 1024] inb).emb x 2).val = (x 2).val := by
    show 0 + 1 * (x 2).val = _; omega
  rw [e, e1, e2, spread_rows G p q h1, ← hD (128 * q + (x 1).val) (by omega) _ h2, at2_of_lt _ (by omega) h2]
  pointwise []

/-- A gap of 8 rows stands after its group. -/
theorem piece_gap (p q : ℕ) (hc : S8x1024.ShapeCasts S1x8x1024)
    (inb : ∀ a, (![p, 136 * q + 128, 0] : Fin 3 → ℕ) a + (![1, 8, 1024] : Fin 3 → ℕ) a ≤ S2x1088x1024.size a) (x : S1x8x1024.Idx) :
    (shapeCast S1x8x1024 (k0_pay10 (F := Ideal)) hc x : EReal)
      = spread G ((Rect.unit (s := S2x1088x1024) ![p, 136 * q + 128, 0] ![1, 8, 1024] inb).emb x 0).val
        ((Rect.unit (s := S2x1088x1024) ![p, 136 * q + 128, 0] ![1, 8, 1024] inb).emb x 1).val
        ((Rect.unit (s := S2x1088x1024) ![p, 136 * q + 128, 0] ![1, 8, 1024] inb).emb x 2).val := by
  have h1 : (x 1).val < 8 := (x 1).isLt
  have e1 : ((Rect.unit (s := S2x1088x1024) ![p, 136 * q + 128, 0] ![1, 8, 1024] inb).emb x 1).val = 136 * q + 128 + (x 1).val := by
    show 136 * q + 128 + 1 * (x 1).val = _; omega
  rw [e1, spread_gap G _ q h1]
  pointwise [k0_pay10]

end Pieces

section Rows
variable (x0 : FVec Ideal S1024x128 .f32) (x1 : FVec Ideal S128x64 .f32) (x2 : FVec Ideal S1x64 .f32) (x3 : FVec Ideal S64x64 .f32)
  (x4 : FVec Ideal S1x64 .f32) (x5 : FVec Ideal S64x64 .f32) (x6 x7 : FVec Ideal S1x64 .f32) (x8 : FVec Ideal S64x2048 .f32)
  (x9 : FVec Ideal S1x1024 .f32)

/-- The filters over the rows of a block. -/
abbrev blockFilter : ℕ → ℕ → ℕ → EReal :=
  filter 128 (at2 x0) (at2 x1) (at2 x2 0) (at2 x3) (at2 x4 0) (at2 x5) (at2 x6 0) (at2 x7 0) (at2 x8) (at2 x9 0)

/-- The three layers and the product. -/
theorem product_at (r : Fin 1024) (j : Fin 2048) : (k0_pay4 (F := Ideal) x0 x7 x1 x2 x3 x4 x5 x6 x8 (ix2 r j) : EReal)
    = ∑ k : Fin 64, hidden 128 (at2 x0) (at2 x1) (at2 x2 0) (at2 x3) (at2 x4 0) (at2 x5) (at2 x6 0) (at2 x7 0) r k * at2 x8 k j := by
  pointwise [k0_pay4, k0_pay3]
  refine Finset.sum_congr rfl fun k _ => ?_
  rw [at2_of_lt x8 k.isLt j.isLt, Filters.hidden, layer_at, at2_of_lt x7 (by omega) k.isLt, at2_of_lt x6 (by omega) k.isLt]
  refine congrArg (fun s => Ideal.sin (x7 (ix2 0 k) * (s + x6 (ix2 0 k))) * x8 (ix2 k j)) (Finset.sum_congr rfl fun l _ => ?_)
  rw [layer_at, at2_of_lt x7 (by omega) l.isLt, at2_of_lt x4 (by omega) l.isLt]
  refine congrArg (fun s => Ideal.sin (x7 (ix2 0 l) * (s + x4 (ix2 0 l))) * x5 (ix2 l k)) (Finset.sum_congr rfl fun i _ => ?_)
  rw [layer_at, at2_of_lt x7 (by omega) i.isLt, at2_of_lt x2 (by omega) i.isLt]
  refine congrArg (fun s => Ideal.sin (x7 (ix2 0 i) * (s + x2 (ix2 0 i))) * x3 (ix2 i l)) (Finset.sum_congr rfl fun a _ => ?_)
  rw [at2_of_lt x0 r.isLt a.isLt]

/-- The decay. -/
theorem decay_at (r : Fin 1024) (j : Fin 1024) : (k0_pay7 (F := Ideal) (k0_pay5 (F := Ideal) x0) (k0_pay6 (F := Ideal)) x9 (ix2 r j) : EReal)
    = Ideal.exp (-(at2 x0 r 0) * at2 x9 0 j) := by
  pointwise [k0_pay7, k0_pay5, k0_pay6, k0_pay3]
  rw [zero_sub, at2_of_lt x0 r.isLt (by omega), at2_of_lt x9 (by omega) j.isLt]
  rfl

/-- The forward filter. -/
theorem forward_at : ∀ r < 1024, ∀ j < 1024, at2 (k0_pay8 (F := Ideal) (k0_pay4 (F := Ideal) x0 x7 x1 x2 x3 x4 x5 x6 x8) (k0_pay5 (F := Ideal) x0) (k0_pay6 (F := Ideal)) x9) r j
    = blockFilter x0 x1 x2 x3 x4 x5 x6 x7 x8 x9 0 r j := by
  intro r hr j hj
  rw [at2_of_lt _ hr hj]
  refine Eq.trans ?_ (congrArg₂ (· * ·) ((product_at x0 x1 x2 x3 x4 x5 x6 x7 x8 ⟨r, hr⟩ ⟨j, by omega⟩).trans
    (Finset.sum_congr rfl fun k _ => congrArg (_ * at2 x8 k ·) (by show j = 1024 * 0 + j; omega))) (decay_at x0 x9 ⟨r, hr⟩ ⟨j, hj⟩))
  pointwise [k0_pay8]

/-- The backward filter. -/
theorem backward_at : ∀ r < 1024, ∀ j < 1024, at2 (k0_pay9 (F := Ideal) (k0_pay4 (F := Ideal) x0 x7 x1 x2 x3 x4 x5 x6 x8) (k0_pay5 (F := Ideal) x0) (k0_pay6 (F := Ideal)) x9) r j
    = blockFilter x0 x1 x2 x3 x4 x5 x6 x7 x8 x9 1 r j := by
  intro r hr j hj
  rw [at2_of_lt _ hr hj]
  refine Eq.trans ?_ (congrArg₂ (· * ·) (product_at x0 x1 x2 x3 x4 x5 x6 x7 x8 ⟨r, hr⟩ ⟨1024 * 1 + j, by omega⟩) (decay_at x0 x9 ⟨r, hr⟩ ⟨j, hj⟩))
  pointwise [k0_pay9]

theorem out10 (c : Dev nD) (t : Fin cfg0.N) (y : S2x1088x1024.Idx) :
    (out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) x0 x1 x2 x3 x4 x5 x6 x7 x8 x9 y : EReal)
     = spread (blockFilter x0 x1 x2 x3 x4 x5 x6 x7 x8 x9) (y 0).val (y 1).val (y 2).val := by
  have hf := forward_at x0 x1 x2 x3 x4 x5 x6 x7 x8 x9
  have hb := backward_at x0 x1 x2 x3 x4 x5 x6 x7 x8 x9
  frame_out
  refine View.canon_apply_of_pieces (Val := Elt Ideal) (e := .f32) (fun y : S2x1088x1024.Idx => spread (blockFilter x0 x1 x2 x3 x4 x5 x6 x7 x8 x9) (y 0).val (y 1).val (y 2).val) _ ?_ y (View.cover_of_tiledBy _ ![1, 8, 1024] (by sl_kernel_rfl) y)
  simp only [List.forall_mem_cons]
  exact ⟨fun x => piece_gap 1 7 _ inb_S2x1088x1024_S1x8x1024_1_1080_0 x,
    fun x => piece_gap 0 7 _ inb_S2x1088x1024_S1x8x1024_0_1080_0 x,
    fun x => piece_rows 1 7 896 rfl _ hb _ _ inb_S2x1088x1024_S1x128x1024_1_952_0 x,
    fun x => piece_rows 0 7 896 rfl _ hf _ _ inb_S2x1088x1024_S1x128x1024_0_952_0 x,
    fun x => piece_gap 1 6 _ inb_S2x1088x1024_S1x8x1024_1_944_0 x,
    fun x => piece_gap 0 6 _ inb_S2x1088x1024_S1x8x1024_0_944_0 x,
    fun x => piece_rows 1 6 768 rfl _ hb _ _ inb_S2x1088x1024_S1x128x1024_1_816_0 x,
    fun x => piece_rows 0 6 768 rfl _ hf _ _ inb_S2x1088x1024_S1x128x1024_0_816_0 x,
    fun x => piece_gap 1 5 _ inb_S2x1088x1024_S1x8x1024_1_808_0 x,
    fun x => piece_gap 0 5 _ inb_S2x1088x1024_S1x8x1024_0_808_0 x,
    fun x => piece_rows 1 5 640 rfl _ hb _ _ inb_S2x1088x1024_S1x128x1024_1_680_0 x,
    fun x => piece_rows 0 5 640 rfl _ hf _ _ inb_S2x1088x1024_S1x128x1024_0_680_0 x,
    fun x => piece_gap 1 4 _ inb_S2x1088x1024_S1x8x1024_1_672_0 x,
    fun x => piece_gap 0 4 _ inb_S2x1088x1024_S1x8x1024_0_672_0 x,
    fun x => piece_rows 1 4 512 rfl _ hb _ _ inb_S2x1088x1024_S1x128x1024_1_544_0 x,
    fun x => piece_rows 0 4 512 rfl _ hf _ _ inb_S2x1088x1024_S1x128x1024_0_544_0 x,
    fun x => piece_gap 1 3 _ inb_S2x1088x1024_S1x8x1024_1_536_0 x,
    fun x => piece_gap 0 3 _ inb_S2x1088x1024_S1x8x1024_0_536_0 x,
    fun x => piece_rows 1 3 384 rfl _ hb _ _ inb_S2x1088x1024_S1x128x1024_1_408_0 x,
    fun x => piece_rows 0 3 384 rfl _ hf _ _ inb_S2x1088x1024_S1x128x1024_0_408_0 x,
    fun x => piece_gap 1 2 _ inb_S2x1088x1024_S1x8x1024_1_400_0 x,
    fun x => piece_gap 0 2 _ inb_S2x1088x1024_S1x8x1024_0_400_0 x,
    fun x => piece_rows 1 2 256 rfl _ hb _ _ inb_S2x1088x1024_S1x128x1024_1_272_0 x,
    fun x => piece_rows 0 2 256 rfl _ hf _ _ inb_S2x1088x1024_S1x128x1024_0_272_0 x,
    fun x => piece_gap 1 1 _ inb_S2x1088x1024_S1x8x1024_1_264_0 x,
    fun x => piece_gap 0 1 _ inb_S2x1088x1024_S1x8x1024_0_264_0 x,
    fun x => piece_rows 1 1 128 rfl _ hb _ _ inb_S2x1088x1024_S1x128x1024_1_136_0 x,
    fun x => piece_rows 0 1 128 rfl _ hf _ _ inb_S2x1088x1024_S1x128x1024_0_136_0 x,
    fun x => piece_gap 1 0 _ inb_S2x1088x1024_S1x8x1024_1_128_0 x,
    fun x => piece_gap 0 0 _ inb_S2x1088x1024_S1x8x1024_0_128_0 x,
    fun x => piece_rows 1 0 0 rfl _ hb _ _ inb_S2x1088x1024_S1x128x1024_1_0_0 x,
    fun x => piece_rows 0 0 0 rfl _ hf _ _ inb_S2x1088x1024_S1x128x1024_0_0_0 x, by simp⟩

end Rows

end Cert.KernelFiltersIdeal.Filters
end
-- ==== Proof.Filters.Kernel.lean ====
/- The filters of the long convolution: what their kernel computes. -/
module

public import proofs.«01_k».proof.Proof.Filters.Block

@[expose] public section

set_option maxRecDepth 16384

noncomputable section

namespace Cert.KernelFiltersIdeal.Filters

open Idealize.ShloMosaic Idealize.ShloMosaic.TcCoe Idealize.SL.Sem
open Idealize.ShloMosaic.Pipeline (Dat)
open Cert.KernelFiltersIdeal Cert.KernelFiltersIdeal.Gen Cert.Project Cert.Merge Cert.Filters Cert.Modulate

variable (m : (ℓ : Loc nD τ sig) → Buf (Elt Ideal) ℓ)

/-- The arguments as the kernel takes them. -/
abbrev features (c : Dev nD) : FVec Ideal S8192x33 .f32 := m ((c : Thread nD τ).loc main_arg0)
abbrev first (c : Dev nD) : FVec Ideal S33x64 .f32 := m ((c : Thread nD τ).loc main_arg1)
abbrev bias1 (c : Dev nD) : FVec Ideal S64 .f32 := m ((c : Thread nD τ).loc main_arg2)
abbrev second (c : Dev nD) : FVec Ideal S64x64 .f32 := m ((c : Thread nD τ).loc main_arg3)
abbrev bias2 (c : Dev nD) : FVec Ideal S64 .f32 := m ((c : Thread nD τ).loc main_arg4)
abbrev third (c : Dev nD) : FVec Ideal S64x64 .f32 := m ((c : Thread nD τ).loc main_arg5)
abbrev bias3 (c : Dev nD) : FVec Ideal S64 .f32 := m ((c : Thread nD τ).loc main_arg6)
abbrev frequency (c : Dev nD) : FVec Ideal S64 .f32 := m ((c : Thread nD τ).loc main_arg7)
abbrev last (c : Dev nD) : FVec Ideal S64x2048 .f32 := m ((c : Thread nD τ).loc main_arg8)
abbrev rates (c : Dev nD) : FVec Ideal S1024 .f32 := m ((c : Thread nD τ).loc main_arg9)

/-- Which blocks a grid point reads and writes. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, t.val, 0] ∧ t.val < 8 :=
  (by decide +kernel : ∀ t : Fin grid0.N, _)

/-- The blocks a grid point reads. -/
abbrev blk0 (c : Dev nD) (t : Fin cfg0.N) : FVec Ideal S1024x128 .f32 := iblk m c 0 t
abbrev blk1 (c : Dev nD) (t : Fin cfg0.N) : FVec Ideal S128x64 .f32 := iblk m c 1 t
abbrev blk2 (c : Dev nD) (t : Fin cfg0.N) : FVec Ideal S1x64 .f32 := iblk m c 2 t
abbrev blk3 (c : Dev nD) (t : Fin cfg0.N) : FVec Ideal S64x64 .f32 := iblk m c 3 t
abbrev blk4 (c : Dev nD) (t : Fin cfg0.N) : FVec Ideal S1x64 .f32 := iblk m c 4 t
abbrev blk5 (c : Dev nD) (t : Fin cfg0.N) : FVec Ideal S64x64 .f32 := iblk m c 5 t
abbrev blk6 (c : Dev nD) (t : Fin cfg0.N) : FVec Ideal S1x64 .f32 := iblk m c 6 t
abbrev blk7 (c : Dev nD) (t : Fin cfg0.N) : FVec Ideal S1x64 .f32 := iblk m c 7 t
abbrev blk8 (c : Dev nD) (t : Fin cfg0.N) : FVec Ideal S64x2048 .f32 := iblk m c 8 t
abbrev blk9 (c : Dev nD) (t : Fin cfg0.N) : FVec Ideal S1x1024 .f32 := iblk m c 9 t

/-- A vector that arrives as one row. -/
theorem row_at {n : ℕ} (x : FVec Ideal ⟨1, ![n]⟩ .f32) (h : Shape.BroadcastsInDim ⟨1, ![n]⟩ ⟨2, ![1, n]⟩ ![1]) {j : ℕ} (hj : j < n) :
    at2 (broadcastInDim ⟨2, ![1, n]⟩ ![1] h x) 0 j = at1 x j := by
  rw [at2_of_lt _ (by omega) hj, at1_of_lt _ hj]
  refine broadcastInDim_apply _ _ _ _ _ (fun a => ?_)
  fin_cases a
  show j = if n = 1 then 0 else j
  split_ifs <;> omega

/-- The features, with zero columns after them. -/
theorem at_blk0 (c : Dev nD) (t : Fin cfg0.N) {r k : ℕ} (hr : r < 1024) (hk : k < 33) :
    at2 (blk0 m c t) r k = at2 (features m c) (1024 * t.val + r) k := by
  obtain ⟨e0, e1, e2, e3, e4, e5, e6, e7, e8, e9, e10, ht⟩ := idx t
  rw [at2_of_lt _ hr (by omega), at2_of_lt _ (by omega) hk]
  have e : (V m c main_v0 : FVec Ideal S8192x128 .f32) = pad S8192x128 ![0, 0] ![0, 95] ![0, 0] (features m c)
      (constant (F := Ideal) S_ .f32 0x00000000#32) pads_S8192x33_S8192x128_000_0950 h_S_ := by
    show StableHlo.after hostOps0 (fun b => m (c, b)) (Proc.devRef .tc main_v0) = _
    entry_read
    rfl
  refine (congrFun e _).trans (pad_apply_of_inside _ _ _ _ _ _ _ _ (ix2 (⟨1024 * t.val + r, by omega⟩ : Fin 8192) (⟨k, hk⟩ : Fin 33)) (fun a => ?_))
  fin_cases a
  · show ((win0_0.blk t).view.emb (ix2 ⟨r, hr⟩ ⟨k, by omega⟩) 0).val = 0 + (1024 * t.val + r) * 1
    blk_simp [e0]
    show t.val * 1024 + r = _
    omega
  · show ((win0_0.blk t).view.emb (ix2 ⟨r, hr⟩ ⟨k, by omega⟩) 1).val = 0 + k * 1
    blk_simp [e0]

/-- The first weights, with zero rows after them. -/
theorem weights_eq (c : Dev nD) : (V m c main_v3 : FVec Ideal S128x64 .f32)
    = Host.scatter scatter_S128x64_S1_S33x64_01_n_0_0 (fun _ b => b)
      (broadcastInDim S128x64 ![] bcast_S_S128x64 (constant (F := Ideal) S_ .f32 0x00000000#32))
      (broadcastInDim S1 ![] bcast_S_S1 (constantI S_ 32 0#32)) (first m c) := by
  show StableHlo.after hostOps0 (fun b => m (c, b)) (Proc.devRef .tc main_v3) = _
  entry_read
  rfl

theorem read_blk1 (c : Dev nD) (t : Fin cfg0.N) {k j : ℕ} (hk : k < 128) (hj : j < 64) :
    at2 (blk1 m c t) k j = (V m c main_v3 : FVec Ideal S128x64 .f32) (ix2 (⟨k, hk⟩ : Fin 128) (⟨j, hj⟩ : Fin 64)) := by
  obtain ⟨e0, e1, e2, e3, e4, e5, e6, e7, e8, e9, e10, ht⟩ := idx t
  rw [at2_of_lt _ hk hj]
  refine congrArg (V m c main_v3 : S128x64.Idx → EReal) (funext fun a => Fin.ext ?_)
  fin_cases a <;> blk_simp [e1] <;> rfl

theorem at_blk1 (c : Dev nD) (t : Fin cfg0.N) {k j : ℕ} (hk : k < 33) (hj : j < 64) : at2 (blk1 m c t) k j = at2 (first m c) k j := by
  rw [read_blk1 m c t (by omega) hj, weights_eq, at2_of_lt _ hk hj]
  exact rows_set scatter_S128x64_S1_S33x64_01_n_0_0 rfl rfl rfl (broadcastInDim S1 ![] bcast_S_S1 (constantI S_ 32 0#32)) (by decide) _ _ ⟨k, hk⟩ ⟨k, by omega⟩ rfl ⟨j, hj⟩

theorem zero_blk1 (c : Dev nD) (t : Fin cfg0.N) {k j : ℕ} (hk : 33 ≤ k) (hk' : k < 128) (hj : j < 64) : at2 (blk1 m c t) k j = 0 := by
  rw [read_blk1 m c t hk' hj, weights_eq]
  refine (rows_kept scatter_S128x64_S1_S33x64_01_n_0_0 rfl rfl rfl (broadcastInDim S1 ![] bcast_S_S1 (constantI S_ 32 0#32)) (by decide) _ _ ⟨k, hk'⟩ hk ⟨j, hj⟩).trans ?_
  exact Ideal.ofBits_zero_f32

/-- The biases, the frequencies and the rates of decay, each as one row; the other weights as they are. -/
theorem at_blk2 (c : Dev nD) (t : Fin cfg0.N) {j : ℕ} (hj : j < 64) : at2 (blk2 m c t) 0 j = at1 (bias1 m c) j := by
  obtain ⟨e0, e1, e2, e3, e4, e5, e6, e7, e8, e9, e10, ht⟩ := idx t
  have e : (V m c main_v4 : FVec Ideal S1x64 .f32) = broadcastInDim S1x64 ![1] bcast_S64_S1x64_1 (bias1 m c) := rfl
  rw [← row_at (bias1 m c) bcast_S64_S1x64_1 hj, at2_of_lt _ (by omega) hj, at2_of_lt _ (by omega) hj]
  refine (congrFun e _).trans (congrArg _ (funext fun a => Fin.ext ?_))
  fin_cases a <;> blk_simp [e2] <;> rfl

theorem at_blk3 (c : Dev nD) (t : Fin cfg0.N) {k j : ℕ} (hk : k < 64) (hj : j < 64) : at2 (blk3 m c t) k j = at2 (second m c) k j := by
  obtain ⟨e0, e1, e2, e3, e4, e5, e6, e7, e8, e9, e10, ht⟩ := idx t
  rw [at2_of_lt _ hk hj, at2_of_lt _ hk hj]
  refine (congrFun (V_main_arg3 m c) _).trans (congrArg _ (funext fun a => Fin.ext ?_))
  fin_cases a <;> blk_simp [e3] <;> rfl

theorem at_blk4 (c : Dev nD) (t : Fin cfg0.N) {j : ℕ} (hj : j < 64) : at2 (blk4 m c t) 0 j = at1 (bias2 m c) j := by
  obtain ⟨e0, e1, e2, e3, e4, e5, e6, e7, e8, e9, e10, ht⟩ := idx t
  have e : (V m c main_v5 : FVec Ideal S1x64 .f32) = broadcastInDim S1x64 ![1] bcast_S64_S1x64_1 (bias2 m c) := rfl
  rw [← row_at (bias2 m c) bcast_S64_S1x64_1 hj, at2_of_lt _ (by omega) hj, at2_of_lt _ (by omega) hj]
  refine (congrFun e _).trans (congrArg _ (funext fun a => Fin.ext ?_))
  fin_cases a <;> blk_simp [e4] <;> rfl

theorem at_blk5 (c : Dev nD) (t : Fin cfg0.N) {k j : ℕ} (hk : k < 64) (hj : j < 64) : at2 (blk5 m c t) k j = at2 (third m c) k j := by
  obtain ⟨e0, e1, e2, e3, e4, e5, e6, e7, e8, e9, e10, ht⟩ := idx t
  rw [at2_of_lt _ hk hj, at2_of_lt _ hk hj]
  refine (congrFun (V_main_arg5 m c) _).trans (congrArg _ (funext fun a => Fin.ext ?_))
  fin_cases a <;> blk_simp [e5] <;> rfl

theorem at_blk6 (c : Dev nD) (t : Fin cfg0.N) {j : ℕ} (hj : j < 64) : at2 (blk6 m c t) 0 j = at1 (bias3 m c) j := by
  obtain ⟨e0, e1, e2, e3, e4, e5, e6, e7, e8, e9, e10, ht⟩ := idx t
  have e : (V m c main_v6 : FVec Ideal S1x64 .f32) = broadcastInDim S1x64 ![1] bcast_S64_S1x64_1 (bias3 m c) := rfl
  rw [← row_at (bias3 m c) bcast_S64_S1x64_1 hj, at2_of_lt _ (by omega) hj, at2_of_lt _ (by omega) hj]
  refine (congrFun e _).trans (congrArg _ (funext fun a => Fin.ext ?_))
  fin_cases a <;> blk_simp [e6] <;> rfl

theorem at_blk7 (c : Dev nD) (t : Fin cfg0.N) {j : ℕ} (hj : j < 64) : at2 (blk7 m c t) 0 j = at1 (frequency m c) j := by
  obtain ⟨e0, e1, e2, e3, e4, e5, e6, e7, e8, e9, e10, ht⟩ := idx t
  have e : (V m c main_v7 : FVec Ideal S1x64 .f32) = broadcastInDim S1x64 ![1] bcast_S64_S1x64_1 (frequency m c) := rfl
  rw [← row_at (frequency m c) bcast_S64_S1x64_1 hj, at2_of_lt _ (by omega) hj, at2_of_lt _ (by omega) hj]
  refine (congrFun e _).trans (congrArg _ (funext fun a => Fin.ext ?_))
  fin_cases a <;> blk_simp [e7] <;> rfl

theorem at_blk8 (c : Dev nD) (t : Fin cfg0.N) {k j : ℕ} (hk : k < 64) (hj : j < 2048) : at2 (blk8 m c t) k j = at2 (last m c) k j := by
  obtain ⟨e0, e1, e2, e3, e4, e5, e6, e7, e8, e9, e10, ht⟩ := idx t
  rw [at2_of_lt _ hk hj, at2_of_lt _ hk hj]
  refine (congrFun (V_main_arg8 m c) _).trans (congrArg _ (funext fun a => Fin.ext ?_))
  fin_cases a <;> blk_simp [e8] <;> rfl

theorem at_blk9 (c : Dev nD) (t : Fin cfg0.N) {j : ℕ} (hj : j < 1024) : at2 (blk9 m c t) 0 j = at1 (rates m c) j := by
  obtain ⟨e0, e1, e2, e3, e4, e5, e6, e7, e8, e9, e10, ht⟩ := idx t
  have e : (V m c main_v8 : FVec Ideal S1x1024 .f32) = broadcastInDim S1x1024 ![1] bcast_S1024_S1x1024_1 (rates m c) := rfl
  rw [← row_at (rates m c) bcast_S1024_S1x1024_1 hj, at2_of_lt _ (by omega) hj, at2_of_lt _ (by omega) hj]
  refine (congrFun e _).trans (congrArg _ (funext fun a => Fin.ext ?_))
  fin_cases a <;> blk_simp [e9] <;> rfl

/-- The filter over the blocks of a grid point is that over the arrays. -/
theorem filter_of_blocks (c : Dev nD) (t : Fin cfg0.N) {p r j : ℕ} (hp : p < 2) (hr : r < 1024) (hj : j < 1024) :
    blockFilter (blk0 m c t) (blk1 m c t) (blk2 m c t) (blk3 m c t) (blk4 m c t) (blk5 m c t) (blk6 m c t) (blk7 m c t)
        (blk8 m c t) (blk9 m c t) p r j
      = filter 33 (at2 (features m c)) (at2 (first m c)) (at1 (bias1 m c)) (at2 (second m c)) (at1 (bias2 m c)) (at2 (third m c))
          (at1 (bias3 m c)) (at1 (frequency m c)) (at2 (last m c)) (at1 (rates m c)) p (1024 * t.val + r) j := by
  show filter 128 _ _ _ _ _ _ _ _ _ _ p r j = _
  unfold filter Filters.hidden
  rw [at_blk0 m c t hr (by omega), at_blk9 m c t hj]
  refine congrArg (· * _) (Finset.sum_congr rfl fun k _ => congrArg₂ (· * ·) ?_ (at_blk8 m c t k.isLt (by omega)))
  refine layer_congr 64 (fun i hi => ?_) (fun i hi => at_blk5 m c t hi k.isLt) (at_blk6 m c t k.isLt) (at_blk7 m c t k.isLt)
  refine layer_congr 64 (fun l hl => ?_) (fun l hl => at_blk3 m c t hl hi) (at_blk4 m c t hi) (at_blk7 m c t hi)
  refine (layer_of_zeros 33 95 _ _ _ _ r l fun q hq hq' => zero_blk1 m c t hq hq' hl).trans ?_
  exact layer_congr 33 (fun q hq => at_blk0 m c t hr hq) (fun q hq => at_blk1 m c t hq hl) (at_blk2 m c t hl) (at_blk7 m c t hl)

/-- The filters of the layer. -/
def result (c : Dev nD) : FVec Ideal S2x8704x1024 .f32 := fun i =>
  spread (filter 33 (at2 (features m c)) (at2 (first m c)) (at1 (bias1 m c)) (at2 (second m c)) (at1 (bias2 m c)) (at2 (third m c))
    (at1 (bias3 m c)) (at1 (frequency m c)) (at2 (last m c)) (at1 (rates m c))) (i 0).val (i 1).val (i 2).val

/-- The rows and gaps of a block are those of the array. -/
theorem spread_of_block (c : Dev nD) (t : Fin cfg0.N) {p r j : ℕ} (hp : p < 2) (hr : r < 1088) (hj : j < 1024) :
    spread (blockFilter (blk0 m c t) (blk1 m c t) (blk2 m c t) (blk3 m c t) (blk4 m c t) (blk5 m c t) (blk6 m c t) (blk7 m c t)
        (blk8 m c t) (blk9 m c t)) p r j
      = spread (filter 33 (at2 (features m c)) (at2 (first m c)) (at1 (bias1 m c)) (at2 (second m c)) (at1 (bias2 m c)) (at2 (third m c))
          (at1 (bias3 m c)) (at1 (frequency m c)) (at2 (last m c)) (at1 (rates m c))) p (1088 * t.val + r) j := by
  have e1 : (1088 * t.val + r) % 136 = r % 136 := by omega
  have e2 : 128 * ((1088 * t.val + r) / 136) = 1024 * t.val + 128 * (r / 136) := by omega
  rw [spread, spread, e1, e2]
  by_cases h : r % 136 < 128
  · rw [if_pos h, if_pos h, filter_of_blocks m c t hp (by omega) hj, Nat.add_assoc]
  · rw [if_neg h, if_neg h]

theorem final10 (c : Dev nD) : (dats m 0 c).arrAt 10 cfg0.N = result m c :=
  (dats m 0 c).arrAt_eq_of_covers 10 _ (by decide +kernel) fun t _ y => by
    obtain ⟨e0, e1, e2, e3, e4, e5, e6, e7, e8, e9, e10, ht⟩ := idx t
    have hy0 : (y 0).val < 2 := (y 0).isLt
    have hy1 : (y 1).val < 1088 := (y 1).isLt
    have hy2 : (y 2).val < 1024 := (y 2).isLt
    blk_simp
    rw [after0_10]
    refine (out10 (blk0 m c t) (blk1 m c t) (blk2 m c t) (blk3 m c t) (blk4 m c t) (blk5 m c t) (blk6 m c t) (blk7 m c t) (blk8 m c t)
      (blk9 m c t) c t y).trans ((spread_of_block m c t hy0 hy1 hy2).trans ?_)
    blk_simp [e10, result]
    rw [Nat.mul_comm 1088]

end Cert.KernelFiltersIdeal.Filters

end
-- ==== Proof.Filters.Reference.lean ====
/- The filters of the long convolution: what their reference computes. -/
module

public import proofs.«01_k».proof.Proof.Gen.ReferenceFiltersIdeal.Read
public import proofs.«01_k».proof.Proof.Filters.Spec
public import Idealize.ShloMosaic.Lib.Pipeline.ValueKit
public import Idealize.ShloMosaic.Lib.KernelVsHost

@[expose] public section

set_option maxRecDepth 16384

noncomputable section

namespace Cert.ReferenceFiltersIdeal.Filters

open Idealize.ShloMosaic Idealize.ShloMosaic.TcCoe Idealize.SL.Sem
open Cert.ReferenceFiltersIdeal Cert.ReferenceFiltersIdeal.Read Cert.Filters Cert.Merge Cert.Project

variable (x0 : FVec Ideal S8192x33 .f32) (x1 : FVec Ideal S33x64 .f32) (x2 : FVec Ideal S64 .f32) (x3 : FVec Ideal S64x64 .f32)
  (x4 : FVec Ideal S64 .f32) (x5 : FVec Ideal S64x64 .f32) (x6 x7 : FVec Ideal S64 .f32) (x8 : FVec Ideal S64x2048 .f32)
  (x9 : FVec Ideal S1024 .f32)

/-- The three layers, one after the other. -/
theorem first_at (r : Fin 8192) (j : Fin 64) : (val_main_v7 (F := Ideal) x0 x1 x2 x7 (ix2 r j) : EReal)
    = layer 33 (at2 x0) (at2 x1) (at1 x2) (at1 x7) r j := by
  rw [layer_at, at1_of_lt x2 j.isLt, at1_of_lt x7 j.isLt]
  simp only [at2_of_lt x0 r.isLt (Fin.isLt _)]
  pointwise [val_main_v7, val_main_v6, val_main_v5, val_main_v4, val_main_v3, val_main_v2, val_main_v1, val_main_v0]

theorem second_at (r : Fin 8192) (j : Fin 64) : (val_main_v15 (F := Ideal) x0 x1 x2 x3 x4 x7 (ix2 r j) : EReal)
    = layer 64 (layer 33 (at2 x0) (at2 x1) (at1 x2) (at1 x7)) (at2 x3) (at1 x4) (at1 x7) r j := by
  rw [layer_at, at1_of_lt x4 j.isLt, at1_of_lt x7 j.isLt]
  simp only [← first_at]
  pointwise [val_main_v15, val_main_v14, val_main_v13, val_main_v12, val_main_v11, val_main_v10, val_main_v9, val_main_v8]

theorem third_at (r : Fin 8192) (j : Fin 64) : (val_main_v23 (F := Ideal) x0 x1 x2 x3 x4 x5 x6 x7 (ix2 r j) : EReal)
    = Filters.hidden 33 (at2 x0) (at2 x1) (at1 x2) (at2 x3) (at1 x4) (at2 x5) (at1 x6) (at1 x7) r j := by
  rw [Filters.hidden, layer_at, at1_of_lt x6 j.isLt, at1_of_lt x7 j.isLt]
  simp only [← second_at]
  pointwise [val_main_v23, val_main_v22, val_main_v21, val_main_v20, val_main_v19, val_main_v18, val_main_v17, val_main_v16]

/-- The product of the hidden rows with the last weights. -/
theorem product_at (r : Fin 8192) (j : Fin 2048) : (val_main_v31 (F := Ideal) x0 x1 x2 x3 x4 x5 x6 x7 x8 (ix2 r j) : EReal)
    = ∑ k : Fin 64, Filters.hidden 33 (at2 x0) (at2 x1) (at1 x2) (at2 x3) (at1 x4) (at2 x5) (at1 x6) (at1 x7) r k * at2 x8 k j := by
  simp only [← third_at, at2_of_lt x8 (Fin.isLt _) j.isLt]
  pointwise [val_main_v31]

/-- The decay. -/
theorem decay_at (r : Fin 8192) (j : Fin 1024) : (val_main_v30 (F := Ideal) x0 x9 (ix2 r j) : EReal)
    = Ideal.exp (-(at2 x0 r 0) * at1 x9 j) := by
  rw [at2_of_lt x0 r.isLt (by omega), at1_of_lt x9 j.isLt]
  pointwise [val_main_v30, val_main_v29, val_main_v28, val_main_v27, val_main_v26, val_main_v25, val_main_v24]

/-- The filters, before they are grouped. -/
theorem filter_at (p : Fin 2) (r : Fin 8192) (j : Fin 1024) : (val_main_v36 (F := Ideal) x0 x1 x2 x3 x4 x5 x6 x7 x8 x9 (ix3 p r j) : EReal)
    = filter 33 (at2 x0) (at2 x1) (at1 x2) (at2 x3) (at1 x4) (at2 x5) (at1 x6) (at1 x7) (at2 x8) (at1 x9) p r j := by
  refine Eq.trans ?_ (congrArg₂ (· * ·) (product_at x0 x1 x2 x3 x4 x5 x6 x7 x8 r (⟨1024 * p.val + j.val, by omega⟩ : Fin 2048))
    (decay_at x0 x9 r j))
  pointwise [val_main_v36, val_main_v35, val_main_v34, val_main_v33, val_main_v32]
  exact congrArg (fun q => val_main_v31 (F := Ideal) x0 x1 x2 x3 x4 x5 x6 x7 x8 (ix2 r q) * val_main_v30 (F := Ideal) x0 x9 (ix2 r j))
    (Fin.ext (by show p.val * 1024 + j.val = 1024 * p.val + j.val; omega))

/-- The value the padding is made of. -/
theorem fill (i : S_.Idx) : (val_main_call0_v0 (F := Ideal) i : EReal) = 0 := by
  pointwise [val_main_call0_v0, val_main_c]
  show (((0#32 : BitVec 32).toInt : ℝ) : EReal) = 0
  simp

/-- The groups of rows, each with a gap after it. -/
theorem group_at (p : Fin 2) (g : Fin 64) (r : Fin 136) (j : Fin 1024) :
    (val_main_v38 (F := Ideal) x0 x1 x2 x3 x4 x5 x6 x7 x8 x9 (ix4 p g r j) : EReal)
    = if r.val < 128 then filter 33 (at2 x0) (at2 x1) (at1 x2) (at2 x3) (at1 x4) (at2 x5) (at1 x6) (at1 x7) (at2 x8) (at1 x9)
        p (128 * g.val + r.val) j else 0 := by
  rw [val_main_v38]
  by_cases h : r.val < 128
  · rw [if_pos h]
    refine (pad_apply_of_inside _ _ _ _ _ _ _ _ (ix4 p g (⟨r.val, h⟩ : Fin 128) j) (fun a => match a with
        | ⟨0, _⟩ => by show p.val = 0 + p.val * 1; omega
        | ⟨1, _⟩ => by show g.val = 0 + g.val * 1; omega
        | ⟨2, _⟩ => by show r.val = 0 + r.val * 1; omega
        | ⟨3, _⟩ => by show j.val = 0 + j.val * 1; omega)).trans ?_
    refine Eq.trans ?_ (filter_at x0 x1 x2 x3 x4 x5 x6 x7 x8 x9 p (⟨128 * g.val + r.val, by omega⟩ : Fin 8192) j)
    pointwise [val_main_v37]
    exact congrArg (fun q => val_main_v36 (F := Ideal) x0 x1 x2 x3 x4 x5 x6 x7 x8 x9 (ix3 p q j))
      (Fin.ext (by show g.val * 128 + r.val = 128 * g.val + r.val; omega))
  · rw [if_neg h]
    refine (pad_apply_of_not_inside _ _ _ _ _ _ _ _ (2 : Fin 4) ?_).trans (fill _)
    intro h'
    have := h'.2.2
    change (r.val - 0) / 1 < 128 at this
    omega

/-- What the reference computes. -/
theorem filters_eq : (val_main_v39 (F := Ideal) x0 x1 x2 x3 x4 x5 x6 x7 x8 x9 : FVec Ideal S2x8704x1024 .f32)
    = fun i => spread (filter 33 (at2 x0) (at2 x1) (at1 x2) (at2 x3) (at1 x4) (at2 x5) (at1 x6) (at1 x7) (at2 x8) (at1 x9))
        (i 0).val (i 1).val (i 2).val := by
  funext i
  have h1 : (i 1).val < 8704 := (i 1).isLt
  refine Eq.trans ?_ (group_at x0 x1 x2 x3 x4 x5 x6 x7 x8 x9 (i 0) (⟨(i 1).val / 136, by omega⟩ : Fin 64)
    (⟨(i 1).val % 136, by omega⟩ : Fin 136) (i 2))
  pointwise [val_main_v39]

end Cert.ReferenceFiltersIdeal.Filters

end
-- ==== Proof.Filters.Claims.lean ====
/- The claims about the filters of the long convolution. -/
module

public import proofs.«01_k».proof.Defs
public import proofs.«01_k».proof.Proof.Gen.KernelFilters.Frame
public import proofs.«01_k».proof.Proof.Gen.KernelFiltersIdeal.Value
public import proofs.«01_k».proof.Proof.Gen.ReferenceFiltersIdeal.Run
public import proofs.«01_k».proof.Proof.Filters.Kernel
public import proofs.«01_k».proof.Proof.Filters.Reference

@[expose] public section

set_option maxRecDepth 16384

noncomputable section

namespace Cert.Filters

open Idealize.ShloMosaic Idealize.ShloMosaic.TcCoe Idealize.SL.Sem

theorem frame : Cert.quiescent_KernelFilters := fun m ρ _ => Cert.KernelFilters.Gen.frame m ρ

theorem frameIdeal : Cert.quiescent_KernelFiltersIdeal := fun m ρ _ => Cert.KernelFiltersIdeal.Gen.frame m ρ

theorem frameReference : Cert.quiescent_ReferenceFiltersIdeal := fun m ρ _ =>
  (θ_run Cert.ReferenceFiltersIdeal.defs _ _).mono
    (fun r h => ⟨fun c => (h c).2, sem_eq_zero_of_no_sems (by decide) r.2⟩)
    (Cert.ReferenceFiltersIdeal.Value.run (F := Ideal) m ρ)

theorem preserves : Cert.preserves_KernelFilters_KernelFiltersIdeal := trivial

/-- Both programs end with the two filters, eight rows of zeros after each 128 lags. -/
theorem algebraic : Cert.algebraic_KernelFiltersIdeal_ReferenceFiltersIdeal := by
  intro m ρ m' ρ' _ hagree
  refine ⟨fun c => Cert.KernelFiltersIdeal.Filters.result m c, ?_, ?_⟩
  · exact (θ_run Cert.KernelFiltersIdeal.defs _ _).mono
      (fun _ h c => ⟨(h c).1.trans (Cert.KernelFiltersIdeal.Filters.final10 m c), (h c).2⟩)
      (Cert.KernelFiltersIdeal.Value.run_blocks (F := Ideal) m ρ)
  · refine (θ_run Cert.ReferenceFiltersIdeal.defs _ _).mono (fun _ h c => ⟨(h c).1.trans ?_, (h c).2⟩)
      (Cert.ReferenceFiltersIdeal.Value.run (F := Ideal) m' ρ')
    obtain ⟨a0, a1, a2, a3, a4, a5, a6, a7, a8, a9⟩ := hagree c
    rw [Cert.ReferenceFiltersIdeal.Read.val_main_v39_eq, a0, a1, a2, a3, a4, a5, a6, a7, a8, a9]
    exact Cert.ReferenceFiltersIdeal.Filters.filters_eq _ _ _ _ _ _ _ _ _ _

end Cert.Filters

end
-- ==== Proof.Norm.Spec.lean ====
/- The normalisation of rows by their root mean square with its gain, scale and shift, free of any program. -/
module

public import proofs.«01_k».proof.Proof.Merge.Spec

@[expose] public section

noncomputable section

namespace Cert.Norm

open Idealize.ShloMosaic

/-- An array of rank three and single precision read at numbers (zero outside it). -/
def cell {a b c : ℕ} (x : FVec Ideal ⟨3, ![a, b, c]⟩ .f32) (i j k : ℕ) : EReal :=
  if h : i < a ∧ j < b ∧ k < c then x (ix3 ⟨i, h.1⟩ ⟨j, h.2.1⟩ ⟨k, h.2.2⟩) else 0

theorem cell_of_lt {a b c : ℕ} (x : FVec Ideal ⟨3, ![a, b, c]⟩ .f32) {i j k : ℕ} (hi : i < a) (hj : j < b) (hk : k < c) :
    cell x i j k = x (ix3 ⟨i, hi⟩ ⟨j, hj⟩ ⟨k, hk⟩) := by
  rw [cell, dif_pos ⟨hi, hj, hk⟩]

variable (X : ℕ → EReal) (g s h : EReal)

/-- The mean of a row's squares, and the small number that keeps its root away from zero. -/
def power : EReal :=
  Ideal.div (∑ j : Fin 4096, X j * X j) (Ideal.ofBits .f32 1166016512#32) + Ideal.ofBits .f32 897988541#32

/-- A row normalised, at one place, with that place's gain, scale and shift. -/
def normed (k : ℕ) : EReal := X k * Ideal.rsqrt (power X) * g * (1 + s) + h

/-- The rows of an array of batches, each batch with its own scale and shift. -/
def rows (X : ℕ → ℕ → ℕ → EReal) (G : ℕ → EReal) (S H : ℕ → ℕ → EReal) (b p k : ℕ) : EReal :=
  normed (X b p) (G k) (S b k) (H b k) k

theorem power_congr {X Y : ℕ → EReal} (e : ∀ j, j < 4096 → X j = Y j) : power X = power Y :=
  congrArg (fun z => Ideal.div z _ + _) (Finset.sum_congr rfl fun j _ => by rw [e j j.isLt])

theorem normed_congr {X Y : ℕ → EReal} (e : ∀ j, j < 4096 → X j = Y j) {g g' s s' h h' : EReal} (eg : g = g') (es : s = s')
    (eh : h = h') {k : ℕ} (hk : k < 4096) : normed X g s h k = normed Y g' s' h' k := by
  rw [normed, normed, power_congr e, e k hk, eg, es, eh]

end Cert.Norm

end
-- ==== Proof.Norm.Planes.lean ====
/- Rows laid out lane chunk by lane chunk in a scratch array, and read back from it every fourth or sixteenth row. -/
module

public import proofs.«01_k».proof.Proof.Gen.KernelNormIdeal.Value
public import proofs.«01_k».proof.Proof.Norm.Spec
public import proofs.«01_k».proof.Proof.Stores
public import Idealize.ShloMosaic.Lib.Pipeline.ValueKit
public import Idealize.ShloMosaic.Lib.KernelVsHost

@[expose] public section

set_option maxRecDepth 16384

noncomputable section

namespace Cert.KernelNormIdeal.Norm

open Idealize.ShloMosaic Idealize.ShloMosaic.TcCoe Idealize.SL.Sem
open Cert.KernelNormIdeal Cert.KernelNormIdeal.Gen Cert.Project Cert.Stores

/-- What the scratch array holds of an array of rows: its lanes in chunks. -/
def lanes (N : ℕ → ℕ → EReal) : S32x256x128.Idx → Elt Ideal .f32 := fun y => N (y 1).val (128 * (y 0).val + (y 2).val)

/-- An array of rows in the order of its streams: stream, place, lane. -/
def streamed (dil n : ℕ) (N : ℕ → ℕ → EReal) : (⟨4, ![1, dil, n, 4096]⟩ : Shape).Idx → Elt Ideal .bf16 := fun y =>
  N ((y 1).val + dil * (y 2).val) (y 3).val

/-- One store of a chunk of lanes. -/
theorem chunk (R : FVec Ideal S256x4096 .f32) (c k : ℕ) (hk : k = 128 * c) (hc : c < 32)
    (inb : ∀ a : Fin 3, (![c, 0, 0] : Fin 3 → ℕ) a + (![1, 256, 128] : Fin 3 → ℕ) a ≤ S32x256x128.size a)
    (hs : S256x4096.Slices ![0, k] S256x128) (ho : S256x128.ShapeCasts S1x256x128) (x : S1x256x128.Idx) :
    (shapeCast S1x256x128 (extractStridedSlice S256x128 ![0, k] R hs) ho x : EReal)
      = lanes (at2 R) ((Rect.unit (s := S32x256x128) ![c, 0, 0] ![1, 256, 128] inb).emb x) := by
  subst hk
  have h0 : (x 0).val < 1 := (x 0).isLt
  have h1 : (x 1).val < 256 := (x 1).isLt
  have h2 : (x 2).val < 128 := (x 2).isLt
  have e0 : (Rect.emb (Rect.unit (s := S32x256x128) ![c, 0, 0] ![1, 256, 128] inb) x 0).val = c := by
    show c + 1 * (x 0).val = c
    omega
  have e1 : (Rect.emb (Rect.unit (s := S32x256x128) ![c, 0, 0] ![1, 256, 128] inb) x 1).val = (x 1).val := by
    show 0 + 1 * (x 1).val = _
    omega
  have e2 : (Rect.emb (Rect.unit (s := S32x256x128) ![c, 0, 0] ![1, 256, 128] inb) x 2).val = (x 2).val := by
    show 0 + 1 * (x 2).val = _
    omega
  unfold lanes
  rw [e0, e1, e2, at2_of_lt R h1 (by omega)]
  rw [shapeCast_apply _ ho x (ix2 ⟨(x 1).val, h1⟩ ⟨(x 2).val, h2⟩) (by
      rw [Shape.rowMajor_val_two, Shape.rowMajor_val_three]
      show (x 1).val * 128 + (x 2).val = ((x 0).val * 256 + (x 1).val) * 128 + (x 2).val
      omega)]
  refine congrArg R (funext fun a => Fin.ext ?_)
  match a with
  | ⟨0, _⟩ => show 0 + (x 1).val = (x 1).val; omega
  | ⟨1, _⟩ => rfl

/-- One store of a stream's chunk of lanes. -/
theorem strip_of {dil n : ℕ} {N : ℕ → ℕ → EReal} (Q : (⟨3, ![1, n, 128]⟩ : Shape).Idx → EReal) (c r k : ℕ) (hk : k = 128 * c)
    (hQ : ∀ (p : Fin n) (l : Fin 128), Q (ix3 0 p l) = N (r + dil * p.val) (128 * c + l.val))
    (inb : ∀ a : Fin 4, (![0, r, 0, k] : Fin 4 → ℕ) a + (![1, 1, n, 128] : Fin 4 → ℕ) a ≤ (![1, dil, n, 4096] : Fin 4 → ℕ) a)
    (hi : (⟨3, ![1, n, 128]⟩ : Shape).ShapeCasts ⟨2, ![n, 128]⟩) (ho : (⟨2, ![n, 128]⟩ : Shape).ShapeCasts ⟨4, ![1, 1, n, 128]⟩)
    (x : (⟨4, ![1, 1, n, 128]⟩ : Shape).Idx) :
    shapeCast ⟨4, ![1, 1, n, 128]⟩ (shapeCast ⟨2, ![n, 128]⟩ Q hi) ho x
      = streamed dil n N ((Rect.unit (s := ⟨4, ![1, dil, n, 4096]⟩) ![0, r, 0, k] ![1, 1, n, 128] inb).emb x) := by
  subst hk
  have h0 : (x 0).val < 1 := (x 0).isLt
  have h0' : (x 1).val < 1 := (x 1).isLt
  have h1 : (x 2).val < n := (x 2).isLt
  have h2 : (x 3).val < 128 := (x 3).isLt
  have e1 : (Rect.emb (Rect.unit (s := ⟨4, ![1, dil, n, 4096]⟩) ![0, r, 0, 128 * c] ![1, 1, n, 128] inb) x 1).val = r := by
    show r + 1 * (x 1).val = r
    omega
  have e2 : (Rect.emb (Rect.unit (s := ⟨4, ![1, dil, n, 4096]⟩) ![0, r, 0, 128 * c] ![1, 1, n, 128] inb) x 2).val = (x 2).val := by
    show 0 + 1 * (x 2).val = _
    omega
  have e3 : (Rect.emb (Rect.unit (s := ⟨4, ![1, dil, n, 4096]⟩) ![0, r, 0, 128 * c] ![1, 1, n, 128] inb) x 3).val
      = 128 * c + (x 3).val := by
    show 128 * c + 1 * (x 3).val = _
    omega
  unfold streamed
  rw [e1, e2, e3]
  rw [shapeCast_apply _ ho x (ix2 ⟨(x 2).val, h1⟩ ⟨(x 3).val, h2⟩) (by
      rw [Shape.rowMajor_val_two, Shape.rowMajor_val_four]
      show (x 2).val * 128 + (x 3).val = (((x 0).val * 1 + (x 1).val) * n + (x 2).val) * 128 + (x 3).val
      rw [show (x 0).val = 0 by omega, show (x 1).val = 0 by omega]
      omega),
    shapeCast_apply _ hi _ (ix3 0 ⟨(x 2).val, h1⟩ ⟨(x 3).val, h2⟩) (by
      rw [Shape.rowMajor_val_two, Shape.rowMajor_val_three]
      show (0 * n + (x 2).val) * 128 + (x 3).val = (x 2).val * 128 + (x 3).val
      omega)]
  exact hQ _ _

/-- One store of a stream's chunk of lanes, read back from the scratch array. -/
theorem strip {κ : Kind} {sp : Space} (v : View sig κ sp S32x256x128 .f32) {dil n : ℕ} {N : ℕ → ℕ → EReal}
    {L : List (View.Piece (Elt Ideal) S32x256x128 .f32)}
    (hL : ∀ (B : LoadRect S32x256x128) (x : B.shape.Idx), v.readCov L B x = lanes N (B.idx x)) (r k : ℕ) (hk : k = 128 * (k / 128))
    (inb : ∀ a : Fin 4, (![0, r, 0, k] : Fin 4 → ℕ) a + (![1, 1, n, 128] : Fin 4 → ℕ) a ≤ (![1, dil, n, 4096] : Fin 4 → ℕ) a)
    (inb' : ∀ a : Fin 3, (![1, n, 128] : Fin 3 → ℕ) a = 0
      ∨ (![k / 128, r, 0] : Fin 3 → ℕ) a + (![1, dil, 1] : Fin 3 → ℕ) a * ((![1, n, 128] : Fin 3 → ℕ) a - 1) < S32x256x128.size a)
    (hi : (⟨3, ![1, n, 128]⟩ : Shape).ShapeCasts ⟨2, ![n, 128]⟩) (ho : (⟨2, ![n, 128]⟩ : Shape).ShapeCasts ⟨4, ![1, 1, n, 128]⟩)
    (x : (⟨4, ![1, 1, n, 128]⟩ : Shape).Idx) :
    (shapeCast ⟨4, ![1, 1, n, 128]⟩ (truncf (F := Ideal) (φ := .f32) .bf16 (shapeCast ⟨2, ![n, 128]⟩
        (v.readCov L ⟨![k / 128, r, 0], ![1, n, 128], ![1, dil, 1], inb'⟩) hi) bitsLt_bf16_f32) ho x : EReal)
      = streamed dil n N ((Rect.unit (s := ⟨4, ![1, dil, n, 4096]⟩) ![0, r, 0, k] ![1, 1, n, 128] inb).emb x) :=
  strip_of (v.readCov L ⟨![k / 128, r, 0], ![1, n, 128], ![1, dil, 1], inb'⟩) (k / 128) r k hk (fun p l => by
    rw [hL]
    refine congrArg₂ N rfl ?_
    show 128 * (k / 128 + 1 * 0) + (0 + 1 * l.val) = 128 * (k / 128) + l.val
    omega) inb hi ho x

end Cert.KernelNormIdeal.Norm

end
-- ==== Proof.Norm.Block.lean ====
/- The first norm with its modulation: what one grid point computes of its blocks. -/
module

public import proofs.«01_k».proof.Proof.Norm.Planes

@[expose] public section

set_option maxRecDepth 16384

noncomputable section

namespace Cert.KernelNormIdeal.Norm

open Idealize.ShloMosaic Idealize.ShloMosaic.TcCoe Idealize.SL.Sem
open Cert.KernelNormIdeal Cert.KernelNormIdeal.Gen Cert.Project Cert.Norm Cert.Stores

variable (x0 : FVec Ideal S1x256x4096 .f32) (x1 : FVec Ideal S1x4096 .f32) (x2 x3 : FVec Ideal S1x1x4096 .f32)

/-- A row of the block, normalised and modulated. -/
theorem normed_at {r k : ℕ} (hr : r < 256) (hk : k < 4096) : at2 (k0_pay1 (F := Ideal) x0 x1 x2 x3) r k
    = normed (cell x0 0 r) (at2 x1 0 k) (cell x2 0 0 k) (cell x3 0 0 k) k := by
  rw [at2_of_lt _ hr hk]
  pointwise [k0_pay1]
  rw [normed, power, cell_of_lt x0 (show 0 < 1 by omega) hr hk, at2_of_lt x1 (show 0 < 1 by omega) hk,
    cell_of_lt x2 (show 0 < 1 by omega) (show 0 < 1 by omega) hk, cell_of_lt x3 (show 0 < 1 by omega) (show 0 < 1 by omega) hk]
  simp only [fun j : Fin 4096 => cell_of_lt x0 (show 0 < 1 by omega) hr j.isLt]
  rfl

section Scratch
variable (c : Dev nD) (arg2 : Memref sig .tc .vmem S1x256x4096 .f32) (harg2 : arg2.IsWhole)
  (arg3 : Memref sig .tc .vmem S1x4096 .f32) (harg3 : arg3.IsWhole) (arg4 : Memref sig .tc .vmem S1x1x4096 .f32)
  (harg4 : arg4.IsWhole) (arg5 : Memref sig .tc .vmem S1x1x4096 .f32) (harg5 : arg5.IsWhole)

/-- The normalised rows, of the four blocks as they are loaded. -/
abbrev loaded : FVec Ideal S256x4096 .f32 :=
  k0_pay1 (F := Ideal)
    (arg2.view.readAt (Elt Ideal) (Rect.unit (s := S1x256x4096) ![0, 0, 0] S1x256x4096.size inb_S1x256x4096_S1x256x4096_0_0_0).toLoadRect (harg2.unread x0))
    (arg3.view.readAt (Elt Ideal) (Rect.unit (s := S1x4096) ![0, 0] S1x4096.size inb_S1x4096_S1x4096_0_0).toLoadRect (harg3.unread x1))
    (arg4.view.readAt (Elt Ideal) (Rect.unit (s := S1x1x4096) ![0, 0, 0] S1x1x4096.size inb_S1x1x4096_S1x1x4096_0_0_0).toLoadRect (harg4.unread x2))
    (arg5.view.readAt (Elt Ideal) (Rect.unit (s := S1x1x4096) ![0, 0, 0] S1x1x4096.size inb_S1x1x4096_S1x1x4096_0_0_0).toLoadRect (harg5.unread x3))

theorem loaded_eq : loaded x0 x1 x2 x3 arg2 harg2 arg3 harg3 arg4 harg4 arg5 harg5 = k0_pay1 (F := Ideal) x0 x1 x2 x3 := by
  simp (discharger := decide) only [loaded, View.readAt_eq_ld, Memref.IsWhole.read_unread, View.ld_unit_lit']

set_option maxHeartbeats 4000000 in
/-- The scratch array is written with the normalised rows. -/
theorem agree : Agree (lanes (at2 (loaded x0 x1 x2 x3 arg2 harg2 arg3 harg3 arg4 harg4 arg5 harg5)))
    (kernelRun0_A.sl.HS0_32 (F := Ideal) c arg2 harg2 arg3 harg3 arg4 harg4 arg5 harg5 x0 x1 x2 x3) := by
  unfold kernelRun0_A.sl.HS0_32
  repeat' apply Agree.cons
  on_goal 33 => exact Agree.nil _
  all_goals intro x; refine chunk (loaded x0 x1 x2 x3 arg2 harg2 arg3 harg3 arg4 harg4 arg5 harg5) _ _ ?_ ?_ _ ?_ _ x
  all_goals first | rfl | decide

/-- What is read back from the scratch array. -/
theorem held {κ : Kind} {sp : Space} (v : View sig κ sp S32x256x128 .f32) (B : LoadRect S32x256x128) (x : B.shape.Idx) :
    v.readCov (kernelRun0_A.sl.HS0_32 (F := Ideal) c arg2 harg2 arg3 harg3 arg4 harg4 arg5 harg5 x0 x1 x2 x3) B x
      = lanes (at2 (k0_pay1 (F := Ideal) x0 x1 x2 x3)) (B.idx x) := by
  rw [View.readCov_eq_canon', ← loaded_eq x0 x1 x2 x3 arg2 harg2 arg3 harg3 arg4 harg4 arg5 harg5]
  exact View.canon_apply_of_pieces _ _ (agree x0 x1 x2 x3 c arg2 harg2 arg3 harg3 arg4 harg4 arg5 harg5) _
    (View.cover_of_tiledL (kernelRun0_A.sl.HS0_32 (F := Ideal) c arg2 harg2 arg3 harg3 arg4 harg4 arg5 harg5 x0 x1 x2 x3) ![1, 256, 128]
      (by sl_kernel_rfl) _)

end Scratch

theorem out4 (c : Dev nD) (t : Fin cfg0.N) (y : S1x256x4096.Idx) :
    (out0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) x0 x1 x2 x3 y : EReal)
      = at2 (k0_pay1 (F := Ideal) x0 x1 x2 x3) (y 1).val (y 2).val := by
  have h1 : (y 1).val < 256 := (y 1).isLt
  have h2 : (y 2).val < 4096 := (y 2).isLt
  frame_out
  rw [at2_of_lt _ h1 h2]
  pointwise [k0_pay2]

end Cert.KernelNormIdeal.Norm

end
-- ==== Proof.Norm.Four.lean ====
/- The first norm with its modulation: the result of a grid point in the order of the four streams. -/
module

public import proofs.«01_k».proof.Proof.Norm.Block

@[expose] public section

set_option maxRecDepth 16384

noncomputable section

namespace Cert.KernelNormIdeal.Norm

open Idealize.ShloMosaic Idealize.ShloMosaic.TcCoe Idealize.SL.Sem
open Cert.KernelNormIdeal Cert.KernelNormIdeal.Gen Cert.Project Cert.Norm Cert.Stores

variable (x0 : FVec Ideal S1x256x4096 .f32) (x1 : FVec Ideal S1x4096 .f32) (x2 x3 : FVec Ideal S1x1x4096 .f32)

set_option maxHeartbeats 16000000 in
theorem out5 (c : Dev nD) (t : Fin cfg0.N) (y : S1x4x64x4096.Idx) :
    (out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) x0 x1 x2 x3 y : EReal)
      = streamed 4 64 (at2 (k0_pay1 (F := Ideal) x0 x1 x2 x3)) y := by
  unfold out0_A_5
  rw [View.read_writes_junk_eq_canon]
  refine View.canon_apply_of_pieces (Val := Elt Ideal) (e := .bf16) (streamed 4 64 (at2 (k0_pay1 (F := Ideal) x0 x1 x2 x3))) _ ?_ y (cover0_A_5 _ _ _ _ _ _ _ _ _ _ _ _ _ _ _ _ _ _ _ _ _ _ y)
  have hG := held x0 x1 x2 x3 c (ms0_0 t) (hs0_0 t) (ms0_1 t) (hs0_1 t) (ms0_2 t) (hs0_2 t) (ms0_3 t) (hs0_3 t) scM0_0.view
  show Agree _ _
  unfold kernelRun0_A
  dsimp only
  repeat' apply Agree.cons
  on_goal 129 => exact Agree.nil _
  all_goals intro x; refine Eq.trans ?_ (strip (dil := 4) (n := 64) scM0_0.view hG _ _ ?_ _ ?_
    shapeCasts_S1x64x128_S64x128 shapeCasts_S64x128_S1x1x64x128 x)
  all_goals first | rfl | decide

end Cert.KernelNormIdeal.Norm

end
-- ==== Proof.Norm.Sixteen.lean ====
/- The first norm with its modulation: the result of a grid point in the order of the sixteen streams. -/
module

public import proofs.«01_k».proof.Proof.Norm.Block

@[expose] public section

set_option maxRecDepth 16384

noncomputable section

namespace Cert.KernelNormIdeal.Norm

open Idealize.ShloMosaic Idealize.ShloMosaic.TcCoe Idealize.SL.Sem
open Cert.KernelNormIdeal Cert.KernelNormIdeal.Gen Cert.Project Cert.Norm Cert.Stores

variable (x0 : FVec Ideal S1x256x4096 .f32) (x1 : FVec Ideal S1x4096 .f32) (x2 x3 : FVec Ideal S1x1x4096 .f32)

set_option maxHeartbeats 200000000 in
theorem out6 (c : Dev nD) (t : Fin cfg0.N) (y : S1x16x16x4096.Idx) :
    (out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) x0 x1 x2 x3 y : EReal)
      = streamed 16 16 (at2 (k0_pay1 (F := Ideal) x0 x1 x2 x3)) y := by
  unfold out0_A_6
  rw [View.read_writes_junk_eq_canon]
  refine View.canon_apply_of_pieces (Val := Elt Ideal) (e := .bf16) (streamed 16 16 (at2 (k0_pay1 (F := Ideal) x0 x1 x2 x3))) _ ?_ y (cover0_A_6 _ _ _ _ _ _ _ _ _ _ _ _ _ _ _ _ _ _ _ _ _ _ y)
  have hG := held x0 x1 x2 x3 c (ms0_0 t) (hs0_0 t) (ms0_1 t) (hs0_1 t) (ms0_2 t) (hs0_2 t) (ms0_3 t) (hs0_3 t) scM0_0.view
  show Agree _ _
  unfold kernelRun0_A
  dsimp only
  repeat' apply Agree.cons
  on_goal 513 => exact Agree.nil _
  all_goals intro x; refine Eq.trans ?_ (strip (dil := 16) (n := 16) scM0_0.view hG _ _ ?_ _ ?_
    shapeCasts_S1x16x128_S16x128 shapeCasts_S16x128_S1x1x16x128 x)
  all_goals first | rfl | decide

end Cert.KernelNormIdeal.Norm

end
-- ==== Proof.Norm.Kernel.lean ====
/- The first norm with its modulation: what its kernel computes. -/
module

public import proofs.«01_k».proof.Proof.Norm.Four
public import proofs.«01_k».proof.Proof.Norm.Sixteen

@[expose] public section

set_option maxRecDepth 16384

noncomputable section

namespace Cert.KernelNormIdeal.Norm

open Idealize.ShloMosaic Idealize.ShloMosaic.TcCoe Idealize.SL.Sem
open Idealize.ShloMosaic.Pipeline (Dat)
open Cert.KernelNormIdeal Cert.KernelNormIdeal.Gen Cert.Project Cert.Merge Cert.Norm

variable (m : (ℓ : Loc nD τ sig) → Buf (Elt Ideal) ℓ)

/-- The arguments as the kernel takes them. -/
abbrev tokens (c : Dev nD) : FVec Ideal S2x8192x4096 .f32 := m ((c : Thread nD τ).loc main_arg0)
abbrev gain (c : Dev nD) : FVec Ideal S4096 .f32 := m ((c : Thread nD τ).loc main_arg1)
abbrev scale (c : Dev nD) : FVec Ideal S2x4096 .f32 := m ((c : Thread nD τ).loc main_arg2)
abbrev shift (c : Dev nD) : FVec Ideal S2x4096 .f32 := m ((c : Thread nD τ).loc main_arg3)

/-- Which blocks a grid point reads and writes. -/
theorem idx : ∀ t : Fin cfg0.N,
    win0_0.index t = ![(grid0.coords t 0).val, (grid0.coords t 1).val, 0]
    ∧ win0_1.index t = ![0, 0]
    ∧ win0_2.index t = ![(grid0.coords t 0).val, 0, 0]
    ∧ win0_3.index t = ![(grid0.coords t 0).val, 0, 0]
    ∧ win0_4.index t = ![(grid0.coords t 0).val, (grid0.coords t 1).val, 0]
    ∧ win0_5.index t = ![(grid0.coords t 0).val, 0, (grid0.coords t 1).val, 0]
    ∧ win0_6.index t = ![(grid0.coords t 0).val, 0, (grid0.coords t 1).val, 0]
    ∧ (grid0.coords t 0).val < 2 ∧ (grid0.coords t 1).val < 32 :=
  (by decide +kernel : ∀ t : Fin grid0.N, _)

/-- The blocks a grid point reads. -/
abbrev blk0 (c : Dev nD) (t : Fin cfg0.N) : FVec Ideal S1x256x4096 .f32 := iblk m c 0 t
abbrev blk1 (c : Dev nD) (t : Fin cfg0.N) : FVec Ideal S1x4096 .f32 := iblk m c 1 t
abbrev blk2 (c : Dev nD) (t : Fin cfg0.N) : FVec Ideal S1x1x4096 .f32 := iblk m c 2 t
abbrev blk3 (c : Dev nD) (t : Fin cfg0.N) : FVec Ideal S1x1x4096 .f32 := iblk m c 3 t

theorem at_blk0 (c : Dev nD) (t : Fin cfg0.N) {r l : ℕ} (hr : r < 256) (hl : l < 4096) :
    cell (blk0 m c t) 0 r l = cell (tokens m c) (grid0.coords t 0).val (256 * (grid0.coords t 1).val + r) l := by
  obtain ⟨e0, -, -, -, -, -, -, h0, h1⟩ := idx t
  rw [cell_of_lt _ (by omega) hr hl, cell_of_lt _ h0 (by omega) hl]
  refine (congrFun (V_main_arg0 m c) _).trans (congrArg _ (funext fun a => Fin.ext ?_))
  fin_cases a <;> blk_simp [e0] <;> first | rfl | exact congrArg (· + r) (Nat.mul_comm _ _)

/-- The gain arrives as one row. -/
theorem row_gain (c : Dev nD) : (V m c main_v0 : FVec Ideal S1x4096 .f32) = fun i : S1x4096.Idx => gain m c (ix1 (i 1)) := by
  have e : (V m c main_v0 : FVec Ideal S1x4096 .f32) = broadcastInDim S1x4096 ![1] bcast_S4096_S1x4096_1 (gain m c) := rfl
  rw [e]
  exact funext fun i => broadcastInDim_apply _ _ _ _ _ (fun a => by fin_cases a; rfl)

/-- The scale and the shift arrive as one row for each batch. -/
theorem rows_scale (c : Dev nD) : (V m c main_v1 : FVec Ideal S2x1x4096 .f32)
    = fun i : S2x1x4096.Idx => scale m c (ix2 (i 0) (i 2)) := by
  have e : (V m c main_v1 : FVec Ideal S2x1x4096 .f32)
      = broadcastInDim S2x1x4096 ![0, 2] bcast_S2x4096_S2x1x4096_0_2 (scale m c) := rfl
  rw [e]
  exact funext fun i => broadcastInDim_apply _ _ _ _ _ (fun a => by fin_cases a <;> rfl)

theorem rows_shift (c : Dev nD) : (V m c main_v2 : FVec Ideal S2x1x4096 .f32)
    = fun i : S2x1x4096.Idx => shift m c (ix2 (i 0) (i 2)) := by
  have e : (V m c main_v2 : FVec Ideal S2x1x4096 .f32)
      = broadcastInDim S2x1x4096 ![0, 2] bcast_S2x4096_S2x1x4096_0_2 (shift m c) := rfl
  rw [e]
  exact funext fun i => broadcastInDim_apply _ _ _ _ _ (fun a => by fin_cases a <;> rfl)

theorem at_blk1 (c : Dev nD) (t : Fin cfg0.N) {l : ℕ} (hl : l < 4096) : at2 (blk1 m c t) 0 l = at1 (gain m c) l := by
  obtain ⟨-, e1, -⟩ := idx t
  rw [at2_of_lt _ (by omega) hl, at1_of_lt _ hl]
  refine (congrFun (row_gain m c) _).trans (congrArg _ (funext fun a => Fin.ext ?_))
  fin_cases a
  change ((win0_1.blk t).view.emb (ix2 0 ⟨l, hl⟩) 1).val = l
  blk_simp [e1]

theorem at_blk2 (c : Dev nD) (t : Fin cfg0.N) {l : ℕ} (hl : l < 4096) :
    cell (blk2 m c t) 0 0 l = at2 (scale m c) (grid0.coords t 0).val l := by
  obtain ⟨-, -, e2, -, -, -, -, h0, h1⟩ := idx t
  rw [cell_of_lt _ (by omega) (by omega) hl, at2_of_lt _ h0 hl]
  refine (congrFun (rows_scale m c) _).trans (congrArg _ (funext fun a => Fin.ext ?_))
  fin_cases a
  · change ((win0_2.blk t).view.emb (ix3 0 0 ⟨l, hl⟩) 0).val = _
    blk_simp [e2]
    rfl
  · change ((win0_2.blk t).view.emb (ix3 0 0 ⟨l, hl⟩) 2).val = _
    blk_simp [e2]
    rfl

theorem at_blk3 (c : Dev nD) (t : Fin cfg0.N) {l : ℕ} (hl : l < 4096) :
    cell (blk3 m c t) 0 0 l = at2 (shift m c) (grid0.coords t 0).val l := by
  obtain ⟨-, -, -, e3, -, -, -, h0, h1⟩ := idx t
  rw [cell_of_lt _ (by omega) (by omega) hl, at2_of_lt _ h0 hl]
  refine (congrFun (rows_shift m c) _).trans (congrArg _ (funext fun a => Fin.ext ?_))
  fin_cases a
  · change ((win0_3.blk t).view.emb (ix3 0 0 ⟨l, hl⟩) 0).val = _
    blk_simp [e3]
    rfl
  · change ((win0_3.blk t).view.emb (ix3 0 0 ⟨l, hl⟩) 2).val = _
    blk_simp [e3]
    rfl

/-- The rows of the arrays, normalised and modulated. -/
abbrev result (c : Dev nD) : ℕ → ℕ → ℕ → EReal :=
  rows (cell (tokens m c)) (at1 (gain m c)) (at2 (scale m c)) (at2 (shift m c))

/-- The rows of a grid point's block are those of the arrays. -/
theorem rows_of_block (c : Dev nD) (t : Fin cfg0.N) {r k : ℕ} (hr : r < 256) (hk : k < 4096) :
    at2 (k0_pay1 (F := Ideal) (blk0 m c t) (blk1 m c t) (blk2 m c t) (blk3 m c t)) r k
      = result m c (grid0.coords t 0).val (256 * (grid0.coords t 1).val + r) k := by
  rw [normed_at _ _ _ _ hr hk]
  exact normed_congr (fun j hj => at_blk0 m c t hr hj) (at_blk1 m c t hk) (at_blk2 m c t hk) (at_blk3 m c t hk) hk

/-- The three arrays the kernel leaves. -/
def natural (c : Dev nD) : FVec Ideal S2x8192x4096 .bf16 := fun i => result m c (i 0).val (i 1).val (i 2).val

def four (c : Dev nD) : FVec Ideal S2x4x2048x4096 .bf16 := fun i =>
  result m c (i 0).val ((i 1).val + 4 * (i 2).val) (i 3).val

def sixteen (c : Dev nD) : FVec Ideal S2x16x512x4096 .bf16 := fun i =>
  result m c (i 0).val ((i 1).val + 16 * (i 2).val) (i 3).val

theorem natural_of_block (c : Dev nD) (t : Fin cfg0.N) (y : S1x256x4096.Idx) : ((outsAt0 m c t).1 y : EReal)
    = result m c (grid0.coords t 0).val (256 * (grid0.coords t 1).val + (y 1).val) (y 2).val := by
  unfold outsAt0
  dsimp only
  rw [out4 (blk0 m c t) (blk1 m c t) (blk2 m c t) (blk3 m c t) c t y]
  exact rows_of_block m c t (y 1).isLt (y 2).isLt

theorem final4 (c : Dev nD) : (dats m 0 c).arrAt 4 cfg0.N = natural m c :=
  (dats m 0 c).arrAt_eq_of_covers 4 _ (by decide +kernel) fun t _ y => by
    obtain ⟨e0, e1, e2, e3, e4, e5, e6, h0, h1⟩ := idx t
    have hy0 : (y 0).val = 0 := by have := (y 0).isLt; change (y 0).val < 1 at this; omega
    blk_simp
    rw [after0_4]
    refine (natural_of_block m c t y).trans ?_
    blk_simp [e4, natural]
    rw [Nat.mul_comm 256]

theorem four_of_block (c : Dev nD) (t : Fin cfg0.N) (y : S1x4x64x4096.Idx) : ((outsAt0 m c t).2.1 y : EReal)
    = result m c (grid0.coords t 0).val (256 * (grid0.coords t 1).val + ((y 1).val + 4 * (y 2).val)) (y 3).val := by
  have h1 : (y 1).val < 4 := (y 1).isLt
  have h2 : (y 2).val < 64 := (y 2).isLt
  unfold outsAt0
  dsimp only
  rw [out5 (blk0 m c t) (blk1 m c t) (blk2 m c t) (blk3 m c t) c t y]
  exact rows_of_block m c t (show (y 1).val + 4 * (y 2).val < 256 by omega) (y 3).isLt

theorem final5 (c : Dev nD) : (dats m 0 c).arrAt 5 cfg0.N = four m c :=
  (dats m 0 c).arrAt_eq_of_covers 5 _ (by decide +kernel) fun t _ y => by
    obtain ⟨e0, e1, e2, e3, e4, e5, e6, h0, h1⟩ := idx t
    have hy0 : (y 0).val = 0 := by have := (y 0).isLt; change (y 0).val < 1 at this; omega
    blk_simp
    rw [after0_5]
    refine (four_of_block m c t y).trans ?_
    blk_simp [e5, four]
    exact congrArg (fun p => result m c _ p _) (by omega)

theorem sixteen_of_block (c : Dev nD) (t : Fin cfg0.N) (y : S1x16x16x4096.Idx) : ((outsAt0 m c t).2.2 y : EReal)
    = result m c (grid0.coords t 0).val (256 * (grid0.coords t 1).val + ((y 1).val + 16 * (y 2).val)) (y 3).val := by
  have h1 : (y 1).val < 16 := (y 1).isLt
  have h2 : (y 2).val < 16 := (y 2).isLt
  unfold outsAt0
  dsimp only
  rw [out6 (blk0 m c t) (blk1 m c t) (blk2 m c t) (blk3 m c t) c t y]
  exact rows_of_block m c t (show (y 1).val + 16 * (y 2).val < 256 by omega) (y 3).isLt

theorem final6 (c : Dev nD) : (dats m 0 c).arrAt 6 cfg0.N = sixteen m c :=
  (dats m 0 c).arrAt_eq_of_covers 6 _ (by decide +kernel) fun t _ y => by
    obtain ⟨e0, e1, e2, e3, e4, e5, e6, h0, h1⟩ := idx t
    have hy0 : (y 0).val = 0 := by have := (y 0).isLt; change (y 0).val < 1 at this; omega
    blk_simp
    rw [after0_6]
    refine (sixteen_of_block m c t y).trans ?_
    blk_simp [e6, sixteen]
    exact congrArg (fun p => result m c _ p _) (by omega)

end Cert.KernelNormIdeal.Norm

end
-- ==== Proof.Norm.Reference.lean ====
/- The first norm with its modulation: what its reference computes. -/
module

public import proofs.«01_k».proof.Proof.Gen.ReferenceNormIdeal.Read
public import proofs.«01_k».proof.Proof.Norm.Spec
public import Idealize.ShloMosaic.Lib.Pipeline.ValueKit
public import Idealize.ShloMosaic.Lib.KernelVsHost

@[expose] public section

set_option maxRecDepth 16384

noncomputable section

namespace Cert.ReferenceNormIdeal.Norm

open Idealize.ShloMosaic Idealize.ShloMosaic.TcCoe Idealize.SL.Sem
open Cert.ReferenceNormIdeal Cert.ReferenceNormIdeal.Read Cert.Norm Cert.Merge Cert.Project

variable (x0 : FVec Ideal S2x8192x4096 .f32) (x1 : FVec Ideal S4096 .f32) (x2 x3 : FVec Ideal S2x4096 .f32)

/-- The normalised rows in the order of tokens. -/
theorem rows_at (b : Fin 2) (p : Fin 8192) (k : Fin 4096) : (val_main_v21 (F := Ideal) x0 x1 x2 x3 (ix3 b p k) : EReal)
    = rows (cell x0) (at1 x1) (at2 x2) (at2 x3) b p k := by
  pointwise [val_main_v21, val_main_v20, val_main_v19, val_main_v18, val_main_v17, val_main_v16, val_main_v15, val_main_v14,
    val_main_cst_2, val_main_v13, val_main_v12, val_main_v11, val_main_v10, val_main_v9, val_main_v8, val_main_v7, val_main_v6,
    val_main_v5, val_main_cst_1, val_main_v4, val_main_v3, val_main_cst_0, val_main_v2, val_main_v1, val_main_cst, val_main_v0]
  rw [rows, normed, power, cell_of_lt x0 b.isLt p.isLt k.isLt, at1_of_lt x1 k.isLt, at2_of_lt x2 b.isLt k.isLt,
    at2_of_lt x3 b.isLt k.isLt]
  simp only [fun j : Fin 4096 => cell_of_lt x0 b.isLt p.isLt j.isLt]

theorem rows_eq : (val_main_v21 (F := Ideal) x0 x1 x2 x3 : FVec Ideal S2x8192x4096 .bf16)
    = fun i => rows (cell x0) (at1 x1) (at2 x2) (at2 x3) (i 0).val (i 1).val (i 2).val := by
  funext i
  refine Eq.trans ?_ (rows_at x0 x1 x2 x3 (i 0) (i 1) (i 2))
  exact congrArg _ (funext fun a => by match a with | ⟨0, _⟩ => rfl | ⟨1, _⟩ => rfl | ⟨2, _⟩ => rfl)

/-- The same rows in the order of the four streams. -/
theorem four_eq : (val_main_v23 (F := Ideal) x0 x1 x2 x3 : FVec Ideal S2x4x2048x4096 .bf16)
    = fun i => rows (cell x0) (at1 x1) (at2 x2) (at2 x3) (i 0).val ((i 1).val + 4 * (i 2).val) (i 3).val := by
  funext i
  have h1 : (i 1).val < 4 := (i 1).isLt
  have h2 : (i 2).val < 2048 := (i 2).isLt
  refine Eq.trans ?_ (rows_at x0 x1 x2 x3 (i 0) (⟨(i 1).val + 4 * (i 2).val, by omega⟩ : Fin 8192) (i 3))
  pointwise [val_main_v23, val_main_v22]
  exact congrArg (fun q => val_main_v21 (F := Ideal) x0 x1 x2 x3 (ix3 (i 0) q (i 3)))
    (Fin.ext (by show (i 2).val * 4 + (i 1).val = (i 1).val + 4 * (i 2).val; omega))

/-- The same rows in the order of the sixteen streams. -/
theorem sixteen_eq : (val_main_v25 (F := Ideal) x0 x1 x2 x3 : FVec Ideal S2x16x512x4096 .bf16)
    = fun i => rows (cell x0) (at1 x1) (at2 x2) (at2 x3) (i 0).val ((i 1).val + 16 * (i 2).val) (i 3).val := by
  funext i
  have h1 : (i 1).val < 16 := (i 1).isLt
  have h2 : (i 2).val < 512 := (i 2).isLt
  refine Eq.trans ?_ (rows_at x0 x1 x2 x3 (i 0) (⟨(i 1).val + 16 * (i 2).val, by omega⟩ : Fin 8192) (i 3))
  pointwise [val_main_v25, val_main_v24]
  exact congrArg (fun q => val_main_v21 (F := Ideal) x0 x1 x2 x3 (ix3 (i 0) q (i 3)))
    (Fin.ext (by show (i 2).val * 16 + (i 1).val = (i 1).val + 16 * (i 2).val; omega))

end Cert.ReferenceNormIdeal.Norm

end
-- ==== Proof.Norm.Claims.lean ====
/- The claims about the first norm with its modulation. -/
module

public import proofs.«01_k».proof.Defs
public import proofs.«01_k».proof.Proof.Gen.KernelNorm.Frame
public import proofs.«01_k».proof.Proof.Gen.KernelNormIdeal.Value
public import proofs.«01_k».proof.Proof.Gen.ReferenceNormIdeal.Run
public import proofs.«01_k».proof.Proof.Norm.Kernel
public import proofs.«01_k».proof.Proof.Norm.Reference

@[expose] public section

set_option maxRecDepth 16384

noncomputable section

namespace Cert.Norm

open Idealize.ShloMosaic Idealize.ShloMosaic.TcCoe Idealize.SL.Sem

theorem frame : Cert.quiescent_KernelNorm := fun m ρ _ => Cert.KernelNorm.Gen.frame m ρ

theorem frameIdeal : Cert.quiescent_KernelNormIdeal := fun m ρ _ => Cert.KernelNormIdeal.Gen.frame m ρ

theorem frameReference : Cert.quiescent_ReferenceNormIdeal := fun m ρ _ =>
  (θ_run Cert.ReferenceNormIdeal.defs _ _).mono
    (fun r h => ⟨fun c => (h c).2.2.2, sem_eq_zero_of_no_sems (by decide) r.2⟩)
    (Cert.ReferenceNormIdeal.Value.run (F := Ideal) m ρ)

theorem preserves : Cert.preserves_KernelNorm_KernelNormIdeal := trivial

/-- Both programs end with the rows normalised and modulated, in the order of tokens and in those of the streams. -/
theorem algebraic : Cert.algebraic_KernelNormIdeal_ReferenceNormIdeal := by
  intro m ρ m' ρ' _ hagree
  refine ⟨fun c => Cert.KernelNormIdeal.Norm.natural m c, fun c => Cert.KernelNormIdeal.Norm.four m c,
    fun c => Cert.KernelNormIdeal.Norm.sixteen m c, ?_, ?_⟩
  · exact (θ_run Cert.KernelNormIdeal.defs _ _).mono
      (fun _ h c => ⟨(h c).1.trans (Cert.KernelNormIdeal.Norm.final4 m c),
        (h c).2.1.trans (Cert.KernelNormIdeal.Norm.final5 m c), (h c).2.2.1.trans (Cert.KernelNormIdeal.Norm.final6 m c),
        (h c).2.2.2⟩)
      (Cert.KernelNormIdeal.Value.run_blocks (F := Ideal) m ρ)
  · refine (θ_run Cert.ReferenceNormIdeal.defs _ _).mono
      (fun _ h c => ⟨(h c).1.trans ?_, (h c).2.1.trans ?_, (h c).2.2.1.trans ?_, (h c).2.2.2⟩)
      (Cert.ReferenceNormIdeal.Value.run (F := Ideal) m' ρ')
    · obtain ⟨a0, a1, a2, a3⟩ := hagree c
      refine (Cert.ReferenceNormIdeal.Read.val_main_v21_eq (F := Ideal) _ _ _ _).trans ?_
      rw [a0, a1, a2, a3]
      exact Cert.ReferenceNormIdeal.Norm.rows_eq _ _ _ _
    · obtain ⟨a0, a1, a2, a3⟩ := hagree c
      refine (Cert.ReferenceNormIdeal.Read.val_main_v23_eq (F := Ideal) _ _ _ _).trans ?_
      rw [a0, a1, a2, a3]
      exact Cert.ReferenceNormIdeal.Norm.four_eq _ _ _ _
    · obtain ⟨a0, a1, a2, a3⟩ := hagree c
      refine (Cert.ReferenceNormIdeal.Read.val_main_v25_eq (F := Ideal) _ _ _ _).trans ?_
      rw [a0, a1, a2, a3]
      exact Cert.ReferenceNormIdeal.Norm.sixteen_eq _ _ _ _

end Cert.Norm

end
-- ==== Proof.lean ====
module

public import proofs.«01_k».proof.Defs
public import proofs.«01_k».proof.Proof.Gen.Kernel
public import proofs.«01_k».proof.Proof.Natural.Claims
public import proofs.«01_k».proof.Proof.Gen.KernelFour.Frame
public import proofs.«01_k».proof.Proof.Gen.KernelFour.Launch
public import proofs.«01_k».proof.Proof.Gen.KernelFour.Points
public import proofs.«01_k».proof.Proof.Gen.KernelFour.Skeleton
public import proofs.«01_k».proof.Proof.Gen.KernelFourIdeal.Frame
public import proofs.«01_k».proof.Proof.Gen.KernelFourIdeal.Launch
public import proofs.«01_k».proof.Proof.Gen.KernelFourIdeal.Points
public import proofs.«01_k».proof.Proof.Gen.KernelFourIdeal.Skeleton
public import proofs.«01_k».proof.Proof.Gen.KernelFourIdeal.Value
public import proofs.«01_k».proof.Proof.Gen.ReferenceFourIdeal.Run
public import proofs.«01_k».proof.Proof.Gen.ReferenceFourIdeal.Read
public import proofs.«01_k».proof.Proof.Gen.KernelSixteen.Frame
public import proofs.«01_k».proof.Proof.Gen.KernelSixteen.Launch
public import proofs.«01_k».proof.Proof.Gen.KernelSixteen.Points
public import proofs.«01_k».proof.Proof.Gen.KernelSixteen.Skeleton
public import proofs.«01_k».proof.Proof.Gen.KernelSixteenIdeal.Frame
public import proofs.«01_k».proof.Proof.Gen.KernelSixteenIdeal.Launch
public import proofs.«01_k».proof.Proof.Gen.KernelSixteenIdeal.Points
public import proofs.«01_k».proof.Proof.Gen.KernelSixteenIdeal.Skeleton
public import proofs.«01_k».proof.Proof.Gen.KernelSixteenIdeal.Value
public import proofs.«01_k».proof.Proof.Gen.ReferenceSixteenIdeal.Run
public import proofs.«01_k».proof.Proof.Gen.ReferenceSixteenIdeal.Read
public import proofs.«01_k».proof.Proof.Gen.KernelInNatural.Frame
public import proofs.«01_k».proof.Proof.Gen.KernelInNatural.Launch
public import proofs.«01_k».proof.Proof.Gen.KernelInNatural.Points
public import proofs.«01_k».proof.Proof.Gen.KernelInNatural.Skeleton
public import proofs.«01_k».proof.Proof.Gen.KernelInNaturalIdeal.Frame
public import proofs.«01_k».proof.Proof.Gen.KernelInNaturalIdeal.Launch
public import proofs.«01_k».proof.Proof.Gen.KernelInNaturalIdeal.Points
public import proofs.«01_k».proof.Proof.Gen.KernelInNaturalIdeal.Skeleton
public import proofs.«01_k».proof.Proof.Gen.ReferenceInNaturalIdeal.Run
public import proofs.«01_k».proof.Proof.Gen.ReferenceInNaturalIdeal.Read
public import proofs.«01_k».proof.Proof.Gen.KernelInGates.Frame
public import proofs.«01_k».proof.Proof.Gen.KernelInGates.Launch
public import proofs.«01_k».proof.Proof.Gen.KernelInGates.Points
public import proofs.«01_k».proof.Proof.Gen.KernelInGates.Skeleton
public import proofs.«01_k».proof.Proof.Gen.KernelInGatesIdeal.Frame
public import proofs.«01_k».proof.Proof.Gen.KernelInGatesIdeal.Launch
public import proofs.«01_k».proof.Proof.Gen.KernelInGatesIdeal.Points
public import proofs.«01_k».proof.Proof.Gen.KernelInGatesIdeal.Skeleton
public import proofs.«01_k».proof.Proof.Gen.ReferenceInGatesIdeal.Run
public import proofs.«01_k».proof.Proof.Gen.ReferenceInGatesIdeal.Read
public import proofs.«01_k».proof.Proof.Gen.KernelInFour.Frame
public import proofs.«01_k».proof.Proof.Gen.KernelInFour.Launch
public import proofs.«01_k».proof.Proof.Gen.KernelInFour.Points
public import proofs.«01_k».proof.Proof.Gen.KernelInFour.Skeleton
public import proofs.«01_k».proof.Proof.Gen.KernelInFourIdeal.Frame
public import proofs.«01_k».proof.Proof.Gen.KernelInFourIdeal.Launch
public import proofs.«01_k».proof.Proof.Gen.KernelInFourIdeal.Points
public import proofs.«01_k».proof.Proof.Gen.KernelInFourIdeal.Skeleton
public import proofs.«01_k».proof.Proof.Gen.ReferenceInFourIdeal.Run
public import proofs.«01_k».proof.Proof.Gen.ReferenceInFourIdeal.Read
public import proofs.«01_k».proof.Proof.Gen.KernelInSixteen.Frame
public import proofs.«01_k».proof.Proof.Gen.KernelInSixteen.Launch
public import proofs.«01_k».proof.Proof.Gen.KernelInSixteen.Points
public import proofs.«01_k».proof.Proof.Gen.KernelInSixteen.Skeleton
public import proofs.«01_k».proof.Proof.Gen.KernelInSixteenIdeal.Frame
public import proofs.«01_k».proof.Proof.Gen.KernelInSixteenIdeal.Launch
public import proofs.«01_k».proof.Proof.Gen.KernelInSixteenIdeal.Points
public import proofs.«01_k».proof.Proof.Gen.KernelInSixteenIdeal.Skeleton
public import proofs.«01_k».proof.Proof.Gen.ReferenceInSixteenIdeal.Run
public import proofs.«01_k».proof.Proof.Gen.ReferenceInSixteenIdeal.Read
public import proofs.«01_k».proof.Proof.Gen.KernelOut.Frame
public import proofs.«01_k».proof.Proof.Gen.KernelOut.Launch
public import proofs.«01_k».proof.Proof.Gen.KernelOut.Points
public import proofs.«01_k».proof.Proof.Gen.KernelOut.Skeleton
public import proofs.«01_k».proof.Proof.Gen.KernelOutIdeal.Frame
public import proofs.«01_k».proof.Proof.Gen.KernelOutIdeal.Launch
public import proofs.«01_k».proof.Proof.Gen.KernelOutIdeal.Points
public import proofs.«01_k».proof.Proof.Gen.KernelOutIdeal.Skeleton
public import proofs.«01_k».proof.Proof.Gen.ReferenceOutIdeal.Run
public import proofs.«01_k».proof.Proof.Gen.ReferenceOutIdeal.Read
public import Idealize.ShloMosaic.Adequacy
public import Idealize.ShloMosaic.Init
public import proofs.«01_k».proof.Proof.Four.Claims
public import proofs.«01_k».proof.Proof.Sixteen.Claims
public import proofs.«01_k».proof.Proof.Project.NaturalClaims
public import proofs.«01_k».proof.Proof.Project.GatesClaims
public import proofs.«01_k».proof.Proof.Project.FourClaims
public import proofs.«01_k».proof.Proof.Project.SixteenClaims
public import proofs.«01_k».proof.Proof.Project.OutClaims
public import proofs.«01_k».proof.Proof.Merge.Claims
public import proofs.«01_k».proof.Proof.Modulate.Claims
public import proofs.«01_k».proof.Proof.Short.Claims
public import proofs.«01_k».proof.Proof.Filters.Claims
public import proofs.«01_k».proof.Proof.Norm.Claims

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelFour.Gen.facts, Cert.KernelFourIdeal.Gen.facts, Cert.ReferenceFourIdeal.Gen.facts,
  Cert.KernelSixteen.Gen.facts, Cert.KernelSixteenIdeal.Gen.facts, Cert.ReferenceSixteenIdeal.Gen.facts,
  Cert.KernelInNatural.Gen.facts, Cert.KernelInNaturalIdeal.Gen.facts, Cert.ReferenceInNaturalIdeal.Gen.facts,
  Cert.KernelInGates.Gen.facts, Cert.KernelInGatesIdeal.Gen.facts, Cert.ReferenceInGatesIdeal.Gen.facts,
  Cert.KernelInFour.Gen.facts, Cert.KernelInFourIdeal.Gen.facts, Cert.ReferenceInFourIdeal.Gen.facts,
  Cert.KernelInSixteen.Gen.facts, Cert.KernelInSixteenIdeal.Gen.facts, Cert.ReferenceInSixteenIdeal.Gen.facts,
  Cert.KernelOut.Gen.facts, Cert.KernelOutIdeal.Gen.facts, Cert.ReferenceOutIdeal.Gen.facts,
  Cert.KernelMerge.Gen.facts, Cert.KernelMergeIdeal.Gen.facts, Cert.ReferenceMergeIdeal.Gen.facts,
  Cert.KernelModulate.Gen.facts, Cert.KernelModulateIdeal.Gen.facts, Cert.ReferenceModulateIdeal.Gen.facts,
  Cert.KernelShort.Gen.facts, Cert.KernelShortIdeal.Gen.facts, Cert.ReferenceShortIdeal.Gen.facts,
  Cert.KernelFilters.Gen.facts, Cert.KernelFiltersIdeal.Gen.facts, Cert.ReferenceFiltersIdeal.Gen.facts,
  Cert.KernelNorm.Gen.facts, Cert.KernelNormIdeal.Gen.facts, Cert.ReferenceNormIdeal.Gen.facts,
  Cert.Natural.frame, Cert.Natural.frameIdeal, Cert.Natural.frameReference,
  Cert.Four.frame, Cert.Four.frameIdeal, Cert.Four.frameReference,
  Cert.Sixteen.frame, Cert.Sixteen.frameIdeal, Cert.Sixteen.frameReference,
  Cert.Project.Natural.frame, Cert.Project.Natural.frameIdeal, Cert.Project.Natural.frameReference,
  Cert.Project.Gates.frame, Cert.Project.Gates.frameIdeal, Cert.Project.Gates.frameReference,
  Cert.Project.Four.frame, Cert.Project.Four.frameIdeal, Cert.Project.Four.frameReference,
  Cert.Project.Sixteen.frame, Cert.Project.Sixteen.frameIdeal, Cert.Project.Sixteen.frameReference,
  Cert.Project.Out.frame, Cert.Project.Out.frameIdeal, Cert.Project.Out.frameReference,
  Cert.Merge.frame, Cert.Merge.frameIdeal, Cert.Merge.frameReference,
  Cert.Modulate.frame, Cert.Modulate.frameIdeal, Cert.Modulate.frameReference,
  Cert.Short.frame, Cert.Short.frameIdeal, Cert.Short.frameReference,
  Cert.Filters.frame, Cert.Filters.frameIdeal, Cert.Filters.frameReference,
  Cert.Norm.frame, Cert.Norm.frameIdeal, Cert.Norm.frameReference,
  Cert.Natural.preserves, Cert.Natural.algebraic,
  Cert.Four.preserves, Cert.Four.algebraic,
  Cert.Sixteen.preserves, Cert.Sixteen.algebraic,
  Cert.Project.Natural.preserves, Cert.Project.Natural.algebraic,
  Cert.Project.Gates.preserves, Cert.Project.Gates.algebraic,
  Cert.Project.Four.preserves, Cert.Project.Four.algebraic,
  Cert.Project.Sixteen.preserves, Cert.Project.Sixteen.algebraic,
  Cert.Project.Out.preserves, Cert.Project.Out.algebraic,
  Cert.Merge.preserves, Cert.Merge.algebraic,
  Cert.Modulate.preserves, Cert.Modulate.algebraic,
  Cert.Short.preserves, Cert.Short.algebraic,
  Cert.Filters.preserves, Cert.Filters.algebraic,
  Cert.Norm.preserves, Cert.Norm.algebraic⟩

end Cert.Proof

end
